-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2ReferenceIdeal (m : (ℓ : Loc Cert.Ff2ReferenceIdeal.nD Cert.Ff2ReferenceIdeal.τ Cert.Ff2ReferenceIdeal.sig) → Buf (Elt Ideal) ℓ) : Prop :=
  True

def Pre_DwFf2 (m : (ℓ : Loc Cert.DwFf2.nD Cert.DwFf2.τ Cert.DwFf2.sig) → Buf (Elt Bits) ℓ) : Prop :=
  True

def Pre_DwFf2Ideal (m : (ℓ : Loc Cert.DwFf2Ideal.nD Cert.DwFf2Ideal.τ Cert.DwFf2Ideal.sig) → Buf (Elt Ideal) ℓ) : Prop :=
  True

def Pre_DwFf2ReferenceIdeal (m : (ℓ : Loc Cert.DwFf2ReferenceIdeal.nD Cert.DwFf2ReferenceIdeal.τ Cert.DwFf2ReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwLru (m : (ℓ : Loc Cert.DwLru.nD Cert.DwLru.τ Cert.DwLru.sig) → Buf (Elt Bits) ℓ) : Prop :=
  True

def Pre_DwLruIdeal (m : (ℓ : Loc Cert.DwLruIdeal.nD Cert.DwLruIdeal.τ Cert.DwLruIdeal.sig) → Buf (Elt Ideal) ℓ) : Prop :=
  True

def Pre_DwLruReferenceIdeal (m : (ℓ : Loc Cert.DwLruReferenceIdeal.nD Cert.DwLruReferenceIdeal.τ Cert.DwLruReferenceIdeal.sig) → Buf (Elt Ideal) ℓ) : Prop :=
  True

def Pre_DwAttn (m : (ℓ : Loc Cert.DwAttn.nD Cert.DwAttn.τ Cert.DwAttn.sig) → Buf (Elt Bits) ℓ) : Prop :=
  True

def Pre_DwAttnIdeal (m : (ℓ : Loc Cert.DwAttnIdeal.nD Cert.DwAttnIdeal.τ Cert.DwAttnIdeal.sig) → Buf (Elt Ideal) ℓ) : Prop :=
  True

def Pre_DwAttnReferenceIdeal (m : (ℓ : Loc Cert.DwAttnReferenceIdeal.nD Cert.DwAttnReferenceIdeal.τ Cert.DwAttnReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_DwFf1 (m : (ℓ : Loc Cert.DwFf1.nD Cert.DwFf1.τ Cert.DwFf1.sig) → Buf (Elt Bits) ℓ) : Prop :=
  True

def Pre_DwFf1Ideal (m : (ℓ : Loc Cert.DwFf1Ideal.nD Cert.DwFf1Ideal.τ Cert.DwFf1Ideal.sig) → Buf (Elt Ideal) ℓ) : Prop :=
  True

def Pre_DwFf1ReferenceIdeal (m : (ℓ : Loc Cert.DwFf1ReferenceIdeal.nD Cert.DwFf1ReferenceIdeal.τ Cert.DwFf1ReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1ReferenceIdeal (m : (ℓ : Loc Cert.Ff1ReferenceIdeal.nD Cert.Ff1ReferenceIdeal.τ Cert.Ff1ReferenceIdeal.sig) → Buf (Elt Ideal) ℓ) : Prop :=
  True

def Pre_OutprojBwd (m : (ℓ : Loc Cert.OutprojBwd.nD Cert.OutprojBwd.τ Cert.OutprojBwd.sig) → Buf (Elt Bits) ℓ) : Prop :=
  True

def Pre_OutprojBwdIdeal (m : (ℓ : Loc Cert.OutprojBwdIdeal.nD Cert.OutprojBwdIdeal.τ Cert.OutprojBwdIdeal.sig) → Buf (Elt Ideal) ℓ) : Prop :=
  True

def Pre_OutprojBwdReferenceIdeal (m : (ℓ : Loc Cert.OutprojBwdReferenceIdeal.nD Cert.OutprojBwdReferenceIdeal.τ Cert.OutprojBwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ r.2.sem = fun _ => 0)

def quiescent_Ff2ReferenceIdeal [hFf2ReferenceIdeal : Cert.Ff2ReferenceIdeal.Facts] : Prop :=
  ∀ (m : (ℓ : Loc Cert.Ff2ReferenceIdeal.nD Cert.Ff2ReferenceIdeal.τ Cert.Ff2ReferenceIdeal.sig) → Buf (Elt Ideal) ℓ) (g : Dev Cert.Ff2ReferenceIdeal.nD → PrngReg), Pre_Ff2ReferenceIdeal m →
    θ_run (Cert.Ff2ReferenceIdeal.defs (F := Ideal)) (onTc (τ := Cert.Ff2ReferenceIdeal.τ) (Cert.Ff2ReferenceIdeal.main (F := Ideal))) ⟨m, fun _ => 0, g⟩ (fun r => (∀ c : Dev Cert.Ff2ReferenceIdeal.nD,
      r.2.mem ((c.tc : Thread Cert.Ff2ReferenceIdeal.nD Cert.Ff2ReferenceIdeal.τ).loc Cert.Ff2ReferenceIdeal.main_arg0) = m ((c.tc : Thread Cert.Ff2ReferenceIdeal.nD Cert.Ff2ReferenceIdeal.τ).loc Cert.Ff2ReferenceIdeal.main_arg0)
      ∧ r.2.mem ((c.tc : Thread Cert.Ff2ReferenceIdeal.nD Cert.Ff2ReferenceIdeal.τ).loc Cert.Ff2ReferenceIdeal.main_arg1) = m ((c.tc : Thread Cert.Ff2ReferenceIdeal.nD Cert.Ff2ReferenceIdeal.τ).loc Cert.Ff2ReferenceIdeal.main_arg1)
      ∧ r.2.mem ((c.tc : Thread Cert.Ff2ReferenceIdeal.nD Cert.Ff2ReferenceIdeal.τ).loc Cert.Ff2ReferenceIdeal.main_arg2) = m ((c.tc : Thread Cert.Ff2ReferenceIdeal.nD Cert.Ff2ReferenceIdeal.τ).loc Cert.Ff2ReferenceIdeal.main_arg2))
      ∧ r.2.sem = fun _ => 0)

def quiescent_DwFf2 [hDwFf2 : Cert.DwFf2.Facts] : Prop :=
  ∀ (m : (ℓ : Loc Cert.DwFf2.nD Cert.DwFf2.τ Cert.DwFf2.sig) → Buf (Elt Bits) ℓ) (g : Dev Cert.DwFf2.nD → PrngReg), Pre_DwFf2 m →
    θ_run (Cert.DwFf2.defs (F := Bits)) (onTc (τ := Cert.DwFf2.τ) (Cert.DwFf2.main (F := Bits))) ⟨m, fun _ => 0, g⟩ (fun r => (∀ c : Dev Cert.DwFf2.nD,
      r.2.mem ((c.tc : Thread Cert.DwFf2.nD Cert.DwFf2.τ).loc Cert.DwFf2.main_arg0) = m ((c.tc : Thread Cert.DwFf2.nD Cert.DwFf2.τ).loc Cert.DwFf2.main_arg0)
      ∧ r.2.mem ((c.tc : Thread Cert.DwFf2.nD Cert.DwFf2.τ).loc Cert.DwFf2.main_arg1) = m ((c.tc : Thread Cert.DwFf2.nD Cert.DwFf2.τ).loc Cert.DwFf2.main_arg1))
      ∧ r.2.sem = fun _ => 0)

def quiescent_DwFf2Ideal [hDwFf2Ideal : Cert.DwFf2Ideal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg), Pre_DwFf2Ideal m →
    θ_run (Cert.DwFf2Ideal.defs (F := Ideal)) (onTc (τ := Cert.DwFf2Ideal.τ) (Cert.DwFf2Ideal.main (F := Ideal))) ⟨m, fun _ => 0, g⟩ (fun r => (∀ c : Dev Cert.DwFf2Ideal.nD,
      r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
      ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1))
      ∧ r.2.sem = fun _ => 0)

def quiescent_DwFf2ReferenceIdeal [hDwFf2ReferenceIdeal : Cert.DwFf2ReferenceIdeal.Facts] : Prop :=
  ∀ (m : (ℓ : Loc Cert.DwFf2ReferenceIdeal.nD Cert.DwFf2ReferenceIdeal.τ Cert.DwFf2ReferenceIdeal.sig) → Buf (Elt Ideal) ℓ) (g : Dev Cert.DwFf2ReferenceIdeal.nD → PrngReg), Pre_DwFf2ReferenceIdeal m →
    θ_run (Cert.DwFf2ReferenceIdeal.defs (F := Ideal)) (onTc (τ := Cert.DwFf2ReferenceIdeal.τ) (Cert.DwFf2ReferenceIdeal.main (F := Ideal))) ⟨m, fun _ => 0, g⟩ (fun r => (∀ c : Dev Cert.DwFf2ReferenceIdeal.nD,
      r.2.mem ((c.tc : Thread Cert.DwFf2ReferenceIdeal.nD Cert.DwFf2ReferenceIdeal.τ).loc Cert.DwFf2ReferenceIdeal.main_arg0) = m ((c.tc : Thread Cert.DwFf2ReferenceIdeal.nD Cert.DwFf2ReferenceIdeal.τ).loc Cert.DwFf2ReferenceIdeal.main_arg0)
      ∧ r.2.mem ((c.tc : Thread Cert.DwFf2ReferenceIdeal.nD Cert.DwFf2ReferenceIdeal.τ).loc Cert.DwFf2ReferenceIdeal.main_arg1) = m ((c.tc : Thread Cert.DwFf2ReferenceIdeal.nD Cert.DwFf2ReferenceIdeal.τ).loc Cert.DwFf2ReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DwLru [hDwLru : Cert.DwLru.Facts] : Prop :=
  ∀ (m : (ℓ : Loc Cert.DwLru.nD Cert.DwLru.τ Cert.DwLru.sig) → Buf (Elt Bits) ℓ) (g : Dev Cert.DwLru.nD → PrngReg), Pre_DwLru m →
    θ_run (Cert.DwLru.defs (F := Bits)) (onTc (τ := Cert.DwLru.τ) (Cert.DwLru.main (F := Bits))) ⟨m, fun _ => 0, g⟩ (fun r => (∀ c : Dev Cert.DwLru.nD,
      r.2.mem ((c.tc : Thread Cert.DwLru.nD Cert.DwLru.τ).loc Cert.DwLru.main_arg0) = m ((c.tc : Thread Cert.DwLru.nD Cert.DwLru.τ).loc Cert.DwLru.main_arg0)
      ∧ r.2.mem ((c.tc : Thread Cert.DwLru.nD Cert.DwLru.τ).loc Cert.DwLru.main_arg1) = m ((c.tc : Thread Cert.DwLru.nD Cert.DwLru.τ).loc Cert.DwLru.main_arg1))
      ∧ r.2.sem = fun _ => 0)

def quiescent_DwLruIdeal [hDwLruIdeal : Cert.DwLruIdeal.Facts] : Prop :=
  ∀ (m : (ℓ : Loc Cert.DwLruIdeal.nD Cert.DwLruIdeal.τ Cert.DwLruIdeal.sig) → Buf (Elt Ideal) ℓ) (g : Dev Cert.DwLruIdeal.nD → PrngReg), Pre_DwLruIdeal m →
    θ_run (Cert.DwLruIdeal.defs (F := Ideal)) (onTc (τ := Cert.DwLruIdeal.τ) (Cert.DwLruIdeal.main (F := Ideal))) ⟨m, fun _ => 0, g⟩ (fun r => (∀ c : Dev Cert.DwLruIdeal.nD,
      r.2.mem ((c.tc : Thread Cert.DwLruIdeal.nD Cert.DwLruIdeal.τ).loc Cert.DwLruIdeal.main_arg0) = m ((c.tc : Thread Cert.DwLruIdeal.nD Cert.DwLruIdeal.τ).loc Cert.DwLruIdeal.main_arg0)
      ∧ r.2.mem ((c.tc : Thread Cert.DwLruIdeal.nD Cert.DwLruIdeal.τ).loc Cert.DwLruIdeal.main_arg1) = m ((c.tc : Thread Cert.DwLruIdeal.nD Cert.DwLruIdeal.τ).loc Cert.DwLruIdeal.main_arg1))
      ∧ r.2.sem = fun _ => 0)

def quiescent_DwLruReferenceIdeal [hDwLruReferenceIdeal : Cert.DwLruReferenceIdeal.Facts] : Prop :=
  ∀ (m : (ℓ : Loc Cert.DwLruReferenceIdeal.nD Cert.DwLruReferenceIdeal.τ Cert.DwLruReferenceIdeal.sig) → Buf (Elt Ideal) ℓ) (g : Dev Cert.DwLruReferenceIdeal.nD → PrngReg), Pre_DwLruReferenceIdeal m →
    θ_run (Cert.DwLruReferenceIdeal.defs (F := Ideal)) (onTc (τ := Cert.DwLruReferenceIdeal.τ) (Cert.DwLruReferenceIdeal.main (F := Ideal))) ⟨m, fun _ => 0, g⟩ (fun r => (∀ c : Dev Cert.DwLruReferenceIdeal.nD,
      r.2.mem ((c.tc : Thread Cert.DwLruReferenceIdeal.nD Cert.DwLruReferenceIdeal.τ).loc Cert.DwLruReferenceIdeal.main_arg0) = m ((c.tc : Thread Cert.DwLruReferenceIdeal.nD Cert.DwLruReferenceIdeal.τ).loc Cert.DwLruReferenceIdeal.main_arg0)
      ∧ r.2.mem ((c.tc : Thread Cert.DwLruReferenceIdeal.nD Cert.DwLruReferenceIdeal.τ).loc Cert.DwLruReferenceIdeal.main_arg1) = m ((c.tc : Thread Cert.DwLruReferenceIdeal.nD Cert.DwLruReferenceIdeal.τ).loc Cert.DwLruReferenceIdeal.main_arg1))
      ∧ r.2.sem = fun _ => 0)

def quiescent_DwAttn [hDwAttn : Cert.DwAttn.Facts] : Prop :=
  ∀ (m : (ℓ : Loc Cert.DwAttn.nD Cert.DwAttn.τ Cert.DwAttn.sig) → Buf (Elt Bits) ℓ) (g : Dev Cert.DwAttn.nD → PrngReg), Pre_DwAttn m →
    θ_run (Cert.DwAttn.defs (F := Bits)) (onTc (τ := Cert.DwAttn.τ) (Cert.DwAttn.main (F := Bits))) ⟨m, fun _ => 0, g⟩ (fun r => (∀ c : Dev Cert.DwAttn.nD,
      r.2.mem ((c.tc : Thread Cert.DwAttn.nD Cert.DwAttn.τ).loc Cert.DwAttn.main_arg0) = m ((c.tc : Thread Cert.DwAttn.nD Cert.DwAttn.τ).loc Cert.DwAttn.main_arg0)
      ∧ r.2.mem ((c.tc : Thread Cert.DwAttn.nD Cert.DwAttn.τ).loc Cert.DwAttn.main_arg1) = m ((c.tc : Thread Cert.DwAttn.nD Cert.DwAttn.τ).loc Cert.DwAttn.main_arg1))
      ∧ r.2.sem = fun _ => 0)

def quiescent_DwAttnIdeal [hDwAttnIdeal : Cert.DwAttnIdeal.Facts] : Prop :=
  ∀ (m : (ℓ : Loc Cert.DwAttnIdeal.nD Cert.DwAttnIdeal.τ Cert.DwAttnIdeal.sig) → Buf (Elt Ideal) ℓ) (g : Dev Cert.DwAttnIdeal.nD → PrngReg), Pre_DwAttnIdeal m →
    θ_run (Cert.DwAttnIdeal.defs (F := Ideal)) (onTc (τ := Cert.DwAttnIdeal.τ) (Cert.DwAttnIdeal.main (F := Ideal))) ⟨m, fun _ => 0, g⟩ (fun r => (∀ c : Dev Cert.DwAttnIdeal.nD,
      r.2.mem ((c.tc : Thread Cert.DwAttnIdeal.nD Cert.DwAttnIdeal.τ).loc Cert.DwAttnIdeal.main_arg0) = m ((c.tc : Thread Cert.DwAttnIdeal.nD Cert.DwAttnIdeal.τ).loc Cert.DwAttnIdeal.main_arg0)
      ∧ r.2.mem ((c.tc : Thread Cert.DwAttnIdeal.nD Cert.DwAttnIdeal.τ).loc Cert.DwAttnIdeal.main_arg1) = m ((c.tc : Thread Cert.DwAttnIdeal.nD Cert.DwAttnIdeal.τ).loc Cert.DwAttnIdeal.main_arg1))
      ∧ r.2.sem = fun _ => 0)

def quiescent_DwAttnReferenceIdeal [hDwAttnReferenceIdeal : Cert.DwAttnReferenceIdeal.Facts] : Prop :=
  ∀ (m : (ℓ : Loc Cert.DwAttnReferenceIdeal.nD Cert.DwAttnReferenceIdeal.τ Cert.DwAttnReferenceIdeal.sig) → Buf (Elt Ideal) ℓ) (g : Dev Cert.DwAttnReferenceIdeal.nD → PrngReg), Pre_DwAttnReferenceIdeal m →
    θ_run (Cert.DwAttnReferenceIdeal.defs (F := Ideal)) (onTc (τ := Cert.DwAttnReferenceIdeal.τ) (Cert.DwAttnReferenceIdeal.main (F := Ideal))) ⟨m, fun _ => 0, g⟩ (fun r => (∀ c : Dev Cert.DwAttnReferenceIdeal.nD,
      r.2.mem ((c.tc : Thread Cert.DwAttnReferenceIdeal.nD Cert.DwAttnReferenceIdeal.τ).loc Cert.DwAttnReferenceIdeal.main_arg0) = m ((c.tc : Thread Cert.DwAttnReferenceIdeal.nD Cert.DwAttnReferenceIdeal.τ).loc Cert.DwAttnReferenceIdeal.main_arg0)
      ∧ r.2.mem ((c.tc : Thread Cert.DwAttnReferenceIdeal.nD Cert.DwAttnReferenceIdeal.τ).loc Cert.DwAttnReferenceIdeal.main_arg1) = m ((c.tc : Thread Cert.DwAttnReferenceIdeal.nD Cert.DwAttnReferenceIdeal.τ).loc Cert.DwAttnReferenceIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1))
      ∧ r.2.sem = fun _ => 0)

def quiescent_DwFf1 [hDwFf1 : Cert.DwFf1.Facts] : Prop :=
  ∀ (m : (ℓ : Loc Cert.DwFf1.nD Cert.DwFf1.τ Cert.DwFf1.sig) → Buf (Elt Bits) ℓ) (g : Dev Cert.DwFf1.nD → PrngReg), Pre_DwFf1 m →
    θ_run (Cert.DwFf1.defs (F := Bits)) (onTc (τ := Cert.DwFf1.τ) (Cert.DwFf1.main (F := Bits))) ⟨m, fun _ => 0, g⟩ (fun r => (∀ c : Dev Cert.DwFf1.nD,
      r.2.mem ((c.tc : Thread Cert.DwFf1.nD Cert.DwFf1.τ).loc Cert.DwFf1.main_arg0) = m ((c.tc : Thread Cert.DwFf1.nD Cert.DwFf1.τ).loc Cert.DwFf1.main_arg0)
      ∧ r.2.mem ((c.tc : Thread Cert.DwFf1.nD Cert.DwFf1.τ).loc Cert.DwFf1.main_arg1) = m ((c.tc : Thread Cert.DwFf1.nD Cert.DwFf1.τ).loc Cert.DwFf1.main_arg1))
      ∧ r.2.sem = fun _ => 0)

def quiescent_DwFf1Ideal [hDwFf1Ideal : Cert.DwFf1Ideal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg), Pre_DwFf1Ideal m →
    θ_run (Cert.DwFf1Ideal.defs (F := Ideal)) (onTc (τ := Cert.DwFf1Ideal.τ) (Cert.DwFf1Ideal.main (F := Ideal))) ⟨m, fun _ => 0, g⟩ (fun r => (∀ c : Dev Cert.DwFf1Ideal.nD,
      r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
      ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1))
      ∧ r.2.sem = fun _ => 0)

def quiescent_DwFf1ReferenceIdeal [hDwFf1ReferenceIdeal : Cert.DwFf1ReferenceIdeal.Facts] : Prop :=
  ∀ (m : (ℓ : Loc Cert.DwFf1ReferenceIdeal.nD Cert.DwFf1ReferenceIdeal.τ Cert.DwFf1ReferenceIdeal.sig) → Buf (Elt Ideal) ℓ) (g : Dev Cert.DwFf1ReferenceIdeal.nD → PrngReg), Pre_DwFf1ReferenceIdeal m →
    θ_run (Cert.DwFf1ReferenceIdeal.defs (F := Ideal)) (onTc (τ := Cert.DwFf1ReferenceIdeal.τ) (Cert.DwFf1ReferenceIdeal.main (F := Ideal))) ⟨m, fun _ => 0, g⟩ (fun r => (∀ c : Dev Cert.DwFf1ReferenceIdeal.nD,
      r.2.mem ((c.tc : Thread Cert.DwFf1ReferenceIdeal.nD Cert.DwFf1ReferenceIdeal.τ).loc Cert.DwFf1ReferenceIdeal.main_arg0) = m ((c.tc : Thread Cert.DwFf1ReferenceIdeal.nD Cert.DwFf1ReferenceIdeal.τ).loc Cert.DwFf1ReferenceIdeal.main_arg0)
      ∧ r.2.mem ((c.tc : Thread Cert.DwFf1ReferenceIdeal.nD Cert.DwFf1ReferenceIdeal.τ).loc Cert.DwFf1ReferenceIdeal.main_arg1) = m ((c.tc : Thread Cert.DwFf1ReferenceIdeal.nD Cert.DwFf1ReferenceIdeal.τ).loc Cert.DwFf1ReferenceIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1)
      ∧ r.2.mem ((c.tc : Thread Cert.Ff1.nD Cert.Ff1.τ).loc Cert.Ff1.main_arg2) = m ((c.tc : Thread Cert.Ff1.nD Cert.Ff1.τ).loc Cert.Ff1.main_arg2))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
      ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2))
      ∧ r.2.sem = fun _ => 0)

def quiescent_Ff1ReferenceIdeal [hFf1ReferenceIdeal : Cert.Ff1ReferenceIdeal.Facts] : Prop :=
  ∀ (m : (ℓ : Loc Cert.Ff1ReferenceIdeal.nD Cert.Ff1ReferenceIdeal.τ Cert.Ff1ReferenceIdeal.sig) → Buf (Elt Ideal) ℓ) (g : Dev Cert.Ff1ReferenceIdeal.nD → PrngReg), Pre_Ff1ReferenceIdeal m →
    θ_run (Cert.Ff1ReferenceIdeal.defs (F := Ideal)) (onTc (τ := Cert.Ff1ReferenceIdeal.τ) (Cert.Ff1ReferenceIdeal.main (F := Ideal))) ⟨m, fun _ => 0, g⟩ (fun r => (∀ c : Dev Cert.Ff1ReferenceIdeal.nD,
      r.2.mem ((c.tc : Thread Cert.Ff1ReferenceIdeal.nD Cert.Ff1ReferenceIdeal.τ).loc Cert.Ff1ReferenceIdeal.main_arg0) = m ((c.tc : Thread Cert.Ff1ReferenceIdeal.nD Cert.Ff1ReferenceIdeal.τ).loc Cert.Ff1ReferenceIdeal.main_arg0)
      ∧ r.2.mem ((c.tc : Thread Cert.Ff1ReferenceIdeal.nD Cert.Ff1ReferenceIdeal.τ).loc Cert.Ff1ReferenceIdeal.main_arg1) = m ((c.tc : Thread Cert.Ff1ReferenceIdeal.nD Cert.Ff1ReferenceIdeal.τ).loc Cert.Ff1ReferenceIdeal.main_arg1)
      ∧ r.2.mem ((c.tc : Thread Cert.Ff1ReferenceIdeal.nD Cert.Ff1ReferenceIdeal.τ).loc Cert.Ff1ReferenceIdeal.main_arg2) = m ((c.tc : Thread Cert.Ff1ReferenceIdeal.nD Cert.Ff1ReferenceIdeal.τ).loc Cert.Ff1ReferenceIdeal.main_arg2))
      ∧ r.2.sem = fun _ => 0)

def quiescent_OutprojBwd [hOutprojBwd : Cert.OutprojBwd.Facts] : Prop :=
  ∀ (m : (ℓ : Loc Cert.OutprojBwd.nD Cert.OutprojBwd.τ Cert.OutprojBwd.sig) → Buf (Elt Bits) ℓ) (g : Dev Cert.OutprojBwd.nD → PrngReg), Pre_OutprojBwd m →
    θ_run (Cert.OutprojBwd.defs (F := Bits)) (onTc (τ := Cert.OutprojBwd.τ) (Cert.OutprojBwd.main (F := Bits))) ⟨m, fun _ => 0, g⟩ (fun r => (∀ c : Dev Cert.OutprojBwd.nD,
      r.2.mem ((c.tc : Thread Cert.OutprojBwd.nD Cert.OutprojBwd.τ).loc Cert.OutprojBwd.main_arg0) = m ((c.tc : Thread Cert.OutprojBwd.nD Cert.OutprojBwd.τ).loc Cert.OutprojBwd.main_arg0)
      ∧ r.2.mem ((c.tc : Thread Cert.OutprojBwd.nD Cert.OutprojBwd.τ).loc Cert.OutprojBwd.main_arg1) = m ((c.tc : Thread Cert.OutprojBwd.nD Cert.OutprojBwd.τ).loc Cert.OutprojBwd.main_arg1)
      ∧ r.2.mem ((c.tc : Thread Cert.OutprojBwd.nD Cert.OutprojBwd.τ).loc Cert.OutprojBwd.main_arg2) = m ((c.tc : Thread Cert.OutprojBwd.nD Cert.OutprojBwd.τ).loc Cert.OutprojBwd.main_arg2)
      ∧ r.2.mem ((c.tc : Thread Cert.OutprojBwd.nD Cert.OutprojBwd.τ).loc Cert.OutprojBwd.main_arg3) = m ((c.tc : Thread Cert.OutprojBwd.nD Cert.OutprojBwd.τ).loc Cert.OutprojBwd.main_arg3))
      ∧ r.2.sem = fun _ => 0)

def quiescent_OutprojBwdIdeal [hOutprojBwdIdeal : Cert.OutprojBwdIdeal.Facts] : Prop :=
  ∀ (m : (ℓ : Loc Cert.OutprojBwdIdeal.nD Cert.OutprojBwdIdeal.τ Cert.OutprojBwdIdeal.sig) → Buf (Elt Ideal) ℓ) (g : Dev Cert.OutprojBwdIdeal.nD → PrngReg), Pre_OutprojBwdIdeal m →
    θ_run (Cert.OutprojBwdIdeal.defs (F := Ideal)) (onTc (τ := Cert.OutprojBwdIdeal.τ) (Cert.OutprojBwdIdeal.main (F := Ideal))) ⟨m, fun _ => 0, g⟩ (fun r => (∀ c : Dev Cert.OutprojBwdIdeal.nD,
      r.2.mem ((c.tc : Thread Cert.OutprojBwdIdeal.nD Cert.OutprojBwdIdeal.τ).loc Cert.OutprojBwdIdeal.main_arg0) = m ((c.tc : Thread Cert.OutprojBwdIdeal.nD Cert.OutprojBwdIdeal.τ).loc Cert.OutprojBwdIdeal.main_arg0)
      ∧ r.2.mem ((c.tc : Thread Cert.OutprojBwdIdeal.nD Cert.OutprojBwdIdeal.τ).loc Cert.OutprojBwdIdeal.main_arg1) = m ((c.tc : Thread Cert.OutprojBwdIdeal.nD Cert.OutprojBwdIdeal.τ).loc Cert.OutprojBwdIdeal.main_arg1)
      ∧ r.2.mem ((c.tc : Thread Cert.OutprojBwdIdeal.nD Cert.OutprojBwdIdeal.τ).loc Cert.OutprojBwdIdeal.main_arg2) = m ((c.tc : Thread Cert.OutprojBwdIdeal.nD Cert.OutprojBwdIdeal.τ).loc Cert.OutprojBwdIdeal.main_arg2)
      ∧ r.2.mem ((c.tc : Thread Cert.OutprojBwdIdeal.nD Cert.OutprojBwdIdeal.τ).loc Cert.OutprojBwdIdeal.main_arg3) = m ((c.tc : Thread Cert.OutprojBwdIdeal.nD Cert.OutprojBwdIdeal.τ).loc Cert.OutprojBwdIdeal.main_arg3))
      ∧ r.2.sem = fun _ => 0)

def quiescent_OutprojBwdReferenceIdeal [hOutprojBwdReferenceIdeal : Cert.OutprojBwdReferenceIdeal.Facts] : Prop :=
  ∀ (m : (ℓ : Loc Cert.OutprojBwdReferenceIdeal.nD Cert.OutprojBwdReferenceIdeal.τ Cert.OutprojBwdReferenceIdeal.sig) → Buf (Elt Ideal) ℓ) (g : Dev Cert.OutprojBwdReferenceIdeal.nD → PrngReg), Pre_OutprojBwdReferenceIdeal m →
    θ_run (Cert.OutprojBwdReferenceIdeal.defs (F := Ideal)) (onTc (τ := Cert.OutprojBwdReferenceIdeal.τ) (Cert.OutprojBwdReferenceIdeal.main (F := Ideal))) ⟨m, fun _ => 0, g⟩ (fun r => (∀ c : Dev Cert.OutprojBwdReferenceIdeal.nD,
      r.2.mem ((c.tc : Thread Cert.OutprojBwdReferenceIdeal.nD Cert.OutprojBwdReferenceIdeal.τ).loc Cert.OutprojBwdReferenceIdeal.main_arg0) = m ((c.tc : Thread Cert.OutprojBwdReferenceIdeal.nD Cert.OutprojBwdReferenceIdeal.τ).loc Cert.OutprojBwdReferenceIdeal.main_arg0)
      ∧ r.2.mem ((c.tc : Thread Cert.OutprojBwdReferenceIdeal.nD Cert.OutprojBwdReferenceIdeal.τ).loc Cert.OutprojBwdReferenceIdeal.main_arg1) = m ((c.tc : Thread Cert.OutprojBwdReferenceIdeal.nD Cert.OutprojBwdReferenceIdeal.τ).loc Cert.OutprojBwdReferenceIdeal.main_arg1)
      ∧ r.2.mem ((c.tc : Thread Cert.OutprojBwdReferenceIdeal.nD Cert.OutprojBwdReferenceIdeal.τ).loc Cert.OutprojBwdReferenceIdeal.main_arg2) = m ((c.tc : Thread Cert.OutprojBwdReferenceIdeal.nD Cert.OutprojBwdReferenceIdeal.τ).loc Cert.OutprojBwdReferenceIdeal.main_arg2)
      ∧ r.2.mem ((c.tc : Thread Cert.OutprojBwdReferenceIdeal.nD Cert.OutprojBwdReferenceIdeal.τ).loc Cert.OutprojBwdReferenceIdeal.main_arg3) = m ((c.tc : Thread Cert.OutprojBwdReferenceIdeal.nD Cert.OutprojBwdReferenceIdeal.τ).loc Cert.OutprojBwdReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_v162) = v3 c
          ∧ r.2.mem ((c.tc : Thread Cert.ReferenceIdeal.nD Cert.ReferenceIdeal.τ).loc Cert.ReferenceIdeal.main_v164) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ff2_Ff2Ideal : Prop :=
  True

def algebraic_Ff2Ideal_Ff2ReferenceIdeal [hFf2Ideal : Cert.Ff2Ideal.Facts] [hFf2ReferenceIdeal : Cert.Ff2ReferenceIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2ReferenceIdeal.nD Cert.Ff2ReferenceIdeal.τ Cert.Ff2ReferenceIdeal.sig) → Buf (Elt Ideal) ℓ) (g' : Dev Cert.Ff2ReferenceIdeal.nD → PrngReg), Pre_Ff2Ideal m →
    (∀ c : Dev Cert.Ff2Ideal.nD,
      m' ((c.tc : Thread Cert.Ff2ReferenceIdeal.nD Cert.Ff2ReferenceIdeal.τ).loc Cert.Ff2ReferenceIdeal.main_arg0) = m ((c.tc : Thread Cert.Ff2Ideal.nD Cert.Ff2Ideal.τ).loc Cert.Ff2Ideal.main_arg0)
      ∧ m' ((c.tc : Thread Cert.Ff2ReferenceIdeal.nD Cert.Ff2ReferenceIdeal.τ).loc Cert.Ff2ReferenceIdeal.main_arg1) = m ((c.tc : Thread Cert.Ff2Ideal.nD Cert.Ff2Ideal.τ).loc Cert.Ff2Ideal.main_arg1)
      ∧ m' ((c.tc : Thread Cert.Ff2ReferenceIdeal.nD Cert.Ff2ReferenceIdeal.τ).loc Cert.Ff2ReferenceIdeal.main_arg2) = m ((c.tc : Thread Cert.Ff2Ideal.nD Cert.Ff2Ideal.τ).loc Cert.Ff2Ideal.main_arg2)) →
    ∃ (v0 : (c : Dev Cert.Ff2Ideal.nD) → Buf (Elt Ideal) ((c.tc : Thread Cert.Ff2Ideal.nD Cert.Ff2Ideal.τ).loc Cert.Ff2Ideal.main_v0)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v0) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ θ_run (Cert.Ff2ReferenceIdeal.defs (F := Ideal)) (onTc (τ := Cert.Ff2ReferenceIdeal.τ) (Cert.Ff2ReferenceIdeal.main (F := Ideal))) ⟨m', fun _ => 0, g'⟩ (fun r => ∀ c : Dev Cert.Ff2ReferenceIdeal.nD,
          r.2.mem ((c.tc : Thread Cert.Ff2ReferenceIdeal.nD Cert.Ff2ReferenceIdeal.τ).loc Cert.Ff2ReferenceIdeal.main_v15) = v0 c
          ∧ r.2.mem ((c.tc : Thread Cert.Ff2ReferenceIdeal.nD Cert.Ff2ReferenceIdeal.τ).loc Cert.Ff2ReferenceIdeal.main_arg0) = m' ((c.tc : Thread Cert.Ff2ReferenceIdeal.nD Cert.Ff2ReferenceIdeal.τ).loc Cert.Ff2ReferenceIdeal.main_arg0)
          ∧ r.2.mem ((c.tc : Thread Cert.Ff2ReferenceIdeal.nD Cert.Ff2ReferenceIdeal.τ).loc Cert.Ff2ReferenceIdeal.main_arg1) = m' ((c.tc : Thread Cert.Ff2ReferenceIdeal.nD Cert.Ff2ReferenceIdeal.τ).loc Cert.Ff2ReferenceIdeal.main_arg1)
          ∧ r.2.mem ((c.tc : Thread Cert.Ff2ReferenceIdeal.nD Cert.Ff2ReferenceIdeal.τ).loc Cert.Ff2ReferenceIdeal.main_arg2) = m' ((c.tc : Thread Cert.Ff2ReferenceIdeal.nD Cert.Ff2ReferenceIdeal.τ).loc Cert.Ff2ReferenceIdeal.main_arg2))

def preserves_DwFf2_DwFf2Ideal : Prop :=
  True

def algebraic_DwFf2Ideal_DwFf2ReferenceIdeal [hDwFf2Ideal : Cert.DwFf2Ideal.Facts] [hDwFf2ReferenceIdeal : Cert.DwFf2ReferenceIdeal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg)
    (m' : (ℓ : Loc Cert.DwFf2ReferenceIdeal.nD Cert.DwFf2ReferenceIdeal.τ Cert.DwFf2ReferenceIdeal.sig) → Buf (Elt Ideal) ℓ) (g' : Dev Cert.DwFf2ReferenceIdeal.nD → PrngReg), Pre_DwFf2Ideal m →
    (∀ c : Dev Cert.DwFf2Ideal.nD,
      m' ((c.tc : Thread Cert.DwFf2ReferenceIdeal.nD Cert.DwFf2ReferenceIdeal.τ).loc Cert.DwFf2ReferenceIdeal.main_arg0) = m ((c.tc : Thread Cert.DwFf2Ideal.nD Cert.DwFf2Ideal.τ).loc Cert.DwFf2Ideal.main_arg0)
      ∧ m' ((c.tc : Thread Cert.DwFf2ReferenceIdeal.nD Cert.DwFf2ReferenceIdeal.τ).loc Cert.DwFf2ReferenceIdeal.main_arg1) = m ((c.tc : Thread Cert.DwFf2Ideal.nD Cert.DwFf2Ideal.τ).loc Cert.DwFf2Ideal.main_arg1)) →
    ∃ (v0 : (c : Dev Cert.DwFf2Ideal.nD) → Buf (Elt Ideal) ((c.tc : Thread Cert.DwFf2Ideal.nD Cert.DwFf2Ideal.τ).loc Cert.DwFf2Ideal.main_v0)),
      θ_run (Cert.DwFf2Ideal.defs (F := Ideal)) (onTc (τ := Cert.DwFf2Ideal.τ) (Cert.DwFf2Ideal.main (F := Ideal))) ⟨m, fun _ => 0, g⟩ (fun r => ∀ c : Dev Cert.DwFf2Ideal.nD,
          r.2.mem ((c.tc : Thread Cert.DwFf2Ideal.nD Cert.DwFf2Ideal.τ).loc Cert.DwFf2Ideal.main_v0) = v0 c
          ∧ r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
          ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1))
      ∧ θ_run (Cert.DwFf2ReferenceIdeal.defs (F := Ideal)) (onTc (τ := Cert.DwFf2ReferenceIdeal.τ) (Cert.DwFf2ReferenceIdeal.main (F := Ideal))) ⟨m', fun _ => 0, g'⟩ (fun r => ∀ c : Dev Cert.DwFf2ReferenceIdeal.nD,
          r.2.mem ((c.tc : Thread Cert.DwFf2ReferenceIdeal.nD Cert.DwFf2ReferenceIdeal.τ).loc Cert.DwFf2ReferenceIdeal.main_v4) = v0 c
          ∧ r.2.mem ((c.tc : Thread Cert.DwFf2ReferenceIdeal.nD Cert.DwFf2ReferenceIdeal.τ).loc Cert.DwFf2ReferenceIdeal.main_arg0) = m' ((c.tc : Thread Cert.DwFf2ReferenceIdeal.nD Cert.DwFf2ReferenceIdeal.τ).loc Cert.DwFf2ReferenceIdeal.main_arg0)
          ∧ r.2.mem ((c.tc : Thread Cert.DwFf2ReferenceIdeal.nD Cert.DwFf2ReferenceIdeal.τ).loc Cert.DwFf2ReferenceIdeal.main_arg1) = m' ((c.tc : Thread Cert.DwFf2ReferenceIdeal.nD Cert.DwFf2ReferenceIdeal.τ).loc Cert.DwFf2ReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v4) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DwLru_DwLruIdeal : Prop :=
  True

def algebraic_DwLruIdeal_DwLruReferenceIdeal [hDwLruIdeal : Cert.DwLruIdeal.Facts] [hDwLruReferenceIdeal : Cert.DwLruReferenceIdeal.Facts] : Prop :=
  ∀ (m : (ℓ : Loc Cert.DwLruIdeal.nD Cert.DwLruIdeal.τ Cert.DwLruIdeal.sig) → Buf (Elt Ideal) ℓ) (g : Dev Cert.DwLruIdeal.nD → PrngReg)
    (m' : (ℓ : Loc Cert.DwLruReferenceIdeal.nD Cert.DwLruReferenceIdeal.τ Cert.DwLruReferenceIdeal.sig) → Buf (Elt Ideal) ℓ) (g' : Dev Cert.DwLruReferenceIdeal.nD → PrngReg), Pre_DwLruIdeal m →
    (∀ c : Dev Cert.DwLruIdeal.nD,
      m' ((c.tc : Thread Cert.DwLruReferenceIdeal.nD Cert.DwLruReferenceIdeal.τ).loc Cert.DwLruReferenceIdeal.main_arg0) = m ((c.tc : Thread Cert.DwLruIdeal.nD Cert.DwLruIdeal.τ).loc Cert.DwLruIdeal.main_arg0)
      ∧ m' ((c.tc : Thread Cert.DwLruReferenceIdeal.nD Cert.DwLruReferenceIdeal.τ).loc Cert.DwLruReferenceIdeal.main_arg1) = m ((c.tc : Thread Cert.DwLruIdeal.nD Cert.DwLruIdeal.τ).loc Cert.DwLruIdeal.main_arg1)) →
    ∃ (v0 : (c : Dev Cert.DwLruIdeal.nD) → Buf (Elt Ideal) ((c.tc : Thread Cert.DwLruIdeal.nD Cert.DwLruIdeal.τ).loc Cert.DwLruIdeal.main_v0)),
      θ_run (Cert.DwLruIdeal.defs (F := Ideal)) (onTc (τ := Cert.DwLruIdeal.τ) (Cert.DwLruIdeal.main (F := Ideal))) ⟨m, fun _ => 0, g⟩ (fun r => ∀ c : Dev Cert.DwLruIdeal.nD,
          r.2.mem ((c.tc : Thread Cert.DwLruIdeal.nD Cert.DwLruIdeal.τ).loc Cert.DwLruIdeal.main_v0) = v0 c
          ∧ r.2.mem ((c.tc : Thread Cert.DwLruIdeal.nD Cert.DwLruIdeal.τ).loc Cert.DwLruIdeal.main_arg0) = m ((c.tc : Thread Cert.DwLruIdeal.nD Cert.DwLruIdeal.τ).loc Cert.DwLruIdeal.main_arg0)
          ∧ r.2.mem ((c.tc : Thread Cert.DwLruIdeal.nD Cert.DwLruIdeal.τ).loc Cert.DwLruIdeal.main_arg1) = m ((c.tc : Thread Cert.DwLruIdeal.nD Cert.DwLruIdeal.τ).loc Cert.DwLruIdeal.main_arg1))
      ∧ θ_run (Cert.DwLruReferenceIdeal.defs (F := Ideal)) (onTc (τ := Cert.DwLruReferenceIdeal.τ) (Cert.DwLruReferenceIdeal.main (F := Ideal))) ⟨m', fun _ => 0, g'⟩ (fun r => ∀ c : Dev Cert.DwLruReferenceIdeal.nD,
          r.2.mem ((c.tc : Thread Cert.DwLruReferenceIdeal.nD Cert.DwLruReferenceIdeal.τ).loc Cert.DwLruReferenceIdeal.main_v5) = v0 c
          ∧ r.2.mem ((c.tc : Thread Cert.DwLruReferenceIdeal.nD Cert.DwLruReferenceIdeal.τ).loc Cert.DwLruReferenceIdeal.main_arg0) = m' ((c.tc : Thread Cert.DwLruReferenceIdeal.nD Cert.DwLruReferenceIdeal.τ).loc Cert.DwLruReferenceIdeal.main_arg0)
          ∧ r.2.mem ((c.tc : Thread Cert.DwLruReferenceIdeal.nD Cert.DwLruReferenceIdeal.τ).loc Cert.DwLruReferenceIdeal.main_arg1) = m' ((c.tc : Thread Cert.DwLruReferenceIdeal.nD Cert.DwLruReferenceIdeal.τ).loc Cert.DwLruReferenceIdeal.main_arg1))

def preserves_DwAttn_DwAttnIdeal : Prop :=
  True

def algebraic_DwAttnIdeal_DwAttnReferenceIdeal [hDwAttnIdeal : Cert.DwAttnIdeal.Facts] [hDwAttnReferenceIdeal : Cert.DwAttnReferenceIdeal.Facts] : Prop :=
  ∀ (m : (ℓ : Loc Cert.DwAttnIdeal.nD Cert.DwAttnIdeal.τ Cert.DwAttnIdeal.sig) → Buf (Elt Ideal) ℓ) (g : Dev Cert.DwAttnIdeal.nD → PrngReg)
    (m' : (ℓ : Loc Cert.DwAttnReferenceIdeal.nD Cert.DwAttnReferenceIdeal.τ Cert.DwAttnReferenceIdeal.sig) → Buf (Elt Ideal) ℓ) (g' : Dev Cert.DwAttnReferenceIdeal.nD → PrngReg), Pre_DwAttnIdeal m →
    (∀ c : Dev Cert.DwAttnIdeal.nD,
      m' ((c.tc : Thread Cert.DwAttnReferenceIdeal.nD Cert.DwAttnReferenceIdeal.τ).loc Cert.DwAttnReferenceIdeal.main_arg0) = m ((c.tc : Thread Cert.DwAttnIdeal.nD Cert.DwAttnIdeal.τ).loc Cert.DwAttnIdeal.main_arg0)
      ∧ m' ((c.tc : Thread Cert.DwAttnReferenceIdeal.nD Cert.DwAttnReferenceIdeal.τ).loc Cert.DwAttnReferenceIdeal.main_arg1) = m ((c.tc : Thread Cert.DwAttnIdeal.nD Cert.DwAttnIdeal.τ).loc Cert.DwAttnIdeal.main_arg1)) →
    ∃ (v0 : (c : Dev Cert.DwAttnIdeal.nD) → Buf (Elt Ideal) ((c.tc : Thread Cert.DwAttnIdeal.nD Cert.DwAttnIdeal.τ).loc Cert.DwAttnIdeal.main_v0)),
      θ_run (Cert.DwAttnIdeal.defs (F := Ideal)) (onTc (τ := Cert.DwAttnIdeal.τ) (Cert.DwAttnIdeal.main (F := Ideal))) ⟨m, fun _ => 0, g⟩ (fun r => ∀ c : Dev Cert.DwAttnIdeal.nD,
          r.2.mem ((c.tc : Thread Cert.DwAttnIdeal.nD Cert.DwAttnIdeal.τ).loc Cert.DwAttnIdeal.main_v0) = v0 c
          ∧ r.2.mem ((c.tc : Thread Cert.DwAttnIdeal.nD Cert.DwAttnIdeal.τ).loc Cert.DwAttnIdeal.main_arg0) = m ((c.tc : Thread Cert.DwAttnIdeal.nD Cert.DwAttnIdeal.τ).loc Cert.DwAttnIdeal.main_arg0)
          ∧ r.2.mem ((c.tc : Thread Cert.DwAttnIdeal.nD Cert.DwAttnIdeal.τ).loc Cert.DwAttnIdeal.main_arg1) = m ((c.tc : Thread Cert.DwAttnIdeal.nD Cert.DwAttnIdeal.τ).loc Cert.DwAttnIdeal.main_arg1))
      ∧ θ_run (Cert.DwAttnReferenceIdeal.defs (F := Ideal)) (onTc (τ := Cert.DwAttnReferenceIdeal.τ) (Cert.DwAttnReferenceIdeal.main (F := Ideal))) ⟨m', fun _ => 0, g'⟩ (fun r => ∀ c : Dev Cert.DwAttnReferenceIdeal.nD,
          r.2.mem ((c.tc : Thread Cert.DwAttnReferenceIdeal.nD Cert.DwAttnReferenceIdeal.τ).loc Cert.DwAttnReferenceIdeal.main_v5) = v0 c
          ∧ r.2.mem ((c.tc : Thread Cert.DwAttnReferenceIdeal.nD Cert.DwAttnReferenceIdeal.τ).loc Cert.DwAttnReferenceIdeal.main_arg0) = m' ((c.tc : Thread Cert.DwAttnReferenceIdeal.nD Cert.DwAttnReferenceIdeal.τ).loc Cert.DwAttnReferenceIdeal.main_arg0)
          ∧ r.2.mem ((c.tc : Thread Cert.DwAttnReferenceIdeal.nD Cert.DwAttnReferenceIdeal.τ).loc Cert.DwAttnReferenceIdeal.main_arg1) = m' ((c.tc : Thread Cert.DwAttnReferenceIdeal.nD Cert.DwAttnReferenceIdeal.τ).loc Cert.DwAttnReferenceIdeal.main_arg1))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v5) = v0 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1))

def preserves_DwFf1_DwFf1Ideal : Prop :=
  True

def algebraic_DwFf1Ideal_DwFf1ReferenceIdeal [hDwFf1Ideal : Cert.DwFf1Ideal.Facts] [hDwFf1ReferenceIdeal : Cert.DwFf1ReferenceIdeal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg)
    (m' : (ℓ : Loc Cert.DwFf1ReferenceIdeal.nD Cert.DwFf1ReferenceIdeal.τ Cert.DwFf1ReferenceIdeal.sig) → Buf (Elt Ideal) ℓ) (g' : Dev Cert.DwFf1ReferenceIdeal.nD → PrngReg), Pre_DwFf1Ideal m →
    (∀ c : Dev Cert.DwFf1Ideal.nD,
      m' ((c.tc : Thread Cert.DwFf1ReferenceIdeal.nD Cert.DwFf1ReferenceIdeal.τ).loc Cert.DwFf1ReferenceIdeal.main_arg0) = m ((c.tc : Thread Cert.DwFf1Ideal.nD Cert.DwFf1Ideal.τ).loc Cert.DwFf1Ideal.main_arg0)
      ∧ m' ((c.tc : Thread Cert.DwFf1ReferenceIdeal.nD Cert.DwFf1ReferenceIdeal.τ).loc Cert.DwFf1ReferenceIdeal.main_arg1) = m ((c.tc : Thread Cert.DwFf1Ideal.nD Cert.DwFf1Ideal.τ).loc Cert.DwFf1Ideal.main_arg1)) →
    ∃ (v0 : (c : Dev Cert.DwFf1Ideal.nD) → Buf (Elt Ideal) ((c.tc : Thread Cert.DwFf1Ideal.nD Cert.DwFf1Ideal.τ).loc Cert.DwFf1Ideal.main_v0)),
      θ_run (Cert.DwFf1Ideal.defs (F := Ideal)) (onTc (τ := Cert.DwFf1Ideal.τ) (Cert.DwFf1Ideal.main (F := Ideal))) ⟨m, fun _ => 0, g⟩ (fun r => ∀ c : Dev Cert.DwFf1Ideal.nD,
          r.2.mem ((c.tc : Thread Cert.DwFf1Ideal.nD Cert.DwFf1Ideal.τ).loc Cert.DwFf1Ideal.main_v0) = v0 c
          ∧ r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
          ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1))
      ∧ θ_run (Cert.DwFf1ReferenceIdeal.defs (F := Ideal)) (onTc (τ := Cert.DwFf1ReferenceIdeal.τ) (Cert.DwFf1ReferenceIdeal.main (F := Ideal))) ⟨m', fun _ => 0, g'⟩ (fun r => ∀ c : Dev Cert.DwFf1ReferenceIdeal.nD,
          r.2.mem ((c.tc : Thread Cert.DwFf1ReferenceIdeal.nD Cert.DwFf1ReferenceIdeal.τ).loc Cert.DwFf1ReferenceIdeal.main_v7) = v0 c
          ∧ r.2.mem ((c.tc : Thread Cert.DwFf1ReferenceIdeal.nD Cert.DwFf1ReferenceIdeal.τ).loc Cert.DwFf1ReferenceIdeal.main_arg0) = m' ((c.tc : Thread Cert.DwFf1ReferenceIdeal.nD Cert.DwFf1ReferenceIdeal.τ).loc Cert.DwFf1ReferenceIdeal.main_arg0)
          ∧ r.2.mem ((c.tc : Thread Cert.DwFf1ReferenceIdeal.nD Cert.DwFf1ReferenceIdeal.τ).loc Cert.DwFf1ReferenceIdeal.main_arg1) = m' ((c.tc : Thread Cert.DwFf1ReferenceIdeal.nD Cert.DwFf1ReferenceIdeal.τ).loc Cert.DwFf1ReferenceIdeal.main_arg1))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v7) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v29) = v0 c
          ∧ r.2.mem ((c.tc : Thread Cert.MergeReferenceIdeal.nD Cert.MergeReferenceIdeal.τ).loc Cert.MergeReferenceIdeal.main_v25) = v1 c
          ∧ r.2.mem ((c.tc : Thread Cert.MergeReferenceIdeal.nD Cert.MergeReferenceIdeal.τ).loc Cert.MergeReferenceIdeal.main_v30) = v2 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v0_0)) (v1 : (c : Dev Cert.OutprojIdeal.nD) → Buf (Elt Ideal) ((c.tc : Thread Cert.OutprojIdeal.nD Cert.OutprojIdeal.τ).loc Cert.OutprojIdeal.main_v0_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0_0) = v0 c
          ∧ r.2.mem ((c.tc : Thread Cert.OutprojIdeal.nD Cert.OutprojIdeal.τ).loc Cert.OutprojIdeal.main_v0_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v8) = v0 c
          ∧ r.2.mem ((c.tc : Thread Cert.OutprojReferenceIdeal.nD Cert.OutprojReferenceIdeal.τ).loc Cert.OutprojReferenceIdeal.main_v9) = v1 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3))

def preserves_Ff1_Ff1Ideal : Prop :=
  True

def algebraic_Ff1Ideal_Ff1ReferenceIdeal [hFf1Ideal : Cert.Ff1Ideal.Facts] [hFf1ReferenceIdeal : Cert.Ff1ReferenceIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1ReferenceIdeal.nD Cert.Ff1ReferenceIdeal.τ Cert.Ff1ReferenceIdeal.sig) → Buf (Elt Ideal) ℓ) (g' : Dev Cert.Ff1ReferenceIdeal.nD → PrngReg), Pre_Ff1Ideal m →
    (∀ c : Dev Cert.Ff1Ideal.nD,
      m' ((c.tc : Thread Cert.Ff1ReferenceIdeal.nD Cert.Ff1ReferenceIdeal.τ).loc Cert.Ff1ReferenceIdeal.main_arg0) = m ((c.tc : Thread Cert.Ff1Ideal.nD Cert.Ff1Ideal.τ).loc Cert.Ff1Ideal.main_arg0)
      ∧ m' ((c.tc : Thread Cert.Ff1ReferenceIdeal.nD Cert.Ff1ReferenceIdeal.τ).loc Cert.Ff1ReferenceIdeal.main_arg1) = m ((c.tc : Thread Cert.Ff1Ideal.nD Cert.Ff1Ideal.τ).loc Cert.Ff1Ideal.main_arg1)
      ∧ m' ((c.tc : Thread Cert.Ff1ReferenceIdeal.nD Cert.Ff1ReferenceIdeal.τ).loc Cert.Ff1ReferenceIdeal.main_arg2) = m ((c.tc : Thread Cert.Ff1Ideal.nD Cert.Ff1Ideal.τ).loc Cert.Ff1Ideal.main_arg2)) →
    ∃ (v0 : (c : Dev Cert.Ff1Ideal.nD) → Buf (Elt Ideal) ((c.tc : Thread Cert.Ff1Ideal.nD Cert.Ff1Ideal.τ).loc Cert.Ff1Ideal.main_v0_0)) (v1 : (c : Dev Cert.Ff1Ideal.nD) → Buf (Elt Ideal) ((c.tc : Thread Cert.Ff1Ideal.nD Cert.Ff1Ideal.τ).loc Cert.Ff1Ideal.main_v0_1)) (v2 : (c : Dev Cert.Ff1Ideal.nD) → Buf (Elt Ideal) ((c.tc : Thread Cert.Ff1Ideal.nD Cert.Ff1Ideal.τ).loc Cert.Ff1Ideal.main_v0_2)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0_0) = v0 c
          ∧ r.2.mem ((c.tc : Thread Cert.Ff1Ideal.nD Cert.Ff1Ideal.τ).loc Cert.Ff1Ideal.main_v0_1) = v1 c
          ∧ r.2.mem ((c.tc : Thread Cert.Ff1Ideal.nD Cert.Ff1Ideal.τ).loc Cert.Ff1Ideal.main_v0_2) = v2 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
          ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2))
      ∧ θ_run (Cert.Ff1ReferenceIdeal.defs (F := Ideal)) (onTc (τ := Cert.Ff1ReferenceIdeal.τ) (Cert.Ff1ReferenceIdeal.main (F := Ideal))) ⟨m', fun _ => 0, g'⟩ (fun r => ∀ c : Dev Cert.Ff1ReferenceIdeal.nD,
          r.2.mem ((c.tc : Thread Cert.Ff1ReferenceIdeal.nD Cert.Ff1ReferenceIdeal.τ).loc Cert.Ff1ReferenceIdeal.main_v34) = v0 c
          ∧ r.2.mem ((c.tc : Thread Cert.Ff1ReferenceIdeal.nD Cert.Ff1ReferenceIdeal.τ).loc Cert.Ff1ReferenceIdeal.main_v35) = v1 c
          ∧ r.2.mem ((c.tc : Thread Cert.Ff1ReferenceIdeal.nD Cert.Ff1ReferenceIdeal.τ).loc Cert.Ff1ReferenceIdeal.main_v37) = v2 c
          ∧ r.2.mem ((c.tc : Thread Cert.Ff1ReferenceIdeal.nD Cert.Ff1ReferenceIdeal.τ).loc Cert.Ff1ReferenceIdeal.main_arg0) = m' ((c.tc : Thread Cert.Ff1ReferenceIdeal.nD Cert.Ff1ReferenceIdeal.τ).loc Cert.Ff1ReferenceIdeal.main_arg0)
          ∧ r.2.mem ((c.tc : Thread Cert.Ff1ReferenceIdeal.nD Cert.Ff1ReferenceIdeal.τ).loc Cert.Ff1ReferenceIdeal.main_arg1) = m' ((c.tc : Thread Cert.Ff1ReferenceIdeal.nD Cert.Ff1ReferenceIdeal.τ).loc Cert.Ff1ReferenceIdeal.main_arg1)
          ∧ r.2.mem ((c.tc : Thread Cert.Ff1ReferenceIdeal.nD Cert.Ff1ReferenceIdeal.τ).loc Cert.Ff1ReferenceIdeal.main_arg2) = m' ((c.tc : Thread Cert.Ff1ReferenceIdeal.nD Cert.Ff1ReferenceIdeal.τ).loc Cert.Ff1ReferenceIdeal.main_arg2))

def preserves_OutprojBwd_OutprojBwdIdeal : Prop :=
  True

def algebraic_OutprojBwdIdeal_OutprojBwdReferenceIdeal [hOutprojBwdIdeal : Cert.OutprojBwdIdeal.Facts] [hOutprojBwdReferenceIdeal : Cert.OutprojBwdReferenceIdeal.Facts] : Prop :=
  ∀ (m : (ℓ : Loc Cert.OutprojBwdIdeal.nD Cert.OutprojBwdIdeal.τ Cert.OutprojBwdIdeal.sig) → Buf (Elt Ideal) ℓ) (g : Dev Cert.OutprojBwdIdeal.nD → PrngReg)
    (m' : (ℓ : Loc Cert.OutprojBwdReferenceIdeal.nD Cert.OutprojBwdReferenceIdeal.τ Cert.OutprojBwdReferenceIdeal.sig) → Buf (Elt Ideal) ℓ) (g' : Dev Cert.OutprojBwdReferenceIdeal.nD → PrngReg), Pre_OutprojBwdIdeal m →
    (∀ c : Dev Cert.OutprojBwdIdeal.nD,
      m' ((c.tc : Thread Cert.OutprojBwdReferenceIdeal.nD Cert.OutprojBwdReferenceIdeal.τ).loc Cert.OutprojBwdReferenceIdeal.main_arg0) = m ((c.tc : Thread Cert.OutprojBwdIdeal.nD Cert.OutprojBwdIdeal.τ).loc Cert.OutprojBwdIdeal.main_arg0)
      ∧ m' ((c.tc : Thread Cert.OutprojBwdReferenceIdeal.nD Cert.OutprojBwdReferenceIdeal.τ).loc Cert.OutprojBwdReferenceIdeal.main_arg1) = m ((c.tc : Thread Cert.OutprojBwdIdeal.nD Cert.OutprojBwdIdeal.τ).loc Cert.OutprojBwdIdeal.main_arg1)
      ∧ m' ((c.tc : Thread Cert.OutprojBwdReferenceIdeal.nD Cert.OutprojBwdReferenceIdeal.τ).loc Cert.OutprojBwdReferenceIdeal.main_arg2) = m ((c.tc : Thread Cert.OutprojBwdIdeal.nD Cert.OutprojBwdIdeal.τ).loc Cert.OutprojBwdIdeal.main_arg2)
      ∧ m' ((c.tc : Thread Cert.OutprojBwdReferenceIdeal.nD Cert.OutprojBwdReferenceIdeal.τ).loc Cert.OutprojBwdReferenceIdeal.main_arg3) = m ((c.tc : Thread Cert.OutprojBwdIdeal.nD Cert.OutprojBwdIdeal.τ).loc Cert.OutprojBwdIdeal.main_arg3)) →
    ∃ (v0 : (c : Dev Cert.OutprojBwdIdeal.nD) → Buf (Elt Ideal) ((c.tc : Thread Cert.OutprojBwdIdeal.nD Cert.OutprojBwdIdeal.τ).loc Cert.OutprojBwdIdeal.main_v0_0)),
      θ_run (Cert.OutprojBwdIdeal.defs (F := Ideal)) (onTc (τ := Cert.OutprojBwdIdeal.τ) (Cert.OutprojBwdIdeal.main (F := Ideal))) ⟨m, fun _ => 0, g⟩ (fun r => ∀ c : Dev Cert.OutprojBwdIdeal.nD,
          r.2.mem ((c.tc : Thread Cert.OutprojBwdIdeal.nD Cert.OutprojBwdIdeal.τ).loc Cert.OutprojBwdIdeal.main_v0_0) = v0 c
          ∧ r.2.mem ((c.tc : Thread Cert.OutprojBwdIdeal.nD Cert.OutprojBwdIdeal.τ).loc Cert.OutprojBwdIdeal.main_arg0) = m ((c.tc : Thread Cert.OutprojBwdIdeal.nD Cert.OutprojBwdIdeal.τ).loc Cert.OutprojBwdIdeal.main_arg0)
          ∧ r.2.mem ((c.tc : Thread Cert.OutprojBwdIdeal.nD Cert.OutprojBwdIdeal.τ).loc Cert.OutprojBwdIdeal.main_arg1) = m ((c.tc : Thread Cert.OutprojBwdIdeal.nD Cert.OutprojBwdIdeal.τ).loc Cert.OutprojBwdIdeal.main_arg1)
          ∧ r.2.mem ((c.tc : Thread Cert.OutprojBwdIdeal.nD Cert.OutprojBwdIdeal.τ).loc Cert.OutprojBwdIdeal.main_arg2) = m ((c.tc : Thread Cert.OutprojBwdIdeal.nD Cert.OutprojBwdIdeal.τ).loc Cert.OutprojBwdIdeal.main_arg2)
          ∧ r.2.mem ((c.tc : Thread Cert.OutprojBwdIdeal.nD Cert.OutprojBwdIdeal.τ).loc Cert.OutprojBwdIdeal.main_arg3) = m ((c.tc : Thread Cert.OutprojBwdIdeal.nD Cert.OutprojBwdIdeal.τ).loc Cert.OutprojBwdIdeal.main_arg3))
      ∧ θ_run (Cert.OutprojBwdReferenceIdeal.defs (F := Ideal)) (onTc (τ := Cert.OutprojBwdReferenceIdeal.τ) (Cert.OutprojBwdReferenceIdeal.main (F := Ideal))) ⟨m', fun _ => 0, g'⟩ (fun r => ∀ c : Dev Cert.OutprojBwdReferenceIdeal.nD,
          r.2.mem ((c.tc : Thread Cert.OutprojBwdReferenceIdeal.nD Cert.OutprojBwdReferenceIdeal.τ).loc Cert.OutprojBwdReferenceIdeal.main_v34) = v0 c
          ∧ r.2.mem ((c.tc : Thread Cert.OutprojBwdReferenceIdeal.nD Cert.OutprojBwdReferenceIdeal.τ).loc Cert.OutprojBwdReferenceIdeal.main_arg0) = m' ((c.tc : Thread Cert.OutprojBwdReferenceIdeal.nD Cert.OutprojBwdReferenceIdeal.τ).loc Cert.OutprojBwdReferenceIdeal.main_arg0)
          ∧ r.2.mem ((c.tc : Thread Cert.OutprojBwdReferenceIdeal.nD Cert.OutprojBwdReferenceIdeal.τ).loc Cert.OutprojBwdReferenceIdeal.main_arg1) = m' ((c.tc : Thread Cert.OutprojBwdReferenceIdeal.nD Cert.OutprojBwdReferenceIdeal.τ).loc Cert.OutprojBwdReferenceIdeal.main_arg1)
          ∧ r.2.mem ((c.tc : Thread Cert.OutprojBwdReferenceIdeal.nD Cert.OutprojBwdReferenceIdeal.τ).loc Cert.OutprojBwdReferenceIdeal.main_arg2) = m' ((c.tc : Thread Cert.OutprojBwdReferenceIdeal.nD Cert.OutprojBwdReferenceIdeal.τ).loc Cert.OutprojBwdReferenceIdeal.main_arg2)
          ∧ r.2.mem ((c.tc : Thread Cert.OutprojBwdReferenceIdeal.nD Cert.OutprojBwdReferenceIdeal.τ).loc Cert.OutprojBwdReferenceIdeal.main_arg3) = m' ((c.tc : Thread Cert.OutprojBwdReferenceIdeal.nD Cert.OutprojBwdReferenceIdeal.τ).loc Cert.OutprojBwdReferenceIdeal.main_arg3))

def Claim : Prop :=
  ∃ (hKernel : Cert.Kernel.Facts) (hKernelIdeal : Cert.KernelIdeal.Facts) (hReferenceIdeal : Cert.ReferenceIdeal.Facts) (hFf2 : Cert.Ff2.Facts) (hFf2Ideal : Cert.Ff2Ideal.Facts) (hFf2ReferenceIdeal : Cert.Ff2ReferenceIdeal.Facts) (hDwFf2 : Cert.DwFf2.Facts) (hDwFf2Ideal : Cert.DwFf2Ideal.Facts) (hDwFf2ReferenceIdeal : Cert.DwFf2ReferenceIdeal.Facts) (hDwOut : Cert.DwOut.Facts) (hDwOutIdeal : Cert.DwOutIdeal.Facts) (hDwOutReferenceIdeal : Cert.DwOutReferenceIdeal.Facts) (hDwLru : Cert.DwLru.Facts) (hDwLruIdeal : Cert.DwLruIdeal.Facts) (hDwLruReferenceIdeal : Cert.DwLruReferenceIdeal.Facts) (hDwAttn : Cert.DwAttn.Facts) (hDwAttnIdeal : Cert.DwAttnIdeal.Facts) (hDwAttnReferenceIdeal : Cert.DwAttnReferenceIdeal.Facts) (hAttnOut : Cert.AttnOut.Facts) (hAttnOutIdeal : Cert.AttnOutIdeal.Facts) (hAttnOutReferenceIdeal : Cert.AttnOutReferenceIdeal.Facts) (hDwFf1 : Cert.DwFf1.Facts) (hDwFf1Ideal : Cert.DwFf1Ideal.Facts) (hDwFf1ReferenceIdeal : Cert.DwFf1ReferenceIdeal.Facts) (hDwIn : Cert.DwIn.Facts) (hDwInIdeal : Cert.DwInIdeal.Facts) (hDwInReferenceIdeal : Cert.DwInReferenceIdeal.Facts) (hMerge : Cert.Merge.Facts) (hMergeIdeal : Cert.MergeIdeal.Facts) (hMergeReferenceIdeal : Cert.MergeReferenceIdeal.Facts) (hOutproj : Cert.Outproj.Facts) (hOutprojIdeal : Cert.OutprojIdeal.Facts) (hOutprojReferenceIdeal : Cert.OutprojReferenceIdeal.Facts) (hFf1 : Cert.Ff1.Facts) (hFf1Ideal : Cert.Ff1Ideal.Facts) (hFf1ReferenceIdeal : Cert.Ff1ReferenceIdeal.Facts) (hOutprojBwd : Cert.OutprojBwd.Facts) (hOutprojBwdIdeal : Cert.OutprojBwdIdeal.Facts) (hOutprojBwdReferenceIdeal : Cert.OutprojBwdReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ff2 (hFf2 := hFf2)
    ∧ quiescent_Ff2Ideal (hFf2Ideal := hFf2Ideal)
    ∧ quiescent_Ff2ReferenceIdeal (hFf2ReferenceIdeal := hFf2ReferenceIdeal)
    ∧ quiescent_DwFf2 (hDwFf2 := hDwFf2)
    ∧ quiescent_DwFf2Ideal (hDwFf2Ideal := hDwFf2Ideal)
    ∧ quiescent_DwFf2ReferenceIdeal (hDwFf2ReferenceIdeal := hDwFf2ReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_DwLru (hDwLru := hDwLru)
    ∧ quiescent_DwLruIdeal (hDwLruIdeal := hDwLruIdeal)
    ∧ quiescent_DwLruReferenceIdeal (hDwLruReferenceIdeal := hDwLruReferenceIdeal)
    ∧ quiescent_DwAttn (hDwAttn := hDwAttn)
    ∧ quiescent_DwAttnIdeal (hDwAttnIdeal := hDwAttnIdeal)
    ∧ quiescent_DwAttnReferenceIdeal (hDwAttnReferenceIdeal := hDwAttnReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_DwFf1 (hDwFf1 := hDwFf1)
    ∧ quiescent_DwFf1Ideal (hDwFf1Ideal := hDwFf1Ideal)
    ∧ quiescent_DwFf1ReferenceIdeal (hDwFf1ReferenceIdeal := hDwFf1ReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_Ff1 (hFf1 := hFf1)
    ∧ quiescent_Ff1Ideal (hFf1Ideal := hFf1Ideal)
    ∧ quiescent_Ff1ReferenceIdeal (hFf1ReferenceIdeal := hFf1ReferenceIdeal)
    ∧ quiescent_OutprojBwd (hOutprojBwd := hOutprojBwd)
    ∧ quiescent_OutprojBwdIdeal (hOutprojBwdIdeal := hOutprojBwdIdeal)
    ∧ quiescent_OutprojBwdReferenceIdeal (hOutprojBwdReferenceIdeal := hOutprojBwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ff2_Ff2Ideal
    ∧ algebraic_Ff2Ideal_Ff2ReferenceIdeal (hFf2Ideal := hFf2Ideal) (hFf2ReferenceIdeal := hFf2ReferenceIdeal)
    ∧ preserves_DwFf2_DwFf2Ideal
    ∧ algebraic_DwFf2Ideal_DwFf2ReferenceIdeal (hDwFf2Ideal := hDwFf2Ideal) (hDwFf2ReferenceIdeal := hDwFf2ReferenceIdeal)
    ∧ preserves_DwOut_DwOutIdeal
    ∧ algebraic_DwOutIdeal_DwOutReferenceIdeal (hDwOutIdeal := hDwOutIdeal) (hDwOutReferenceIdeal := hDwOutReferenceIdeal)
    ∧ preserves_DwLru_DwLruIdeal
    ∧ algebraic_DwLruIdeal_DwLruReferenceIdeal (hDwLruIdeal := hDwLruIdeal) (hDwLruReferenceIdeal := hDwLruReferenceIdeal)
    ∧ preserves_DwAttn_DwAttnIdeal
    ∧ algebraic_DwAttnIdeal_DwAttnReferenceIdeal (hDwAttnIdeal := hDwAttnIdeal) (hDwAttnReferenceIdeal := hDwAttnReferenceIdeal)
    ∧ preserves_AttnOut_AttnOutIdeal
    ∧ algebraic_AttnOutIdeal_AttnOutReferenceIdeal (hAttnOutIdeal := hAttnOutIdeal) (hAttnOutReferenceIdeal := hAttnOutReferenceIdeal)
    ∧ preserves_DwFf1_DwFf1Ideal
    ∧ algebraic_DwFf1Ideal_DwFf1ReferenceIdeal (hDwFf1Ideal := hDwFf1Ideal) (hDwFf1ReferenceIdeal := hDwFf1ReferenceIdeal)
    ∧ preserves_DwIn_DwInIdeal
    ∧ algebraic_DwInIdeal_DwInReferenceIdeal (hDwInIdeal := hDwInIdeal) (hDwInReferenceIdeal := hDwInReferenceIdeal)
    ∧ preserves_Merge_MergeIdeal
    ∧ algebraic_MergeIdeal_MergeReferenceIdeal (hMergeIdeal := hMergeIdeal) (hMergeReferenceIdeal := hMergeReferenceIdeal)
    ∧ preserves_Outproj_OutprojIdeal
    ∧ algebraic_OutprojIdeal_OutprojReferenceIdeal (hOutprojIdeal := hOutprojIdeal) (hOutprojReferenceIdeal := hOutprojReferenceIdeal)
    ∧ preserves_Ff1_Ff1Ideal
    ∧ algebraic_Ff1Ideal_Ff1ReferenceIdeal (hFf1Ideal := hFf1Ideal) (hFf1ReferenceIdeal := hFf1ReferenceIdeal)
    ∧ preserves_OutprojBwd_OutprojBwdIdeal
    ∧ algebraic_OutprojBwdIdeal_OutprojBwdReferenceIdeal (hOutprojBwdIdeal := hOutprojBwdIdeal) (hOutprojBwdReferenceIdeal := hOutprojBwdReferenceIdeal)
-- ==== Pre_finite.lean ====
abbrev S4096x10752 : Shape := ⟨2, ![4096, 10752]⟩
abbrev S32x128x256 : Shape := ⟨3, ![32, 128, 256]⟩
abbrev S32 : Shape := ⟨1, ![32]⟩
abbrev S4096x2048 : Shape := ⟨2, ![4096, 2048]⟩
abbrev S4096x2560 : Shape := ⟨2, ![4096, 2560]⟩
abbrev S_ : Shape := ⟨0, ![]⟩

class Facts : Prop where
  slices_S4096x10752_S4096x2560_0_4096 : S4096x10752.Slices ![0, 4096] S4096x2560
  bitsLt_bf16_f32 : FTy.bits .bf16 < FTy.bits .f32
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S32x128x256 : S_.BroadcastsInDim S32x128x256 (![] : Fin 0 → Fin S32x128x256.rank)
  reducesTo_S32x128x256_S_d0_1_2 : S32x128x256.ReducesTo [0, 1, 2] S_
  bcast_S_S32 : S_.BroadcastsInDim S32 (![] : Fin 0 → Fin S32.rank)
  reducesTo_S32_S_d0 : S32.ReducesTo [0] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v15 : IVec S_ 1) (main_v17 : FVec F S4096x2048 .f32) : IVec S_ 1 :=
  let main_cst_4 : FVec F S_ .f32 := constant S_ .f32 0x7F800000#32
  let main_v18 : FVec F S4096x2048 .f32 := broadcastInDim S4096x2048 ![] bcast_S_S4096x2048 main_cst_4
  let main_v19 : IVec S4096x2048 1 := cmpf .olt main_v17 main_v18
  let main_c_5 : IVec S_ 1 := constantI S_ 1 1#1
  let main_v20 : IVec S_ 1 := (fun x v => Host.reduce IntOp.andi x v reducesTo_S4096x2048_S_d0_1 h_S_) main_v19 main_c_5
  let main_v21 : IVec S_ 1 := andi main_v15 main_v20
  main_v21

def fn {F : FTy → Type} [FloatOps F] (main_arg0 : FVec F S4096x10752 .bf16) (main_arg1 : FVec F S32x128x256 .f32) (main_arg2 : FVec F S32 .f32) (main_arg3 : FVec F S4096x2048 .bf16) (main_arg4 : FVec F S4096x10752 .bf16) : IVec S_ 1 :=
  let main_v0 : FVec F S4096x2560 .bf16 := (extractStridedSlice S4096x2560 ![0, 4096] · slices_S4096x10752_S4096x2560_0_4096) main_arg0
  let main_v1 : FVec F S4096x2560 .f32 := (extf .f32 · bitsLt_bf16_f32) main_v0
  let main_v2 : FVec F S4096x2560 .f32 := Host.absf main_v1
  let main_cst : FVec F S_ .f32 := constant S_ .f32 0x7F800000#32
  let main_v3 : FVec F S4096x2560 .f32 := broadcastInDim S4096x2560 ![] bcast_S_S4096x2560 main_cst
  let main_v4 : IVec S4096x2560 1 := cmpf .olt main_v2 main_v3
  let main_c : IVec S_ 1 := constantI S_ 1 1#1
  let main_v5 : IVec S_ 1 := (fun x v => Host.reduce IntOp.andi x v reducesTo_S4096x2560_S_d0_1 h_S_) main_v4 main_c
  let main_v6 : FVec F S32x128x256 .f32 := Host.absf main_arg1
  let main_cst_0 : FVec F S_ .f32 := constant S_ .f32 0x7F800000#32
  let main_v7 : FVec F S32x128x256 .f32 := broadcastInDim S32x128x256 ![] bcast_S_S32x128x256 main_cst_0
  let main_v8 : IVec S32x128x256 1 := cmpf .olt main_v6 main_v7
  let main_c_1 : IVec S_ 1 := constantI S_ 1 1#1
  let main_v9 : IVec S_ 1 := (fun x v => Host.reduce IntOp.andi x v reducesTo_S32x128x256_S_d0_1_2 h_S_) main_v8 main_c_1
  let main_v10 : IVec S_ 1 := andi main_v5 main_v9
  let main_v11 : FVec F S32 .f32 := Host.absf main_arg2
  let main_cst_2 : FVec F S_ .f32 := constant S_ .f32 0x7F800000#32
  let main_v12 : FVec F S32 .f32 := broadcastInDim S32 ![] bcast_S_S32 main_cst_2
  let main_v13 : IVec S32 1 := cmpf .olt main_v11 main_v12
  let main_c_3 : IVec S_ 1 := constantI S_ 1 1#1
  let main_v14 : IVec S_ 1 := (fun x v => Host.reduce IntOp.andi x v reducesTo_S32_S_d0 h_S_) main_v13 main_c_3
  let main_v15 : IVec S_ 1 := andi main_v10 main_v14
  let main_v16 : FVec F S4096x2048 .f32 := (extf .f32 · bitsLt_bf16_f32) main_arg3
  let main_v17 : FVec F S4096x2048 .f32 := Host.absf main_v16
  fn_part1 (F := F) main_v15 main_v17
-- ==== Kernel.lean ====
abbrev S4096x10752 : Shape := ⟨2, ![4096, 10752]⟩
abbrev S32x128x256 : Shape := ⟨3, ![32, 128, 256]⟩
abbrev S32 : Shape := ⟨1, ![32]⟩
abbrev S4096x2048 : Shape := ⟨2, ![4096, 2048]⟩
abbrev S8192x256 : Shape := ⟨2, ![8192, 256]⟩
abbrev S32x128 : Shape := ⟨2, ![32, 128]⟩
abbrev S128x1024 : Shape := ⟨2, ![128, 1024]⟩
abbrev S128x128 : Shape := ⟨2, ![128, 128]⟩
abbrev S16x128x256 : Shape := ⟨3, ![16, 128, 256]⟩
abbrev S256x128 : Shape := ⟨2, ![256, 128]⟩
abbrev S16x128 : Shape := ⟨2, ![16, 128]⟩
abbrev S1024x128 : Shape := ⟨2, ![1024, 128]⟩
abbrev S1024x256 : Shape := ⟨2, ![1024, 256]⟩
abbrev S128x256 : Shape := ⟨2, ![128, 256]⟩
abbrev S1x128x256 : Shape := ⟨3, ![1, 128, 256]⟩
abbrev S1 : Shape := ⟨1, ![1]⟩
abbrev S128 : Shape := ⟨1, ![128]⟩
abbrev S128x1 : Shape := ⟨2, ![128, 1]⟩
abbrev S1x128 : Shape := ⟨2, ![1, 128]⟩
abbrev S1x128x1 : Shape := ⟨3, ![1, 128, 1]⟩
abbrev S1x1x1 : Shape := ⟨3, ![1, 1, 1]⟩

abbrev nBuf : Space → Nat
  | .hbm => 10
  | .vmem => 30
  | .smem => 1
  | _ => 0

abbrev bufTy : (tb : Table) → Fin (tcTables nBuf tb) → BufTy
  | .hbm, ⟨0, _⟩ => ⟨S4096x10752, .bf16⟩
  | .hbm, ⟨1, _⟩ => ⟨S32x128x256, .f32⟩
  | .hbm, ⟨2, _⟩ => ⟨S32, .f32⟩
  | .hbm, ⟨3, _⟩ => ⟨S4096x2048, .bf16⟩
  | .hbm, ⟨4, _⟩ => ⟨S4096x10752, .bf16⟩
  | .hbm, ⟨5, _⟩ => ⟨S4096x10752, .bf16⟩
  | .hbm, ⟨6, _⟩ => ⟨S8192x256, .f32⟩
  | .hbm, ⟨7, _⟩ => ⟨S8192x256, .f32⟩
  | .hbm, ⟨8, _⟩ => ⟨S32x128x256, .f32⟩
  | .hbm, ⟨9, _⟩ => ⟨S32x128, .f32⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S16x128x256, .f32⟩
  | .local _ .vmem, ⟨11, _⟩ => ⟨S16x128x256, .f32⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S16x128x256, .f32⟩
  | .local _ .vmem, ⟨21, _⟩ => ⟨S16x128x256, .f32⟩
  | .local _ .vmem, ⟨22, _⟩ => ⟨S16x128, .f32⟩
  | .local _ .vmem, ⟨23, _⟩ => ⟨S16x128, .f32⟩
  | .local _ .vmem, ⟨24, _⟩ => ⟨S1024x128, .bf16⟩
  | .local _ .vmem, ⟨25, _⟩ => ⟨S1024x128, .bf16⟩
  | .local _ .vmem, ⟨26, _⟩ => ⟨S1024x256, .f32⟩
  | .local _ .vmem, ⟨27, _⟩ => ⟨S1024x256, .f32⟩
  | .local _ .vmem, ⟨28, _⟩ => ⟨S1024x256, .bf16⟩
  | .local _ .vmem, ⟨29, _⟩ => ⟨S1024x256, .bf16⟩
  | .local _ .smem, ⟨0, _⟩ => ⟨S32, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![2, 32], ![false, false]⟩

def k0_off1 (i : grid0.Coords) (c0_i32_106 : BitVec 32) : Fin 1 → Nat :=
  let arg0 : BitVec 32 := BitVec.ofNat 32 (i 0).val
  let c16_i32 : BitVec 32 := 16#32
  let v189 : BitVec 32 := Scalar.muli arg0 c16_i32
  let v190 : BitVec 32 := Scalar.addi v189 c0_i32_106
  let v191 : Index := Scalar.indexCast v190
  ![v191.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c48_i32 : BitVec 32 := 48#32
  let v2 : BitVec 32 := Scalar.addi c48_i32 arg0
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c50_i32 : BitVec 32 := 50#32
  let v2 : BitVec 32 := Scalar.addi c50_i32 arg0
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.addi c50_i32 arg0
  let c0_i32 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x10752 : Shape := ⟨2, ![4096, 10752]⟩
abbrev S32x128x256 : Shape := ⟨3, ![32, 128, 256]⟩
abbrev S32 : Shape := ⟨1, ![32]⟩
abbrev S4096x2048 : Shape := ⟨2, ![4096, 2048]⟩
abbrev S32x128x4x8x64 : Shape := ⟨5, ![32, 128, 4, 8, 64]⟩
abbrev S4096x256 : Shape := ⟨2, ![4096, 256]⟩
abbrev S_ : Shape := ⟨0, ![]⟩
abbrev S128x256 : Shape := ⟨2, ![128, 256]⟩
abbrev S4224x256 : Shape := ⟨2, ![4224, 256]⟩
abbrev S33x128x4x64 : Shape := ⟨4, ![33, 128, 4, 64]⟩
abbrev S32x128x4x64 : Shape := ⟨4, ![32, 128, 4, 64]⟩
abbrev S32x256x4x64 : Shape := ⟨4, ![32, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S4x8x128x256 : Shape := ⟨4, ![4, 8, 128, 256]⟩
abbrev S32x4x256x128x8 : Shape := ⟨5, ![32, 4, 256, 128, 8]⟩
abbrev S32x4x8x128x256 : Shape := ⟨5, ![32, 4, 8, 128, 256]⟩
abbrev S32x1x1x128x256 : Shape := ⟨5, ![32, 1, 1, 128, 256]⟩
abbrev S1x4x8x128x256 : Shape := ⟨5, ![1, 4, 8, 128, 256]⟩
abbrev S4x8 : Shape := ⟨2, ![4, 8]⟩
abbrev S1x4x8x1x1 : Shape := ⟨5, ![1, 4, 8, 1, 1]⟩
abbrev S32x4x8x128 : Shape := ⟨4, ![32, 4, 8, 128]⟩
abbrev S32x4x8x128x1 : Shape := ⟨5, ![32, 4, 8, 128, 1]⟩
abbrev S32x4x64x8x128 : Shape := ⟨5, ![32, 4, 64, 8, 128]⟩
abbrev S32x4x64x256 : Shape := ⟨4, ![32, 4, 64, 256]⟩
abbrev S4x8x1 : Shape := ⟨3, ![4, 8, 1]⟩
abbrev S32x4x128x8x64 : Shape := ⟨5, ![32, 4, 128, 8, 64]⟩
abbrev S32x4x256x64 : Shape := ⟨4, ![32, 4, 256, 64]⟩
abbrev S4096x4096 : Shape := ⟨2, ![4096, 4096]⟩
abbrev S4096x4608 : Shape := ⟨2, ![4096, 4608]⟩
abbrev S8192x256 : Shape := ⟨2, ![8192, 256]⟩
abbrev S32x1 : Shape := ⟨2, ![32, 1]⟩
abbrev S32x128 : Shape := ⟨2, ![32, 128]⟩

abbrev nBuf : Space → Nat
  | .hbm => 207
  | .vmem => 0
  | .smem => 0
  | _ => 0

abbrev hbmTy0_0 (i : Nat) : BufTy := match i % 128 with
  | 0 => ⟨S4096x10752, .bf16⟩
  | 1 => ⟨S32x128x256, .f32⟩
  | 2 => ⟨S32, .f32⟩
  | 3 => ⟨S4096x2048, .bf16⟩
  | 4 => ⟨S4096x10752, .bf16⟩
  | 5 => ⟨S4096x2048, .bf16⟩
  | 6 => ⟨S4096x2048, .f32⟩
  | 7 => ⟨S32x128x4x8x64, .f32⟩
  | 8 => ⟨S4096x256, .bf16⟩
  | 9 => ⟨S4096x256, .f32⟩
  | 10 => ⟨S_, .f32⟩
  | 11 => ⟨S128x256, .f32⟩
  | 12 => ⟨S4224x256, .f32⟩
  | 13 => ⟨S33x128x4x64, .f32⟩
  | 14 => ⟨S32x128x4x64, .f32⟩
  | 15 => ⟨S32x128x4x64, .f32⟩
  | 16 => ⟨S32x256x4x64, .f32⟩
  | 17 => ⟨S4096x256, .bf16⟩
  | 18 => ⟨S4096x256, .f32⟩
  | 19 => ⟨S_, .f32⟩
  | 20 => ⟨S128x256, .f32⟩
  | 21 => ⟨S4224x256, .f32⟩
  | 22 => ⟨S33x128x4x64, .f32⟩
  | 23 => ⟨S32x128x4x64, .f32⟩
  | 24 => ⟨S32x128x4x64, .f32⟩
  | 25 => ⟨S32x256x4x64, .f32⟩
  | 26 => ⟨S128, .i32⟩
  | 27 => ⟨S128x1, .i32⟩
  | 28 => ⟨S256, .i32⟩
  | 29 => ⟨S1x256, .i32⟩
  | 30 => ⟨S_, .i32⟩
  | 31 => ⟨S128x1, .i32⟩
  | 32 => ⟨S128x1, .i32⟩
  | 33 => ⟨S128x256, .i32⟩
  | 34 => ⟨S128x256, .i32⟩
  | 35 => ⟨S128x256, .i32⟩
  | 36 => ⟨S32, .i32⟩
  | 37 => ⟨S32x1x1, .i32⟩
  | 38 => ⟨S_, .i32⟩
  | 39 => ⟨S32x1x1, .i32⟩
  | 40 => ⟨S32x1x1, .i32⟩
  | 41 => ⟨S_, .i32⟩
  | 42 => ⟨S32x1x1, .i32⟩
  | 43 => ⟨S32x1x1, .i32⟩
  | 44 => ⟨S1x1x256, .i32⟩
  | 45 => ⟨S32x1x256, .i32⟩
  | 46 => ⟨S32x1x256, .i32⟩
  | 47 => ⟨S32x1x256, .i32⟩
  | 48 => ⟨S_, .i32⟩
  | 49 => ⟨S32x1x256, .i32⟩
  | 50 => ⟨S32x1x256, .i1⟩
  | 51 => ⟨S1x128x256, .i32⟩
  | 52 => ⟨S_, .i32⟩
  | 53 => ⟨S1x128x256, .i32⟩
  | 54 => ⟨S1x128x256, .i1⟩
  | 55 => ⟨S32x128x256, .i1⟩
  | 56 => ⟨S32x128x256, .i1⟩
  | 57 => ⟨S32x128x256, .i1⟩
  | 58 => ⟨S1x128x256, .i32⟩
  | 59 => ⟨S_, .i32⟩
  | 60 => ⟨S1x128x256, .i32⟩
  | 61 => ⟨S1x128x256, .i1⟩
  | 62 => ⟨S32x128x256, .i1⟩
  | 63 => ⟨S32x128x256, .i1⟩
  | 64 => ⟨S4x8x128x256, .f32⟩
  | 65 => ⟨S4096x2048, .f32⟩
  | 66 => ⟨S32x128x4x8x64, .f32⟩
  | 67 => ⟨S32x4x256x128x8, .f32⟩
  | 68 => ⟨S32x4x8x128x256, .f32⟩
  | 69 => ⟨S_, .f32⟩
  | 70 => ⟨S32x4x8x128x256, .f32⟩
  | 71 => ⟨S32x4x8x128x256, .f32⟩
  | 72 => ⟨S32x1x1x128x256, .i1⟩
  | 73 => ⟨S1x4x8x128x256, .f32⟩
  | 74 => ⟨S32x4x8x128x256, .f32⟩
  | 75 => ⟨S32x4x8x128x256, .f32⟩
  | 76 => ⟨S_, .f32⟩
  | 77 => ⟨S_, .f32⟩
  | 78 => ⟨S32x4x8x128x256, .i1⟩
  | 79 => ⟨S32x4x8x128x256, .f32⟩
  | 80 => ⟨S32x4x8x128x256, .f32⟩
  | 81 => ⟨S_, .f32⟩
  | 82 => ⟨S32x4x8x128x256, .f32⟩
  | 83 => ⟨S4x8, .f32⟩
  | 84 => ⟨S1x4x8x1x1, .f32⟩
  | 85 => ⟨S_, .f32⟩
  | 86 => ⟨S32x4x8x128, .f32⟩
  | 87 => ⟨S32x4x8x128x1, .f32⟩
  | 88 => ⟨S32x4x8x128x256, .f32⟩
  | 89 => ⟨S32x4x8x128x256, .i1⟩
  | 90 => ⟨S32x4x8x128x256, .f32⟩
  | 91 => ⟨S_, .f32⟩
  | 92 => ⟨S32x4x8x128, .f32⟩
  | 93 => ⟨S32x4x8x128x1, .f32⟩
  | 94 => ⟨S32x4x8x128x1, .f32⟩
  | 95 => ⟨S32x4x8x128x1, .f32⟩
  | 96 => ⟨S32x4x8x128x1, .f32⟩
  | 97 => ⟨S32x4x8x128x1, .i1⟩
  | 98 => ⟨S32x4x8x128x1, .f32⟩
  | 99 => ⟨S32x4x8x128x1, .i1⟩
  | 100 => ⟨S_, .f32⟩
  | 101 => ⟨S32x4x8x128x1, .f32⟩
  | 102 => ⟨S_, .f32⟩
  | 103 => ⟨S32x4x8x128x1, .f32⟩
  | 104 => ⟨S_, .f32⟩
  | 105 => ⟨S32x4x8x128x1, .f32⟩
  | 106 => ⟨S32x4x8x128x1, .f32⟩
  | 107 => ⟨S32x4x8x128x1, .f32⟩
  | 108 => ⟨S32x4x8x128x1, .f32⟩
  | 109 => ⟨S32x4x8x128x1, .i1⟩
  | 110 => ⟨S32x4x8x128x1, .f32⟩
  | 111 => ⟨S32x4x8x128x1, .i1⟩
  | 112 => ⟨S_, .f32⟩
  | 113 => ⟨S32x4x8x128x1, .f32⟩
  | 114 => ⟨S_, .f32⟩
  | 115 => ⟨S32x4x8x128x1, .f32⟩
  | 116 => ⟨S_, .f32⟩
  | 117 => ⟨S32x4x8x128x1, .f32⟩
  | 118 => ⟨S32x4x8x128x1, .f32⟩
  | 119 => ⟨S32x4x8x128x1, .f32⟩
  | 120 => ⟨S32x4x8x128x256, .f32⟩
  | 121 => ⟨S32x4x8x128x256, .f32⟩
  | 122 => ⟨S32x4x8x128x256, .f32⟩
  | 123 => ⟨S_, .f32⟩
  | 124 => ⟨S32x4x8x128, .f32⟩
  | 125 => ⟨S32x4x8x128x1, .f32⟩
  | 126 => ⟨S32x4x8x128x1, .f32⟩
  | 127 => ⟨S32x4x8x128x1, .f32⟩
  | _ => ⟨S4096x10752, .bf16⟩

abbrev hbmTy0_1 (i : Nat) : BufTy := match i % 128 with
  | 0 => ⟨S32x4x8x128x1, .f32⟩
  | 1 => ⟨S32x4x8x128x1, .f32⟩
  | 2 => ⟨S32x4x8x128x256, .f32⟩
  | 3 => ⟨S32x4x8x128x256, .f32⟩
  | 4 => ⟨S32x4x8x128x1, .f32⟩
  | 5 => ⟨S_, .f32⟩
  | 6 => ⟨S32x4x8x128x1, .f32⟩
  | 7 => ⟨S32x4x8x128x1, .f32⟩
  | 8 => ⟨S32x4x64x8x128, .f32⟩
  | 9 => ⟨S32x128x4x8x64, .f32⟩
  | 10 => ⟨S32x4x64x8x128, .f32⟩
  | 11 => ⟨S32x4x8x128x256, .f32⟩
  | 12 => ⟨S32x4x64x256, .f32⟩
  | 13 => ⟨S32x256x4x64, .f32⟩
  | 14 => ⟨S32x4x8x128x256, .f32⟩
  | 15 => ⟨S32x4x8x128x256, .f32⟩
  | 16 => ⟨S32x4x8x128x256, .f32⟩
  | 17 => ⟨S_, .f32⟩
  | 18 => ⟨S32x4x8x128, .f32⟩
  | 19 => ⟨S32x4x8x128x1, .f32⟩
  | 20 => ⟨S32x4x8x128x1, .f32⟩
  | 21 => ⟨S32x4x8x128x256, .f32⟩
  | 22 => ⟨S32x4x8x128x256, .f32⟩
  | 23 => ⟨S32x4x8x128x1, .f32⟩
  | 24 => ⟨S_, .f32⟩
  | 25 => ⟨S4x8x1, .f32⟩
  | 26 => ⟨S1x4x8x1x1, .f32⟩
  | 27 => ⟨S32x4x8x128x1, .f32⟩
  | 28 => ⟨S_, .f32⟩
  | 29 => ⟨S32x4x8x128, .f32⟩
  | 30 => ⟨S32x4x8x128x256, .f32⟩
  | 31 => ⟨S32x4x8x128x256, .f32⟩
  | 32 => ⟨S32x4x8x128x256, .f32⟩
  | 33 => ⟨S32x4x8x128x256, .f32⟩
  | 34 => ⟨S_, .f32⟩
  | 35 => ⟨S32x4x8x128, .f32⟩
  | 36 => ⟨S32x4x8x128x1, .f32⟩
  | 37 => ⟨S32x4x8x128x1, .f32⟩
  | 38 => ⟨S32x4x8x128x1, .f32⟩
  | 39 => ⟨S_, .f32⟩
  | 40 => ⟨S4x8x1, .f32⟩
  | 41 => ⟨S1x4x8x1x1, .f32⟩
  | 42 => ⟨S1x4x8x1x1, .f32⟩
  | 43 => ⟨S32x4x8x128x1, .f32⟩
  | 44 => ⟨S_, .f32⟩
  | 45 => ⟨S32x4x8x128, .f32⟩
  | 46 => ⟨S32x4x8x128, .f32⟩
  | 47 => ⟨S32x4x8x128x256, .f32⟩
  | 48 => ⟨S32x4x8x128x256, .f32⟩
  | 49 => ⟨S32x4x8x128x256, .f32⟩
  | 50 => ⟨S_, .f32⟩
  | 51 => ⟨S4x8, .f32⟩
  | 52 => ⟨S32, .f32⟩
  | 53 => ⟨S_, .f32⟩
  | 54 => ⟨S32x4x8x128x256, .f32⟩
  | 55 => ⟨S32x4x8x128x256, .f32⟩
  | 56 => ⟨S_, .f32⟩
  | 57 => ⟨S4x8x128x256, .f32⟩
  | 58 => ⟨S1x4x8x128x256, .f32⟩
  | 59 => ⟨S_, .f32⟩
  | 60 => ⟨S4x8x128x256, .f32⟩
  | 61 => ⟨S_, .f32⟩
  | 62 => ⟨S32x4x8x128x256, .f32⟩
  | 63 => ⟨S32x4x8x128x256, .f32⟩
  | 64 => ⟨S32x4x256x128x8, .f32⟩
  | 65 => ⟨S32x4x128x8x64, .f32⟩
  | 66 => ⟨S32x128x4x8x64, .f32⟩
  | 67 => ⟨S32x4x256x64, .f32⟩
  | 68 => ⟨S32x256x4x64, .f32⟩
  | 69 => ⟨S4096x4096, .bf16⟩
  | 70 => ⟨S4096x2048, .f32⟩
  | 71 => ⟨S4096x2048, .bf16⟩
  | 72 => ⟨S4096x4608, .bf16⟩
  | 73 => ⟨S4096x10752, .bf16⟩
  | 74 => ⟨S8192x256, .f32⟩
  | 75 => ⟨S8192x256, .f32⟩
  | 76 => ⟨S32x128x256, .f32⟩
  | 77 => ⟨S32x1, .f32⟩
  | 78 => ⟨S32x128, .f32⟩
  | _ => ⟨S4096x10752, .bf16⟩

abbrev hbmTy (i : Nat) : BufTy := match i / 128 with
  | 0 => hbmTy0_0 i
  | 1 => hbmTy0_1 i
  | _ => ⟨S4096x10752, .bf16⟩

abbrev bufTy : (tb : Table) → Fin (tcTables nBuf tb) → BufTy
  | .hbm, ⟨i, _⟩ => hbmTy i
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_1 : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_5 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_7 : Ref sig .tc := ⟨.hbm, 76, rfl⟩
abbrev main_call0_v0 : Ref sig .tc := ⟨.hbm, 77, rfl⟩
abbrev main_v62_1 : Ref sig .tc := ⟨.hbm, 78, rfl⟩
abbrev main_call0_v2 : Ref sig .tc := ⟨.hbm, 79, rfl⟩
abbrev main_v62_0 : Ref sig .tc := ⟨.hbm, 80, rfl⟩
abbrev main_call0_cst : Ref sig .tc := ⟨.hbm, 81, rfl⟩
abbrev main_v62_2 : Ref sig .tc := ⟨.hbm, 82, rfl⟩
abbrev main_v63 : Ref sig .tc := ⟨.hbm, 83, rfl⟩
abbrev main_v64 : Ref sig .tc := ⟨.hbm, 84, rfl⟩
abbrev main_cst_8 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_9 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_10 : Ref sig .tc := ⟨.hbm, 100, rfl⟩
abbrev main_v78 : Ref sig .tc := ⟨.hbm, 101, rfl⟩
abbrev main_cst_11 : Ref sig .tc := ⟨.hbm, 102, rfl⟩
abbrev main_v79 : Ref sig .tc := ⟨.hbm, 103, rfl⟩
abbrev main_cst_12 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_13 : Ref sig .tc := ⟨.hbm, 112, rfl⟩
abbrev main_v87 : Ref sig .tc := ⟨.hbm, 113, rfl⟩
abbrev main_cst_14 : Ref sig .tc := ⟨.hbm, 114, rfl⟩
abbrev main_v88 : Ref sig .tc := ⟨.hbm, 115, rfl⟩
abbrev main_cst_15 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_16 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_17 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_18 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_19 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_20 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_21 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_cst_22 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_23 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_cst_24 : Ref sig .tc := ⟨.hbm, 178, rfl⟩
abbrev main_v142 : Ref sig .tc := ⟨.hbm, 179, rfl⟩
abbrev main_v143 : Ref sig .tc := ⟨.hbm, 180, rfl⟩
abbrev main_call1_cst : Ref sig .tc := ⟨.hbm, 181, rfl⟩
abbrev main_call1_v0 : Ref sig .tc := ⟨.hbm, 182, rfl⟩
abbrev main_v144 : Ref sig .tc := ⟨.hbm, 183, rfl⟩
abbrev main_cst_25 : Ref sig .tc := ⟨.hbm, 184, rfl⟩
abbrev main_v145 : Ref sig .tc := ⟨.hbm, 185, rfl⟩
abbrev main_v146 : Ref sig .tc := ⟨.hbm, 186, rfl⟩
abbrev main_cst_26 : Ref sig .tc := ⟨.hbm, 187, rfl⟩
abbrev main_v147 : Ref sig .tc := ⟨.hbm, 188, rfl⟩
abbrev main_cst_27 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩

abbrev nD : Nat := 1
abbrev τ : Topo := Topo.v7x

variable {F : FTy → Type} [FloatOps F]
-- ==== Ff2.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Ff2ReferenceIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S8192x2048, .f32⟩
  | .hbm, ⟨17, _⟩ => ⟨S4096x2048, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== DwFf2.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwFf2ReferenceIdeal.lean ====
abbrev S8192x4096 : Shape := ⟨2, ![8192, 4096]⟩
abbrev S4096x2048 : Shape := ⟨2, ![4096, 2048]⟩
abbrev S2048x8192 : Shape := ⟨2, ![2048, 8192]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x4096, .f32⟩
  | .hbm, ⟨3, _⟩ => ⟨S4096x2048, .f32⟩
  | .hbm, ⟨4, _⟩ => ⟨S2048x8192, .f32⟩
  | .hbm, ⟨5, _⟩ => ⟨S8192x2048, .f32⟩
  | .hbm, ⟨6, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwOut.lean ====
abbrev S2048x4096 : Shape := ⟨2, ![2048, 4096]⟩
abbrev S4096x2048 : Shape := ⟨2, ![4096, 2048]⟩
abbrev S2048x2048 : Shape := ⟨2, ![2048, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwOutReferenceIdeal.lean ====
abbrev S2048x4096 : Shape := ⟨2, ![2048, 4096]⟩
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x4096, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwLru.lean ====
abbrev S2048x4096 : Shape := ⟨2, ![2048, 4096]⟩
abbrev S8192x2048 : Shape := ⟨2, ![8192, 2048]⟩
abbrev S2048x2048 : Shape := ⟨2, ![2048, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S8192x2048, .bf16⟩
  | .hbm, ⟨2, _⟩ => ⟨S2048x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwLruReferenceIdeal.lean ====
abbrev S2048x4096 : Shape := ⟨2, ![2048, 4096]⟩
abbrev S8192x2048 : Shape := ⟨2, ![8192, 2048]⟩
abbrev S4096x2048 : Shape := ⟨2, ![4096, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S8192x2048, .bf16⟩
  | .hbm, ⟨2, _⟩ => ⟨S4096x2048, .bf16⟩
  | .hbm, ⟨3, _⟩ => ⟨S2048x4096, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DwAttn.lean ====
abbrev S2048x4096 : Shape := ⟨2, ![2048, 4096]⟩
abbrev S8192x2048 : Shape := ⟨2, ![8192, 2048]⟩
abbrev S2048x2048 : Shape := ⟨2, ![2048, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S8192x2048, .bf16⟩
  | .hbm, ⟨2, _⟩ => ⟨S2048x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwAttnReferenceIdeal.lean ====
abbrev S2048x4096 : Shape := ⟨2, ![2048, 4096]⟩
abbrev S8192x2048 : Shape := ⟨2, ![8192, 2048]⟩
abbrev S4096x2048 : Shape := ⟨2, ![4096, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S8192x2048, .bf16⟩
  | .hbm, ⟨2, _⟩ => ⟨S4096x2048, .bf16⟩
  | .hbm, ⟨3, _⟩ => ⟨S2048x4096, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== AttnOut.lean ====
abbrev S2x4096x2048 : Shape := ⟨3, ![2, 4096, 2048]⟩
abbrev S2048x2048 : Shape := ⟨2, ![2048, 2048]⟩
abbrev S4096x2048 : Shape := ⟨2, ![4096, 2048]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x2048, .bf16⟩
  | .hbm, ⟨1, _⟩ => ⟨S2048x2048, .bf16⟩
  | .hbm, ⟨2, _⟩ => ⟨S4096x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnOutReferenceIdeal.lean ====
abbrev S2x4096x2048 : Shape := ⟨3, ![2, 4096, 2048]⟩
abbrev S2048x2048 : Shape := ⟨2, ![2048, 2048]⟩
abbrev S1x4096x2048 : Shape := ⟨3, ![1, 4096, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x2048, .bf16⟩
  | .hbm, ⟨2, _⟩ => ⟨S2048x2048, .f32⟩
  | .hbm, ⟨3, _⟩ => ⟨S1x4096x2048, .bf16⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DwFf1.lean ====
abbrev S1x4096x2048 : Shape := ⟨3, ![1, 4096, 2048]⟩
abbrev S4096x8192 : Shape := ⟨2, ![4096, 8192]⟩
abbrev S4x2048x2048 : Shape := ⟨3, ![4, 2048, 2048]⟩
abbrev S4096x512 : Shape := ⟨2, ![4096, 512]⟩
abbrev S1x1024x512 : Shape := ⟨3, ![1, 1024, 512]⟩
abbrev S2x1024x1024 : Shape := ⟨3, ![2, 1024, 1024]⟩
abbrev S1024x4096 : Shape := ⟨2, ![1024, 4096]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S4096x8192, .bf16⟩
  | .hbm, ⟨2, _⟩ => ⟨S4x2048x2048, .bf16⟩
  | .local _ .vmem, ⟨0, _⟩ => ⟨S4096x512, .bf16⟩
  | .local _ .vmem, ⟨1, _⟩ => ⟨S4096x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S2x1024x1024, .bf16⟩
  | .local _ .vmem, ⟨5, _⟩ => ⟨S1024x4096, .bf16⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let c0_i32_11 : BitVec 32 := 0#32
  let c0_i32_12 : BitVec 32 := 0#32
  let arg0 : BitVec 32 := BitVec.ofNat 32 (i 0).val
  let c1024_i32 : BitVec 32 := 1024#32
  let v10 : BitVec 32 := Scalar.muli arg0 c1024_i32
  ![0, 0, v10.toNat]
def k0_off2 (i : grid0.Coords) : Fin 3 → Nat :=
  let c0_i32_17 : BitVec 32 := 0#32
  let c1024_i32_18 : BitVec 32 := 1024#32
  let arg0 : BitVec 32 := BitVec.ofNat 32 (i 0).val
  let c1024_i32_13 : BitVec 32 := 1024#32
  let v15 : BitVec 32 := Scalar.muli arg0 c1024_i32_13
  ![0, 1024, v15.toNat]
def k0_off3 (i : grid0.Coords) : Fin 3 → Nat :=
  let c0_i32_36 : BitVec 32 := 0#32
  let c2048_i32 : BitVec 32 := 2048#32
  let arg0 : BitVec 32 := BitVec.ofNat 32 (i 0).val
  let c1024_i32_31 : BitVec 32 := 1024#32
  let v31 : BitVec 32 := Scalar.muli arg0 c1024_i32_31
  ![0, 2048, v31.toNat]
def k0_off4 (i : grid0.Coords) : Fin 3 → Nat :=
  let c0_i32_52 : BitVec 32 := 0#32
  let c3072_i32 : BitVec 32 := 3072#32
  let arg0 : BitVec 32 := BitVec.ofNat 32 (i 0).val
  let c1024_i32_47 : BitVec 32 := 1024#32
  let v47 : BitVec 32 := Scalar.muli arg0 c1024_i32_47
  ![0, 3072, v47.toNat]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== DwFf1ReferenceIdeal.lean ====
abbrev S1x4096x2048 : Shape := ⟨3, ![1, 4096, 2048]⟩
abbrev S4096x8192 : Shape := ⟨2, ![4096, 8192]⟩
abbrev S4096x2048 : Shape := ⟨2, ![4096, 2048]⟩
abbrev S8192x2048 : Shape := ⟨2, ![8192, 2048]⟩
abbrev S2048x8192 : Shape := ⟨2, ![2048, 8192]⟩
abbrev S2048x4x2048 : Shape := ⟨3, ![2048, 4, 2048]⟩
abbrev S4x2048x2048 : Shape := ⟨3, ![4, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S4096x8192, .bf16⟩
  | .hbm, ⟨2, _⟩ => ⟨S4096x2048, .bf16⟩
  | .hbm, ⟨3, _⟩ => ⟨S4096x2048, .f32⟩
  | .hbm, ⟨4, _⟩ => ⟨S4096x8192, .f32⟩
  | .hbm, ⟨5, _⟩ => ⟨S8192x2048, .f32⟩
  | .hbm, ⟨6, _⟩ => ⟨S2048x8192, .f32⟩
  | .hbm, ⟨7, _⟩ => ⟨S2048x4x2048, .f32⟩
  | .hbm, ⟨8, _⟩ => ⟨S4x2048x2048, .f32⟩
  | .hbm, ⟨9, _⟩ => ⟨S4x2048x2048, .bf16⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== DwIn.lean ====
abbrev S1x4096x2048 : Shape := ⟨3, ![1, 4096, 2048]⟩
abbrev S4096x10752 : Shape := ⟨2, ![4096, 10752]⟩
abbrev S4x2048x2688 : Shape := ⟨3, ![4, 2048, 2688]⟩
abbrev S4096x896 : Shape := ⟨2, ![4096, 896]⟩
abbrev S1x1024x896 : Shape := ⟨3, ![1, 1024, 896]⟩
abbrev S2x1024x1024 : Shape := ⟨3, ![2, 1024, 1024]⟩
abbrev S1024x4096 : Shape := ⟨2, ![1024, 4096]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S4096x10752, .bf16⟩
  | .hbm, ⟨2, _⟩ => ⟨S4x2048x2688, .bf16⟩
  | .local _ .vmem, ⟨0, _⟩ => ⟨S4096x896, .bf16⟩
  | .local _ .vmem, ⟨1, _⟩ => ⟨S4096x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S2x1024x1024, .bf16⟩
  | .local _ .vmem, ⟨5, _⟩ => ⟨S1024x4096, .bf16⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let c0_i32_11 : BitVec 32 := 0#32
  let c0_i32_12 : BitVec 32 := 0#32
  let arg0 : BitVec 32 := BitVec.ofNat 32 (i 0).val
  let c1024_i32 : BitVec 32 := 1024#32
  let v10 : BitVec 32 := Scalar.muli arg0 c1024_i32
  ![0, 0, v10.toNat]
def k0_off2 (i : grid0.Coords) : Fin 3 → Nat :=
  let c0_i32_17 : BitVec 32 := 0#32
  let c1024_i32_18 : BitVec 32 := 1024#32
  let arg0 : BitVec 32 := BitVec.ofNat 32 (i 0).val
  let c1024_i32_13 : BitVec 32 := 1024#32
  let v15 : BitVec 32 := Scalar.muli arg0 c1024_i32_13
  ![0, 1024, v15.toNat]
def k0_off3 (i : grid0.Coords) : Fin 3 → Nat :=
  let c0_i32_36 : BitVec 32 := 0#32
  let c2048_i32 : BitVec 32 := 2048#32
  let arg0 : BitVec 32 := BitVec.ofNat 32 (i 0).val
  let c1024_i32_31 : BitVec 32 := 1024#32
  let v31 : BitVec 32 := Scalar.muli arg0 c1024_i32_31
  ![0, 2048, v31.toNat]
def k0_off4 (i : grid0.Coords) : Fin 3 → Nat :=
  let c0_i32_52 : BitVec 32 := 0#32
  let c3072_i32 : BitVec 32 := 3072#32
  let arg0 : BitVec 32 := BitVec.ofNat 32 (i 0).val
  let c1024_i32_47 : BitVec 32 := 1024#32
  let v47 : BitVec 32 := Scalar.muli arg0 c1024_i32_47
  ![0, 3072, v47.toNat]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== DwInReferenceIdeal.lean ====
abbrev S1x4096x2048 : Shape := ⟨3, ![1, 4096, 2048]⟩
abbrev S4096x10752 : Shape := ⟨2, ![4096, 10752]⟩
abbrev S4096x2048 : Shape := ⟨2, ![4096, 2048]⟩
abbrev S10752x2048 : Shape := ⟨2, ![10752, 2048]⟩
abbrev S2048x10752 : Shape := ⟨2, ![2048, 10752]⟩
abbrev S2048x4x2688 : Shape := ⟨3, ![2048, 4, 2688]⟩
abbrev S4x2048x2688 : Shape := ⟨3, ![4, 2048, 2688]⟩

abbrev nBuf : Space → Nat
  | .hbm => 10
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S4096x10752, .bf16⟩
  | .hbm, ⟨2, _⟩ => ⟨S4096x2048, .bf16⟩
  | .hbm, ⟨3, _⟩ => ⟨S4096x2048, .f32⟩
  | .hbm, ⟨4, _⟩ => ⟨S4096x10752, .f32⟩
  | .hbm, ⟨5, _⟩ => ⟨S10752x2048, .f32⟩
  | .hbm, ⟨6, _⟩ => ⟨S2048x10752, .f32⟩
  | .hbm, ⟨7, _⟩ => ⟨S2048x4x2688, .f32⟩
  | .hbm, ⟨8, _⟩ => ⟨S4x2048x2688, .f32⟩
  | .hbm, ⟨9, _⟩ => ⟨S4x2048x2688, .bf16⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Merge.lean ====
abbrev S4096x2048 : Shape := ⟨2, ![4096, 2048]⟩
abbrev S2048x2048 : Shape := ⟨2, ![2048, 2048]⟩
abbrev S4096x10752 : Shape := ⟨2, ![4096, 10752]⟩
abbrev S2x4096x2048 : Shape := ⟨3, ![2, 4096, 2048]⟩
abbrev S2048x4096 : Shape := ⟨2, ![2048, 4096]⟩
abbrev S1024x2048 : Shape := ⟨2, ![1024, 2048]⟩
abbrev S2048x512 : Shape := ⟨2, ![2048, 512]⟩
abbrev S1024x512 : Shape := ⟨2, ![1024, 512]⟩
abbrev S2x1024x512 : Shape := ⟨3, ![2, 1024, 512]⟩
abbrev S512x1024 : Shape := ⟨2, ![512, 1024]⟩
abbrev S1x1024x512 : Shape := ⟨3, ![1, 1024, 512]⟩

abbrev nBuf : Space → Nat
  | .hbm => 8
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S2048x2048, .bf16⟩
  | .hbm, ⟨4, _⟩ => ⟨S4096x10752, .bf16⟩
  | .hbm, ⟨5, _⟩ => ⟨S2x4096x2048, .bf16⟩
  | .hbm, ⟨6, _⟩ => ⟨S4096x2048, .bf16⟩
  | .hbm, ⟨7, _⟩ => ⟨S2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S2x1024x512, .bf16⟩
  | .local _ .vmem, ⟨13, _⟩ => ⟨S2x1024x512, .bf16⟩
  | .local _ .vmem, ⟨14, _⟩ => ⟨S1024x512, .bf16⟩
  | .local _ .vmem, ⟨15, _⟩ => ⟨S1024x512, .bf16⟩
  | .local _ .vmem, ⟨16, _⟩ => ⟨S512x1024, .bf16⟩
  | .local _ .vmem, ⟨17, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeReferenceIdeal.lean ====
abbrev S4096x2048 : Shape := ⟨2, ![4096, 2048]⟩
abbrev S2048x2048 : Shape := ⟨2, ![2048, 2048]⟩
abbrev S4096x10752 : Shape := ⟨2, ![4096, 10752]⟩
abbrev S_ : Shape := ⟨0, ![]⟩
abbrev S1x4096x2048 : Shape := ⟨3, ![1, 4096, 2048]⟩
abbrev S2x4096x2048 : Shape := ⟨3, ![2, 4096, 2048]⟩
abbrev S2048x4096 : Shape := ⟨2, ![2048, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S2048x2048, .bf16⟩
  | .hbm, ⟨4, _⟩ => ⟨S4096x10752, .bf16⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S4096x2048, .f32⟩
  | .hbm, ⟨11, _⟩ => ⟨S4096x2048, .bf16⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .bf16⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .bf16⟩
  | .hbm, ⟨35, _⟩ => ⟨S1x4096x2048, .f32⟩
  | .hbm, ⟨36, _⟩ => ⟨S1x4096x2048, .f32⟩
  | .hbm, ⟨37, _⟩ => ⟨S2x4096x2048, .f32⟩
  | .hbm, ⟨38, _⟩ => ⟨S2x4096x2048, .bf16⟩
  | .hbm, ⟨39, _⟩ => ⟨S2048x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Outproj.lean ====
abbrev S4096x2048 : Shape := ⟨2, ![4096, 2048]⟩
abbrev S2048x2048 : Shape := ⟨2, ![2048, 2048]⟩
abbrev S16x2048 : Shape := ⟨2, ![16, 2048]⟩
abbrev S1024x2048 : Shape := ⟨2, ![1024, 2048]⟩
abbrev S2048x1024 : Shape := ⟨2, ![2048, 1024]⟩
abbrev S1024x1024 : Shape := ⟨2, ![1024, 1024]⟩
abbrev S16x1024 : Shape := ⟨2, ![16, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S16x2048, .f32⟩
  | .hbm, ⟨4, _⟩ => ⟨S4096x2048, .f32⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S16x1024, .f32⟩
  | .local _ .vmem, ⟨7, _⟩ => ⟨S16x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutprojReferenceIdeal.lean ====
abbrev S4096x2048 : Shape := ⟨2, ![4096, 2048]⟩
abbrev S2048x2048 : Shape := ⟨2, ![2048, 2048]⟩
abbrev S16x2048 : Shape := ⟨2, ![16, 2048]⟩
abbrev S1x2048 : Shape := ⟨2, ![1, 2048]⟩
abbrev S2048 : Shape := ⟨1, ![2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S16x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Ff1.lean ====
abbrev S4096x2048 : Shape := ⟨2, ![4096, 2048]⟩
abbrev S16x2048 : Shape := ⟨2, ![16, 2048]⟩
abbrev S4x2048x2048 : Shape := ⟨3, ![4, 2048, 2048]⟩
abbrev S4096x8192 : Shape := ⟨2, ![4096, 8192]⟩
abbrev S8192x4096 : Shape := ⟨2, ![8192, 4096]⟩
abbrev S1024x2048 : Shape := ⟨2, ![1024, 2048]⟩
abbrev S1x2048x1024 : Shape := ⟨3, ![1, 2048, 1024]⟩
abbrev S1024x1024 : Shape := ⟨2, ![1024, 1024]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048x1024 : Shape := ⟨2, ![2048, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S16x2048, .f32⟩
  | .hbm, ⟨2, _⟩ => ⟨S4x2048x2048, .bf16⟩
  | .hbm, ⟨3, _⟩ => ⟨S4096x8192, .bf16⟩
  | .hbm, ⟨4, _⟩ => ⟨S4096x2048, .bf16⟩
  | .hbm, ⟨5, _⟩ => ⟨S8192x4096, .bf16⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | .local _ .vmem, ⟨8, _⟩ => ⟨S1024x2048, .bf16⟩
  | .local _ .vmem, ⟨9, _⟩ => ⟨S1024x1024, .bf16⟩
  | .local _ .vmem, ⟨10, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c8_i32 : BitVec 32 := 8#32
  let v20 : BitVec 32 := Scalar.addi c0_i32_15 c8_i32
  let c1_i32 : BitVec 32 := 1#32
  ⟨c0_i32_15, v20, c1_i32⟩
def k0_mult1 (k0_t1 : Fin k0_t1_loop.trips) : BitVec 32 :=
  let c0_i32_15 : BitVec 32 := 0#32
  let c1_i32 : BitVec 32 := 1#32
  let arg8 : BitVec 32 := Scf.iv c0_i32_15 c1_i32 k0_t1
  let c128_i32 : BitVec 32 := 128#32
  let v21 : BitVec 32 := Scalar.muli arg8 c128_i32
  v21
def k0_off1 (k0_t1 : Fin k0_t1_loop.trips) : Fin 2 → Nat :=
  let c0_i32_15 : BitVec 32 := 0#32
  let c1_i32 : BitVec 32 := 1#32
  let arg8 : BitVec 32 := Scf.iv c0_i32_15 c1_i32 k0_t1
  let c128_i32 : BitVec 32 := 128#32
  let v21 : BitVec 32 := Scalar.muli arg8 c128_i32
  let v22 : BitVec 32 := v21
  let v23 : Index := Scalar.indexCast v22
  let c0_17 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Ff1ReferenceIdeal.lean ====
abbrev S4096x2048 : Shape := ⟨2, ![4096, 2048]⟩
abbrev S16x2048 : Shape := ⟨2, ![16, 2048]⟩
abbrev S4x2048x2048 : Shape := ⟨3, ![4, 2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S2048x4x2048 : Shape := ⟨3, ![2048, 4, 2048]⟩
abbrev S2048x8192 : Shape := ⟨2, ![2048, 8192]⟩
abbrev S4096x8192 : Shape := ⟨2, ![4096, 8192]⟩
abbrev S8192x4096 : Shape := ⟨2, ![8192, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S16x2048, .f32⟩
  | .hbm, ⟨2, _⟩ => ⟨S4x2048x2048, .bf16⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4x2048x2048, .f32⟩
  | .hbm, ⟨35, _⟩ => ⟨S2048x4x2048, .f32⟩
  | .hbm, ⟨36, _⟩ => ⟨S2048x8192, .f32⟩
  | .hbm, ⟨37, _⟩ => ⟨S4096x8192, .f32⟩
  | .hbm, ⟨38, _⟩ => ⟨S_, .f32⟩
  | .hbm, ⟨39, _⟩ => ⟨S4096x8192, .f32⟩
  | .hbm, ⟨40, _⟩ => ⟨S4096x8192, .f32⟩
  | .hbm, ⟨41, _⟩ => ⟨S4096x8192, .f32⟩
  | .hbm, ⟨42, _⟩ => ⟨S4096x8192, .bf16⟩
  | .hbm, ⟨43, _⟩ => ⟨S4096x2048, .bf16⟩
  | .hbm, ⟨44, _⟩ => ⟨S4096x8192, .bf16⟩
  | .hbm, ⟨45, _⟩ => ⟨S8192x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== OutprojBwd.lean ====
abbrev S4096x2048 : Shape := ⟨2, ![4096, 2048]⟩
abbrev S2048x2048 : Shape := ⟨2, ![2048, 2048]⟩
abbrev S2x4096x2048 : Shape := ⟨3, ![2, 4096, 2048]⟩
abbrev S4096x10752 : Shape := ⟨2, ![4096, 10752]⟩
abbrev S1024x2048 : Shape := ⟨2, ![1024, 2048]⟩
abbrev S512x2048 : Shape := ⟨2, ![512, 2048]⟩
abbrev S1x1024x512 : Shape := ⟨3, ![1, 1024, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2x4096x2048, .bf16⟩
  | .hbm, ⟨3, _⟩ => ⟨S4096x10752, .bf16⟩
  | .hbm, ⟨4, _⟩ => ⟨S2x4096x2048, .bf16⟩
  | .hbm, ⟨5, _⟩ => ⟨S4096x10752, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_5 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutprojBwdReferenceIdeal.lean ====
abbrev S4096x2048 : Shape := ⟨2, ![4096, 2048]⟩
abbrev S2048x2048 : Shape := ⟨2, ![2048, 2048]⟩
abbrev S2x4096x2048 : Shape := ⟨3, ![2, 4096, 2048]⟩
abbrev S4096x10752 : Shape := ⟨2, ![4096, 10752]⟩
abbrev S_ : Shape := ⟨0, ![]⟩
abbrev S1x4096x2048 : Shape := ⟨3, ![1, 4096, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2x4096x2048, .bf16⟩
  | .hbm, ⟨3, _⟩ => ⟨S4096x10752, .bf16⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .bf16⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S1x4096x2048, .bf16⟩
  | .hbm, ⟨25, _⟩ => ⟨S4096x2048, .bf16⟩
  | .hbm, ⟨26, _⟩ => ⟨S4096x2048, .f32⟩
  | .hbm, ⟨27, _⟩ => ⟨S1x4096x2048, .bf16⟩
  | .hbm, ⟨28, _⟩ => ⟨S4096x2048, .bf16⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S2048x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S1x4096x2048, .f32⟩
  | .hbm, ⟨40, _⟩ => ⟨S1x4096x2048, .f32⟩
  | .hbm, ⟨41, _⟩ => ⟨S2x4096x2048, .f32⟩
  | .hbm, ⟨42, _⟩ => ⟨S2x4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Proof.Stores.lean ====
module

public import Idealize.ShloMosaic.Lib.Pipeline.ValueKit.Tiles
public import Mathlib.Tactic.FinCases

@[expose] public section

noncomputable section

/-! A buffer written in bands of rows, and a buffer whose slabs are read, added to and written back, as functions of the index. -/

namespace Cert.Stores

open Idealize.ShloMosaic

variable {Val : EltTy → Type} [∀ e, Nonempty (Val e)] {e : EltTy} {n : ℕ}

/-- a plane of `m` rows and `n` columns -/
abbrev Plane (m n : ℕ) : Shape := ⟨2, ![m, n]⟩

/-- the index of row `a` and column `b` -/
def at2 {m n : ℕ} (a : ℕ) (ha : a < m) (b : ℕ) (hb : b < n) : (Plane m n).Idx := fun k =>
  match k with
  | ⟨0, _⟩ => ⟨a, ha⟩
  | ⟨1, _⟩ => ⟨b, hb⟩

/-- off the last piece the earlier ones are read -/
theorem canon_off {s : Shape} (r : Rect s) (w : r.shape.Idx → Val e) (L : List (View.Piece Val s e)) {y : s.Idx} (h : y ∉ r.set) :
    View.canon (⟨r, w⟩ :: L) y = View.canon L y := View.canon_cons_of_not_mem ⟨r, w⟩ L h

/-- the band of 128 rows that starts at row `o`, written last -/
theorem canon_band (o : ℕ) (inb : ∀ a, (![o, 0] : Fin 2 → ℕ) a + (![128, n] : Fin 2 → ℕ) a ≤ (Plane 1024 n).size a)
    (w : (Plane 128 n).Idx → Val e) (L : List (View.Piece Val (Plane 1024 n) e)) (g : (Plane 1024 n).Idx → Val e)
    (k : ℕ) (ho : o = 128 * k)
    (hL : ∀ y : (Plane 1024 n).Idx, (y 0).val < 128 * k → View.canon L y = g y)
    (hw : ∀ (x : (Plane 128 n).Idx) (y : (Plane 1024 n).Idx), (y 0).val = o + (x 0).val → (y 1).val = (x 1).val → w x = g y) :
    ∀ y : (Plane 1024 n).Idx, (y 0).val < 128 * (k + 1) →
      View.canon (⟨Rect.unit (s := Plane 1024 n) ![o, 0] ![128, n] inb, w⟩ :: L) y = g y := by
  intro y hy
  by_cases hm : y ∈ (Rect.unit (s := Plane 1024 n) ![o, 0] ![128, n] inb).set
  · obtain ⟨x, rfl⟩ := (Rect.unit _ _ inb).exists_idx_of_mem hm
    refine (View.canon_cons_emb _ w L x).trans (hw x _ ?_ ?_)
    · exact Rect.idx_unit_val (s := Plane 1024 n) _ _ inb x 0
    · have h := Rect.idx_unit_val (s := Plane 1024 n) _ _ inb x 1
      simp only [Matrix.cons_val_one, Matrix.cons_val_fin_one, Nat.zero_add] at h
      exact h
  · rw [canon_off (Rect.unit (s := Plane 1024 n) ![o, 0] ![128, n] inb) w L hm]
    refine hL y ?_
    by_contra hlt
    have h1 : (y 1).val < n := (y 1).isLt
    have key : ∀ a : Fin 2, (![o, 0] : Fin 2 → ℕ) a ≤ (y a).val ∧ (y a).val < (![o, 0] : Fin 2 → ℕ) a + (![128, n] : Fin 2 → ℕ) a := by
      rw [Fin.forall_fin_two]
      simp only [Matrix.cons_val_zero, Matrix.cons_val_one]
      generalize (y 0).val = p at *
      generalize (y 1).val = q at *
      omega
    exact hm (Rect.mem_set_unit.mpr key)

/-- eight bands written one after the other, each with the function's values, leave the function -/
theorem canon_bands (L : List (View.Piece Val (Plane 1024 n) e)) (g : (Plane 1024 n).Idx → Val e)
    (w0 w1 w2 w3 w4 w5 w6 w7 : (Plane 128 n).Idx → Val e) (i0 i1 i2 i3 i4 i5 i6 i7)
    (h0 : ∀ (x : (Plane 128 n).Idx) (y : (Plane 1024 n).Idx), (y 0).val = 0 + (x 0).val → (y 1).val = (x 1).val → w0 x = g y)
    (h1 : ∀ (x : (Plane 128 n).Idx) (y : (Plane 1024 n).Idx), (y 0).val = 128 + (x 0).val → (y 1).val = (x 1).val → w1 x = g y)
    (h2 : ∀ (x : (Plane 128 n).Idx) (y : (Plane 1024 n).Idx), (y 0).val = 256 + (x 0).val → (y 1).val = (x 1).val → w2 x = g y)
    (h3 : ∀ (x : (Plane 128 n).Idx) (y : (Plane 1024 n).Idx), (y 0).val = 384 + (x 0).val → (y 1).val = (x 1).val → w3 x = g y)
    (h4 : ∀ (x : (Plane 128 n).Idx) (y : (Plane 1024 n).Idx), (y 0).val = 512 + (x 0).val → (y 1).val = (x 1).val → w4 x = g y)
    (h5 : ∀ (x : (Plane 128 n).Idx) (y : (Plane 1024 n).Idx), (y 0).val = 640 + (x 0).val → (y 1).val = (x 1).val → w5 x = g y)
    (h6 : ∀ (x : (Plane 128 n).Idx) (y : (Plane 1024 n).Idx), (y 0).val = 768 + (x 0).val → (y 1).val = (x 1).val → w6 x = g y)
    (h7 : ∀ (x : (Plane 128 n).Idx) (y : (Plane 1024 n).Idx), (y 0).val = 896 + (x 0).val → (y 1).val = (x 1).val → w7 x = g y) :
    View.canon (⟨Rect.unit (s := Plane 1024 n) ![896, 0] ![128, n] i7, w7⟩ :: ⟨Rect.unit (s := Plane 1024 n) ![768, 0] ![128, n] i6, w6⟩
      :: ⟨Rect.unit (s := Plane 1024 n) ![640, 0] ![128, n] i5, w5⟩ :: ⟨Rect.unit (s := Plane 1024 n) ![512, 0] ![128, n] i4, w4⟩
      :: ⟨Rect.unit (s := Plane 1024 n) ![384, 0] ![128, n] i3, w3⟩ :: ⟨Rect.unit (s := Plane 1024 n) ![256, 0] ![128, n] i2, w2⟩
      :: ⟨Rect.unit (s := Plane 1024 n) ![128, 0] ![128, n] i1, w1⟩ :: ⟨Rect.unit (s := Plane 1024 n) ![0, 0] ![128, n] i0, w0⟩ :: L) = g := by
  have a0 := canon_band 0 i0 w0 L g 0 rfl (fun y h => by omega) h0
  have a1 := canon_band 128 i1 w1 _ g 1 rfl a0 h1
  have a2 := canon_band 256 i2 w2 _ g 2 rfl a1 h2
  have a3 := canon_band 384 i3 w3 _ g 3 rfl a2 h3
  have a4 := canon_band 512 i4 w4 _ g 4 rfl a3 h4
  have a5 := canon_band 640 i5 w5 _ g 5 rfl a4 h5
  have a6 := canon_band 768 i6 w6 _ g 6 rfl a5 h6
  have a7 := canon_band 896 i7 w7 _ g 7 rfl a6 h7
  exact funext fun y => a7 y (by have := (y 0).isLt; exact this)

/-- the band of 128 columns that starts at column `o`, written last -/
theorem canon_col (o : ℕ) (inb : ∀ a, (![0, o] : Fin 2 → ℕ) a + (![n, 128] : Fin 2 → ℕ) a ≤ (Plane n 1024).size a)
    (w : (Plane n 128).Idx → Val e) (L : List (View.Piece Val (Plane n 1024) e)) (g : (Plane n 1024).Idx → Val e)
    (k : ℕ) (ho : o = 128 * k)
    (hL : ∀ y : (Plane n 1024).Idx, (y 1).val < 128 * k → View.canon L y = g y)
    (hw : ∀ (x : (Plane n 128).Idx) (y : (Plane n 1024).Idx), (y 0).val = (x 0).val → (y 1).val = o + (x 1).val → w x = g y) :
    ∀ y : (Plane n 1024).Idx, (y 1).val < 128 * (k + 1) →
      View.canon (⟨Rect.unit (s := Plane n 1024) ![0, o] ![n, 128] inb, w⟩ :: L) y = g y := by
  intro y hy
  by_cases hm : y ∈ (Rect.unit (s := Plane n 1024) ![0, o] ![n, 128] inb).set
  · obtain ⟨x, rfl⟩ := (Rect.unit _ _ inb).exists_idx_of_mem hm
    refine (View.canon_cons_emb _ w L x).trans (hw x _ ?_ ?_)
    · have h := Rect.idx_unit_val (s := Plane n 1024) _ _ inb x 0
      simp only [Matrix.cons_val_zero, Nat.zero_add] at h
      exact h
    · have h := Rect.idx_unit_val (s := Plane n 1024) _ _ inb x 1
      simp only [Matrix.cons_val_one, Matrix.cons_val_fin_one] at h
      exact h
  · rw [canon_off (Rect.unit (s := Plane n 1024) ![0, o] ![n, 128] inb) w L hm]
    refine hL y ?_
    by_contra hlt
    have h1 : (y 0).val < n := (y 0).isLt
    have key : ∀ a : Fin 2, (![0, o] : Fin 2 → ℕ) a ≤ (y a).val ∧ (y a).val < (![0, o] : Fin 2 → ℕ) a + (![n, 128] : Fin 2 → ℕ) a := by
      rw [Fin.forall_fin_two]
      simp only [Matrix.cons_val_zero, Matrix.cons_val_one]
      generalize (y 0).val = p at *
      generalize (y 1).val = q at *
      omega
    exact hm (Rect.mem_set_unit.mpr key)

/-- eight bands of columns written one after the other, each with the function's values, leave the function -/
theorem canon_cols (L : List (View.Piece Val (Plane n 1024) e)) (g : (Plane n 1024).Idx → Val e)
    (w0 w1 w2 w3 w4 w5 w6 w7 : (Plane n 128).Idx → Val e) (i0 i1 i2 i3 i4 i5 i6 i7)
    (h0 : ∀ (x : (Plane n 128).Idx) (y : (Plane n 1024).Idx), (y 0).val = (x 0).val → (y 1).val = 0 + (x 1).val → w0 x = g y)
    (h1 : ∀ (x : (Plane n 128).Idx) (y : (Plane n 1024).Idx), (y 0).val = (x 0).val → (y 1).val = 128 + (x 1).val → w1 x = g y)
    (h2 : ∀ (x : (Plane n 128).Idx) (y : (Plane n 1024).Idx), (y 0).val = (x 0).val → (y 1).val = 256 + (x 1).val → w2 x = g y)
    (h3 : ∀ (x : (Plane n 128).Idx) (y : (Plane n 1024).Idx), (y 0).val = (x 0).val → (y 1).val = 384 + (x 1).val → w3 x = g y)
    (h4 : ∀ (x : (Plane n 128).Idx) (y : (Plane n 1024).Idx), (y 0).val = (x 0).val → (y 1).val = 512 + (x 1).val → w4 x = g y)
    (h5 : ∀ (x : (Plane n 128).Idx) (y : (Plane n 1024).Idx), (y 0).val = (x 0).val → (y 1).val = 640 + (x 1).val → w5 x = g y)
    (h6 : ∀ (x : (Plane n 128).Idx) (y : (Plane n 1024).Idx), (y 0).val = (x 0).val → (y 1).val = 768 + (x 1).val → w6 x = g y)
    (h7 : ∀ (x : (Plane n 128).Idx) (y : (Plane n 1024).Idx), (y 0).val = (x 0).val → (y 1).val = 896 + (x 1).val → w7 x = g y) :
    View.canon (⟨Rect.unit (s := Plane n 1024) ![0, 896] ![n, 128] i7, w7⟩
      :: ⟨Rect.unit (s := Plane n 1024) ![0, 768] ![n, 128] i6, w6⟩
      :: ⟨Rect.unit (s := Plane n 1024) ![0, 640] ![n, 128] i5, w5⟩
      :: ⟨Rect.unit (s := Plane n 1024) ![0, 512] ![n, 128] i4, w4⟩
      :: ⟨Rect.unit (s := Plane n 1024) ![0, 384] ![n, 128] i3, w3⟩
      :: ⟨Rect.unit (s := Plane n 1024) ![0, 256] ![n, 128] i2, w2⟩
      :: ⟨Rect.unit (s := Plane n 1024) ![0, 128] ![n, 128] i1, w1⟩
      :: ⟨Rect.unit (s := Plane n 1024) ![0, 0] ![n, 128] i0, w0⟩ :: L) = g := by
  have a0 := canon_col 0 i0 w0 L g 0 rfl (fun y h => by omega) h0
  have a1 := canon_col 128 i1 w1 _ g 1 rfl a0 h1
  have a2 := canon_col 256 i2 w2 _ g 2 rfl a1 h2
  have a3 := canon_col 384 i3 w3 _ g 3 rfl a2 h3
  have a4 := canon_col 512 i4 w4 _ g 4 rfl a3 h4
  have a5 := canon_col 640 i5 w5 _ g 5 rfl a4 h5
  have a6 := canon_col 768 i6 w6 _ g 6 rfl a5 h6
  have a7 := canon_col 896 i7 w7 _ g 7 rfl a6 h7
  exact funext fun y => a7 y (by have := (y 1).isLt; exact this)

/-- slab `h` of a stack of planes read, added to and written back: the lists below it hold `f` at the slabs from `h` on -/
theorem canon_slab {s : Shape} (h : ℕ) (off size : Fin s.rank → ℕ) (inb : ∀ a, off a + size a ≤ s.size a)
    (w : (Rect.unit off size inb).shape.Idx → Val e) (L : List (View.Piece Val s e)) (slab : s.Idx → ℕ)
    (hs : ∀ y, y ∈ (Rect.unit off size inb).set ↔ slab y = h) (f g : s.Idx → Val e)
    (hL : ∀ y, View.canon L y = if slab y < h then g y else f y)
    (hw : ∀ x : (Rect.unit off size inb).shape.Idx, w x = g ((Rect.unit off size inb).idx x)) :
    ∀ y, View.canon (⟨Rect.unit off size inb, w⟩ :: L) y = if slab y < h + 1 then g y else f y := by
  intro y
  by_cases hm : y ∈ (Rect.unit off size inb).set
  · have := (hs y).mp hm
    rw [if_pos (by omega)]
    obtain ⟨x, rfl⟩ := (Rect.unit _ _ inb).exists_idx_of_mem hm
    exact (View.canon_cons_emb _ w L x).trans (hw x)
  · have h1 : slab y ≠ h := fun h' => hm ((hs y).mpr h')
    rw [canon_off _ w L hm, hL y]
    by_cases h2 : slab y < h
    · rw [if_pos h2, if_pos (by omega)]
    · rw [if_neg h2, if_neg (by omega)]

end Cert.Stores

end
-- ==== Proof.Spec.lean ====
module

public import proofs.«01_k».proof.Proof.Gen.KernelIdeal.Value
public import proofs.«01_k».proof.Proof.Stores
public import Idealize.ShloMosaic.Lib.Pipeline.ValueKit
public import Idealize.ShloMosaic.Lib.Pointwise
public import Idealize.ShloMosaic.Lib.WordCmp

@[expose] public section

set_option maxRecDepth 16384

noncomputable section

/-! What one grid point of the attention gradient holds in its buffers, as functions of its blocks. -/

namespace Cert.Attn

open Cert.KernelIdeal Cert.KernelIdeal.Gen Cert.Stores Idealize.ShloMosaic Idealize.ShloMosaic.TcCoe Idealize.SL.Sem

/-- the index of row `a` and column `b`, each taken modulo its range -/
abbrev ixm (m n : ℕ) [NeZero m] [NeZero n] (a b : ℕ) : (Plane m n).Idx := ix2 (Fin.ofNat m a) (Fin.ofNat n b)

theorem ixm_eq {m n : ℕ} [NeZero m] [NeZero n] (a b : ℕ) (y : (Plane m n).Idx) (h0 : a % m = (y 0).val) (h1 : b % n = (y 1).val) :
    ixm m n a b = y := by
  rw [eq_ix2 y]
  exact congrArg₂ ix2 (Fin.ext h0) (Fin.ext h1)

/-- the heads of one pair of key heads stacked, each with the other half of its lanes zero -/
def stack (x : S128x1024.Idx → EReal) (kv : ℕ) : S1024x128.Idx → EReal := fun y =>
  if ((y 0).val / 128 % 2 = 0 ↔ (y 1).val < 64) then x (ixm 128 1024 (y 0).val (512 * kv + 128 * ((y 0).val / 256) + (y 1).val)) else 0

/-- the two blocks of keys one over the other, the lanes of key head `kv` in both halves -/
def keys (a b : S128x128.Idx → EReal) (kv : ℕ) : S256x128.Idx → EReal := fun y =>
  (if (y 0).val < 128 then a else b) (ixm 128 128 (y 0).val (64 * kv + (y 1).val % 64))

/-- the 128 rows of one head -/
def rows (h : ℕ) (S : S1024x256.Idx → EReal) : S128x256.Idx → EReal := fun x => S (ixm 1024 256 (128 * h + (x 0).val) (x 1).val)

/-- the bias plane of one head -/
def plane (h : ℕ) (B : S16x128x256.Idx → EReal) : S1x128x256.Idx → EReal := fun x => B (ix3 (Fin.ofNat 16 h) (x 1) (x 2))

/-- the sink of one head -/
def sink (i : grid0.Coords) (h : ℕ) (x0 : S32.Idx → EReal) : EReal := x0 (ix1 (Fin.ofNat 32 (16 * (i 0).val + h)))

/-- products of the stacked rows with the keys -/
def scores (kk : S256x128.Idx → EReal) (qs : S1024x128.Idx → EReal) : S1024x256.Idx → EReal := k0_pay32 (F := Ideal) kk qs

section blocks

variable (i : grid0.Coords) (x0 : Vec Ideal S32 .f32) (x1 : Vec Ideal S128x1024 .bf16) (x2 x3 x4 x5 : Vec Ideal S128x128 .bf16)
  (x6 : Vec Ideal S16x128x256 .f32) (x7 : Vec Ideal S128x1024 .bf16)

/-- logits before bias of head `8 kv + h` -/
def hS (kv h : ℕ) : Vec Ideal S128x256 .f32 := rows h (scores (keys x2 x3 kv) (stack x1 kv))
/-- the gradient by the probabilities of head `8 kv + h` -/
def hD (kv h : ℕ) : Vec Ideal S128x256 .f32 := rows h (scores (keys x4 x5 kv) (stack x7 kv))
/-- exponentials of head `8 kv + h` -/
def hE (kv h : ℕ) : FVec Ideal S128x256 .f32 := k0_pay36 (k0_pay5 i) (hS x1 x2 x3 kv h) (plane (8 * kv + h) x6) (sink i (8 * kv + h) x0)
/-- exponentials of the sink of head `8 kv + h` -/
def hs (kv h : ℕ) : FVec Ideal S128x1 .f32 := k0_pay37 (k0_pay5 i) (hS x1 x2 x3 kv h) (plane (8 * kv + h) x6) (sink i (8 * kv + h) x0)
/-- reciprocal sums of head `8 kv + h` -/
def hI (kv h : ℕ) : FVec Ideal S128x1 .f32 := k0_pay38 (k0_pay5 i) (hS x1 x2 x3 kv h) (plane (8 * kv + h) x6) (sink i (8 * kv + h) x0)
/-- the same along the row -/
def hR (kv h : ℕ) : FVec Ideal S128x256 .f32 := k0_pay39 (k0_pay5 i) (hS x1 x2 x3 kv h) (plane (8 * kv + h) x6) (sink i (8 * kv + h) x0)

/-- the probabilities, the heads one under the other -/
def probs (kv : ℕ) : S1024x256.Idx → EReal := fun y =>
  k0_pay45 (hE i x0 x1 x2 x3 x6 kv ((y 0).val / 128)) (hR i x0 x1 x2 x3 x6 kv ((y 0).val / 128)) (ixm 128 256 (y 0).val (y 1).val)
/-- the scaled gradient by the logits, the heads one under the other -/
def dlogs (kv : ℕ) : S1024x256.Idx → EReal := fun y =>
  k0_pay46 (hE i x0 x1 x2 x3 x6 kv ((y 0).val / 128)) (hR i x0 x1 x2 x3 x6 kv ((y 0).val / 128)) (hD x4 x5 x7 kv ((y 0).val / 128))
    (ixm 128 256 (y 0).val (y 1).val)

end blocks

theorem probs_at (i : grid0.Coords) (x0 : Vec Ideal S32 .f32) (x1 : Vec Ideal S128x1024 .bf16) (x2 x3 : Vec Ideal S128x128 .bf16)
    (x6 : Vec Ideal S16x128x256 .f32) (kv h : ℕ) {V : IVec S128x256 1} {Sw : Vec Ideal S128x256 .f32} {Bw : Vec Ideal S1x128x256 .f32} {sw : Elt Ideal .f32}
    (hV : V = k0_pay5 i) (h1 : Sw = hS x1 x2 x3 kv h) (h2 : Bw = plane (8 * kv + h) x6) (h3 : sw = sink i (8 * kv + h) x0)
    (x : S128x256.Idx) (y : S1024x256.Idx) (hy0 : (y 0).val = 128 * h + (x 0).val) (hy1 : (y 1).val = (x 1).val) :
    k0_pay45 (k0_pay36 V Sw Bw sw) (k0_pay39 V Sw Bw sw) x = probs i x0 x1 x2 x3 x6 kv y := by
  subst hV h1 h2 h3
  have hx : (x 0).val < 128 := (x 0).isLt
  have hq : (y 0).val / 128 = h := by omega
  have hi : ixm 128 256 (y 0).val (y 1).val = x := by
    refine ixm_eq _ _ _ (by omega) ?_
    have h2 : (x 1).val < 256 := (x 1).isLt
    omega
  show _ = k0_pay45 _ _ _
  rw [hq, hi]
  rfl

theorem dlogs_at (i : grid0.Coords) (x0 : Vec Ideal S32 .f32) (x1 : Vec Ideal S128x1024 .bf16) (x2 x3 x4 x5 : Vec Ideal S128x128 .bf16)
    (x6 : Vec Ideal S16x128x256 .f32) (x7 : Vec Ideal S128x1024 .bf16) (kv h : ℕ) {V : IVec S128x256 1} {Sw : Vec Ideal S128x256 .f32} {Bw : Vec Ideal S1x128x256 .f32} {sw : Elt Ideal .f32}
    {Dw : Vec Ideal S128x256 .f32}
    (hV : V = k0_pay5 i) (h1 : Sw = hS x1 x2 x3 kv h) (h2 : Bw = plane (8 * kv + h) x6) (h3 : sw = sink i (8 * kv + h) x0) (h4 : Dw = hD x4 x5 x7 kv h)
    (x : S128x256.Idx) (y : S1024x256.Idx) (hy0 : (y 0).val = 128 * h + (x 0).val) (hy1 : (y 1).val = (x 1).val) :
    k0_pay46 (k0_pay36 V Sw Bw sw) (k0_pay39 V Sw Bw sw) Dw x = dlogs i x0 x1 x2 x3 x4 x5 x6 x7 kv y := by
  subst hV h1 h2 h3 h4
  have hx : (x 0).val < 128 := (x 0).isLt
  have hq : (y 0).val / 128 = h := by omega
  have hi : ixm 128 256 (y 0).val (y 1).val = x := by
    refine ixm_eq _ _ _ (by omega) ?_
    have h2 : (x 1).val < 256 := (x 1).isLt
    omega
  show _ = k0_pay46 _ _ _ _
  rw [hq, hi]
  rfl

theorem sel_lt {a b : ℕ} (ha : a < 2147483648) (hb : b < 2147483648) (u v : EReal) :
    Scalar.select (IntOp.cmpi .slt (BitVec.ofNat 32 a) (BitVec.ofNat 32 b)) u v = if a < b then u else v := by
  rw [WordCmp.cmpi_slt_ofNat (w := 32) ha hb]
  by_cases h : a < b
  · simp [h, Scalar.select]
  · simp [h, Scalar.select]

theorem sel_ge {a b : ℕ} (ha : a < 2147483648) (hb : b < 2147483648) (u v : EReal) :
    Scalar.select (IntOp.cmpi .sge (BitVec.ofNat 32 a) (BitVec.ofNat 32 b)) u v = if b ≤ a then u else v := by
  rw [WordCmp.cmpi_sge_ofNat (w := 32) ha hb]
  by_cases h : b ≤ a
  · simp [h, Scalar.select]
  · simp [h, Scalar.select]

/-- the lower half of the lanes of a pair of heads, stacked -/
theorem stack_lo (X : Vec Ideal S128x1024 .bf16) (kv jj : ℕ) (hkv : kv < 2) (hjj : jj < 4) {w : Vec Ideal S128x128 .bf16}
    (hw : w = fun x => X (ixm 128 1024 (x 0).val (512 * kv + 128 * jj + (x 1).val))) (x : S128x128.Idx) (y : S1024x128.Idx)
    (hy0 : (y 0).val = 256 * jj + (x 0).val) (hy1 : (y 1).val = (x 1).val) : k0_pay13 w x = stack X kv y := by
  subst hw
  idx_vars x
  have hx0 : (x0 : ℕ) < 128 := x0.isLt
  have hx1 : (x1 : ℕ) < 128 := x1.isLt
  replace hy0 : (y 0).val = 256 * jj + x0.val := hy0
  replace hy1 : (y 1).val = x1.val := hy1
  pointwise [k0_pay13]
  rw [sel_lt (by omega) (by omega)]
  unfold stack
  rw [hy0, hy1]
  by_cases h : x1.val < 64
  · rw [if_pos h, if_pos (by omega)]
    exact congrArg X (congrArg₂ ix2 (Fin.ext (show x0.val % 128 = (256 * jj + x0.val) % 128 by omega))
      (Fin.ext (show (512 * kv + 128 * jj + x1.val) % 1024 = (512 * kv + 128 * ((256 * jj + x0.val) / 256) + x1.val) % 1024 by omega)))
  · rw [if_neg h, if_neg (by omega)]

/-- the upper half -/
theorem stack_hi (X : Vec Ideal S128x1024 .bf16) (kv jj : ℕ) (hkv : kv < 2) (hjj : jj < 4) {w : Vec Ideal S128x128 .bf16}
    (hw : w = fun x => X (ixm 128 1024 (x 0).val (512 * kv + 128 * jj + (x 1).val))) (x : S128x128.Idx) (y : S1024x128.Idx)
    (hy0 : (y 0).val = 256 * jj + 128 + (x 0).val) (hy1 : (y 1).val = (x 1).val) : k0_pay14 w x = stack X kv y := by
  subst hw
  idx_vars x
  have hx0 : (x0 : ℕ) < 128 := x0.isLt
  have hx1 : (x1 : ℕ) < 128 := x1.isLt
  replace hy0 : (y 0).val = 256 * jj + 128 + x0.val := hy0
  replace hy1 : (y 1).val = x1.val := hy1
  pointwise [k0_pay14]
  rw [sel_ge (by omega) (by omega)]
  unfold stack
  rw [hy0, hy1]
  by_cases h : x1.val < 64
  · rw [if_neg (by omega), if_neg (by omega)]
  · rw [if_pos (by omega), if_pos (by omega)]
    exact congrArg X (congrArg₂ ix2 (Fin.ext (show x0.val % 128 = (256 * jj + 128 + x0.val) % 128 by omega))
      (Fin.ext (show (512 * kv + 128 * jj + x1.val) % 1024 = (512 * kv + 128 * ((256 * jj + 128 + x0.val) / 256) + x1.val) % 1024 by omega)))

theorem keys_0 (a b : Vec Ideal S128x128 .bf16) : k0_pay7 (F := Ideal) a b = keys a b 0 := by
  funext y
  idx_vars y
  have h0 : (y0 : ℕ) < 256 := y0.isLt
  have h1 : (y1 : ℕ) < 128 := y1.isLt
  pointwise [k0_pay7, k0_pay6]
  rw [sel_lt (by omega) (by omega)]
  show _ = (if y0.val < 128 then a else b) (ixm 128 128 y0.val (64 * 0 + y1.val % 64))
  by_cases h : y0.val < 128 <;> by_cases h' : y1.val < 64 <;>
    simp only [h, h', dif_pos, dif_neg, if_pos, if_neg, not_false_eq_true, not_true_eq_false, Nat.not_le.mpr, Nat.not_lt.mp] <;>
    first
      | exact congrArg _ (congrArg₂ ix2 (Fin.ext (by simp only [Fin.val_ofNat]; omega)) (Fin.ext (by simp only [Fin.val_ofNat]; omega)))
      | skip

theorem keys_1 (a b : Vec Ideal S128x128 .bf16) : k0_pay8 (F := Ideal) a b = keys a b 1 := by
  funext y
  idx_vars y
  have h0 : (y0 : ℕ) < 256 := y0.isLt
  have h1 : (y1 : ℕ) < 128 := y1.isLt
  pointwise [k0_pay8, k0_pay6]
  rw [sel_ge (by omega) (by omega)]
  show _ = (if y0.val < 128 then a else b) (ixm 128 128 y0.val (64 * 1 + y1.val % 64))
  by_cases h : y0.val < 128 <;> by_cases h' : y1.val < 64 <;>
    simp only [h, h', dif_pos, dif_neg, if_pos, if_neg, not_false_eq_true, not_true_eq_false, Nat.not_le.mpr, Nat.not_lt.mp] <;>
    first
      | exact congrArg _ (congrArg₂ ix2 (Fin.ext (by simp only [Fin.val_ofNat]; omega)) (Fin.ext (by simp only [Fin.val_ofNat]; omega)))
      | skip

/-! Reads of the blocks and of the buffers. -/

theorem load_cols (m : Memref sig .tc .vmem S128x1024 .bf16) (hm : m.IsWhole) (X : Vec Ideal S128x1024 .bf16) (off : Fin S128x1024.rank → ℕ)
    (inb : ∀ a, off a + S128x128.size a ≤ S128x1024.size a) (o : ℕ) (hoff : off = ![0, o]) (ho : o + 128 ≤ 1024) :
    View.readAt (Elt Ideal) m.view (Rect.unit (s := S128x1024) off S128x128.size inb).toLoadRect (hm.unread X)
      = fun x : S128x128.Idx => X (ixm 128 1024 (x 0).val (o + (x 1).val)) := by
  subst hoff
  funext x
  idx_vars x
  rw [View.readAt_eq_ld, Memref.IsWhole.read_unread]
  pointwise
  have h0 : (x0 : ℕ) < 128 := x0.isLt
  have h1 : (x1 : ℕ) < 128 := x1.isLt
  exact congrArg X (congrArg₂ ix2 (Fin.ext (Nat.mod_eq_of_lt h0).symm)
    (Fin.ext (show o + x1.val = (o + x1.val) % 1024 by omega)))

theorem load_plane (m : Memref sig .tc .vmem S16x128x256 .f32) (hm : m.IsWhole) (X : Vec Ideal S16x128x256 .f32) (off : Fin S16x128x256.rank → ℕ)
    (inb : ∀ a, off a + S1x128x256.size a ≤ S16x128x256.size a) (h : ℕ) (hoff : off = ![h, 0, 0]) (hh : h < 16) :
    View.readAt (Elt Ideal) m.view (Rect.unit (s := S16x128x256) off S1x128x256.size inb).toLoadRect (hm.unread X) = plane h X := by
  subst hoff
  funext x
  idx_vars x
  rw [View.readAt_eq_ld, Memref.IsWhole.read_unread]
  pointwise
  exact congrArg X (congrArg (fun k => ix3 k x1 x2) (Fin.ext (Nat.mod_eq_of_lt hh).symm))

theorem load_sink (m : Memref sig .tc .smem S32 .f32) (hm : m.IsWhole) (X : Vec Ideal S32 .f32) (i : grid0.Coords) (h : ℕ) (hh : h < 16)
    (inb : ∀ a, k0_off1 i (BitVec.ofNat 32 h) a + S1.size a ≤ S32.size a) (x : S1.Idx) :
    View.readAt (Elt Ideal) m.view (Rect.unit (s := S32) (k0_off1 i (BitVec.ofNat 32 h)) S1.size inb).toLoadRect (hm.unread X) x = sink i h X := by
  have hg : (i 0).val < 2 := (i 0).isLt
  have hoff : k0_off1 i (BitVec.ofNat 32 h) = ![16 * (i 0).val + h] := by
    refine congrArg (fun k : ℕ => (![k] : Fin 1 → ℕ)) ?_
    show ((BitVec.ofNat 32 (i 0).val * 16#32 + BitVec.ofNat 32 h).toNat) = _
    simp only [BitVec.toNat_add, BitVec.toNat_mul, BitVec.toNat_ofNat]
    omega
  idx_vars x
  rw [View.readAt_eq_ld, Memref.IsWhole.read_unread]
  refine congrArg X (funext fun a => ?_)
  match a with
  | ⟨0, _⟩ =>
    have hv := Rect.idx_unit_val (s := S32) (k0_off1 i (BitVec.ofNat 32 h)) S1.size inb (ix1 x0) 0
    have hx : x0.val < 1 := x0.isLt
    refine Fin.ext (hv.trans ?_)
    have e : k0_off1 i (BitVec.ofNat 32 h) 0 = 16 * (i 0).val + h := congrFun hoff 0
    rw [e]
    show 16 * (i 0).val + h + x0.val = (16 * (i 0).val + h) % 32
    omega

theorem read_rows (m : Memref sig .tc .vmem S1024x256 .f32) (L : List (View.Piece (Elt Ideal) S1024x256 .f32)) (off : Fin S1024x256.rank → ℕ)
    (inb : ∀ a, off a + S128x256.size a ≤ S1024x256.size a) (h : ℕ) (hoff : off = ![128 * h, 0]) (hh : h < 8)
    (S : S1024x256.Idx → EReal) (hS : View.canon L = S) :
    m.view.readCov L (Rect.unit (s := S1024x256) off S128x256.size inb).toLoadRect = rows h S := by
  subst hoff
  rw [View.readCov_eq_canon', hS]
  funext x
  idx_vars x
  pointwise
  have h0 : (x0 : ℕ) < 128 := x0.isLt
  exact congrArg S (congrArg₂ ix2 (Fin.ext (show 128 * h + x0.val = (128 * h + x0.val) % 1024 by omega)) (Fin.ext (Nat.mod_eq_of_lt x1.isLt).symm))

theorem read_whole {sig : RefSig} {s : Shape} {e : EltTy} (m : Memref sig .tc .vmem s e) (L : List (View.Piece (Elt Ideal) s e)) (off : Fin s.rank → ℕ)
    (inb : ∀ a, off a + s.size a ≤ s.size a) (S : s.Idx → Elt Ideal e) (hS : View.canon L = S) :
    m.view.readCov L (Rect.unit (s := s) off s.size inb).toLoadRect = S := by
  rw [View.readCov_eq_canon', hS]
  funext x
  refine congrArg S (funext fun a => Fin.ext ?_)
  have h := Rect.idx_unit_val off s.size inb x a
  have := inb a
  exact h.trans (by omega)

theorem load_whole {sig : RefSig} {s : Shape} {e : EltTy} (m : Memref sig .tc .vmem s e) (hm : m.IsWhole) (X : s.Idx → Elt Ideal e) (off : Fin s.rank → ℕ)
    (inb : ∀ a, off a + s.size a ≤ s.size a) :
    View.readAt (Elt Ideal) m.view (Rect.unit (s := s) off s.size inb).toLoadRect (hm.unread X) = X := by
  rw [View.readAt_eq_ld, Memref.IsWhole.read_unread]
  funext x
  refine congrArg X (funext fun a => Fin.ext ?_)
  have h := Rect.idx_unit_val off s.size inb x a
  have := inb a
  exact h.trans (by omega)

/-- a buffer written whole holds what was written -/
theorem canon_whole {s : Shape} {e : EltTy} (off : Fin s.rank → ℕ) (inb : ∀ a, off a + s.size a ≤ s.size a) (w S : s.Idx → Elt Ideal e)
    (L : List (View.Piece (Elt Ideal) s e)) (hw : w = S) : View.canon (⟨Rect.unit (s := s) off s.size inb, w⟩ :: L) = S := by
  subst hw
  funext y
  have hm : y ∈ (Rect.unit (s := s) off s.size inb).set := by
    refine Rect.mem_set_unit.mpr fun a => ?_
    have h1 := inb a
    have h2 : (y a).val < s.size a := (y a).isLt
    exact ⟨by omega, by omega⟩
  obtain ⟨x, rfl⟩ := (Rect.unit _ _ inb).exists_idx_of_mem hm
  refine (View.canon_cons_emb _ w L x).trans (congrArg w (funext fun a => Fin.ext ?_))
  have h := Rect.idx_unit_val off s.size inb x a
  have := inb a
  exact (h.trans (by omega)).symm

end Cert.Attn

end
-- ==== Proof.Words.lean ====
module

public import proofs.«01_k».proof.Proof.Spec

@[expose] public section

set_option maxRecDepth 16384

noncomputable section

namespace Cert.Attn

open Cert.KernelIdeal Cert.KernelIdeal.Gen Cert.Stores Idealize.ShloMosaic Idealize.ShloMosaic.TcCoe Idealize.SL.Sem

variable (c : Dev nD) (i : grid0.Coords) (arg2 : Memref sig .tc .smem S32 .f32) (harg2 : arg2.IsWhole) (arg3 : Memref sig .tc .vmem S128x1024 .bf16) (harg3 : arg3.IsWhole)
  (arg4 : Memref sig .tc .vmem S128x128 .bf16) (harg4 : arg4.IsWhole) (arg5 : Memref sig .tc .vmem S128x128 .bf16) (harg5 : arg5.IsWhole)
  (arg6 : Memref sig .tc .vmem S128x128 .bf16) (harg6 : arg6.IsWhole) (arg7 : Memref sig .tc .vmem S128x128 .bf16) (harg7 : arg7.IsWhole)
  (arg8 : Memref sig .tc .vmem S16x128x256 .f32) (harg8 : arg8.IsWhole) (arg9 : Memref sig .tc .vmem S128x1024 .bf16) (harg9 : arg9.IsWhole)
  (arg14 : Memref sig .tc .vmem S16x128x256 .f32) (harg14 : arg14.IsWhole) (arg15 : Memref sig .tc .vmem S16x128 .f32) (harg15 : arg15.IsWhole)
  (arg16 arg17 : Memref sig .tc .vmem S1024x128 .bf16) (arg18 arg19 : Memref sig .tc .vmem S1024x256 .f32) (arg20 arg21 : Memref sig .tc .vmem S1024x256 .bf16)
  (x0 : Vec Ideal S32 .f32) (x1 : Vec Ideal S128x1024 .bf16) (x2 x3 x4 x5 : Vec Ideal S128x128 .bf16)
  (x6 : Vec Ideal S16x128x256 .f32) (x7 : Vec Ideal S128x1024 .bf16)

theorem HS0_8 : View.canon (kernelRun0_A.sl.HS0_8 (F := Ideal) c arg3 harg3 x1) = stack x1 0 :=
  canon_bands _ _ _ _ _ _ _ _ _ _ _ _ _ _ _ _ _ _
    (fun x y h0 h1 => stack_lo x1 0 0 (by omega) (by omega) (load_cols arg3 harg3 x1 ![0, 0] _ _ rfl (by omega)) x y h0 h1)
    (fun x y h0 h1 => stack_hi x1 0 0 (by omega) (by omega) (load_cols arg3 harg3 x1 ![0, 0] _ _ rfl (by omega)) x y h0 h1)
    (fun x y h0 h1 => stack_lo x1 0 1 (by omega) (by omega) (load_cols arg3 harg3 x1 ![0, 128] _ _ rfl (by omega)) x y h0 h1)
    (fun x y h0 h1 => stack_hi x1 0 1 (by omega) (by omega) (load_cols arg3 harg3 x1 ![0, 128] _ _ rfl (by omega)) x y h0 h1)
    (fun x y h0 h1 => stack_lo x1 0 2 (by omega) (by omega) (load_cols arg3 harg3 x1 ![0, 256] _ _ rfl (by omega)) x y h0 h1)
    (fun x y h0 h1 => stack_hi x1 0 2 (by omega) (by omega) (load_cols arg3 harg3 x1 ![0, 256] _ _ rfl (by omega)) x y h0 h1)
    (fun x y h0 h1 => stack_lo x1 0 3 (by omega) (by omega) (load_cols arg3 harg3 x1 ![0, 384] _ _ rfl (by omega)) x y h0 h1)
    (fun x y h0 h1 => stack_hi x1 0 3 (by omega) (by omega) (load_cols arg3 harg3 x1 ![0, 384] _ _ rfl (by omega)) x y h0 h1)

theorem HS0_16 : View.canon (kernelRun0_A.sl.HS0_16 (F := Ideal) c arg3 harg3 x1) = stack x1 1 :=
  canon_bands _ _ _ _ _ _ _ _ _ _ _ _ _ _ _ _ _ _
    (fun x y h0 h1 => stack_lo x1 1 0 (by omega) (by omega) (load_cols arg3 harg3 x1 ![0, 512] _ _ rfl (by omega)) x y h0 h1)
    (fun x y h0 h1 => stack_hi x1 1 0 (by omega) (by omega) (load_cols arg3 harg3 x1 ![0, 512] _ _ rfl (by omega)) x y h0 h1)
    (fun x y h0 h1 => stack_lo x1 1 1 (by omega) (by omega) (load_cols arg3 harg3 x1 ![0, 640] _ _ rfl (by omega)) x y h0 h1)
    (fun x y h0 h1 => stack_hi x1 1 1 (by omega) (by omega) (load_cols arg3 harg3 x1 ![0, 640] _ _ rfl (by omega)) x y h0 h1)
    (fun x y h0 h1 => stack_lo x1 1 2 (by omega) (by omega) (load_cols arg3 harg3 x1 ![0, 768] _ _ rfl (by omega)) x y h0 h1)
    (fun x y h0 h1 => stack_hi x1 1 2 (by omega) (by omega) (load_cols arg3 harg3 x1 ![0, 768] _ _ rfl (by omega)) x y h0 h1)
    (fun x y h0 h1 => stack_lo x1 1 3 (by omega) (by omega) (load_cols arg3 harg3 x1 ![0, 896] _ _ rfl (by omega)) x y h0 h1)
    (fun x y h0 h1 => stack_hi x1 1 3 (by omega) (by omega) (load_cols arg3 harg3 x1 ![0, 896] _ _ rfl (by omega)) x y h0 h1)

theorem HS1_8 : View.canon (kernelRun0_A.sl.HS1_8 (F := Ideal) c arg9 harg9 x7) = stack x7 0 :=
  canon_bands _ _ _ _ _ _ _ _ _ _ _ _ _ _ _ _ _ _
    (fun x y h0 h1 => stack_lo x7 0 0 (by omega) (by omega) (load_cols arg9 harg9 x7 ![0, 0] _ _ rfl (by omega)) x y h0 h1)
    (fun x y h0 h1 => stack_hi x7 0 0 (by omega) (by omega) (load_cols arg9 harg9 x7 ![0, 0] _ _ rfl (by omega)) x y h0 h1)
    (fun x y h0 h1 => stack_lo x7 0 1 (by omega) (by omega) (load_cols arg9 harg9 x7 ![0, 128] _ _ rfl (by omega)) x y h0 h1)
    (fun x y h0 h1 => stack_hi x7 0 1 (by omega) (by omega) (load_cols arg9 harg9 x7 ![0, 128] _ _ rfl (by omega)) x y h0 h1)
    (fun x y h0 h1 => stack_lo x7 0 2 (by omega) (by omega) (load_cols arg9 harg9 x7 ![0, 256] _ _ rfl (by omega)) x y h0 h1)
    (fun x y h0 h1 => stack_hi x7 0 2 (by omega) (by omega) (load_cols arg9 harg9 x7 ![0, 256] _ _ rfl (by omega)) x y h0 h1)
    (fun x y h0 h1 => stack_lo x7 0 3 (by omega) (by omega) (load_cols arg9 harg9 x7 ![0, 384] _ _ rfl (by omega)) x y h0 h1)
    (fun x y h0 h1 => stack_hi x7 0 3 (by omega) (by omega) (load_cols arg9 harg9 x7 ![0, 384] _ _ rfl (by omega)) x y h0 h1)

theorem HS1_16 : View.canon (kernelRun0_A.sl.HS1_16 (F := Ideal) c arg9 harg9 x7) = stack x7 1 :=
  canon_bands _ _ _ _ _ _ _ _ _ _ _ _ _ _ _ _ _ _
    (fun x y h0 h1 => stack_lo x7 1 0 (by omega) (by omega) (load_cols arg9 harg9 x7 ![0, 512] _ _ rfl (by omega)) x y h0 h1)
    (fun x y h0 h1 => stack_hi x7 1 0 (by omega) (by omega) (load_cols arg9 harg9 x7 ![0, 512] _ _ rfl (by omega)) x y h0 h1)
    (fun x y h0 h1 => stack_lo x7 1 1 (by omega) (by omega) (load_cols arg9 harg9 x7 ![0, 640] _ _ rfl (by omega)) x y h0 h1)
    (fun x y h0 h1 => stack_hi x7 1 1 (by omega) (by omega) (load_cols arg9 harg9 x7 ![0, 640] _ _ rfl (by omega)) x y h0 h1)
    (fun x y h0 h1 => stack_lo x7 1 2 (by omega) (by omega) (load_cols arg9 harg9 x7 ![0, 768] _ _ rfl (by omega)) x y h0 h1)
    (fun x y h0 h1 => stack_hi x7 1 2 (by omega) (by omega) (load_cols arg9 harg9 x7 ![0, 768] _ _ rfl (by omega)) x y h0 h1)
    (fun x y h0 h1 => stack_lo x7 1 3 (by omega) (by omega) (load_cols arg9 harg9 x7 ![0, 896] _ _ rfl (by omega)) x y h0 h1)
    (fun x y h0 h1 => stack_hi x7 1 3 (by omega) (by omega) (load_cols arg9 harg9 x7 ![0, 896] _ _ rfl (by omega)) x y h0 h1)

theorem HS2_1 : View.canon (kernelRun0_A.sl.HS2_1 (F := Ideal) c arg3 harg3 arg4 harg4 arg5 harg5 arg16 x1 x2 x3) = scores (keys x2 x3 0) (stack x1 0) :=
  canon_whole _ _ _ _ _ (congrArg₂ (k0_pay32 (F := Ideal)) ((congrArg₂ (k0_pay7 (F := Ideal)) (load_whole arg4 harg4 x2 _ _) (load_whole arg5 harg5 x3 _ _)).trans (keys_0 x2 x3))
    (read_whole arg16 _ _ _ _ (HS0_8 c arg3 harg3 x1)))

theorem HS3_1 : View.canon (kernelRun0_A.sl.HS3_1 (F := Ideal) c arg6 harg6 arg7 harg7 arg9 harg9 arg17 x4 x5 x7) = scores (keys x4 x5 0) (stack x7 0) :=
  canon_whole _ _ _ _ _ (congrArg₂ (k0_pay32 (F := Ideal)) ((congrArg₂ (k0_pay7 (F := Ideal)) (load_whole arg6 harg6 x4 _ _) (load_whole arg7 harg7 x5 _ _)).trans (keys_0 x4 x5))
    (read_whole arg17 _ _ _ _ (HS1_8 c arg9 harg9 x7)))

theorem HS2_2 : View.canon (kernelRun0_A.sl.HS2_2 (F := Ideal) c arg3 harg3 arg4 harg4 arg5 harg5 arg16 x1 x2 x3) = scores (keys x2 x3 1) (stack x1 1) :=
  canon_whole _ _ _ _ _ (congrArg₂ (k0_pay32 (F := Ideal)) ((congrArg₂ (k0_pay8 (F := Ideal)) (load_whole arg4 harg4 x2 _ _) (load_whole arg5 harg5 x3 _ _)).trans (keys_1 x2 x3))
    (read_whole arg16 _ _ _ _ (HS0_16 c arg3 harg3 x1)))

theorem HS3_2 : View.canon (kernelRun0_A.sl.HS3_2 (F := Ideal) c arg6 harg6 arg7 harg7 arg9 harg9 arg17 x4 x5 x7) = scores (keys x4 x5 1) (stack x7 1) :=
  canon_whole _ _ _ _ _ (congrArg₂ (k0_pay32 (F := Ideal)) ((congrArg₂ (k0_pay8 (F := Ideal)) (load_whole arg6 harg6 x4 _ _) (load_whole arg7 harg7 x5 _ _)).trans (keys_1 x4 x5))
    (read_whole arg17 _ _ _ _ (HS1_16 c arg9 harg9 x7)))

/-- the mask of a grid point -/
theorem V18 : kernelRun0_A.sl.v18 i = k0_pay5 i := rfl

theorem HS4_8 : View.canon (kernelRun0_A.sl.HS4_8 (F := Ideal) c i arg2 harg2 arg3 harg3 arg4 harg4 arg5 harg5 arg8 harg8 arg16 arg18 x0 x1 x2 x3 x6) = probs i x0 x1 x2 x3 x6 0 :=
  canon_bands _ _ _ _ _ _ _ _ _ _ _ _ _ _ _ _ _ _
    (fun x y h0 h1 => probs_at i x0 x1 x2 x3 x6 0 0 rfl (read_rows arg18 _ ![0, 0] _ 0 rfl (by omega) _ (HS2_1 c arg3 harg3 arg4 harg4 arg5 harg5 arg16 x1 x2 x3)) (load_plane arg8 harg8 x6 ![0, 0, 0] _ 0 rfl (by omega)) (load_sink arg2 harg2 x0 i 0 (by omega) _ _) x y h0 h1)
    (fun x y h0 h1 => probs_at i x0 x1 x2 x3 x6 0 1 rfl (read_rows arg18 _ ![128, 0] _ 1 rfl (by omega) _ (HS2_1 c arg3 harg3 arg4 harg4 arg5 harg5 arg16 x1 x2 x3)) (load_plane arg8 harg8 x6 ![1, 0, 0] _ 1 rfl (by omega)) (load_sink arg2 harg2 x0 i 1 (by omega) _ _) x y h0 h1)
    (fun x y h0 h1 => probs_at i x0 x1 x2 x3 x6 0 2 rfl (read_rows arg18 _ ![256, 0] _ 2 rfl (by omega) _ (HS2_1 c arg3 harg3 arg4 harg4 arg5 harg5 arg16 x1 x2 x3)) (load_plane arg8 harg8 x6 ![2, 0, 0] _ 2 rfl (by omega)) (load_sink arg2 harg2 x0 i 2 (by omega) _ _) x y h0 h1)
    (fun x y h0 h1 => probs_at i x0 x1 x2 x3 x6 0 3 rfl (read_rows arg18 _ ![384, 0] _ 3 rfl (by omega) _ (HS2_1 c arg3 harg3 arg4 harg4 arg5 harg5 arg16 x1 x2 x3)) (load_plane arg8 harg8 x6 ![3, 0, 0] _ 3 rfl (by omega)) (load_sink arg2 harg2 x0 i 3 (by omega) _ _) x y h0 h1)
    (fun x y h0 h1 => probs_at i x0 x1 x2 x3 x6 0 4 rfl (read_rows arg18 _ ![512, 0] _ 4 rfl (by omega) _ (HS2_1 c arg3 harg3 arg4 harg4 arg5 harg5 arg16 x1 x2 x3)) (load_plane arg8 harg8 x6 ![4, 0, 0] _ 4 rfl (by omega)) (load_sink arg2 harg2 x0 i 4 (by omega) _ _) x y h0 h1)
    (fun x y h0 h1 => probs_at i x0 x1 x2 x3 x6 0 5 rfl (read_rows arg18 _ ![640, 0] _ 5 rfl (by omega) _ (HS2_1 c arg3 harg3 arg4 harg4 arg5 harg5 arg16 x1 x2 x3)) (load_plane arg8 harg8 x6 ![5, 0, 0] _ 5 rfl (by omega)) (load_sink arg2 harg2 x0 i 5 (by omega) _ _) x y h0 h1)
    (fun x y h0 h1 => probs_at i x0 x1 x2 x3 x6 0 6 rfl (read_rows arg18 _ ![768, 0] _ 6 rfl (by omega) _ (HS2_1 c arg3 harg3 arg4 harg4 arg5 harg5 arg16 x1 x2 x3)) (load_plane arg8 harg8 x6 ![6, 0, 0] _ 6 rfl (by omega)) (load_sink arg2 harg2 x0 i 6 (by omega) _ _) x y h0 h1)
    (fun x y h0 h1 => probs_at i x0 x1 x2 x3 x6 0 7 rfl (read_rows arg18 _ ![896, 0] _ 7 rfl (by omega) _ (HS2_1 c arg3 harg3 arg4 harg4 arg5 harg5 arg16 x1 x2 x3)) (load_plane arg8 harg8 x6 ![7, 0, 0] _ 7 rfl (by omega)) (load_sink arg2 harg2 x0 i 7 (by omega) _ _) x y h0 h1)

theorem HS5_8 : View.canon (kernelRun0_A.sl.HS5_8 (F := Ideal) c i arg2 harg2 arg3 harg3 arg4 harg4 arg5 harg5 arg6 harg6 arg7 harg7 arg8 harg8 arg9 harg9 arg16 arg17 arg18 arg19 x0 x1 x2 x3 x4 x5 x6 x7) = dlogs i x0 x1 x2 x3 x4 x5 x6 x7 0 :=
  canon_bands _ _ _ _ _ _ _ _ _ _ _ _ _ _ _ _ _ _
    (fun x y h0 h1 => dlogs_at i x0 x1 x2 x3 x4 x5 x6 x7 0 0 rfl (read_rows arg18 _ ![0, 0] _ 0 rfl (by omega) _ (HS2_1 c arg3 harg3 arg4 harg4 arg5 harg5 arg16 x1 x2 x3)) (load_plane arg8 harg8 x6 ![0, 0, 0] _ 0 rfl (by omega)) (load_sink arg2 harg2 x0 i 0 (by omega) _ _)
      (read_rows arg19 _ ![0, 0] _ 0 rfl (by omega) _ (HS3_1 c arg6 harg6 arg7 harg7 arg9 harg9 arg17 x4 x5 x7)) x y h0 h1)
    (fun x y h0 h1 => dlogs_at i x0 x1 x2 x3 x4 x5 x6 x7 0 1 rfl (read_rows arg18 _ ![128, 0] _ 1 rfl (by omega) _ (HS2_1 c arg3 harg3 arg4 harg4 arg5 harg5 arg16 x1 x2 x3)) (load_plane arg8 harg8 x6 ![1, 0, 0] _ 1 rfl (by omega)) (load_sink arg2 harg2 x0 i 1 (by omega) _ _)
      (read_rows arg19 _ ![128, 0] _ 1 rfl (by omega) _ (HS3_1 c arg6 harg6 arg7 harg7 arg9 harg9 arg17 x4 x5 x7)) x y h0 h1)
    (fun x y h0 h1 => dlogs_at i x0 x1 x2 x3 x4 x5 x6 x7 0 2 rfl (read_rows arg18 _ ![256, 0] _ 2 rfl (by omega) _ (HS2_1 c arg3 harg3 arg4 harg4 arg5 harg5 arg16 x1 x2 x3)) (load_plane arg8 harg8 x6 ![2, 0, 0] _ 2 rfl (by omega)) (load_sink arg2 harg2 x0 i 2 (by omega) _ _)
      (read_rows arg19 _ ![256, 0] _ 2 rfl (by omega) _ (HS3_1 c arg6 harg6 arg7 harg7 arg9 harg9 arg17 x4 x5 x7)) x y h0 h1)
    (fun x y h0 h1 => dlogs_at i x0 x1 x2 x3 x4 x5 x6 x7 0 3 rfl (read_rows arg18 _ ![384, 0] _ 3 rfl (by omega) _ (HS2_1 c arg3 harg3 arg4 harg4 arg5 harg5 arg16 x1 x2 x3)) (load_plane arg8 harg8 x6 ![3, 0, 0] _ 3 rfl (by omega)) (load_sink arg2 harg2 x0 i 3 (by omega) _ _)
      (read_rows arg19 _ ![384, 0] _ 3 rfl (by omega) _ (HS3_1 c arg6 harg6 arg7 harg7 arg9 harg9 arg17 x4 x5 x7)) x y h0 h1)
    (fun x y h0 h1 => dlogs_at i x0 x1 x2 x3 x4 x5 x6 x7 0 4 rfl (read_rows arg18 _ ![512, 0] _ 4 rfl (by omega) _ (HS2_1 c arg3 harg3 arg4 harg4 arg5 harg5 arg16 x1 x2 x3)) (load_plane arg8 harg8 x6 ![4, 0, 0] _ 4 rfl (by omega)) (load_sink arg2 harg2 x0 i 4 (by omega) _ _)
      (read_rows arg19 _ ![512, 0] _ 4 rfl (by omega) _ (HS3_1 c arg6 harg6 arg7 harg7 arg9 harg9 arg17 x4 x5 x7)) x y h0 h1)
    (fun x y h0 h1 => dlogs_at i x0 x1 x2 x3 x4 x5 x6 x7 0 5 rfl (read_rows arg18 _ ![640, 0] _ 5 rfl (by omega) _ (HS2_1 c arg3 harg3 arg4 harg4 arg5 harg5 arg16 x1 x2 x3)) (load_plane arg8 harg8 x6 ![5, 0, 0] _ 5 rfl (by omega)) (load_sink arg2 harg2 x0 i 5 (by omega) _ _)
      (read_rows arg19 _ ![640, 0] _ 5 rfl (by omega) _ (HS3_1 c arg6 harg6 arg7 harg7 arg9 harg9 arg17 x4 x5 x7)) x y h0 h1)
    (fun x y h0 h1 => dlogs_at i x0 x1 x2 x3 x4 x5 x6 x7 0 6 rfl (read_rows arg18 _ ![768, 0] _ 6 rfl (by omega) _ (HS2_1 c arg3 harg3 arg4 harg4 arg5 harg5 arg16 x1 x2 x3)) (load_plane arg8 harg8 x6 ![6, 0, 0] _ 6 rfl (by omega)) (load_sink arg2 harg2 x0 i 6 (by omega) _ _)
      (read_rows arg19 _ ![768, 0] _ 6 rfl (by omega) _ (HS3_1 c arg6 harg6 arg7 harg7 arg9 harg9 arg17 x4 x5 x7)) x y h0 h1)
    (fun x y h0 h1 => dlogs_at i x0 x1 x2 x3 x4 x5 x6 x7 0 7 rfl (read_rows arg18 _ ![896, 0] _ 7 rfl (by omega) _ (HS2_1 c arg3 harg3 arg4 harg4 arg5 harg5 arg16 x1 x2 x3)) (load_plane arg8 harg8 x6 ![7, 0, 0] _ 7 rfl (by omega)) (load_sink arg2 harg2 x0 i 7 (by omega) _ _)
      (read_rows arg19 _ ![896, 0] _ 7 rfl (by omega) _ (HS3_1 c arg6 harg6 arg7 harg7 arg9 harg9 arg17 x4 x5 x7)) x y h0 h1)

theorem HS4_16 : View.canon (kernelRun0_A.sl.HS4_16 (F := Ideal) c i arg2 harg2 arg3 harg3 arg4 harg4 arg5 harg5 arg8 harg8 arg16 arg18 x0 x1 x2 x3 x6) = probs i x0 x1 x2 x3 x6 1 :=
  canon_bands _ _ _ _ _ _ _ _ _ _ _ _ _ _ _ _ _ _
    (fun x y h0 h1 => probs_at i x0 x1 x2 x3 x6 1 0 rfl (read_rows arg18 _ ![0, 0] _ 0 rfl (by omega) _ (HS2_2 c arg3 harg3 arg4 harg4 arg5 harg5 arg16 x1 x2 x3)) (load_plane arg8 harg8 x6 ![8, 0, 0] _ 8 rfl (by omega)) (load_sink arg2 harg2 x0 i 8 (by omega) _ _) x y h0 h1)
    (fun x y h0 h1 => probs_at i x0 x1 x2 x3 x6 1 1 rfl (read_rows arg18 _ ![128, 0] _ 1 rfl (by omega) _ (HS2_2 c arg3 harg3 arg4 harg4 arg5 harg5 arg16 x1 x2 x3)) (load_plane arg8 harg8 x6 ![9, 0, 0] _ 9 rfl (by omega)) (load_sink arg2 harg2 x0 i 9 (by omega) _ _) x y h0 h1)
    (fun x y h0 h1 => probs_at i x0 x1 x2 x3 x6 1 2 rfl (read_rows arg18 _ ![256, 0] _ 2 rfl (by omega) _ (HS2_2 c arg3 harg3 arg4 harg4 arg5 harg5 arg16 x1 x2 x3)) (load_plane arg8 harg8 x6 ![10, 0, 0] _ 10 rfl (by omega)) (load_sink arg2 harg2 x0 i 10 (by omega) _ _) x y h0 h1)
    (fun x y h0 h1 => probs_at i x0 x1 x2 x3 x6 1 3 rfl (read_rows arg18 _ ![384, 0] _ 3 rfl (by omega) _ (HS2_2 c arg3 harg3 arg4 harg4 arg5 harg5 arg16 x1 x2 x3)) (load_plane arg8 harg8 x6 ![11, 0, 0] _ 11 rfl (by omega)) (load_sink arg2 harg2 x0 i 11 (by omega) _ _) x y h0 h1)
    (fun x y h0 h1 => probs_at i x0 x1 x2 x3 x6 1 4 rfl (read_rows arg18 _ ![512, 0] _ 4 rfl (by omega) _ (HS2_2 c arg3 harg3 arg4 harg4 arg5 harg5 arg16 x1 x2 x3)) (load_plane arg8 harg8 x6 ![12, 0, 0] _ 12 rfl (by omega)) (load_sink arg2 harg2 x0 i 12 (by omega) _ _) x y h0 h1)
    (fun x y h0 h1 => probs_at i x0 x1 x2 x3 x6 1 5 rfl (read_rows arg18 _ ![640, 0] _ 5 rfl (by omega) _ (HS2_2 c arg3 harg3 arg4 harg4 arg5 harg5 arg16 x1 x2 x3)) (load_plane arg8 harg8 x6 ![13, 0, 0] _ 13 rfl (by omega)) (load_sink arg2 harg2 x0 i 13 (by omega) _ _) x y h0 h1)
    (fun x y h0 h1 => probs_at i x0 x1 x2 x3 x6 1 6 rfl (read_rows arg18 _ ![768, 0] _ 6 rfl (by omega) _ (HS2_2 c arg3 harg3 arg4 harg4 arg5 harg5 arg16 x1 x2 x3)) (load_plane arg8 harg8 x6 ![14, 0, 0] _ 14 rfl (by omega)) (load_sink arg2 harg2 x0 i 14 (by omega) _ _) x y h0 h1)
    (fun x y h0 h1 => probs_at i x0 x1 x2 x3 x6 1 7 rfl (read_rows arg18 _ ![896, 0] _ 7 rfl (by omega) _ (HS2_2 c arg3 harg3 arg4 harg4 arg5 harg5 arg16 x1 x2 x3)) (load_plane arg8 harg8 x6 ![15, 0, 0] _ 15 rfl (by omega)) (load_sink arg2 harg2 x0 i 15 (by omega) _ _) x y h0 h1)

theorem HS5_16 : View.canon (kernelRun0_A.sl.HS5_16 (F := Ideal) c i arg2 harg2 arg3 harg3 arg4 harg4 arg5 harg5 arg6 harg6 arg7 harg7 arg8 harg8 arg9 harg9 arg16 arg17 arg18 arg19 x0 x1 x2 x3 x4 x5 x6 x7) = dlogs i x0 x1 x2 x3 x4 x5 x6 x7 1 :=
  canon_bands _ _ _ _ _ _ _ _ _ _ _ _ _ _ _ _ _ _
    (fun x y h0 h1 => dlogs_at i x0 x1 x2 x3 x4 x5 x6 x7 1 0 rfl (read_rows arg18 _ ![0, 0] _ 0 rfl (by omega) _ (HS2_2 c arg3 harg3 arg4 harg4 arg5 harg5 arg16 x1 x2 x3)) (load_plane arg8 harg8 x6 ![8, 0, 0] _ 8 rfl (by omega)) (load_sink arg2 harg2 x0 i 8 (by omega) _ _)
      (read_rows arg19 _ ![0, 0] _ 0 rfl (by omega) _ (HS3_2 c arg6 harg6 arg7 harg7 arg9 harg9 arg17 x4 x5 x7)) x y h0 h1)
    (fun x y h0 h1 => dlogs_at i x0 x1 x2 x3 x4 x5 x6 x7 1 1 rfl (read_rows arg18 _ ![128, 0] _ 1 rfl (by omega) _ (HS2_2 c arg3 harg3 arg4 harg4 arg5 harg5 arg16 x1 x2 x3)) (load_plane arg8 harg8 x6 ![9, 0, 0] _ 9 rfl (by omega)) (load_sink arg2 harg2 x0 i 9 (by omega) _ _)
      (read_rows arg19 _ ![128, 0] _ 1 rfl (by omega) _ (HS3_2 c arg6 harg6 arg7 harg7 arg9 harg9 arg17 x4 x5 x7)) x y h0 h1)
    (fun x y h0 h1 => dlogs_at i x0 x1 x2 x3 x4 x5 x6 x7 1 2 rfl (read_rows arg18 _ ![256, 0] _ 2 rfl (by omega) _ (HS2_2 c arg3 harg3 arg4 harg4 arg5 harg5 arg16 x1 x2 x3)) (load_plane arg8 harg8 x6 ![10, 0, 0] _ 10 rfl (by omega)) (load_sink arg2 harg2 x0 i 10 (by omega) _ _)
      (read_rows arg19 _ ![256, 0] _ 2 rfl (by omega) _ (HS3_2 c arg6 harg6 arg7 harg7 arg9 harg9 arg17 x4 x5 x7)) x y h0 h1)
    (fun x y h0 h1 => dlogs_at i x0 x1 x2 x3 x4 x5 x6 x7 1 3 rfl (read_rows arg18 _ ![384, 0] _ 3 rfl (by omega) _ (HS2_2 c arg3 harg3 arg4 harg4 arg5 harg5 arg16 x1 x2 x3)) (load_plane arg8 harg8 x6 ![11, 0, 0] _ 11 rfl (by omega)) (load_sink arg2 harg2 x0 i 11 (by omega) _ _)
      (read_rows arg19 _ ![384, 0] _ 3 rfl (by omega) _ (HS3_2 c arg6 harg6 arg7 harg7 arg9 harg9 arg17 x4 x5 x7)) x y h0 h1)
    (fun x y h0 h1 => dlogs_at i x0 x1 x2 x3 x4 x5 x6 x7 1 4 rfl (read_rows arg18 _ ![512, 0] _ 4 rfl (by omega) _ (HS2_2 c arg3 harg3 arg4 harg4 arg5 harg5 arg16 x1 x2 x3)) (load_plane arg8 harg8 x6 ![12, 0, 0] _ 12 rfl (by omega)) (load_sink arg2 harg2 x0 i 12 (by omega) _ _)
      (read_rows arg19 _ ![512, 0] _ 4 rfl (by omega) _ (HS3_2 c arg6 harg6 arg7 harg7 arg9 harg9 arg17 x4 x5 x7)) x y h0 h1)
    (fun x y h0 h1 => dlogs_at i x0 x1 x2 x3 x4 x5 x6 x7 1 5 rfl (read_rows arg18 _ ![640, 0] _ 5 rfl (by omega) _ (HS2_2 c arg3 harg3 arg4 harg4 arg5 harg5 arg16 x1 x2 x3)) (load_plane arg8 harg8 x6 ![13, 0, 0] _ 13 rfl (by omega)) (load_sink arg2 harg2 x0 i 13 (by omega) _ _)
      (read_rows arg19 _ ![640, 0] _ 5 rfl (by omega) _ (HS3_2 c arg6 harg6 arg7 harg7 arg9 harg9 arg17 x4 x5 x7)) x y h0 h1)
    (fun x y h0 h1 => dlogs_at i x0 x1 x2 x3 x4 x5 x6 x7 1 6 rfl (read_rows arg18 _ ![768, 0] _ 6 rfl (by omega) _ (HS2_2 c arg3 harg3 arg4 harg4 arg5 harg5 arg16 x1 x2 x3)) (load_plane arg8 harg8 x6 ![14, 0, 0] _ 14 rfl (by omega)) (load_sink arg2 harg2 x0 i 14 (by omega) _ _)
      (read_rows arg19 _ ![768, 0] _ 6 rfl (by omega) _ (HS3_2 c arg6 harg6 arg7 harg7 arg9 harg9 arg17 x4 x5 x7)) x y h0 h1)
    (fun x y h0 h1 => dlogs_at i x0 x1 x2 x3 x4 x5 x6 x7 1 7 rfl (read_rows arg18 _ ![896, 0] _ 7 rfl (by omega) _ (HS2_2 c arg3 harg3 arg4 harg4 arg5 harg5 arg16 x1 x2 x3)) (load_plane arg8 harg8 x6 ![15, 0, 0] _ 15 rfl (by omega)) (load_sink arg2 harg2 x0 i 15 (by omega) _ _)
      (read_rows arg19 _ ![896, 0] _ 7 rfl (by omega) _ (HS3_2 c arg6 harg6 arg7 harg7 arg9 harg9 arg17 x4 x5 x7)) x y h0 h1)

end Cert.Attn

end
-- ==== Proof.Outs.lean ====
module

public import proofs.«01_k».proof.Proof.Words

@[expose] public section

set_option maxRecDepth 16384

noncomputable section

/-! What one grid point leaves in its five output blocks. -/

namespace Cert.Attn

open Cert.KernelIdeal Cert.KernelIdeal.Gen Cert.Stores Idealize.ShloMosaic Idealize.ShloMosaic.TcCoe Idealize.SL.Sem

/-! ### Keys and values -/

/-- a product summed over the rows of all heads, with its other half turned onto it -/
def folded (A : FVec Ideal S1024x256 .bf16) (Q : FVec Ideal S1024x128 .bf16) : FVec Ideal S256x128 .f32 :=
  addf (matmul dot_S1024x256_S1024x128_S256x128_0_0_1_1_n_n none A Q (constant S256x128 .f32 0x00000000#32))
    (dynamicRotate 1 64#32 none (matmul dot_S1024x256_S1024x128_S256x128_0_0_1_1_n_n none A Q (constant S256x128 .f32 0x00000000#32)) rotates_S256x128_d1)

/-- the two key heads side by side -/
def pairOf (A0 A1 : FVec Ideal S1024x256 .bf16) (Q0 Q1 : FVec Ideal S1024x128 .bf16) : FVec Ideal S256x128 .f32 :=
  k0_pay1 (iota .tc S256x128 32 [1] iota_S256x128_d1_w32) (folded A0 Q0) A1 Q1

theorem pairOf_congr {A0 A0' A1 A1' : FVec Ideal S1024x256 .bf16} {Q0 Q0' Q1 Q1' : FVec Ideal S1024x128 .bf16}
    (h0 : A0 = A0') (h1 : A1 = A1') (h2 : Q0 = Q0') (h3 : Q1 = Q1') : pairOf A0 A1 Q0 Q1 = pairOf A0' A1' Q0' Q1' := by
  subst h0 h1 h2 h3; rfl

/-- the sum over the heads of a pair's half and over their rows -/
def kvsum (A : S1024x256.Idx → EReal) (X : S128x1024.Idx → EReal) (kv j d : ℕ) : EReal :=
  ∑ h : Fin 8, ∑ a : Fin 128, A (ixm 1024 256 (128 * h.val + a.val) j) * X (ixm 128 1024 a.val (512 * kv + 64 * h.val + d))

theorem stack_at (X : S128x1024.Idx → EReal) (kv : ℕ) (h : Fin 8) (a : Fin 128) (r : Fin 1024) (l : Fin 128) (hr : r.val = h.val * 128 + a.val) :
    stack X kv (ix2 r l)
      = if (h.val % 2 = 0 ↔ l.val < 64) then X (ixm 128 1024 a.val (512 * kv + 64 * h.val + l.val % 64)) else 0 := by
  have hl1 : l.val < 128 := l.isLt
  have hh : h.val < 8 := h.isLt
  have ha : a.val < 128 := a.isLt
  show (if (r.val / 128 % 2 = 0 ↔ l.val < 64) then X (ixm 128 1024 r.val (512 * kv + 128 * (r.val / 256) + l.val)) else 0) = _
  rw [show r.val / 128 % 2 = h.val % 2 by omega, show r.val / 256 = h.val / 2 by omega]
  by_cases hc : (h.val % 2 = 0 ↔ l.val < 64)
  · rw [if_pos hc, if_pos hc]
    exact congrArg X (congrArg₂ ix2 (Fin.ext (show r.val % 128 = a.val % 128 by omega))
      (Fin.ext (show (512 * kv + 128 * (h.val / 2) + l.val) % 1024 = (512 * kv + 64 * h.val + l.val % 64) % 1024 by omega)))
  · rw [if_neg hc, if_neg hc]

theorem fold_sum (A : S1024x256.Idx → EReal) (X : S128x1024.Idx → EReal) (kv : ℕ) (j : Fin 256) (l l' : Fin 128)
    (hl : l'.val = (l.val + 128 - 64) % 128) :
    ∑ x : Fin 1024, A (ix2 x j) * stack X kv (ix2 x l) + ∑ x : Fin 1024, A (ix2 x j) * stack X kv (ix2 x l')
      = kvsum A X kv j.val (l.val % 64) := by
  have hl1 : l.val < 128 := l.isLt
  rw [← Finset.sum_add_distrib, Fin.sum_univ_tiles 8 128 rfl]
  refine Finset.sum_congr rfl fun h _ => Finset.sum_congr rfl fun a _ => ?_
  have hh : h.val < 8 := h.isLt
  have ha : a.val < 128 := a.isLt
  have e : (ix2 ⟨h.val * 128 + a.val, by omega⟩ j : S1024x256.Idx) = ixm 1024 256 (128 * h.val + a.val) j.val :=
    congrArg₂ ix2 (Fin.ext (show h.val * 128 + a.val = (128 * h.val + a.val) % 1024 by omega)) (Fin.ext (Nat.mod_eq_of_lt j.isLt).symm)
  rw [e, stack_at X kv h a _ l rfl, stack_at X kv h a _ l' rfl, show l'.val % 64 = l.val % 64 by omega]
  by_cases hc : (h.val % 2 = 0 ↔ l.val < 64)
  · rw [if_pos hc, if_neg (by omega), mul_zero, add_zero]
  · rw [if_neg hc, if_pos (by omega), mul_zero, zero_add]

theorem pairOf_at (A0 A1 : S1024x256.Idx → EReal) (X : S128x1024.Idx → EReal) :
    pairOf A0 A1 (stack X 0) (stack X 1)
      = fun y : S256x128.Idx => kvsum (if (y 1).val < 64 then A0 else A1) X ((y 1).val / 64) (y 0).val ((y 1).val % 64) := by
  funext y
  idx_vars y
  have h1 : y1.val < 128 := y1.isLt
  pointwise [pairOf, k0_pay1, folded]
  rw [sel_lt (by omega) (by omega), fold_sum A0 X 0 y0 y1 _ rfl, fold_sum A1 X 1 y0 y1 _ rfl]
  show _ = kvsum (if y1.val < 64 then A0 else A1) X (y1.val / 64) y0.val (y1.val % 64)
  by_cases h : y1.val < 64
  · rw [if_pos h, if_pos h, show y1.val / 64 = 0 by omega]
  · rw [if_neg h, if_neg h, show y1.val / 64 = 1 by omega]

/-! ### Queries -/

/-- the gradient by the queries before it is taken apart -/
def qrows (A : FVec Ideal S1024x256 .bf16) (K : FVec Ideal S256x128 .bf16) : FVec Ideal S1024x128 .f32 :=
  matmul dot_S1024x256_S256x128_S1024x128_1_0_0_1_n_n none A K (constant S1024x128 .f32 0x00000000#32)

theorem qrows_congr {A A' : FVec Ideal S1024x256 .bf16} {K K' : FVec Ideal S256x128 .bf16} (h0 : A = A') (h1 : K = K') :
    qrows A K = qrows A' K' := by subst h0 h1; rfl

/-- one slab: the two heads of a pair, each in its half of the lanes -/
def slab (r : FVec Ideal S1024x128 .f32) (o o' : ℕ) (s : S1024x128.Slices ![o, 0] S128x128) (s' : S1024x128.Slices ![o', 0] S128x128) :
    FVec Ideal S128x128 .bf16 :=
  truncf .bf16 (select (cmpi .slt (iota .tc S128x128 32 [1] iota_S128x128_d1_w32) (broadcast S128x128 64#32))
    (extractStridedSlice S128x128 ![o, 0] r s) (extractStridedSlice S128x128 ![o', 0] r s')) bitsLt_bf16_f32

/-- the gradient by the queries of a block -/
def dqOf (A0 A1 : S1024x256.Idx → EReal) (a b : S128x128.Idx → EReal) : S128x1024.Idx → EReal := fun y =>
  ∑ j : Fin 256, (if (y 1).val < 512 then A0 else A1) (ixm 1024 256 (128 * ((y 1).val % 512 / 64) + (y 0).val) j.val)
    * (if j.val < 128 then a else b) (ixm 128 128 j.val (64 * ((y 1).val / 512) + (y 1).val % 64))

theorem slab_at (kv jj : ℕ) (hkv : kv < 2) (hjj : jj < 4) (A0 A1 : S1024x256.Idx → EReal) (a b : S128x128.Idx → EReal) {r : FVec Ideal S1024x128 .f32}
    {o o' : ℕ} {s : S1024x128.Slices ![o, 0] S128x128} {s' : S1024x128.Slices ![o', 0] S128x128} (ho : o = 256 * jj) (ho' : o' = 256 * jj + 128)
    (hr : r = qrows (if kv = 0 then A0 else A1) (keys a b kv)) (x : S128x128.Idx) (y : S128x1024.Idx)
    (hy0 : (y 0).val = (x 0).val) (hy1 : (y 1).val = 512 * kv + 128 * jj + (x 1).val) :
    slab r o o' s s' x = dqOf A0 A1 a b y := by
  subst ho ho' hr
  idx_vars x
  have hx0 : (x0 : ℕ) < 128 := x0.isLt
  have hx1 : (x1 : ℕ) < 128 := x1.isLt
  replace hy0 : (y 0).val = x0.val := hy0
  replace hy1 : (y 1).val = 512 * kv + 128 * jj + x1.val := hy1
  pointwise [slab, qrows]
  rw [sel_lt (by omega) (by omega)]
  unfold dqOf
  rw [hy0, hy1]
  have hA : (if kv = 0 then A0 else A1) = if 512 * kv + 128 * jj + x1.val < 512 then A0 else A1 := by
    by_cases h : kv = 0
    · rw [if_pos h, if_pos (by omega)]
    · rw [if_neg h, if_neg (by omega)]
  rw [hA, show (512 * kv + 128 * jj + x1.val) / 512 = kv by omega, show (512 * kv + 128 * jj + x1.val) % 64 = x1.val % 64 by omega]
  by_cases h : x1.val < 64
  · rw [if_pos h]
    refine Finset.sum_congr rfl fun j _ => congrArg₂ (· * ·) (congrArg _ (congrArg₂ ix2 (Fin.ext ?_) (Fin.ext (Nat.mod_eq_of_lt j.isLt).symm))) ?_
    · show 256 * jj + x0.val = (128 * ((512 * kv + 128 * jj + x1.val) % 512 / 64) + x0.val) % 1024
      omega
    · rfl
  · rw [if_neg h]
    refine Finset.sum_congr rfl fun j _ => congrArg₂ (· * ·) (congrArg _ (congrArg₂ ix2 (Fin.ext ?_) (Fin.ext (Nat.mod_eq_of_lt j.isLt).symm))) ?_
    · show 256 * jj + 128 + x0.val = (128 * ((512 * kv + 128 * jj + x1.val) % 512 / 64) + x0.val) % 1024
      omega
    · rfl

variable (c : Dev nD) (i : grid0.Coords) (arg2 : Memref sig .tc .smem S32 .f32) (harg2 : arg2.IsWhole) (arg3 : Memref sig .tc .vmem S128x1024 .bf16) (harg3 : arg3.IsWhole)
  (arg4 : Memref sig .tc .vmem S128x128 .bf16) (harg4 : arg4.IsWhole) (arg5 : Memref sig .tc .vmem S128x128 .bf16) (harg5 : arg5.IsWhole)
  (arg6 : Memref sig .tc .vmem S128x128 .bf16) (harg6 : arg6.IsWhole) (arg7 : Memref sig .tc .vmem S128x128 .bf16) (harg7 : arg7.IsWhole)
  (arg8 : Memref sig .tc .vmem S16x128x256 .f32) (harg8 : arg8.IsWhole) (arg9 : Memref sig .tc .vmem S128x1024 .bf16) (harg9 : arg9.IsWhole)
  (arg14 : Memref sig .tc .vmem S16x128x256 .f32) (harg14 : arg14.IsWhole) (arg15 : Memref sig .tc .vmem S16x128 .f32) (harg15 : arg15.IsWhole)
  (arg16 arg17 : Memref sig .tc .vmem S1024x128 .bf16) (arg18 arg19 : Memref sig .tc .vmem S1024x256 .f32) (arg20 arg21 : Memref sig .tc .vmem S1024x256 .bf16)
  (x0 : Vec Ideal S32 .f32) (x1 : Vec Ideal S128x1024 .bf16) (x2 x3 x4 x5 : Vec Ideal S128x128 .bf16)
  (x6 : Vec Ideal S16x128x256 .f32) (x7 : Vec Ideal S128x1024 .bf16)

theorem piece9 : k0_pay1 (kernelRun0_A.sl.v24) (kernelRun0_A.sl.v744 (F := Ideal) c i arg2 harg2 arg3 harg3 arg4 harg4 arg5 harg5 arg6 harg6 arg7 harg7 arg8 harg8 arg9 harg9 arg16 arg17 arg18 arg19 arg21 x0 x1 x2 x3 x4 x5 x6 x7) (kernelRun0_A.sl.v1430 (F := Ideal) c i arg2 harg2 arg3 harg3 arg4 harg4 arg5 harg5 arg6 harg6 arg7 harg7 arg8 harg8 arg9 harg9 arg16 arg17 arg18 arg19 arg21 x0 x1 x2 x3 x4 x5 x6 x7) (kernelRun0_A.sl.v1431 (F := Ideal) c arg3 harg3 arg16 x1)
    = pairOf (dlogs i x0 x1 x2 x3 x4 x5 x6 x7 0) (dlogs i x0 x1 x2 x3 x4 x5 x6 x7 1) (stack x1 0) (stack x1 1) :=
  pairOf_congr (read_whole arg21 _ _ _ _ (HS5_8 c i arg2 harg2 arg3 harg3 arg4 harg4 arg5 harg5 arg6 harg6 arg7 harg7 arg8 harg8 arg9 harg9 arg16 arg17 arg18 arg19 x0 x1 x2 x3 x4 x5 x6 x7)) (read_whole arg21 _ _ _ _ (HS5_16 c i arg2 harg2 arg3 harg3 arg4 harg4 arg5 harg5 arg6 harg6 arg7 harg7 arg8 harg8 arg9 harg9 arg16 arg17 arg18 arg19 x0 x1 x2 x3 x4 x5 x6 x7))
    (read_whole arg16 _ _ _ _ (HS0_8 c arg3 harg3 x1)) (read_whole arg16 _ _ _ _ (HS0_16 c arg3 harg3 x1))

theorem piece10 : k0_pay2 (kernelRun0_A.sl.v24) (kernelRun0_A.sl.v746 (F := Ideal) c i arg2 harg2 arg3 harg3 arg4 harg4 arg5 harg5 arg8 harg8 arg9 harg9 arg16 arg17 arg18 arg20 x0 x1 x2 x3 x6 x7) (kernelRun0_A.sl.v1433 (F := Ideal) c i arg2 harg2 arg3 harg3 arg4 harg4 arg5 harg5 arg8 harg8 arg16 arg18 arg20 x0 x1 x2 x3 x6) (kernelRun0_A.sl.v1434 (F := Ideal) c arg9 harg9 arg17 x7)
    = pairOf (probs i x0 x1 x2 x3 x6 0) (probs i x0 x1 x2 x3 x6 1) (stack x7 0) (stack x7 1) :=
  pairOf_congr (read_whole arg20 _ _ _ _ (HS4_8 c i arg2 harg2 arg3 harg3 arg4 harg4 arg5 harg5 arg8 harg8 arg16 arg18 x0 x1 x2 x3 x6)) (read_whole arg20 _ _ _ _ (HS4_16 c i arg2 harg2 arg3 harg3 arg4 harg4 arg5 harg5 arg8 harg8 arg16 arg18 x0 x1 x2 x3 x6))
    (read_whole arg17 _ _ _ _ (HS1_8 c arg9 harg9 x7)) (read_whole arg17 _ _ _ _ (HS1_16 c arg9 harg9 x7))

theorem piece8 (i0 i1 i2 i3 i4 i5 i6 i7) : View.canon (Val := Elt Ideal) (e := .bf16) (⟨Rect.unit (s := S128x1024) ![0, 896] S128x128.size i7, (k0_pay300 (kernelRun0_A.sl.v1400 (F := Ideal) c i arg2 harg2 arg3 harg3 arg4 harg4 arg5 harg5 arg6 harg6 arg7 harg7 arg8 harg8 arg9 harg9 arg16 arg17 arg18 arg19 arg21 x0 x1 x2 x3 x4 x5 x6 x7) (kernelRun0_A.sl.v54))⟩
      :: ⟨Rect.unit (s := S128x1024) ![0, 768] S128x128.size i6, (k0_pay299 (kernelRun0_A.sl.v54) (kernelRun0_A.sl.v1416 (F := Ideal) c i arg2 harg2 arg3 harg3 arg4 harg4 arg5 harg5 arg6 harg6 arg7 harg7 arg8 harg8 arg9 harg9 arg16 arg17 arg18 arg19 arg21 x0 x1 x2 x3 x4 x5 x6 x7) (kernelRun0_A.sl.v1417 (F := Ideal) c i arg2 harg2 arg3 harg3 arg4 harg4 arg5 harg5 arg6 harg6 arg7 harg7 arg8 harg8 arg9 harg9 arg16 arg17 arg18 arg19 arg21 x0 x1 x2 x3 x4 x5 x6 x7) (kernelRun0_A.sl.v56))⟩
      :: ⟨Rect.unit (s := S128x1024) ![0, 640] S128x128.size i5, (kernelRun0_A.sl.v1414 (F := Ideal) c i arg2 harg2 arg3 harg3 arg4 harg4 arg5 harg5 arg6 harg6 arg7 harg7 arg8 harg8 arg9 harg9 arg16 arg17 arg18 arg19 arg21 x0 x1 x2 x3 x4 x5 x6 x7)⟩
      :: ⟨Rect.unit (s := S128x1024) ![0, 512] S128x128.size i4, (kernelRun0_A.sl.v1407 (F := Ideal) c i arg2 harg2 arg3 harg3 arg4 harg4 arg5 harg5 arg6 harg6 arg7 harg7 arg8 harg8 arg9 harg9 arg16 arg17 arg18 arg19 arg21 x0 x1 x2 x3 x4 x5 x6 x7)⟩
      :: ⟨Rect.unit (s := S128x1024) ![0, 384] S128x128.size i3, (kernelRun0_A.sl.v735 (F := Ideal) c i arg2 harg2 arg3 harg3 arg4 harg4 arg5 harg5 arg6 harg6 arg7 harg7 arg8 harg8 arg9 harg9 arg16 arg17 arg18 arg19 arg21 x0 x1 x2 x3 x4 x5 x6 x7)⟩
      :: ⟨Rect.unit (s := S128x1024) ![0, 256] S128x128.size i2, (kernelRun0_A.sl.v728 (F := Ideal) c i arg2 harg2 arg3 harg3 arg4 harg4 arg5 harg5 arg6 harg6 arg7 harg7 arg8 harg8 arg9 harg9 arg16 arg17 arg18 arg19 arg21 x0 x1 x2 x3 x4 x5 x6 x7)⟩
      :: ⟨Rect.unit (s := S128x1024) ![0, 128] S128x128.size i1, (kernelRun0_A.sl.v721 (F := Ideal) c i arg2 harg2 arg3 harg3 arg4 harg4 arg5 harg5 arg6 harg6 arg7 harg7 arg8 harg8 arg9 harg9 arg16 arg17 arg18 arg19 arg21 x0 x1 x2 x3 x4 x5 x6 x7)⟩
      :: ⟨Rect.unit (s := S128x1024) ![0, 0] S128x128.size i0, (kernelRun0_A.sl.v714 (F := Ideal) c i arg2 harg2 arg3 harg3 arg4 harg4 arg5 harg5 arg6 harg6 arg7 harg7 arg8 harg8 arg9 harg9 arg16 arg17 arg18 arg19 arg21 x0 x1 x2 x3 x4 x5 x6 x7)⟩ :: [])
    = dqOf (dlogs i x0 x1 x2 x3 x4 x5 x6 x7 0) (dlogs i x0 x1 x2 x3 x4 x5 x6 x7 1) x2 x3 :=
  canon_cols _ _ _ _ _ _ _ _ _ _ _ _ _ _ _ _ _ _
    (fun x y h0 h1 => slab_at (s := slices_S1024x128_o0_0_S128x128) (s' := slices_S1024x128_o128_0_S128x128) 0 0 (by omega) (by omega) (dlogs i x0 x1 x2 x3 x4 x5 x6 x7 0) (dlogs i x0 x1 x2 x3 x4 x5 x6 x7 1) x2 x3 rfl rfl
      (qrows_congr (read_whole arg21 _ _ _ _ (HS5_8 c i arg2 harg2 arg3 harg3 arg4 harg4 arg5 harg5 arg6 harg6 arg7 harg7 arg8 harg8 arg9 harg9 arg16 arg17 arg18 arg19 x0 x1 x2 x3 x4 x5 x6 x7)) ((congrArg₂ (k0_pay7 (F := Ideal)) (load_whole arg4 harg4 x2 _ _) (load_whole arg5 harg5 x3 _ _)).trans (keys_0 x2 x3))) x y h0 h1)
    (fun x y h0 h1 => slab_at (s := slices_S1024x128_o256_0_S128x128) (s' := slices_S1024x128_o384_0_S128x128) 0 1 (by omega) (by omega) (dlogs i x0 x1 x2 x3 x4 x5 x6 x7 0) (dlogs i x0 x1 x2 x3 x4 x5 x6 x7 1) x2 x3 rfl rfl
      (qrows_congr (read_whole arg21 _ _ _ _ (HS5_8 c i arg2 harg2 arg3 harg3 arg4 harg4 arg5 harg5 arg6 harg6 arg7 harg7 arg8 harg8 arg9 harg9 arg16 arg17 arg18 arg19 x0 x1 x2 x3 x4 x5 x6 x7)) ((congrArg₂ (k0_pay7 (F := Ideal)) (load_whole arg4 harg4 x2 _ _) (load_whole arg5 harg5 x3 _ _)).trans (keys_0 x2 x3))) x y h0 h1)
    (fun x y h0 h1 => slab_at (s := slices_S1024x128_o512_0_S128x128) (s' := slices_S1024x128_o640_0_S128x128) 0 2 (by omega) (by omega) (dlogs i x0 x1 x2 x3 x4 x5 x6 x7 0) (dlogs i x0 x1 x2 x3 x4 x5 x6 x7 1) x2 x3 rfl rfl
      (qrows_congr (read_whole arg21 _ _ _ _ (HS5_8 c i arg2 harg2 arg3 harg3 arg4 harg4 arg5 harg5 arg6 harg6 arg7 harg7 arg8 harg8 arg9 harg9 arg16 arg17 arg18 arg19 x0 x1 x2 x3 x4 x5 x6 x7)) ((congrArg₂ (k0_pay7 (F := Ideal)) (load_whole arg4 harg4 x2 _ _) (load_whole arg5 harg5 x3 _ _)).trans (keys_0 x2 x3))) x y h0 h1)
    (fun x y h0 h1 => slab_at (s := slices_S1024x128_o768_0_S128x128) (s' := slices_S1024x128_o896_0_S128x128) 0 3 (by omega) (by omega) (dlogs i x0 x1 x2 x3 x4 x5 x6 x7 0) (dlogs i x0 x1 x2 x3 x4 x5 x6 x7 1) x2 x3 rfl rfl
      (qrows_congr (read_whole arg21 _ _ _ _ (HS5_8 c i arg2 harg2 arg3 harg3 arg4 harg4 arg5 harg5 arg6 harg6 arg7 harg7 arg8 harg8 arg9 harg9 arg16 arg17 arg18 arg19 x0 x1 x2 x3 x4 x5 x6 x7)) ((congrArg₂ (k0_pay7 (F := Ideal)) (load_whole arg4 harg4 x2 _ _) (load_whole arg5 harg5 x3 _ _)).trans (keys_0 x2 x3))) x y h0 h1)
    (fun x y h0 h1 => slab_at (s := slices_S1024x128_o0_0_S128x128) (s' := slices_S1024x128_o128_0_S128x128) 1 0 (by omega) (by omega) (dlogs i x0 x1 x2 x3 x4 x5 x6 x7 0) (dlogs i x0 x1 x2 x3 x4 x5 x6 x7 1) x2 x3 rfl rfl
      (qrows_congr (read_whole arg21 _ _ _ _ (HS5_16 c i arg2 harg2 arg3 harg3 arg4 harg4 arg5 harg5 arg6 harg6 arg7 harg7 arg8 harg8 arg9 harg9 arg16 arg17 arg18 arg19 x0 x1 x2 x3 x4 x5 x6 x7)) ((congrArg₂ (k0_pay8 (F := Ideal)) (load_whole arg4 harg4 x2 _ _) (load_whole arg5 harg5 x3 _ _)).trans (keys_1 x2 x3))) x y h0 h1)
    (fun x y h0 h1 => slab_at (s := slices_S1024x128_o256_0_S128x128) (s' := slices_S1024x128_o384_0_S128x128) 1 1 (by omega) (by omega) (dlogs i x0 x1 x2 x3 x4 x5 x6 x7 0) (dlogs i x0 x1 x2 x3 x4 x5 x6 x7 1) x2 x3 rfl rfl
      (qrows_congr (read_whole arg21 _ _ _ _ (HS5_16 c i arg2 harg2 arg3 harg3 arg4 harg4 arg5 harg5 arg6 harg6 arg7 harg7 arg8 harg8 arg9 harg9 arg16 arg17 arg18 arg19 x0 x1 x2 x3 x4 x5 x6 x7)) ((congrArg₂ (k0_pay8 (F := Ideal)) (load_whole arg4 harg4 x2 _ _) (load_whole arg5 harg5 x3 _ _)).trans (keys_1 x2 x3))) x y h0 h1)
    (fun x y h0 h1 => slab_at (s := slices_S1024x128_o512_0_S128x128) (s' := slices_S1024x128_o640_0_S128x128) 1 2 (by omega) (by omega) (dlogs i x0 x1 x2 x3 x4 x5 x6 x7 0) (dlogs i x0 x1 x2 x3 x4 x5 x6 x7 1) x2 x3 rfl rfl
      (qrows_congr (read_whole arg21 _ _ _ _ (HS5_16 c i arg2 harg2 arg3 harg3 arg4 harg4 arg5 harg5 arg6 harg6 arg7 harg7 arg8 harg8 arg9 harg9 arg16 arg17 arg18 arg19 x0 x1 x2 x3 x4 x5 x6 x7)) ((congrArg₂ (k0_pay8 (F := Ideal)) (load_whole arg4 harg4 x2 _ _) (load_whole arg5 harg5 x3 _ _)).trans (keys_1 x2 x3))) x y h0 h1)
    (fun x y h0 h1 => slab_at (s := slices_S1024x128_o768_0_S128x128) (s' := slices_S1024x128_o896_0_S128x128) 1 3 (by omega) (by omega) (dlogs i x0 x1 x2 x3 x4 x5 x6 x7 0) (dlogs i x0 x1 x2 x3 x4 x5 x6 x7 1) x2 x3 rfl rfl
      (qrows_congr (read_whole arg21 _ _ _ _ (HS5_16 c i arg2 harg2 arg3 harg3 arg4 harg4 arg5 harg5 arg6 harg6 arg7 harg7 arg8 harg8 arg9 harg9 arg16 arg17 arg18 arg19 x0 x1 x2 x3 x4 x5 x6 x7)) ((congrArg₂ (k0_pay8 (F := Ideal)) (load_whole arg4 harg4 x2 _ _) (load_whole arg5 harg5 x3 _ _)).trans (keys_1 x2 x3))) x y h0 h1)

end Cert.Attn

end
-- ==== Proof.Acc.lean ====
module

public import proofs.«01_k».proof.Proof.Outs

@[expose] public section

set_option maxRecDepth 16384

noncomputable section

/-! The two accumulated blocks: the gradient by the bias and by the sinks. -/

namespace Cert.Attn

open Cert.KernelIdeal Cert.KernelIdeal.Gen Cert.Stores Idealize.ShloMosaic Idealize.ShloMosaic.TcCoe Idealize.SL.Sem

section heads

variable (i : grid0.Coords) (x0 : Vec Ideal S32 .f32) (x1 : Vec Ideal S128x1024 .bf16) (x2 x3 x4 x5 : Vec Ideal S128x128 .bf16)
  (x6 : Vec Ideal S16x128x256 .f32) (x7 : Vec Ideal S128x1024 .bf16)

/-- the gradient by the logits of one head -/
def hG (kv h : ℕ) : FVec Ideal S128x256 .f32 := k0_pay42 (hE i x0 x1 x2 x3 x6 kv h) (hR i x0 x1 x2 x3 x6 kv h) (hD x4 x5 x7 kv h)

/-- what one head adds to the gradient by its sink -/
def hT (kv h : ℕ) : EReal :=
  0 - ∑ a : Fin 128, hs i x0 x1 x2 x3 x6 kv h (ix2 a 0) * hI i x0 x1 x2 x3 x6 kv h (ix2 a 0)
    * k0_pay41 (hE i x0 x1 x2 x3 x6 kv h) (hR i x0 x1 x2 x3 x6 kv h) (hD x4 x5 x7 kv h) (ix2 a 0)

/-- the bias block after a point that found `f` -/
def bias (f : S16x128x256.Idx → EReal) : S16x128x256.Idx → EReal := fun y =>
  f y + hG i x0 x1 x2 x3 x4 x5 x6 x7 ((y 0).val / 8) ((y 0).val % 8) (ix2 (y 1) (y 2))

/-- the sink block after a point that found `f` -/
def sinks (f : S16x128.Idx → EReal) : S16x128.Idx → EReal := fun y =>
  f y + hT i x0 x1 x2 x3 x4 x5 x6 x7 ((y 0).val / 8) ((y 0).val % 8)

/-- the row of one head -/
def line (h : ℕ) (B : S16x128.Idx → EReal) : S1x128.Idx → EReal := fun x => B (ix2 (Fin.ofNat 16 h) (x 1))

/-- the list `L` has written the slabs before `k`: there `g` is read, elsewhere `f` -/
def Upto {s : Shape} (slab : s.Idx → ℕ) (L : List (View.Piece (Elt Ideal) s .f32)) (k : ℕ) (f g : s.Idx → EReal) : Prop :=
  ∀ y, View.canon L y = if slab y < k then g y else f y

theorem slab_step3 (k : ℕ) (L : List (View.Piece (Elt Ideal) S16x128x256 .f32)) (e g : S16x128x256.Idx → EReal)
    (off : Fin S16x128x256.rank → ℕ) (inb : ∀ a, off a + S1x128x256.size a ≤ S16x128x256.size a) (hoff : off = ![k, 0, 0])
    (hL : Upto (fun y => (y 0).val) L k e g) (w : S1x128x256.Idx → EReal)
    (hw : ∀ (x : S1x128x256.Idx) (y : S16x128x256.Idx), (y 0).val = k → y 1 = x 1 → y 2 = x 2 → w x = g y) :
    Upto (fun y => (y 0).val) (⟨Rect.unit (s := S16x128x256) off S1x128x256.size inb, w⟩ :: L) (k + 1) e g := by
  subst hoff
  refine canon_slab k _ _ inb w L (fun y => (y 0).val) (fun y => ?_) e g hL fun x => hw x _ ?_ ?_ ?_
  · rw [Rect.mem_set_unit]
    have h1 : (y 1).val < 128 := (y 1).isLt
    have h2 : (y 2).val < 256 := (y 2).isLt
    constructor
    · intro h
      have h0 := h 0
      change k ≤ (y 0).val ∧ (y 0).val < k + 1 at h0
      exact (by omega : (y 0).val = k)
    · intro h a
      replace h : (y 0).val = k := h
      match a with
      | ⟨0, _⟩ => exact (by omega : k ≤ (y 0).val ∧ (y 0).val < k + 1)
      | ⟨1, _⟩ => exact (by omega : 0 ≤ (y 1).val ∧ (y 1).val < 0 + 128)
      | ⟨2, _⟩ => exact (by omega : 0 ≤ (y 2).val ∧ (y 2).val < 0 + 256)
  · have h := Rect.idx_unit_val (s := S16x128x256) ![k, 0, 0] S1x128x256.size inb x 0
    have hx : (x 0).val < 1 := (x 0).isLt
    exact h.trans (show k + (x 0).val = k by omega)
  · have h := Rect.idx_unit_val (s := S16x128x256) ![k, 0, 0] S1x128x256.size inb x 1
    exact Fin.ext (h.trans (Nat.zero_add _))
  · have h := Rect.idx_unit_val (s := S16x128x256) ![k, 0, 0] S1x128x256.size inb x 2
    exact Fin.ext (h.trans (Nat.zero_add _))

theorem slab_step2 (k : ℕ) (L : List (View.Piece (Elt Ideal) S16x128 .f32)) (e g : S16x128.Idx → EReal)
    (off : Fin S16x128.rank → ℕ) (inb : ∀ a, off a + S1x128.size a ≤ S16x128.size a) (hoff : off = ![k, 0])
    (hL : Upto (fun y => (y 0).val) L k e g) (w : S1x128.Idx → EReal)
    (hw : ∀ (x : S1x128.Idx) (y : S16x128.Idx), (y 0).val = k → y 1 = x 1 → w x = g y) :
    Upto (fun y => (y 0).val) (⟨Rect.unit (s := S16x128) off S1x128.size inb, w⟩ :: L) (k + 1) e g := by
  subst hoff
  refine canon_slab k _ _ inb w L (fun y => (y 0).val) (fun y => ?_) e g hL fun x => hw x _ ?_ ?_
  · rw [Rect.mem_set_unit]
    have h1 : (y 1).val < 128 := (y 1).isLt
    constructor
    · intro h
      have h0 := h 0
      change k ≤ (y 0).val ∧ (y 0).val < k + 1 at h0
      exact (by omega : (y 0).val = k)
    · intro h a
      replace h : (y 0).val = k := h
      match a with
      | ⟨0, _⟩ => exact (by omega : k ≤ (y 0).val ∧ (y 0).val < k + 1)
      | ⟨1, _⟩ => exact (by omega : 0 ≤ (y 1).val ∧ (y 1).val < 0 + 128)
  · have h := Rect.idx_unit_val (s := S16x128) ![k, 0] S1x128.size inb x 0
    have hx : (x 0).val < 1 := (x 0).isLt
    exact h.trans (show k + (x 0).val = k by omega)
  · have h := Rect.idx_unit_val (s := S16x128) ![k, 0] S1x128.size inb x 1
    exact Fin.ext (h.trans (Nat.zero_add _))

/-- one head's slab of the bias block -/
theorem bias_step {V : IVec S128x256 1} {Sw : Vec Ideal S128x256 .f32} {Bw : Vec Ideal S1x128x256 .f32} {sw : Elt Ideal .f32} {Dw : Vec Ideal S128x256 .f32}
    (kv h : ℕ) (hkv : kv < 2) (hh : h < 8) (hV : V = k0_pay5 i) (h1 : Sw = hS x1 x2 x3 kv h) (h2 : Bw = plane (8 * kv + h) x6)
    (h3 : sw = sink i (8 * kv + h) x0) (h4 : Dw = hD x4 x5 x7 kv h) {k : ℕ} (hk : k = 8 * kv + h) {vv : Vec Ideal S1x128x256 .f32}
    (f e : S16x128x256.Idx → EReal) (hv : vv = plane k f) (L : List (View.Piece (Elt Ideal) S16x128x256 .f32))
    (off : Fin S16x128x256.rank → ℕ) (inb : ∀ a, off a + S1x128x256.size a ≤ S16x128x256.size a) (hoff : off = ![k, 0, 0])
    (hL : Upto (fun y => (y 0).val) L k e (bias i x0 x1 x2 x3 x4 x5 x6 x7 f)) :
    Upto (fun y => (y 0).val) (⟨Rect.unit (s := S16x128x256) off S1x128x256.size inb,
        k0_pay43 (k0_pay36 V Sw Bw sw) (k0_pay39 V Sw Bw sw) Dw vv⟩ :: L) (k + 1) e (bias i x0 x1 x2 x3 x4 x5 x6 x7 f) := by
  subst hV h1 h2 h3 h4 hv
  refine slab_step3 k L e _ off inb hoff hL _ fun x y hy0 hy1 hy2 => ?_
  unfold bias
  rw [hy0, hy1, hy2, show k / 8 = kv by omega, show k % 8 = h by omega]
  have hy : y = ix3 (Fin.ofNat 16 k) (x 1) (x 2) := by
    rw [eq_ix3 y, hy1, hy2]
    have := (y 0).isLt
    exact congrArg (fun q => ix3 q (x 1) (x 2)) (Fin.ext (show (y 0).val = k % 16 by omega))
  rw [hy]
  clear hy hy0 hy1 hy2 hL
  idx_vars x
  pointwise [k0_pay43, hG]
  rfl

/-- one head's row of the sink block -/
theorem sinks_step {V : IVec S128x256 1} {Sw : Vec Ideal S128x256 .f32} {Bw : Vec Ideal S1x128x256 .f32} {sw : Elt Ideal .f32} {Dw : Vec Ideal S128x256 .f32}
    (kv h : ℕ) (hkv : kv < 2) (hh : h < 8) (hV : V = k0_pay5 i) (h1 : Sw = hS x1 x2 x3 kv h) (h2 : Bw = plane (8 * kv + h) x6)
    (h3 : sw = sink i (8 * kv + h) x0) (h4 : Dw = hD x4 x5 x7 kv h) {k : ℕ} (hk : k = 8 * kv + h) {vv : Vec Ideal S1x128 .f32}
    (f e : S16x128.Idx → EReal) (hv : vv = line k f) (L : List (View.Piece (Elt Ideal) S16x128 .f32))
    (off : Fin S16x128.rank → ℕ) (inb : ∀ a, off a + S1x128.size a ≤ S16x128.size a) (hoff : off = ![k, 0])
    (hL : Upto (fun y => (y 0).val) L k e (sinks i x0 x1 x2 x3 x4 x5 x6 x7 f)) :
    Upto (fun y => (y 0).val) (⟨Rect.unit (s := S16x128) off S1x128.size inb,
        k0_pay44 (k0_pay36 V Sw Bw sw) (k0_pay37 V Sw Bw sw) (k0_pay38 V Sw Bw sw) (k0_pay39 V Sw Bw sw) Dw vv⟩ :: L) (k + 1) e
      (sinks i x0 x1 x2 x3 x4 x5 x6 x7 f) := by
  subst hV h1 h2 h3 h4 hv
  refine slab_step2 k L e _ off inb hoff hL _ fun x y hy0 hy1 => ?_
  unfold sinks
  rw [hy0, show k / 8 = kv by omega, show k % 8 = h by omega]
  have hy : y = ix2 (Fin.ofNat 16 k) (x 1) := by
    rw [eq_ix2 y, hy1]
    have := (y 0).isLt
    exact congrArg (fun q => ix2 q (x 1)) (Fin.ext (show (y 0).val = k % 16 by omega))
  rw [hy]
  clear hy hy0 hy1 hL
  idx_vars x
  pointwise [k0_pay44]
  simp only [Fin.sum_univ_one]
  rfl

/-- a slab not yet written reads what was there -/
theorem read_plane (m : Memref sig .tc .vmem S16x128x256 .f32) (L : List (View.Piece (Elt Ideal) S16x128x256 .f32)) (k : ℕ)
    (off : Fin S16x128x256.rank → ℕ) (inb : ∀ a, off a + S1x128x256.size a ≤ S16x128x256.size a) (hoff : off = ![k, 0, 0])
    (f g : S16x128x256.Idx → EReal) (hL : Upto (fun y => (y 0).val) L k f g) (hk : k < 16) :
    m.view.readCov L (Rect.unit (s := S16x128x256) off S1x128x256.size inb).toLoadRect = plane k f := by
  subst hoff
  rw [View.readCov_eq_canon']
  funext x
  have h := Rect.idx_unit_val (s := S16x128x256) ![k, 0, 0] S1x128x256.size inb x 0
  have hx : (x 0).val < 1 := (x 0).isLt
  replace h : ((Rect.unit (s := S16x128x256) ![k, 0, 0] S1x128x256.size inb).idx x 0).val = k + (x 0).val := h
  refine (hL _).trans ((if_neg ?_).trans ?_)
  · exact (by omega : ¬ ((Rect.unit (s := S16x128x256) ![k, 0, 0] S1x128x256.size inb).idx x 0).val < k)
  · idx_vars x
    pointwise
    exact congrArg f (congrArg (fun q => ix3 q x1 x2) (Fin.ext (show k = k % 16 by omega)))

theorem read_line (m : Memref sig .tc .vmem S16x128 .f32) (L : List (View.Piece (Elt Ideal) S16x128 .f32)) (k : ℕ)
    (off : Fin S16x128.rank → ℕ) (inb : ∀ a, off a + S1x128.size a ≤ S16x128.size a) (hoff : off = ![k, 0])
    (f g : S16x128.Idx → EReal) (hL : Upto (fun y => (y 0).val) L k f g) (hk : k < 16) :
    m.view.readCov L (Rect.unit (s := S16x128) off S1x128.size inb).toLoadRect = line k f := by
  subst hoff
  rw [View.readCov_eq_canon']
  funext x
  have h := Rect.idx_unit_val (s := S16x128) ![k, 0] S1x128.size inb x 0
  have hx : (x 0).val < 1 := (x 0).isLt
  replace h : ((Rect.unit (s := S16x128) ![k, 0] S1x128.size inb).idx x 0).val = k + (x 0).val := h
  refine (hL _).trans ((if_neg ?_).trans ?_)
  · exact (by omega : ¬ ((Rect.unit (s := S16x128) ![k, 0] S1x128.size inb).idx x 0).val < k)
  · idx_vars x
    pointwise
    exact congrArg f (congrArg (fun q => ix2 q x1) (Fin.ext (show k = k % 16 by omega)))

theorem load_line (m : Memref sig .tc .vmem S16x128 .f32) (hm : m.IsWhole) (X : Vec Ideal S16x128 .f32) (off : Fin S16x128.rank → ℕ)
    (inb : ∀ a, off a + S1x128.size a ≤ S16x128.size a) (h : ℕ) (hoff : off = ![h, 0]) (hh : h < 16) :
    View.readAt (Elt Ideal) m.view (Rect.unit (s := S16x128) off S1x128.size inb).toLoadRect (hm.unread X) = line h X := by
  subst hoff
  funext x
  idx_vars x
  rw [View.readAt_eq_ld, Memref.IsWhole.read_unread]
  pointwise
  exact congrArg X (congrArg (fun k => ix2 k x1) (Fin.ext (Nat.mod_eq_of_lt hh).symm))

end heads

end Cert.Attn

end
-- ==== Proof.Row.lean ====
module

public import Idealize.ShloMosaic.PureOps.Ideal.Laws
public import Mathlib.Data.EReal.Inv
public import Mathlib.Algebra.BigOperators.Field
public import Mathlib.Tactic.FieldSimp
public import Mathlib.Tactic.Ring

@[expose] public section

noncomputable section

/-! One row of a softmax with a sink, over the reals: the probabilities, and the gradient of the logits and of the sink. -/

namespace Cert.SinkRow

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x : ℝ) {y : ℝ} (h : y ≠ 0) : Ideal.div (x : EReal) (y : EReal) = ((x / y : ℝ) : EReal) := by
  rw [Ideal.div_coe h, ← EReal.coe_mul, mul_one_div]

variable (E : Fin 256 → ℝ) (s : ℝ) (D : Fin 256 → ℝ)

/-- the normaliser: the exponentials of the row and that of the sink -/
def Z : ℝ := (∑ k, E k) + s
/-- the probability of entry `k` -/
def prob (k : Fin 256) : ℝ := E k / Z E s
/-- the mean of the probabilities' gradient -/
def delta : ℝ := ∑ k, prob E s k * D k
/-- the gradient of logit `k` -/
def dlogit (k : Fin 256) : ℝ := prob E s k * (D k - delta E s D)
/-- the gradient of the sink that this row gives -/
def dsink : ℝ := -(s / Z E s * delta E s D)

variable {E s D}

theorem Z_pos (hE : ∀ k, 0 ≤ E k) (hs : 0 < s) : 0 < Z E s :=
  add_pos_of_nonneg_of_pos (Finset.sum_nonneg fun k _ => hE k) hs

/-- the gradient of the normaliser, as the chain rule of the quotient writes it -/
theorem dnorm_eq (hZ : Z E s ≠ 0) : -∑ k, D k * (1 / (Z E s * Z E s)) * E k = -(delta E s D / Z E s) := by
  unfold delta prob
  rw [Finset.sum_div]
  congr 1
  refine Finset.sum_congr rfl fun k _ => ?_
  field_simp

theorem dlogit_eq (hZ : Z E s ≠ 0) (k : Fin 256) :
    (D k / Z E s + -(delta E s D / Z E s)) * E k = dlogit E s D k := by
  unfold dlogit prob
  field_simp
  ring

theorem sum_dlogit (hZ : Z E s ≠ 0) : ∑ k, dlogit E s D k = s / Z E s * delta E s D := by
  have h1 : ∑ k, prob E s k = 1 - s / Z E s := by
    unfold prob
    rw [← Finset.sum_div, eq_sub_iff_add_eq, ← add_div]
    exact div_self hZ
  unfold dlogit
  simp only [mul_sub, Finset.sum_sub_distrib, ← Finset.sum_mul]
  rw [h1]
  unfold delta
  ring

/-- the gradient that reaches the row's maximum is zero -/
theorem dmax_eq_zero (hZ : Z E s ≠ 0) :
    -(-(delta E s D / Z E s) * s) + ∑ k, -dlogit E s D k = 0 := by
  rw [Finset.sum_neg_distrib, sum_dlogit hZ]
  ring

theorem dsink_eq : -(delta E s D / Z E s) * s = dsink E s D := by
  unfold dsink; ring

end Cert.SinkRow
-- ==== Proof.RowE.lean ====
module

public import proofs.«01_k».proof.Proof.Row
public import Mathlib.Data.Finset.Fold

@[expose] public section

noncomputable section

/-! The same row over the extended reals, where masked logits are `⊥`. -/

namespace Cert.SinkRow

open Idealize.ShloMosaic

variable (L : Fin 256 → EReal) (s : EReal) (D : Fin 256 → EReal)

/-- the largest logit -/
def best : EReal := Finset.fold max ⊥ L Finset.univ
/-- the largest of the logits and the sink -/
def top : EReal := max (best L) s
/-- the exponential of logit `k` below the largest -/
def ex (k : Fin 256) : EReal := Ideal.exp (L k - top L s)
/-- that of the sink -/
def sx : EReal := Ideal.exp (s - top L s)
/-- the sum of the exponentials -/
def nz : EReal := ∑ k, ex L s k + sx L s
/-- the probability of entry `k` -/
def pj (k : Fin 256) : EReal := ex L s k * Ideal.div 1 (nz L s)
/-- the mean of the probabilities' gradient -/
def mean : EReal := ∑ k, pj L s k * D k
/-- the gradient by logit `k` -/
def gl (k : Fin 256) : EReal := pj L s k * (D k - mean L s D)
/-- the gradient by the sink -/
def gs : EReal := 0 - sx L s * Ideal.div 1 (nz L s) * mean L s D
/-- the gradient by the normaliser, as the chain rule writes it -/
def gz : EReal := -∑ k, D k * Ideal.div 1 (nz L s * nz L s) * ex L s k

/-- what the arguments must be for the row to be one of real numbers -/
structure IsReal : Prop where
  logit : ∀ k, L k ≠ ⊤
  sink : ∃ r : ℝ, s = r
  grad : ∀ k, ∃ r : ℝ, D k = r

/-- the row's exponentials and gradients as real numbers -/
structure Vals (E : Fin 256 → ℝ) (σ : ℝ) (d : Fin 256 → ℝ) : Prop where
  nonneg : ∀ k, 0 ≤ E k
  pos : 0 < σ
  ex_eq : ∀ k, ex L s k = (E k : EReal)
  sx_eq : sx L s = (σ : EReal)
  grad_eq : ∀ k, D k = (d k : EReal)
  masked : ∀ k, L k = ⊥ → E k = 0

variable {L s D}

theorem IsReal.vals (h : IsReal L s D) : ∃ E σ d, Vals L s D E σ d := by
  obtain ⟨hL, ⟨r, hs⟩, hD⟩ := h
  choose d hd using hD
  have ht : top L s ≠ ⊤ := by
    refine ne_of_lt (max_lt ?_ (hs ▸ EReal.coe_lt_top r))
    exact (Finset.fold_max_lt _).2 ⟨bot_lt_top, fun x _ => lt_top_iff_ne_top.2 (hL x)⟩
  have hb : top L s ≠ ⊥ := by
    refine ne_of_gt (lt_of_lt_of_le ?_ (le_max_right _ _))
    exact hs ▸ EReal.bot_lt_coe r
  obtain ⟨t, ht⟩ : ∃ t : ℝ, top L s = t := ⟨(top L s).toReal, (EReal.coe_toReal ht hb).symm⟩
  have key : ∀ k, ∃ e : ℝ, 0 ≤ e ∧ ex L s k = e ∧ (L k = ⊥ → e = 0) := by
    intro k
    by_cases hk : L k = ⊥
    · refine ⟨0, le_rfl, ?_, fun _ => rfl⟩
      unfold ex
      rw [hk, ht, EReal.bot_sub, Ideal.exp_bot]; rfl
    · obtain ⟨l, hl⟩ : ∃ l : ℝ, L k = l := ⟨(L k).toReal, (EReal.coe_toReal (hL k) hk).symm⟩
      refine ⟨Real.exp (l - t), (Real.exp_pos _).le, ?_, fun h => absurd h hk⟩
      unfold ex
      rw [hl, ht, ← EReal.coe_sub, Ideal.exp_coe]
  choose E h0 h1 h2 using key
  refine ⟨E, Real.exp (r - t), d, h0, Real.exp_pos _, h1, ?_, hd, h2⟩
  unfold sx
  rw [ht, hs, ← EReal.coe_sub, Ideal.exp_coe]

namespace Vals

variable {E : Fin 256 → ℝ} {σ : ℝ} {d : Fin 256 → ℝ} (h : Vals L s D E σ d)
include h

theorem Z_ne : Z E σ ≠ 0 := (Z_pos h.nonneg h.pos).ne'

theorem nz_eq : nz L s = (Z E σ : EReal) := by
  unfold nz Z
  rw [EReal.coe_add, coe_sum, h.sx_eq]
  exact congrArg (· + (σ : EReal)) (Finset.sum_congr rfl fun k _ => h.ex_eq k)

theorem inv_eq : Ideal.div 1 (nz L s) = ((1 / Z E σ : ℝ) : EReal) := by
  rw [h.nz_eq]; exact div_real 1 h.Z_ne

theorem pj_eq (k : Fin 256) : pj L s k = (prob E σ k : EReal) := by
  unfold pj prob
  rw [h.inv_eq, h.ex_eq, ← EReal.coe_mul, mul_one_div]

theorem mean_eq : mean L s D = (delta E σ d : EReal) := by
  unfold mean delta
  rw [coe_sum]
  exact Finset.sum_congr rfl fun k _ => by rw [h.pj_eq, h.grad_eq, EReal.coe_mul]

theorem gl_eq (k : Fin 256) : gl L s D k = (dlogit E σ d k : EReal) := by
  unfold gl dlogit
  rw [h.pj_eq, h.mean_eq, h.grad_eq, ← EReal.coe_sub, ← EReal.coe_mul]

theorem gs_eq : gs L s D = (dsink E σ d : EReal) := by
  unfold gs dsink
  rw [h.inv_eq, h.mean_eq, h.sx_eq, ← EReal.coe_mul, ← EReal.coe_mul, ← EReal.coe_zero, ← EReal.coe_sub, mul_one_div, zero_sub]

theorem gz_eq : gz L s D = ((-(delta E σ d / Z E σ) : ℝ) : EReal) := by
  unfold gz
  have hz : Z E σ * Z E σ ≠ 0 := mul_ne_zero h.Z_ne h.Z_ne
  rw [← dnorm_eq h.Z_ne, EReal.coe_neg, coe_sum, h.nz_eq, ← EReal.coe_mul]
  refine congrArg (fun x : EReal => -x) (Finset.sum_congr rfl fun k _ => ?_)
  rw [h.ex_eq, h.grad_eq, show Ideal.div 1 ((Z E σ * Z E σ : ℝ) : EReal) = ((1 / (Z E σ * Z E σ) : ℝ) : EReal) from div_real 1 hz,
    ← EReal.coe_mul, ← EReal.coe_mul]

/-- the chain rule's gradient by a logit -/
theorem chain_eq (k : Fin 256) : (Ideal.div (D k) (nz L s) + gz L s D) * ex L s k = (dlogit E σ d k : EReal) := by
  rw [h.gz_eq, h.nz_eq, h.ex_eq, h.grad_eq, div_real _ h.Z_ne, ← EReal.coe_add, ← EReal.coe_mul, dlogit_eq h.Z_ne]

theorem chain_sink : gz L s D * sx L s = (dsink E σ d : EReal) := by
  rw [h.gz_eq, h.sx_eq, ← EReal.coe_mul, dsink_eq]

theorem chain_top : -(gz L s D * sx L s) + ∑ k, -((Ideal.div (D k) (nz L s) + gz L s D) * ex L s k) = 0 := by
  rw [h.gz_eq, h.sx_eq, ← EReal.coe_mul, ← EReal.coe_neg,
    Finset.sum_congr rfl fun k _ => show _ = ((-dlogit E σ d k : ℝ) : EReal) by
      rw [← h.gz_eq, h.chain_eq, EReal.coe_neg], ← coe_sum, ← EReal.coe_add, dmax_eq_zero h.Z_ne, EReal.coe_zero]

end Vals

variable (h : IsReal L s D)
include h

theorem chain_gl (k : Fin 256) : (Ideal.div (D k) (nz L s) + gz L s D) * ex L s k = gl L s D k := by
  obtain ⟨E, σ, d, v⟩ := h.vals
  rw [v.chain_eq, v.gl_eq]

theorem chain_gs : gz L s D * sx L s = gs L s D := by
  obtain ⟨E, σ, d, v⟩ := h.vals
  rw [v.chain_sink, v.gs_eq]

theorem chain_zero : -(gz L s D * sx L s) + ∑ k, -((Ideal.div (D k) (nz L s) + gz L s D) * ex L s k) = 0 := by
  obtain ⟨E, σ, d, v⟩ := h.vals
  exact v.chain_top

theorem div_pj (k : Fin 256) : Ideal.div (ex L s k) (nz L s) = pj L s k := by
  obtain ⟨E, σ, d, v⟩ := h.vals
  rw [v.pj_eq, v.ex_eq, v.nz_eq, div_real _ v.Z_ne]; rfl

theorem gl_masked {k : Fin 256} (hk : L k = ⊥) : gl L s D k = 0 := by
  obtain ⟨E, σ, d, v⟩ := h.vals
  rw [v.gl_eq]
  unfold dlogit prob
  rw [v.masked k hk]; simp

theorem pj_masked {k : Fin 256} (hk : L k = ⊥) : pj L s k = 0 := by
  obtain ⟨E, σ, d, v⟩ := h.vals
  rw [v.pj_eq]
  unfold prob
  rw [v.masked k hk]; simp

/-- the gradients at masked entries do not matter -/
theorem mean_congr {D' : Fin 256 → EReal} (e : ∀ k, L k ≠ ⊥ → D' k = D k) : mean L s D' = mean L s D := by
  unfold mean
  refine Finset.sum_congr rfl fun k _ => ?_
  by_cases hk : L k = ⊥
  · rw [pj_masked h hk, zero_mul, zero_mul]
  · rw [e k hk]

theorem gl_congr {D' : Fin 256 → EReal} (e : ∀ k, L k ≠ ⊥ → D' k = D k) (k : Fin 256) : gl L s D' k = gl L s D k := by
  unfold gl
  rw [mean_congr h e]
  by_cases hk : L k = ⊥
  · rw [pj_masked h hk, zero_mul, zero_mul]
  · rw [e k hk]

theorem gs_congr {D' : Fin 256 → EReal} (e : ∀ k, L k ≠ ⊥ → D' k = D k) : gs L s D' = gs L s D := by
  unfold gs
  rw [mean_congr h e]

theorem gs_real : ∃ r : ℝ, gs L s D = r := by
  obtain ⟨E, σ, d, v⟩ := h.vals
  exact ⟨_, v.gs_eq⟩

theorem term_eq : sx L s * Ideal.div 1 (nz L s) * mean L s D = -gs L s D := by
  obtain ⟨E, σ, d, v⟩ := h.vals
  rw [v.gs_eq, v.inv_eq, v.sx_eq, v.mean_eq, ← EReal.coe_mul, ← EReal.coe_mul, ← EReal.coe_neg, mul_one_div]
  unfold dsink
  rw [neg_neg]

omit h

theorem exists_best (L : Fin 256 → EReal) : ∃ k, L k = best L := by
  have h := Finset.le_fold_max (f := L) (s := Finset.univ) (b := (⊥ : EReal)) (best L)
  rcases h.1 le_rfl with hb | ⟨x, _, hx⟩
  · refine ⟨0, le_antisymm ?_ (le_trans hb bot_le)⟩
    exact ((Finset.fold_max_le (f := L) (s := Finset.univ) (b := (⊥ : EReal)) (best L)).1 le_rfl).2 0 (Finset.mem_univ _)
  · exact ⟨x, le_antisymm (((Finset.fold_max_le (f := L) (s := Finset.univ) (b := (⊥ : EReal)) (best L)).1 le_rfl).2 x (Finset.mem_univ _)) hx⟩

/-- some logit is the largest -/
theorem count_ne (f : Fin 256 → EReal) (h1 : ∀ k, L k = best L → f k = 1) (h0 : ∀ k, L k ≠ best L → f k = 0) : ∑ k, f k ≠ 0 := by
  obtain ⟨k, hk⟩ := exists_best L
  have hf : ∀ j, 0 ≤ f j := fun j => by
    by_cases hj : L j = best L
    · rw [h1 j hj]; exact zero_le_one
    · rw [h0 j hj]
  refine ne_of_gt (lt_of_lt_of_le zero_lt_one ?_)
  rw [← h1 k hk]
  exact Finset.single_le_sum (fun j _ => hf j) (Finset.mem_univ k)

theorem zero_share {c i : EReal} (hc : c ≠ 0) : Ideal.div 0 c * i = 0 := by
  unfold Ideal.div
  rw [if_neg hc, zero_mul, zero_mul]

end Cert.SinkRow

end
-- ==== Proof.Heads.lean ====
module

public import proofs.«01_k».proof.Proof.Acc
public import proofs.«01_k».proof.Proof.RowE

@[expose] public section

set_option maxRecDepth 16384

noncomputable section

/-! The rows of one head, as functions of the argument arrays; and the buffers of a grid point read as such rows. -/

namespace Cert.Attn

open Cert.KernelIdeal Cert.KernelIdeal.Gen Cert.Stores Idealize.ShloMosaic Idealize.ShloMosaic.TcCoe Idealize.SL.Sem
open Cert.SinkRow (best top ex sx nz pj mean gl gs)

section arrays

variable (P : S4096x10752.Idx → EReal) (A : S32x128x256.Idx → EReal) (K : S32.Idx → EReal) (C : S4096x2048.Idx → EReal)

/-- lane `d` of query `a` of block `n`, head `hd` -/
def qv (n hd a d : ℕ) : EReal := P (ixm 4096 10752 (128 * n + a) (4096 + 64 * hd + d))
/-- lane `d` of entry `j` of the band of block `n`: the block before, then the block itself; key head `kh` of the columns from `o` -/
def kb (o n kh j d : ℕ) : EReal := P (ixm 4096 10752 (if j < 128 then 128 * (n - 1) + j else 128 * n + (j - 128)) (o + 64 * kh + d))
/-- the gradient that reaches lane `d` of query `a` -/
def cv (n hd a d : ℕ) : EReal := C (ixm 4096 2048 (128 * n + a) (64 * hd + d))
/-- entry `j` of the band is at most 127 before query `a`, not after it, and there -/
def ok (n a j : ℕ) : Prop := j ≤ a + 128 ∧ a < j ∧ (128 ≤ j ∨ 0 < n)

instance (n a j : ℕ) : Decidable (ok n a j) := by unfold ok; infer_instance

/-- the logits of a row -/
def lg (n hd a : ℕ) (j : Fin 256) : EReal :=
  if ok n a j.val then (∑ d : Fin 64, qv P n hd a d.val * kb P 6144 n (hd / 8) j.val d.val) * Ideal.ofBits .f32 0x3E000000#32
    + A (ix3 (Fin.ofNat 32 hd) (Fin.ofNat 128 a) j) else ⊥
/-- the gradient by the probabilities of a row -/
def dp (n hd a : ℕ) (j : Fin 256) : EReal := ∑ d : Fin 64, cv C n hd a d.val * kb P 6400 n (hd / 8) j.val d.val
/-- the sink of a row -/
def sk (hd : ℕ) : EReal := K (ix1 (Fin.ofNat 32 hd))
/-- the gradient by the logits of a row -/
def dl (n hd a : ℕ) (j : Fin 256) : EReal := gl (lg P A n hd a) (sk K hd) (dp P C n hd a) j
/-- the probabilities of a row -/
def pr (n hd a : ℕ) (j : Fin 256) : EReal := pj (lg P A n hd a) (sk K hd) j
/-- the gradient by the sink that a row gives -/
def dz (n hd a : ℕ) : EReal := gs (lg P A n hd a) (sk K hd) (dp P C n hd a)
/-- the scale of the logits -/
def eighth : EReal := Ideal.ofBits .f32 0x3E000000#32

/-- what a grid point's blocks hold of the arrays -/
structure Reads (i : grid0.Coords) (n g : ℕ) (x0 : Vec Ideal S32 .f32) (x1 : Vec Ideal S128x1024 .bf16) (x2 x3 x4 x5 : Vec Ideal S128x128 .bf16)
    (x6 : Vec Ideal S16x128x256 .f32) (x7 : Vec Ideal S128x1024 .bf16) : Prop where
  hg : g < 2
  hn : n < 32
  i0 : (i 0).val = g
  i1 : (i 1).val = n
  r0 : x0 = K
  r1 : ∀ a c, a < 128 → c < 1024 → x1 (ixm 128 1024 a c) = P (ixm 4096 10752 (128 * n + a) (4096 + 1024 * g + c))
  r2 : ∀ a c, a < 128 → c < 128 → x2 (ixm 128 128 a c) = P (ixm 4096 10752 (128 * (n - 1) + a) (6144 + 128 * g + c))
  r3 : ∀ a c, a < 128 → c < 128 → x3 (ixm 128 128 a c) = P (ixm 4096 10752 (128 * n + a) (6144 + 128 * g + c))
  r4 : ∀ a c, a < 128 → c < 128 → x4 (ixm 128 128 a c) = P (ixm 4096 10752 (128 * (n - 1) + a) (6400 + 128 * g + c))
  r5 : ∀ a c, a < 128 → c < 128 → x5 (ixm 128 128 a c) = P (ixm 4096 10752 (128 * n + a) (6400 + 128 * g + c))
  r6 : ∀ h a j, h < 16 → x6 (ix3 (Fin.ofNat 16 h) a j) = A (ix3 (Fin.ofNat 32 (16 * g + h)) a j)
  r7 : ∀ a c, a < 128 → c < 1024 → x7 (ixm 128 1024 a c) = C (ixm 4096 2048 (128 * n + a) (1024 * g + c))

end arrays

/-- a stacked row against a doubled key: the 64 lanes of its half -/
theorem row_sum (X : S128x1024.Idx → EReal) (a b : S128x128.Idx → EReal) (kv h : ℕ) (hh : h < 8) (r : Fin 128) (j : Fin 256) :
    rows h (scores (keys a b kv) (stack X kv)) (ix2 r j)
      = ∑ d : Fin 64, X (ixm 128 1024 r.val (512 * kv + 64 * h + d.val)) * (if j.val < 128 then a else b) (ixm 128 128 j.val (64 * kv + d.val)) := by
  have hr : r.val < 128 := r.isLt
  have e : rows h (scores (keys a b kv) (stack X kv)) (ix2 r j)
      = ∑ x : Fin 128, stack X kv (ix2 (⟨h * 128 + r.val, by omega⟩ : Fin 1024) x) * keys a b kv (ix2 j x) := by
    have e1 : (ixm 1024 256 (128 * h + r.val) j.val : S1024x256.Idx) = ix2 (⟨h * 128 + r.val, by omega⟩ : Fin 1024) j :=
      ixm_eq _ _ _ (show (128 * h + r.val) % 1024 = h * 128 + r.val by omega) (Nat.mod_eq_of_lt j.isLt)
    show scores (keys a b kv) (stack X kv) (ixm 1024 256 (128 * h + r.val) j.val) = _
    rw [e1]
    pointwise [scores, k0_pay32]
  rw [e, Fin.sum_univ_tiles 2 64 rfl]
  have key : ∀ (t : Fin 2) (d : Fin 64), stack X kv (ix2 (⟨h * 128 + r.val, by omega⟩ : Fin 1024) (⟨t.val * 64 + d.val, by omega⟩ : Fin 128))
        * keys a b kv (ix2 j (⟨t.val * 64 + d.val, by omega⟩ : Fin 128))
      = if t.val = h % 2 then X (ixm 128 1024 r.val (512 * kv + 64 * h + d.val)) * (if j.val < 128 then a else b) (ixm 128 128 j.val (64 * kv + d.val)) else 0 := by
    intro t d
    have ht : t.val < 2 := t.isLt
    have hd : d.val < 64 := d.isLt
    rw [stack_at X kv ⟨h, hh⟩ r _ _ rfl]
    simp only []
    by_cases hc : t.val = h % 2
    · rw [if_pos (by omega), if_pos hc, show (t.val * 64 + d.val) % 64 = d.val by omega]
      refine congrArg (X (ixm 128 1024 r.val (512 * kv + 64 * h + d.val)) * ·) ?_
      show (if j.val < 128 then a else b) (ixm 128 128 j.val (64 * kv + (t.val * 64 + d.val) % 64)) = _
      rw [show (t.val * 64 + d.val) % 64 = d.val by omega]
    · rw [if_neg (by omega), if_neg hc, zero_mul]
  rw [Finset.sum_congr rfl fun t _ => Finset.sum_congr rfl fun d _ => key t d]
  rcases Nat.mod_two_eq_zero_or_one h with h2 | h2 <;> simp [Fin.sum_univ_two, h2]

/-- a difference of small words, as an integer -/
theorem toInt_sub_ofNat {a b : ℕ} (ha : a < 1073741824) (hb : b < 1073741824) :
    (IntOp.subi (BitVec.ofNat 32 a) (BitVec.ofNat 32 b)).toInt = (a : ℤ) - b := by
  show (BitVec.ofNat 32 a - BitVec.ofNat 32 b).toInt = _
  rw [BitVec.toInt_sub, WordCmp.toInt_ofNat_of_lt (w := 32) (by omega), WordCmp.toInt_ofNat_of_lt (w := 32) (by omega)]
  rw [Int.bmod_def]
  omega

theorem ok_word (i : grid0.Coords) (r : Fin 128) (j : Fin 256) : k0_pay5 i (ix2 r j) = BitVec.ofBool (decide (ok (i 1).val r.val j.val)) := by
  have hn : (i 1).val < 32 := (i 1).isLt
  have hr : r.val < 128 := r.isLt
  have hj : j.val < 256 := j.isLt
  pointwise [k0_pay5]
  rw [show (128#32 : BitVec 32) = BitVec.ofNat 32 128 from rfl, show (0#32 : BitVec 32) = BitVec.ofNat 32 0 from rfl,
    WordCmp.addi_ofNat, WordCmp.cmpi_sge_eq, WordCmp.cmpi_slt_eq, toInt_sub_ofNat (by omega) (by omega), WordCmp.scalar_cmpi_eq,
    WordCmp.cmpi_sge_ofNat (w := 32) (by omega) (by omega), WordCmp.cmpi_sgt_ofNat (w := 32) (by omega) (by omega),
    WordCmp.toInt_ofNat_of_lt (w := 32) (by omega), WordCmp.toInt_ofNat_of_lt (w := 32) (by omega),
    WordCmp.andi_ofBool, WordCmp.ori_ofBool, WordCmp.andi_ofBool, ← Bool.decide_and, ← Bool.decide_or, ← Bool.decide_and]
  refine congrArg BitVec.ofBool (decide_eq_decide.2 ?_)
  unfold ok
  omega

theorem neg_inf : Ideal.ofBits .f32 4286578688#32 = ⊥ := by
  simp [Ideal.ofBits, Ideal.ieee]

section rows

variable {P : S4096x10752.Idx → EReal} {A : S32x128x256.Idx → EReal} {K : S32.Idx → EReal} {C : S4096x2048.Idx → EReal}
  {i : grid0.Coords} {n g : ℕ} {x0 : Vec Ideal S32 .f32} {x1 : Vec Ideal S128x1024 .bf16} {x2 x3 x4 x5 : Vec Ideal S128x128 .bf16}
  {x6 : Vec Ideal S16x128x256 .f32} {x7 : Vec Ideal S128x1024 .bf16}
  (R : Reads P A K C i n g x0 x1 x2 x3 x4 x5 x6 x7) (kv h : ℕ) (hkv : kv < 2) (hh : h < 8)
include R hkv

theorem Reads.band {b c : S128x128.Idx → EReal} (o : ℕ)
    (hb : ∀ a l, a < 128 → l < 128 → b (ixm 128 128 a l) = P (ixm 4096 10752 (128 * (n - 1) + a) (o + 128 * g + l)))
    (hc : ∀ a l, a < 128 → l < 128 → c (ixm 128 128 a l) = P (ixm 4096 10752 (128 * n + a) (o + 128 * g + l))) (j d : ℕ) (hj : j < 256) (hd : d < 64) :
    (if j < 128 then b else c) (ixm 128 128 j (64 * kv + d)) = kb P o n (2 * g + kv) j d := by
  unfold kb
  by_cases h : j < 128
  · rw [if_pos h, if_pos h, hb j _ h (by omega)]
    exact congrArg (fun k => P (ixm 4096 10752 (128 * (n - 1) + j) k)) (by omega)
  · rw [if_neg h, if_neg h, show o + 64 * (2 * g + kv) + d = o + 128 * g + (64 * kv + d) by omega, ← hc (j - 128) _ (by omega) (by omega)]
    exact congrArg c (congrArg₂ ix2 (Fin.ext (show j % 128 = (j - 128) % 128 by omega)) rfl)

theorem Reads.query (a d : ℕ) (ha : a < 128) (hd : d < 64) (hh : h < 8) :
    x1 (ixm 128 1024 a (512 * kv + 64 * h + d)) = qv P n (16 * g + 8 * kv + h) a d := by
  rw [R.r1 a _ ha (by omega)]
  exact congrArg (fun k => P (ixm 4096 10752 (128 * n + a) k)) (by omega)

theorem Reads.grad (a d : ℕ) (ha : a < 128) (hd : d < 64) (hh : h < 8) :
    x7 (ixm 128 1024 a (512 * kv + 64 * h + d)) = cv C n (16 * g + 8 * kv + h) a d := by
  rw [R.r7 a _ ha (by omega)]
  exact congrArg (fun k => C (ixm 4096 2048 (128 * n + a) k)) (by omega)

include hh

theorem Reads.hS_at (r : Fin 128) (j : Fin 256) : hS x1 x2 x3 kv h (ix2 r j)
    = ∑ d : Fin 64, qv P n (16 * g + 8 * kv + h) r.val d.val * kb P 6144 n ((16 * g + 8 * kv + h) / 8) j.val d.val := by
  unfold hS
  rw [row_sum x1 x2 x3 kv h hh r j, show (16 * g + 8 * kv + h) / 8 = 2 * g + kv by omega]
  exact Finset.sum_congr rfl fun d _ => congrArg₂ (· * ·) (R.query kv h hkv r.val d.val r.isLt d.isLt hh)
    (R.band kv hkv 6144 R.r2 R.r3 j.val d.val j.isLt d.isLt)

theorem Reads.hD_at (r : Fin 128) (j : Fin 256) : hD x4 x5 x7 kv h (ix2 r j) = dp P C n (16 * g + 8 * kv + h) r.val j := by
  unfold hD dp
  rw [row_sum x7 x4 x5 kv h hh r j, show (16 * g + 8 * kv + h) / 8 = 2 * g + kv by omega]
  exact Finset.sum_congr rfl fun d _ => congrArg₂ (· * ·) (R.grad kv h hkv r.val d.val r.isLt d.isLt hh)
    (R.band kv hkv 6400 R.r4 R.r5 j.val d.val j.isLt d.isLt)

theorem Reads.logit_at (r : Fin 128) (j : Fin 256) :
    k0_pay34 (k0_pay5 i) (hS x1 x2 x3 kv h) (plane (8 * kv + h) x6) (ix2 r j) = lg P A n (16 * g + 8 * kv + h) r.val j := by
  pointwise [k0_pay34]
  rw [ok_word, WordCmp.select_decide, R.hS_at kv h hkv hh r j, R.i1]
  unfold lg
  refine if_congr Iff.rfl (congrArg₂ (· + ·) rfl ?_) ?_
  · refine (R.r6 (8 * kv + h) r j (by omega)).trans ?_
    exact congrArg A (congrArg₂ (fun u v => ix3 u v j) (by rw [Nat.add_assoc]) (Fin.ext (Nat.mod_eq_of_lt r.isLt).symm))
  · rfl

theorem Reads.top_at (r : Fin 128) (u : Fin 1) :
    k0_pay35 (k0_pay5 i) (hS x1 x2 x3 kv h) (plane (8 * kv + h) x6) (sink i (8 * kv + h) x0) (ix2 r u)
      = top (lg P A n (16 * g + 8 * kv + h) r.val) (sk K (16 * g + 8 * kv + h)) := by
  pointwise [k0_pay35]
  unfold top best
  refine congrArg₂ max ?_ ?_
  · rw [neg_inf]
    exact congrArg (fun f => Finset.fold max ⊥ f Finset.univ) (funext fun j => R.logit_at kv h hkv hh r j)
  · unfold sink sk
    rw [R.r0, R.i0, Nat.add_assoc]

theorem Reads.hE_at (r : Fin 128) (j : Fin 256) : hE i x0 x1 x2 x3 x6 kv h (ix2 r j)
    = ex (lg P A n (16 * g + 8 * kv + h) r.val) (sk K (16 * g + 8 * kv + h)) j := by
  unfold hE
  pointwise [k0_pay36]
  rw [R.logit_at kv h hkv hh, R.top_at kv h hkv hh]
  rfl

theorem Reads.hs_at (r : Fin 128) (u : Fin 1) : hs i x0 x1 x2 x3 x6 kv h (ix2 r u)
    = sx (lg P A n (16 * g + 8 * kv + h) r.val) (sk K (16 * g + 8 * kv + h)) := by
  have e : sink i (8 * kv + h) x0 = sk K (16 * g + 8 * kv + h) := by
    unfold sink sk
    rw [R.r0, R.i0, Nat.add_assoc]
  unfold hs
  pointwise [k0_pay37]
  rw [R.top_at kv h hkv hh, e]
  rfl

theorem Reads.hI_at (r : Fin 128) (u : Fin 1) : hI i x0 x1 x2 x3 x6 kv h (ix2 r u)
    = Ideal.div 1 (nz (lg P A n (16 * g + 8 * kv + h) r.val) (sk K (16 * g + 8 * kv + h))) := by
  unfold hI
  pointwise [k0_pay38]
  refine congrArg (Ideal.div 1) (congrArg₂ (· + ·) (Finset.sum_congr rfl fun j _ => R.hE_at kv h hkv hh r j) (R.hs_at kv h hkv hh r u))

theorem Reads.hR_at (r : Fin 128) (j : Fin 256) : hR i x0 x1 x2 x3 x6 kv h (ix2 r j)
    = Ideal.div 1 (nz (lg P A n (16 * g + 8 * kv + h) r.val) (sk K (16 * g + 8 * kv + h))) := by
  unfold hR
  pointwise [k0_pay39]
  exact R.hI_at kv h hkv hh r _

theorem Reads.prob_at (r : Fin 128) (j : Fin 256) :
    k0_pay40 (hE i x0 x1 x2 x3 x6 kv h) (hR i x0 x1 x2 x3 x6 kv h) (ix2 r j) = pr P A K n (16 * g + 8 * kv + h) r.val j := by
  pointwise [k0_pay40]
  rw [R.hE_at kv h hkv hh, R.hR_at kv h hkv hh]
  rfl

theorem Reads.mean_at (r : Fin 128) (u : Fin 1) :
    k0_pay41 (hE i x0 x1 x2 x3 x6 kv h) (hR i x0 x1 x2 x3 x6 kv h) (hD x4 x5 x7 kv h) (ix2 r u)
      = mean (lg P A n (16 * g + 8 * kv + h) r.val) (sk K (16 * g + 8 * kv + h)) (dp P C n (16 * g + 8 * kv + h) r.val) := by
  pointwise [k0_pay41]
  exact Finset.sum_congr rfl fun j _ => congrArg₂ (· * ·) (R.prob_at kv h hkv hh r j) (R.hD_at kv h hkv hh r j)

theorem Reads.hG_at (r : Fin 128) (j : Fin 256) : hG i x0 x1 x2 x3 x4 x5 x6 x7 kv h (ix2 r j) = dl P A K C n (16 * g + 8 * kv + h) r.val j := by
  unfold hG
  pointwise [k0_pay42]
  rw [R.prob_at kv h hkv hh, R.mean_at kv h hkv hh, R.hD_at kv h hkv hh]
  rfl

theorem Reads.hT_at (hr : ∀ r : Fin 128, SinkRow.IsReal (lg P A n (16 * g + 8 * kv + h) r.val) (sk K (16 * g + 8 * kv + h)) (dp P C n (16 * g + 8 * kv + h) r.val)) :
    hT i x0 x1 x2 x3 x4 x5 x6 x7 kv h = ∑ r : Fin 128, dz P A K C n (16 * g + 8 * kv + h) r.val := by
  unfold hT
  have e : ∀ r : Fin 128, hs i x0 x1 x2 x3 x6 kv h (ix2 r 0) * hI i x0 x1 x2 x3 x6 kv h (ix2 r 0)
      * k0_pay41 (hE i x0 x1 x2 x3 x6 kv h) (hR i x0 x1 x2 x3 x6 kv h) (hD x4 x5 x7 kv h) (ix2 r 0) = -dz P A K C n (16 * g + 8 * kv + h) r.val := by
    intro r
    rw [R.hs_at kv h hkv hh, R.hI_at kv h hkv hh, R.mean_at kv h hkv hh]
    exact SinkRow.term_eq (hr r)
  rw [Finset.sum_congr rfl fun r _ => e r]
  choose z hz using fun r : Fin 128 => SinkRow.gs_real (hr r)
  have e2 : ∀ r : Fin 128, dz P A K C n (16 * g + 8 * kv + h) r.val = (z r : EReal) := hz
  rw [Finset.sum_congr rfl fun r _ => e2 r, Finset.sum_congr rfl fun r _ => show _ = ((-z r : ℝ) : EReal) by rw [e2 r, EReal.coe_neg],
    ← SinkRow.coe_sum, ← SinkRow.coe_sum, Finset.sum_neg_distrib, ← EReal.coe_zero, ← EReal.coe_sub, zero_sub, neg_neg]

theorem Reads.probs_row (r : Fin 128) (j : Fin 256) :
    probs i x0 x1 x2 x3 x6 kv (ixm 1024 256 (128 * h + r.val) j.val) = pr P A K n (16 * g + 8 * kv + h) r.val j := by
  have hr : r.val < 128 := r.isLt
  rw [← probs_at i x0 x1 x2 x3 x6 kv h rfl rfl rfl rfl (ix2 r j) _ (show (128 * h + r.val) % 1024 = 128 * h + r.val by omega) (Nat.mod_eq_of_lt j.isLt)]
  pointwise [k0_pay45]
  exact R.prob_at kv h hkv hh r j

theorem Reads.dlogs_row (r : Fin 128) (j : Fin 256) :
    dlogs i x0 x1 x2 x3 x4 x5 x6 x7 kv (ixm 1024 256 (128 * h + r.val) j.val) = dl P A K C n (16 * g + 8 * kv + h) r.val j * eighth := by
  have hr : r.val < 128 := r.isLt
  rw [← dlogs_at i x0 x1 x2 x3 x4 x5 x6 x7 kv h rfl rfl rfl rfl rfl (ix2 r j) _ (show (128 * h + r.val) % 1024 = 128 * h + r.val by omega) (Nat.mod_eq_of_lt j.isLt)]
  pointwise [k0_pay46]
  exact congrArg (· * eighth) (R.hG_at kv h hkv hh r j)

end rows

end Cert.Attn

end
-- ==== Proof.Ref.lean ====
module

public import proofs.«01_k».proof.Proof.Heads
public import proofs.«01_k».proof.Proof.Gen.ReferenceIdeal.Run

@[expose] public section

set_option maxRecDepth 16384

noncomputable section

/-! The reference's values, row by row. -/

namespace Cert.Attn

open Cert.ReferenceIdeal Cert.ReferenceIdeal.Gen Cert.ReferenceIdeal.Value Idealize.ShloMosaic Idealize.ShloMosaic.TcCoe Idealize.SL.Sem

variable (V : Valuation τ sig (Elt Ideal))

/-- the projections -/
abbrev aP : S4096x10752.Idx → EReal := V (Proc.devRef .tc main_arg0)
/-- the band's bias -/
abbrev aA : S32x128x256.Idx → EReal := V (Proc.devRef .tc main_arg1)
/-- the sinks -/
abbrev aK : S32.Idx → EReal := V (Proc.devRef .tc main_arg2)
/-- the gradient that arrives -/
abbrev aC : S4096x2048.Idx → EReal := V (Proc.devRef .tc main_arg3)

theorem ix2_ixm {M N : ℕ} [NeZero M] [NeZero N] (i : Fin M) (j : Fin N) (a b : ℕ) (hi : i.val = a) (hj : j.val = b) : ix2 i j = ixm M N a b :=
  (ixm_eq _ _ _ (by rw [← hi]; exact Nat.mod_eq_of_lt i.isLt) (by rw [← hj]; exact Nat.mod_eq_of_lt j.isLt)).symm

theorem v2_at (n : Fin 32) (a : Fin 128) (k : Fin 4) (h : Fin 8) (d : Fin 64) :
    res_main_v2 V (ix5 n a k h d) = qv (aP V) n.val (8 * k.val + h.val) a.val d.val := by
  unfold res_main_v2
  pointwise
  exact congrArg (aP V) (ix2_ixm _ _ _ _ (show n.val * 128 + a.val = _ by omega) (show 4096 + (k.val * 512 + h.val * 64 + d.val) = _ by omega))

/-- the band without the block before the first -/
def kb0 (P : S4096x10752.Idx → EReal) (o n kh j d : ℕ) : EReal := if j < 128 ∧ n = 0 then 0 else kb P o n kh j d

theorem kb0_zero (P : S4096x10752.Idx → EReal) (o n kh j d : ℕ) (h : j < 128) (hn : n = 0) : kb0 P o n kh j d = 0 := if_pos ⟨h, hn⟩

theorem kb0_prev (P : S4096x10752.Idx → EReal) (o n kh j d : ℕ) (h : j < 128) (hn : ¬n = 0) :
    kb0 P o n kh j d = P (ixm 4096 10752 (128 * (n - 1) + j) (o + 64 * kh + d)) :=
  (if_neg fun e => hn e.2).trans (congrArg (fun x => P (ixm 4096 10752 x (o + 64 * kh + d))) (if_pos h))

theorem kb0_same (P : S4096x10752.Idx → EReal) (o n kh j d : ℕ) (h : 128 ≤ j) :
    kb0 P o n kh j d = P (ixm 4096 10752 (128 * n + (j - 128)) (o + 64 * kh + d)) :=
  (if_neg fun e => absurd e.1 (by omega)).trans (congrArg (fun x => P (ixm 4096 10752 x (o + 64 * kh + d))) (if_neg (by omega)))

theorem v10_at (n : Fin 32) (j : Fin 256) (k : Fin 4) (d : Fin 64) :
    res_main_v10 V (ix4 n j k d) = kb0 (aP V) 6144 n.val k.val j.val d.val := by
  have hd : 6144 + (k.val * 64 + d.val) = 6144 + 64 * k.val + d.val := by omega
  unfold res_main_v10 res_main_v7
  pointwise
  rcases Nat.lt_or_ge j.val 128 with h1 | h1
  · refine (dif_pos h1).trans ?_
    by_cases h2 : n.val = 0
    · exact (dif_pos (show n.val * 128 + j.val < 128 by omega)).trans (kb0_zero (aP V) _ _ _ _ _ h1 h2).symm
    · have h3 : n.val * 128 + j.val - 128 = 128 * (n.val - 1) + j.val := by omega
      exact (dif_neg (show ¬n.val * 128 + j.val < 128 by omega)).trans ((congrArg (aP V) (ix2_ixm _ _ _ _ h3 hd)).trans (kb0_prev (aP V) _ _ _ _ _ h1 h2).symm)
  · have h3 : (1 + n.val) * 128 + (j.val - 128) - 128 = 128 * n.val + (j.val - 128) := by omega
    exact (dif_neg (show ¬j.val < 128 by omega)).trans ((dif_neg (show ¬(1 + n.val) * 128 + (j.val - 128) < 128 by omega)).trans
      ((congrArg (aP V) (ix2_ixm _ _ _ _ h3 hd)).trans (kb0_same (aP V) _ _ _ _ _ h1).symm))

theorem v18_at (n : Fin 32) (j : Fin 256) (k : Fin 4) (d : Fin 64) :
    res_main_v18 V (ix4 n j k d) = kb0 (aP V) 6400 n.val k.val j.val d.val := by
  have hd : 6400 + (k.val * 64 + d.val) = 6400 + 64 * k.val + d.val := by omega
  unfold res_main_v18 res_main_v15
  pointwise
  rcases Nat.lt_or_ge j.val 128 with h1 | h1
  · refine (dif_pos h1).trans ?_
    by_cases h2 : n.val = 0
    · exact (dif_pos (show n.val * 128 + j.val < 128 by omega)).trans (kb0_zero (aP V) _ _ _ _ _ h1 h2).symm
    · have h3 : n.val * 128 + j.val - 128 = 128 * (n.val - 1) + j.val := by omega
      exact (dif_neg (show ¬n.val * 128 + j.val < 128 by omega)).trans ((congrArg (aP V) (ix2_ixm _ _ _ _ h3 hd)).trans (kb0_prev (aP V) _ _ _ _ _ h1 h2).symm)
  · have h3 : (1 + n.val) * 128 + (j.val - 128) - 128 = 128 * n.val + (j.val - 128) := by omega
    exact (dif_neg (show ¬j.val < 128 by omega)).trans ((dif_neg (show ¬(1 + n.val) * 128 + (j.val - 128) < 128 by omega)).trans
      ((congrArg (aP V) (ix2_ixm _ _ _ _ h3 hd)).trans (kb0_same (aP V) _ _ _ _ _ h1).symm))

/-- a small word less another, plus a third, as an integer -/
theorem toInt_sub_add {x y z : ℕ} (hx : x < 1073741824) (hy : y < 1073741824) (hz : z < 1073741824) :
    (IntOp.addi (IntOp.subi (BitVec.ofNat 32 x) (BitVec.ofNat 32 y)) (BitVec.ofNat 32 z)).toInt = (x : ℤ) - y + z := by
  show (BitVec.ofNat 32 x - BitVec.ofNat 32 y + BitVec.ofNat 32 z).toInt = _
  rw [BitVec.toInt_add, BitVec.toInt_sub, WordCmp.toInt_ofNat_of_lt (w := 32) (by omega), WordCmp.toInt_ofNat_of_lt (w := 32) (by omega),
    WordCmp.toInt_ofNat_of_lt (w := 32) (by omega)]
  rw [Int.bmod_def, Int.bmod_def]
  omega

theorem mask_at (n : Fin 32) (k : Fin 4) (h : Fin 8) (a : Fin 128) (j : Fin 256) :
    res_main_v62_1 V (ix5 n k h a j) = BitVec.ofBool (decide (ok n.val a.val j.val)) := by
  have hn : n.val < 32 := n.isLt
  have ha : a.val < 128 := a.isLt
  have hj : j.val < 256 := j.isLt
  unfold res_main_v62_1 res_main_v27 res_main_v22
  pointwise
  rw [show (128#32 : BitVec 32) = BitVec.ofNat 32 128 from rfl, show (0#32 : BitVec 32) = BitVec.ofNat 32 0 from rfl,
    WordCmp.addi_ofNat, WordCmp.muli_ofNat, WordCmp.cmpi_sge_eq, WordCmp.cmpi_sge_eq, WordCmp.cmpi_slt_eq, toInt_sub_add (by omega) (by omega) (by omega),
    toInt_sub_ofNat (by omega) (by omega), WordCmp.toInt_ofNat_of_lt (w := 32) (by omega), WordCmp.toInt_ofNat_of_lt (w := 32) (by omega),
    WordCmp.andi_ofBool, WordCmp.andi_ofBool, ← Bool.decide_and, ← Bool.decide_and]
  refine congrArg BitVec.ofBool (decide_eq_decide.2 ?_)
  unfold ok
  omega

theorem lg_at (n : Fin 32) (k : Fin 4) (h : Fin 8) (a : Fin 128) (j : Fin 256) :
    res_main_v62_0 V (ix5 n k h a j) = lg (aP V) (aA V) n.val (8 * k.val + h.val) a.val j := by
  unfold res_main_v62_0
  pointwise
  rw [mask_at, WordCmp.select_ofBool]
  unfold lg
  by_cases hk : ok n.val a.val j.val
  · rw [if_pos hk, if_pos (by simpa using hk)]
    refine congrArg₂ (· + ·) (congrArg (· * _) (Finset.sum_congr rfl fun x _ => ?_)) (congrArg (aA V) ?_)
    · rw [v10_at, v2_at, mul_comm, kb0, if_neg (by unfold ok at hk; omega), show (8 * k.val + h.val) / 8 = k.val by omega]
    · exact congrArg₂ (fun x y => ix3 x y j) (Fin.ext (show k.val * 8 + h.val = (8 * k.val + h.val) % 32 by omega)) (Fin.ext (Nat.mod_eq_of_lt a.isLt).symm)
  · rw [if_neg hk, if_neg (by simpa using hk)]
    exact neg_inf

end Cert.Attn

end
-- ==== Proof.RefRow.lean ====
module

public import proofs.«01_k».proof.Proof.Ref

@[expose] public section

set_option maxRecDepth 16384

noncomputable section

/-! The reference's rows, up to the gradients by the logits. -/

namespace Cert.Attn

open Cert.ReferenceIdeal Cert.ReferenceIdeal.Gen Cert.ReferenceIdeal.Value Idealize.ShloMosaic Idealize.ShloMosaic.TcCoe Idealize.SL.Sem

variable (V : Valuation τ sig (Elt Ideal))

theorem uitofp_ofBool (b : Bool) : (FloatOps.uitofp (F := Ideal) .f32 (BitVec.ofBool b) : EReal) = if b then 1 else 0 := by
  cases b
  · exact congrArg (fun r : ℝ => (r : EReal)) Nat.cast_zero
  · exact congrArg (fun r : ℝ => (r : EReal)) Nat.cast_one

theorem rowmax (x : FVec Ideal S32x4x8x128x256 .f32) (n : Fin 32) (k : Fin 4) (h : Fin 8) (a : Fin 128) :
    Host.reduce FloatOps.maximumf x (constant S_ .f32 0xFF800000#32) reducesTo_S32x4x8x128x256_S32x4x8x128_d4 h_S_ (ix4 n k h a)
      = Finset.fold max (Ideal.ofBits .f32 0xFF800000#32) (fun j : Fin 256 => x (ix5 n k h a j)) Finset.univ := by
  simp only [pointwise]

theorem max_gen (x : FVec Ideal S32x4x8x128x1 .f32) (y : FVec Ideal S1x4x8x1x1 .f32) (n : Fin 32) (k : Fin 4) (h : Fin 8) (a : Fin 128) :
    maximumf x (broadcastInDim S32x4x8x128x1 ![0, 1, 2, 3, 4] bcast_S1x4x8x1x1_S32x4x8x128x1_0_1_2_3_4 y) (ix5 n k h a (0 : Fin 1))
      = max (x (ix5 n k h a (0 : Fin 1))) (y (ix5 (0 : Fin 1) k h (0 : Fin 1) (0 : Fin 1))) := by
  simp only [pointwise]
  rfl

theorem exp_gen (x : FVec Ideal S32x4x8x128x256 .f32) (y : FVec Ideal S32x4x8x128x1 .f32) (n : Fin 32) (k : Fin 4) (h : Fin 8) (a : Fin 128) (j : Fin 256) :
    Host.exp (subf x (broadcastInDim S32x4x8x128x256 ![0, 1, 2, 3, 4] bcast_S32x4x8x128x1_S32x4x8x128x256_0_1_2_3_4 y)) (ix5 n k h a j)
      = Ideal.exp (x (ix5 n k h a j) - y (ix5 n k h a (0 : Fin 1))) := by
  simp only [pointwise]
  rfl

theorem exp_gen' (x : FVec Ideal S1x4x8x1x1 .f32) (y : FVec Ideal S32x4x8x128x1 .f32) (n : Fin 32) (k : Fin 4) (h : Fin 8) (a : Fin 128) :
    Host.exp (subf (broadcastInDim S32x4x8x128x1 ![0, 1, 2, 3, 4] bcast_S1x4x8x1x1_S32x4x8x128x1_0_1_2_3_4 x) y) (ix5 n k h a (0 : Fin 1))
      = Ideal.exp (x (ix5 (0 : Fin 1) k h (0 : Fin 1) (0 : Fin 1)) - y (ix5 n k h a (0 : Fin 1))) := by
  simp only [pointwise]
  rfl

theorem sum_gen (x : FVec Ideal S32x4x8x128x256 .f32) (y : FVec Ideal S32x4x8x128x1 .f32) (n : Fin 32) (k : Fin 4) (h : Fin 8) (a : Fin 128) :
    addf (broadcastInDim S32x4x8x128x1 ![0, 1, 2, 3] bcast_S32x4x8x128_S32x4x8x128x1_0_1_2_3 (Host.reduceAdd x (constant S_ .f32 0x00000000#32) reducesTo_S32x4x8x128x256_S32x4x8x128_d4 h_S_)) y
      (ix5 n k h a (0 : Fin 1)) = ∑ j : Fin 256, x (ix5 n k h a j) + y (ix5 n k h a (0 : Fin 1)) := by
  pointwise

theorem grad_gen (x : FVec Ideal S4096x2048 .bf16) (n : Fin 32) (k : Fin 4) (h : Fin 8) (a : Fin 128) (d : Fin 64) :
    (transpose S32x4x64x8x128 [0, 2, 4, 3, 1] (shapeCast _ (extf .f32 x bitsLt_bf16_f32) shapeCasts_S4096x2048_S32x128x4x8x64) transposes_S32x128x4x8x64_S32x4x64x8x128_0_2_4_3_1) (ix5 n k d h a)
      = x (ix2 (⟨n.val * 128 + a.val, by omega⟩ : Fin 4096) (⟨k.val * 512 + h.val * 64 + d.val, by omega⟩ : Fin 2048)) := by
  pointwise

theorem dot_gen (x : FVec Ideal S32x4x64x8x128 .f32) (y : FVec Ideal S32x256x4x64 .f32) (n : Fin 32) (k : Fin 4) (h : Fin 8) (a : Fin 128) (j : Fin 256) :
    (Host.dotGeneral dot_S32x4x64x8x128_S32x256x4x64_S32x4x8x128x256_2_3_34_1_01_02 none x y) (ix5 n k h a j)
      = ∑ d : Fin 64, x (ix5 n k d h a) * y (ix4 n j k d) := by
  pointwise

theorem norm_gen (x z : FVec Ideal S32x4x8x128x256 .f32) (y : FVec Ideal S32x4x8x128x1 .f32) (n : Fin 32) (k : Fin 4) (h : Fin 8) (a : Fin 128) :
    (Host.negf (shapeCast _ (Host.reduceAdd (mulf (mulf x (broadcastInDim S32x4x8x128x256 ![0, 1, 2, 3, 4] bcast_S32x4x8x128x1_S32x4x8x128x256_0_1_2_3_4 (Host.divf (broadcastInDim S32x4x8x128x1 ![] bcast_S_S32x4x8x128x1 (constant S_ .f32 0x3F800000#32)) (mulf y y)))) z) (constant S_ .f32 0x00000000#32) reducesTo_S32x4x8x128x256_S32x4x8x128_d4 h_S_) shapeCasts_S32x4x8x128_S32x4x8x128x1)) (ix5 n k h a (0 : Fin 1))
      = -∑ j : Fin 256, x (ix5 n k h a j) * Ideal.div 1 (y (ix5 n k h a (0 : Fin 1)) * y (ix5 n k h a (0 : Fin 1))) * z (ix5 n k h a j) := by
  pointwise

theorem div_gen (x : FVec Ideal S32x4x8x128x256 .f32) (y : FVec Ideal S32x4x8x128x1 .f32) (n : Fin 32) (k : Fin 4) (h : Fin 8) (a : Fin 128) (j : Fin 256) :
    (Host.divf x (broadcastInDim S32x4x8x128x256 ![0, 1, 2, 3, 4] bcast_S32x4x8x128x1_S32x4x8x128x256_0_1_2_3_4 y)) (ix5 n k h a j)
      = Ideal.div (x (ix5 n k h a j)) (y (ix5 n k h a (0 : Fin 1))) := by
  pointwise

theorem eq_gen (x : FVec Ideal S32x4x8x128x256 .f32) (y : FVec Ideal S32x4x8x128 .f32) (n : Fin 32) (k : Fin 4) (h : Fin 8) (a : Fin 128) (j : Fin 256) :
    (uitofp (F := Ideal) .f32 (cmpf .oeq x (broadcastInDim S32x4x8x128x256 ![0, 1, 2, 3, 4] bcast_S32x4x8x128x1_S32x4x8x128x256_0_1_2_3_4 (shapeCast _ y shapeCasts_S32x4x8x128_S32x4x8x128x1)))) (ix5 n k h a j)
      = if x (ix5 n k h a j) = y (ix4 n k h a) then (1 : EReal) else 0 := by
  pointwise
  rw [uitofp_ofBool]
  simp only [decide_eq_true_eq]

theorem chain_gen (x z : FVec Ideal S32x4x8x128x256 .f32) (y w : FVec Ideal S32x4x8x128x1 .f32) (n : Fin 32) (k : Fin 4) (h : Fin 8) (a : Fin 128) (j : Fin 256) :
    (mulf (addf (Host.divf x (broadcastInDim S32x4x8x128x256 ![0, 1, 2, 3, 4] bcast_S32x4x8x128x1_S32x4x8x128x256_0_1_2_3_4 y)) (broadcastInDim S32x4x8x128x256 ![0, 1, 2, 3] bcast_S32x4x8x128_S32x4x8x128x256_0_1_2_3 (Host.reduceAdd w (constant S_ .f32 0x00000000#32) reducesTo_S32x4x8x128x1_S32x4x8x128_d4 h_S_))) z) (ix5 n k h a j)
      = (Ideal.div (x (ix5 n k h a j)) (y (ix5 n k h a (0 : Fin 1))) + w (ix5 n k h a (0 : Fin 1))) * z (ix5 n k h a j) := by
  pointwise
  rw [Fin.sum_univ_one]

theorem top_gen (x : FVec Ideal S32x4x8x128x256 .f32) (w : FVec Ideal S32x4x8x128x1 .f32) (n : Fin 32) (k : Fin 4) (h : Fin 8) (a : Fin 128) :
    (addf (Host.negf w) (shapeCast _ (Host.reduceAdd (Host.negf x) (constant S_ .f32 0x00000000#32) reducesTo_S32x4x8x128x256_S32x4x8x128_d4 h_S_) shapeCasts_S32x4x8x128_S32x4x8x128x1)) (ix5 n k h a (0 : Fin 1))
      = -w (ix5 n k h a (0 : Fin 1)) + ∑ j : Fin 256, -x (ix5 n k h a j) := by
  pointwise

theorem share_gen (q : IVec S32x4x8x128x256 1) (x e : FVec Ideal S32x4x8x128x256 .f32) (w y : FVec Ideal S32x4x8x128x1 .f32) (z : FVec Ideal S1x4x8x1x1 .f32) (n : Fin 32) (k : Fin 4) (h : Fin 8) (a : Fin 128) (j : Fin 256)
    (hw : w (ix5 n k h a (0 : Fin 1)) = (0 : EReal)) :
    (select q (addf x (mulf (broadcastInDim S32x4x8x128x256 ![0, 1, 2, 3] bcast_S32x4x8x128_S32x4x8x128x256_0_1_2_3 (Host.divf (Host.reduceAdd (mulf w (select (cmpf .ogt y (broadcastInDim S32x4x8x128x1 ![0, 1, 2, 3, 4] bcast_S1x4x8x1x1_S32x4x8x128x1_0_1_2_3_4 z)) (broadcastInDim S32x4x8x128x1 ![] bcast_S_S32x4x8x128x1 (constant S_ .f32 0x3F800000#32)) (select (cmpf .oeq y (broadcastInDim S32x4x8x128x1 ![0, 1, 2, 3, 4] bcast_S1x4x8x1x1_S32x4x8x128x1_0_1_2_3_4 z)) (broadcastInDim S32x4x8x128x1 ![] bcast_S_S32x4x8x128x1 (constant S_ .f32 0x3F000000#32)) (broadcastInDim S32x4x8x128x1 ![] bcast_S_S32x4x8x128x1 (constant S_ .f32 0x00000000#32))))) (constant S_ .f32 0x00000000#32) reducesTo_S32x4x8x128x1_S32x4x8x128_d4 h_S_) (Host.reduceAdd e (constant S_ .f32 0x00000000#32) reducesTo_S32x4x8x128x256_S32x4x8x128_d4 h_S_))) e)) (broadcastInDim S32x4x8x128x256 ![] bcast_S_S32x4x8x128x256 (constant S_ .f32 0x00000000#32))) (ix5 n k h a j)
      = Scalar.select (q (ix5 n k h a j)) (x (ix5 n k h a j) + Ideal.div 0 (∑ i : Fin 256, e (ix5 n k h a i)) * e (ix5 n k h a j)) 0 := by
  pointwise
  rw [Fin.sum_univ_one, hw, zero_mul]

theorem scale_gen (x : FVec Ideal S32x4x8x128x256 .f32) (n : Fin 32) (k : Fin 4) (h : Fin 8) (a : Fin 128) (j : Fin 256) :
    (transpose S32x4x256x128x8 [0, 1, 4, 3, 2] (mulf x (broadcastInDim S32x4x8x128x256 ![] bcast_S_S32x4x8x128x256 (constant S_ .f32 0x3E000000#32))) transposes_S32x4x8x128x256_S32x4x256x128x8_0_1_4_3_2) (ix5 n k j a h)
      = x (ix5 n k h a j) * eighth := by
  pointwise
  rfl

/-- the gradient by the probabilities of a row, without the block before the first -/
def dp0 (P : S4096x10752.Idx → EReal) (C : S4096x2048.Idx → EReal) (n hd a : ℕ) (j : Fin 256) : EReal :=
  ∑ d : Fin 64, cv C n hd a d.val * kb0 P 6400 n (hd / 8) j.val d.val

section row

variable (n : Fin 32) (k : Fin 4) (h : Fin 8) (a : Fin 128)

/-- the logits, sink and gradient of the row -/
abbrev rL : Fin 256 → EReal := lg (aP V) (aA V) n.val (8 * k.val + h.val) a.val
abbrev rS : EReal := sk (aK V) (8 * k.val + h.val)
abbrev rD : Fin 256 → EReal := dp0 (aP V) (aC V) n.val (8 * k.val + h.val) a.val

attribute [local irreducible] res_main_v2 res_main_v10 res_main_v18 res_main_v62_0 res_main_v62_1 res_main_v64 res_main_v65 res_main_v69 res_main_v71 res_main_v73 res_main_v94 res_main_v99 res_main_v100 res_main_v102 res_main_v108 res_main_v109 res_main_v117 res_main_v120 res_main_v127 res_main_v131 res_main_v144 res_main_v150

theorem v64_at : res_main_v64 V (ix5 (0 : Fin 1) k h (0 : Fin 1) (0 : Fin 1)) = sk (aK V) (8 * k.val + h.val) := by
  unfold res_main_v64
  pointwise
  exact congrArg (fun i => aK V (ix1 i)) (Fin.ext (show k.val * 8 + h.val = (8 * k.val + h.val) % 32 by omega))

theorem v65_at : res_main_v65 V (ix4 n k h a) = SinkRow.best (rL V n k h a) := by
  unfold res_main_v65
  refine (rowmax _ n k h a).trans ?_
  rw [neg_inf]
  exact congrArg (fun f => Finset.fold max ⊥ f Finset.univ) (funext fun j => lg_at V n k h a j)

theorem v71_at : res_main_v71 V (ix5 n k h a (0 : Fin 1)) = SinkRow.best (rL V n k h a) := by
  unfold res_main_v71
  pointwise
  exact v65_at V n k h a

theorem v73_at : res_main_v73 V (ix5 n k h a (0 : Fin 1)) = SinkRow.top (rL V n k h a) (rS V k h) := by
  unfold res_main_v73
  exact (max_gen _ _ n k h a).trans (congrArg₂ max (v71_at V n k h a) (v64_at V k h))

theorem v94_at (j : Fin 256) : res_main_v94 V (ix5 n k h a j) = SinkRow.ex (rL V n k h a) (rS V k h) j := by
  unfold res_main_v94
  exact (exp_gen _ _ n k h a j).trans (congrArg₂ (fun x y : EReal => Ideal.exp (x - y)) (lg_at V n k h a j) (v73_at V n k h a))

theorem v99_at : res_main_v99 V (ix5 n k h a (0 : Fin 1)) = SinkRow.sx (rL V n k h a) (rS V k h) := by
  unfold res_main_v99
  exact (exp_gen' _ _ n k h a).trans (congrArg₂ (fun x y : EReal => Ideal.exp (x - y)) (v64_at V k h) (v73_at V n k h a))

theorem v100_at : res_main_v100 V (ix5 n k h a (0 : Fin 1)) = SinkRow.nz (rL V n k h a) (rS V k h) := by
  unfold res_main_v100
  exact (sum_gen _ _ n k h a).trans (congrArg₂ (fun x y : EReal => x + y) (Finset.sum_congr rfl fun j _ => v94_at V n k h a j) (v99_at V n k h a))

theorem v108_at (d : Fin 64) : res_main_v108 V (ix5 n k d h a) = cv (aC V) n.val (8 * k.val + h.val) a.val d.val := by
  unfold res_main_v108
  exact (grad_gen _ n k h a d).trans (congrArg (aC V) (ix2_ixm _ _ _ _ (show n.val * 128 + a.val = _ by omega) (show k.val * 512 + h.val * 64 + d.val = _ by omega)))

theorem v109_at (j : Fin 256) : res_main_v109 V (ix5 n k h a j) = rD V n k h a j := by
  unfold res_main_v109
  refine (dot_gen _ _ n k h a j).trans (Finset.sum_congr rfl fun d _ => congrArg₂ (fun x y : EReal => x * y) (v108_at V n k h a d) ((v18_at V n j k d).trans ?_))
  rw [show (8 * k.val + h.val) / 8 = k.val by omega]

theorem v117_at : res_main_v117 V (ix5 n k h a (0 : Fin 1)) = SinkRow.gz (rL V n k h a) (rS V k h) (rD V n k h a) := by
  unfold res_main_v117
  refine (norm_gen _ _ _ n k h a).trans (congrArg (fun x : EReal => -x) (Finset.sum_congr rfl fun j _ => ?_))
  exact congrArg₂ (fun x y : EReal => x * y) (congrArg₂ (fun x y : EReal => x * Ideal.div 1 (y * y)) (v109_at V n k h a j) (v100_at V n k h a)) (v94_at V n k h a j)

theorem v69_at (j : Fin 256) : res_main_v69 V (ix5 n k h a j) = if rL V n k h a j = SinkRow.best (rL V n k h a) then (1 : EReal) else 0 := by
  unfold res_main_v69
  exact (eq_gen _ _ n k h a j).trans (congrArg₂ (fun x y : EReal => if x = y then (1 : EReal) else 0) (lg_at V n k h a j) (v65_at V n k h a))

theorem v127_raw (j : Fin 256) : res_main_v127 V (ix5 n k h a j)
    = (Ideal.div (rD V n k h a j) (SinkRow.nz (rL V n k h a) (rS V k h)) + SinkRow.gz (rL V n k h a) (rS V k h) (rD V n k h a)) * SinkRow.ex (rL V n k h a) (rS V k h) j := by
  unfold res_main_v127
  exact (chain_gen _ _ _ _ n k h a j).trans (congrArg₂ (fun x y : EReal => x * y)
    (congrArg₂ (fun x y : EReal => x + y) (congrArg₂ Ideal.div (v109_at V n k h a j) (v100_at V n k h a)) (v117_at V n k h a)) (v94_at V n k h a j))

theorem v120_raw : res_main_v120 V (ix5 n k h a (0 : Fin 1)) = SinkRow.gz (rL V n k h a) (rS V k h) (rD V n k h a) * SinkRow.sx (rL V n k h a) (rS V k h) := by
  unfold res_main_v120
  exact congrArg₂ (fun x y : EReal => x * y) (v117_at V n k h a) (v99_at V n k h a)

variable (hr : SinkRow.IsReal (rL V n k h a) (rS V k h) (rD V n k h a))
include hr

theorem v102_at (j : Fin 256) : res_main_v102 V (ix5 n k h a j) = SinkRow.pj (rL V n k h a) (rS V k h) j := by
  unfold res_main_v102
  exact (div_gen _ _ n k h a j).trans ((congrArg₂ Ideal.div (v94_at V n k h a j) (v100_at V n k h a)).trans (SinkRow.div_pj hr j))

theorem v127_at (j : Fin 256) : res_main_v127 V (ix5 n k h a j) = SinkRow.gl (rL V n k h a) (rS V k h) (rD V n k h a) j :=
  (v127_raw V n k h a j).trans (SinkRow.chain_gl hr j)

theorem v120_at : res_main_v120 V (ix5 n k h a (0 : Fin 1)) = SinkRow.gs (rL V n k h a) (rS V k h) (rD V n k h a) :=
  (v120_raw V n k h a).trans (SinkRow.chain_gs hr)

theorem v131_at : res_main_v131 V (ix5 n k h a (0 : Fin 1)) = (0 : EReal) := by
  unfold res_main_v131
  refine (top_gen _ _ n k h a).trans (Eq.trans ?_ (SinkRow.chain_zero hr))
  exact congrArg₂ (fun x y : EReal => -x + y) (v120_raw V n k h a) (Finset.sum_congr rfl fun j _ => congrArg (fun x : EReal => -x) (v127_raw V n k h a j))

theorem v144_at (j : Fin 256) : res_main_v144 V (ix5 n k h a j) = SinkRow.gl (rL V n k h a) (rS V k h) (rD V n k h a) j := by
  have hc : Finset.sum (M := EReal) Finset.univ (fun x : Fin 256 => res_main_v69 V (ix5 n k h a x)) ≠ 0 := by
    refine SinkRow.count_ne (L := rL V n k h a) _ (fun x hx => ?_) (fun x hx => ?_)
    · exact (v69_at V n k h a x).trans (if_pos hx)
    · exact (v69_at V n k h a x).trans (if_neg hx)
  unfold res_main_v144
  refine (share_gen _ _ _ _ _ _ n k h a j (v131_at V n k h a hr)).trans ?_
  rw [SinkRow.zero_share hc, add_zero, mask_at, WordCmp.select_ofBool]
  by_cases hk : ok n.val a.val j.val
  · rw [if_pos (by simpa using hk)]
    exact v127_at V n k h a hr j
  · rw [if_neg (by simpa using hk)]
    exact (SinkRow.gl_masked hr (if_neg hk)).symm

theorem v150_at (j : Fin 256) : res_main_v150 V (ix5 n k j a h) = SinkRow.gl (rL V n k h a) (rS V k h) (rD V n k h a) j * eighth := by
  unfold res_main_v150
  exact (scale_gen _ n k h a j).trans (congrArg (fun x : EReal => x * eighth) (v144_at V n k h a hr j))

end row

end Cert.Attn

end
-- ==== Proof.Blocks.lean ====
module

public import proofs.«01_k».proof.Proof.Acc

@[expose] public section

set_option maxRecDepth 16384

noncomputable section

/-! The five blocks a grid point leaves, at the first point of a group of heads and at the later ones. -/

namespace Cert.Attn

open Cert.KernelIdeal Cert.KernelIdeal.Gen Cert.Stores Idealize.ShloMosaic Idealize.ShloMosaic.TcCoe Idealize.SL.Sem

variable (c : Dev nD) (i : grid0.Coords) (arg2 : Memref sig .tc .smem S32 .f32) (harg2 : arg2.IsWhole) (arg3 : Memref sig .tc .vmem S128x1024 .bf16) (harg3 : arg3.IsWhole)
  (arg4 : Memref sig .tc .vmem S128x128 .bf16) (harg4 : arg4.IsWhole) (arg5 : Memref sig .tc .vmem S128x128 .bf16) (harg5 : arg5.IsWhole)
  (arg6 : Memref sig .tc .vmem S128x128 .bf16) (harg6 : arg6.IsWhole) (arg7 : Memref sig .tc .vmem S128x128 .bf16) (harg7 : arg7.IsWhole)
  (arg8 : Memref sig .tc .vmem S16x128x256 .f32) (harg8 : arg8.IsWhole) (arg9 : Memref sig .tc .vmem S128x1024 .bf16) (harg9 : arg9.IsWhole)
  (arg11 : Memref sig .tc .vmem S128x1024 .bf16) (harg11 : arg11.IsWhole) (arg12 : Memref sig .tc .vmem S256x128 .f32) (harg12 : arg12.IsWhole)
  (arg13 : Memref sig .tc .vmem S256x128 .f32) (harg13 : arg13.IsWhole)
  (arg14 : Memref sig .tc .vmem S16x128x256 .f32) (harg14 : arg14.IsWhole) (arg15 : Memref sig .tc .vmem S16x128 .f32) (harg15 : arg15.IsWhole)
  (arg16 : Memref sig .tc .vmem S1024x128 .bf16) (harg16 : arg16.IsWhole) (arg17 : Memref sig .tc .vmem S1024x128 .bf16) (harg17 : arg17.IsWhole)
  (arg18 : Memref sig .tc .vmem S1024x256 .f32) (harg18 : arg18.IsWhole) (arg19 : Memref sig .tc .vmem S1024x256 .f32) (harg19 : arg19.IsWhole)
  (arg20 : Memref sig .tc .vmem S1024x256 .bf16) (harg20 : arg20.IsWhole) (arg21 : Memref sig .tc .vmem S1024x256 .bf16) (harg21 : arg21.IsWhole)
  (x0 : Vec Ideal S32 .f32) (x1 : Vec Ideal S128x1024 .bf16) (x2 x3 x4 x5 : Vec Ideal S128x128 .bf16)
  (x6 : Vec Ideal S16x128x256 .f32) (x7 : Vec Ideal S128x1024 .bf16)

theorem one_elt : 0 < S1.numel := numel1_S1.symm ▸ Nat.one_pos

theorem zero11 : (k0_pay3 (F := Ideal)) = fun _ => 0 := by
  funext y
  idx_vars y
  pointwise [k0_pay3]

theorem zero12 : (k0_pay4 (F := Ideal)) = fun _ => 0 := by
  funext y
  idx_vars y
  pointwise [k0_pay4]

theorem out11_A (hc0 : cond0_0 i) : View.canon (kernelRun0_A (F := Ideal) c i arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 arg20 harg20 arg21 harg21 hc0 x0 x1 x2 x3 x4 x5 x6 x7).2.2.2.1 = bias i x0 x1 x2 x3 x4 x5 x6 x7 (fun _ => 0) := by
  have z : View.canon (kernelRun0_A.sl.H11_1 (F := Ideal)) = fun _ => 0 := canon_whole _ _ _ _ _ zero11
  have u0 : Upto (fun y => (y 0).val) (kernelRun0_A.sl.H11_1 (F := Ideal)) 0 (fun _ => 0) (bias i x0 x1 x2 x3 x4 x5 x6 x7 (fun _ => 0)) := fun y => congrFun z y
  have u1 : Upto (fun y => (y 0).val) (kernelRun0_A.sl.H11_2 (F := Ideal) c i arg2 harg2 arg3 harg3 arg4 harg4 arg5 harg5 arg6 harg6 arg7 harg7 arg8 harg8 arg9 harg9 arg14 arg16 arg17 arg18 arg19 x0 x1 x2 x3 x4 x5 x6 x7) 1 (fun _ => 0) (bias i x0 x1 x2 x3 x4 x5 x6 x7 (fun _ => 0)) :=
    bias_step i x0 x1 x2 x3 x4 x5 x6 x7 0 0 (by omega) (by omega) rfl (read_rows arg18 _ ![0, 0] inb_S1024x256_S128x256_0_0 0 rfl (by omega) _ (HS2_1 c arg3 harg3 arg4 harg4 arg5 harg5 arg16 x1 x2 x3))
      (load_plane arg8 harg8 x6 ![0, 0, 0] inb_S16x128x256_S1x128x256_0_0_0 0 rfl (by omega)) (load_sink arg2 harg2 x0 i 0 (by omega) (k0_off1_inb i 0) (Shape.Idx.first one_elt))
      (read_rows arg19 _ ![0, 0] inb_S1024x256_S128x256_0_0 0 rfl (by omega) _ (HS3_1 c arg6 harg6 arg7 harg7 arg9 harg9 arg17 x4 x5 x7)) rfl (fun _ => 0) _ (read_plane arg14 _ 0 ![0, 0, 0] (by decide) rfl _ _ u0 (by omega)) _ ![0, 0, 0] inb_S16x128x256_S1x128x256_0_0_0 rfl u0
  have u2 : Upto (fun y => (y 0).val) (kernelRun0_A.sl.H11_3 (F := Ideal) c i arg2 harg2 arg3 harg3 arg4 harg4 arg5 harg5 arg6 harg6 arg7 harg7 arg8 harg8 arg9 harg9 arg14 arg16 arg17 arg18 arg19 x0 x1 x2 x3 x4 x5 x6 x7) 2 (fun _ => 0) (bias i x0 x1 x2 x3 x4 x5 x6 x7 (fun _ => 0)) :=
    bias_step i x0 x1 x2 x3 x4 x5 x6 x7 0 1 (by omega) (by omega) rfl (read_rows arg18 _ ![128, 0] inb_S1024x256_S128x256_128_0 1 rfl (by omega) _ (HS2_1 c arg3 harg3 arg4 harg4 arg5 harg5 arg16 x1 x2 x3))
      (load_plane arg8 harg8 x6 ![1, 0, 0] inb_S16x128x256_S1x128x256_1_0_0 1 rfl (by omega)) (load_sink arg2 harg2 x0 i 1 (by omega) (k0_off1_inb i 1) (Shape.Idx.first one_elt))
      (read_rows arg19 _ ![128, 0] inb_S1024x256_S128x256_128_0 1 rfl (by omega) _ (HS3_1 c arg6 harg6 arg7 harg7 arg9 harg9 arg17 x4 x5 x7)) rfl (fun _ => 0) _ (read_plane arg14 _ 1 ![1, 0, 0] (by decide) rfl _ _ u1 (by omega)) _ ![1, 0, 0] inb_S16x128x256_S1x128x256_1_0_0 rfl u1
  have u3 : Upto (fun y => (y 0).val) (kernelRun0_A.sl.H11_4 (F := Ideal) c i arg2 harg2 arg3 harg3 arg4 harg4 arg5 harg5 arg6 harg6 arg7 harg7 arg8 harg8 arg9 harg9 arg14 arg16 arg17 arg18 arg19 x0 x1 x2 x3 x4 x5 x6 x7) 3 (fun _ => 0) (bias i x0 x1 x2 x3 x4 x5 x6 x7 (fun _ => 0)) :=
    bias_step i x0 x1 x2 x3 x4 x5 x6 x7 0 2 (by omega) (by omega) rfl (read_rows arg18 _ ![256, 0] inb_S1024x256_S128x256_256_0 2 rfl (by omega) _ (HS2_1 c arg3 harg3 arg4 harg4 arg5 harg5 arg16 x1 x2 x3))
      (load_plane arg8 harg8 x6 ![2, 0, 0] inb_S16x128x256_S1x128x256_2_0_0 2 rfl (by omega)) (load_sink arg2 harg2 x0 i 2 (by omega) (k0_off1_inb i 2) (Shape.Idx.first one_elt))
      (read_rows arg19 _ ![256, 0] inb_S1024x256_S128x256_256_0 2 rfl (by omega) _ (HS3_1 c arg6 harg6 arg7 harg7 arg9 harg9 arg17 x4 x5 x7)) rfl (fun _ => 0) _ (read_plane arg14 _ 2 ![2, 0, 0] (by decide) rfl _ _ u2 (by omega)) _ ![2, 0, 0] inb_S16x128x256_S1x128x256_2_0_0 rfl u2
  have u4 : Upto (fun y => (y 0).val) (kernelRun0_A.sl.H11_5 (F := Ideal) c i arg2 harg2 arg3 harg3 arg4 harg4 arg5 harg5 arg6 harg6 arg7 harg7 arg8 harg8 arg9 harg9 arg14 arg16 arg17 arg18 arg19 x0 x1 x2 x3 x4 x5 x6 x7) 4 (fun _ => 0) (bias i x0 x1 x2 x3 x4 x5 x6 x7 (fun _ => 0)) :=
    bias_step i x0 x1 x2 x3 x4 x5 x6 x7 0 3 (by omega) (by omega) rfl (read_rows arg18 _ ![384, 0] inb_S1024x256_S128x256_384_0 3 rfl (by omega) _ (HS2_1 c arg3 harg3 arg4 harg4 arg5 harg5 arg16 x1 x2 x3))
      (load_plane arg8 harg8 x6 ![3, 0, 0] inb_S16x128x256_S1x128x256_3_0_0 3 rfl (by omega)) (load_sink arg2 harg2 x0 i 3 (by omega) (k0_off1_inb i 3) (Shape.Idx.first one_elt))
      (read_rows arg19 _ ![384, 0] inb_S1024x256_S128x256_384_0 3 rfl (by omega) _ (HS3_1 c arg6 harg6 arg7 harg7 arg9 harg9 arg17 x4 x5 x7)) rfl (fun _ => 0) _ (read_plane arg14 _ 3 ![3, 0, 0] (by decide) rfl _ _ u3 (by omega)) _ ![3, 0, 0] inb_S16x128x256_S1x128x256_3_0_0 rfl u3
  have u5 : Upto (fun y => (y 0).val) (kernelRun0_A.sl.H11_6 (F := Ideal) c i arg2 harg2 arg3 harg3 arg4 harg4 arg5 harg5 arg6 harg6 arg7 harg7 arg8 harg8 arg9 harg9 arg14 arg16 arg17 arg18 arg19 x0 x1 x2 x3 x4 x5 x6 x7) 5 (fun _ => 0) (bias i x0 x1 x2 x3 x4 x5 x6 x7 (fun _ => 0)) :=
    bias_step i x0 x1 x2 x3 x4 x5 x6 x7 0 4 (by omega) (by omega) rfl (read_rows arg18 _ ![512, 0] inb_S1024x256_S128x256_512_0 4 rfl (by omega) _ (HS2_1 c arg3 harg3 arg4 harg4 arg5 harg5 arg16 x1 x2 x3))
      (load_plane arg8 harg8 x6 ![4, 0, 0] inb_S16x128x256_S1x128x256_4_0_0 4 rfl (by omega)) (load_sink arg2 harg2 x0 i 4 (by omega) (k0_off1_inb i 4) (Shape.Idx.first one_elt))
      (read_rows arg19 _ ![512, 0] inb_S1024x256_S128x256_512_0 4 rfl (by omega) _ (HS3_1 c arg6 harg6 arg7 harg7 arg9 harg9 arg17 x4 x5 x7)) rfl (fun _ => 0) _ (read_plane arg14 _ 4 ![4, 0, 0] (by decide) rfl _ _ u4 (by omega)) _ ![4, 0, 0] inb_S16x128x256_S1x128x256_4_0_0 rfl u4
  have u6 : Upto (fun y => (y 0).val) (kernelRun0_A.sl.H11_7 (F := Ideal) c i arg2 harg2 arg3 harg3 arg4 harg4 arg5 harg5 arg6 harg6 arg7 harg7 arg8 harg8 arg9 harg9 arg14 arg16 arg17 arg18 arg19 x0 x1 x2 x3 x4 x5 x6 x7) 6 (fun _ => 0) (bias i x0 x1 x2 x3 x4 x5 x6 x7 (fun _ => 0)) :=
    bias_step i x0 x1 x2 x3 x4 x5 x6 x7 0 5 (by omega) (by omega) rfl (read_rows arg18 _ ![640, 0] inb_S1024x256_S128x256_640_0 5 rfl (by omega) _ (HS2_1 c arg3 harg3 arg4 harg4 arg5 harg5 arg16 x1 x2 x3))
      (load_plane arg8 harg8 x6 ![5, 0, 0] inb_S16x128x256_S1x128x256_5_0_0 5 rfl (by omega)) (load_sink arg2 harg2 x0 i 5 (by omega) (k0_off1_inb i 5) (Shape.Idx.first one_elt))
      (read_rows arg19 _ ![640, 0] inb_S1024x256_S128x256_640_0 5 rfl (by omega) _ (HS3_1 c arg6 harg6 arg7 harg7 arg9 harg9 arg17 x4 x5 x7)) rfl (fun _ => 0) _ (read_plane arg14 _ 5 ![5, 0, 0] (by decide) rfl _ _ u5 (by omega)) _ ![5, 0, 0] inb_S16x128x256_S1x128x256_5_0_0 rfl u5
  have u7 : Upto (fun y => (y 0).val) (kernelRun0_A.sl.H11_8 (F := Ideal) c i arg2 harg2 arg3 harg3 arg4 harg4 arg5 harg5 arg6 harg6 arg7 harg7 arg8 harg8 arg9 harg9 arg14 arg16 arg17 arg18 arg19 x0 x1 x2 x3 x4 x5 x6 x7) 7 (fun _ => 0) (bias i x0 x1 x2 x3 x4 x5 x6 x7 (fun _ => 0)) :=
    bias_step i x0 x1 x2 x3 x4 x5 x6 x7 0 6 (by omega) (by omega) rfl (read_rows arg18 _ ![768, 0] inb_S1024x256_S128x256_768_0 6 rfl (by omega) _ (HS2_1 c arg3 harg3 arg4 harg4 arg5 harg5 arg16 x1 x2 x3))
      (load_plane arg8 harg8 x6 ![6, 0, 0] inb_S16x128x256_S1x128x256_6_0_0 6 rfl (by omega)) (load_sink arg2 harg2 x0 i 6 (by omega) (k0_off1_inb i 6) (Shape.Idx.first one_elt))
      (read_rows arg19 _ ![768, 0] inb_S1024x256_S128x256_768_0 6 rfl (by omega) _ (HS3_1 c arg6 harg6 arg7 harg7 arg9 harg9 arg17 x4 x5 x7)) rfl (fun _ => 0) _ (read_plane arg14 _ 6 ![6, 0, 0] (by decide) rfl _ _ u6 (by omega)) _ ![6, 0, 0] inb_S16x128x256_S1x128x256_6_0_0 rfl u6
  have u8 : Upto (fun y => (y 0).val) (kernelRun0_A.sl.H11_9 (F := Ideal) c i arg2 harg2 arg3 harg3 arg4 harg4 arg5 harg5 arg6 harg6 arg7 harg7 arg8 harg8 arg9 harg9 arg14 arg16 arg17 arg18 arg19 x0 x1 x2 x3 x4 x5 x6 x7) 8 (fun _ => 0) (bias i x0 x1 x2 x3 x4 x5 x6 x7 (fun _ => 0)) :=
    bias_step i x0 x1 x2 x3 x4 x5 x6 x7 0 7 (by omega) (by omega) rfl (read_rows arg18 _ ![896, 0] inb_S1024x256_S128x256_896_0 7 rfl (by omega) _ (HS2_1 c arg3 harg3 arg4 harg4 arg5 harg5 arg16 x1 x2 x3))
      (load_plane arg8 harg8 x6 ![7, 0, 0] inb_S16x128x256_S1x128x256_7_0_0 7 rfl (by omega)) (load_sink arg2 harg2 x0 i 7 (by omega) (k0_off1_inb i 7) (Shape.Idx.first one_elt))
      (read_rows arg19 _ ![896, 0] inb_S1024x256_S128x256_896_0 7 rfl (by omega) _ (HS3_1 c arg6 harg6 arg7 harg7 arg9 harg9 arg17 x4 x5 x7)) rfl (fun _ => 0) _ (read_plane arg14 _ 7 ![7, 0, 0] (by decide) rfl _ _ u7 (by omega)) _ ![7, 0, 0] inb_S16x128x256_S1x128x256_7_0_0 rfl u7
  have u9 : Upto (fun y => (y 0).val) (kernelRun0_A.sl.H11_10 (F := Ideal) c i arg2 harg2 arg3 harg3 arg4 harg4 arg5 harg5 arg6 harg6 arg7 harg7 arg8 harg8 arg9 harg9 arg14 arg16 arg17 arg18 arg19 x0 x1 x2 x3 x4 x5 x6 x7) 9 (fun _ => 0) (bias i x0 x1 x2 x3 x4 x5 x6 x7 (fun _ => 0)) :=
    bias_step i x0 x1 x2 x3 x4 x5 x6 x7 1 0 (by omega) (by omega) rfl (read_rows arg18 _ ![0, 0] inb_S1024x256_S128x256_0_0 0 rfl (by omega) _ (HS2_2 c arg3 harg3 arg4 harg4 arg5 harg5 arg16 x1 x2 x3))
      (load_plane arg8 harg8 x6 ![8, 0, 0] inb_S16x128x256_S1x128x256_8_0_0 8 rfl (by omega)) (load_sink arg2 harg2 x0 i 8 (by omega) (k0_off1_inb i 8) (Shape.Idx.first one_elt))
      (read_rows arg19 _ ![0, 0] inb_S1024x256_S128x256_0_0 0 rfl (by omega) _ (HS3_2 c arg6 harg6 arg7 harg7 arg9 harg9 arg17 x4 x5 x7)) rfl (fun _ => 0) _ (read_plane arg14 _ 8 ![8, 0, 0] (by decide) rfl _ _ u8 (by omega)) _ ![8, 0, 0] inb_S16x128x256_S1x128x256_8_0_0 rfl u8
  have u10 : Upto (fun y => (y 0).val) (kernelRun0_A.sl.H11_11 (F := Ideal) c i arg2 harg2 arg3 harg3 arg4 harg4 arg5 harg5 arg6 harg6 arg7 harg7 arg8 harg8 arg9 harg9 arg14 arg16 arg17 arg18 arg19 x0 x1 x2 x3 x4 x5 x6 x7) 10 (fun _ => 0) (bias i x0 x1 x2 x3 x4 x5 x6 x7 (fun _ => 0)) :=
    bias_step i x0 x1 x2 x3 x4 x5 x6 x7 1 1 (by omega) (by omega) rfl (read_rows arg18 _ ![128, 0] inb_S1024x256_S128x256_128_0 1 rfl (by omega) _ (HS2_2 c arg3 harg3 arg4 harg4 arg5 harg5 arg16 x1 x2 x3))
      (load_plane arg8 harg8 x6 ![9, 0, 0] inb_S16x128x256_S1x128x256_9_0_0 9 rfl (by omega)) (load_sink arg2 harg2 x0 i 9 (by omega) (k0_off1_inb i 9) (Shape.Idx.first one_elt))
      (read_rows arg19 _ ![128, 0] inb_S1024x256_S128x256_128_0 1 rfl (by omega) _ (HS3_2 c arg6 harg6 arg7 harg7 arg9 harg9 arg17 x4 x5 x7)) rfl (fun _ => 0) _ (read_plane arg14 _ 9 ![9, 0, 0] (by decide) rfl _ _ u9 (by omega)) _ ![9, 0, 0] inb_S16x128x256_S1x128x256_9_0_0 rfl u9
  have u11 : Upto (fun y => (y 0).val) (kernelRun0_A.sl.H11_12 (F := Ideal) c i arg2 harg2 arg3 harg3 arg4 harg4 arg5 harg5 arg6 harg6 arg7 harg7 arg8 harg8 arg9 harg9 arg14 arg16 arg17 arg18 arg19 x0 x1 x2 x3 x4 x5 x6 x7) 11 (fun _ => 0) (bias i x0 x1 x2 x3 x4 x5 x6 x7 (fun _ => 0)) :=
    bias_step i x0 x1 x2 x3 x4 x5 x6 x7 1 2 (by omega) (by omega) rfl (read_rows arg18 _ ![256, 0] inb_S1024x256_S128x256_256_0 2 rfl (by omega) _ (HS2_2 c arg3 harg3 arg4 harg4 arg5 harg5 arg16 x1 x2 x3))
      (load_plane arg8 harg8 x6 ![10, 0, 0] inb_S16x128x256_S1x128x256_10_0_0 10 rfl (by omega)) (load_sink arg2 harg2 x0 i 10 (by omega) (k0_off1_inb i 10) (Shape.Idx.first one_elt))
      (read_rows arg19 _ ![256, 0] inb_S1024x256_S128x256_256_0 2 rfl (by omega) _ (HS3_2 c arg6 harg6 arg7 harg7 arg9 harg9 arg17 x4 x5 x7)) rfl (fun _ => 0) _ (read_plane arg14 _ 10 ![10, 0, 0] (by decide) rfl _ _ u10 (by omega)) _ ![10, 0, 0] inb_S16x128x256_S1x128x256_10_0_0 rfl u10
  have u12 : Upto (fun y => (y 0).val) (kernelRun0_A.sl.H11_13 (F := Ideal) c i arg2 harg2 arg3 harg3 arg4 harg4 arg5 harg5 arg6 harg6 arg7 harg7 arg8 harg8 arg9 harg9 arg14 arg16 arg17 arg18 arg19 x0 x1 x2 x3 x4 x5 x6 x7) 12 (fun _ => 0) (bias i x0 x1 x2 x3 x4 x5 x6 x7 (fun _ => 0)) :=
    bias_step i x0 x1 x2 x3 x4 x5 x6 x7 1 3 (by omega) (by omega) rfl (read_rows arg18 _ ![384, 0] inb_S1024x256_S128x256_384_0 3 rfl (by omega) _ (HS2_2 c arg3 harg3 arg4 harg4 arg5 harg5 arg16 x1 x2 x3))
      (load_plane arg8 harg8 x6 ![11, 0, 0] inb_S16x128x256_S1x128x256_11_0_0 11 rfl (by omega)) (load_sink arg2 harg2 x0 i 11 (by omega) (k0_off1_inb i 11) (Shape.Idx.first one_elt))
      (read_rows arg19 _ ![384, 0] inb_S1024x256_S128x256_384_0 3 rfl (by omega) _ (HS3_2 c arg6 harg6 arg7 harg7 arg9 harg9 arg17 x4 x5 x7)) rfl (fun _ => 0) _ (read_plane arg14 _ 11 ![11, 0, 0] (by decide) rfl _ _ u11 (by omega)) _ ![11, 0, 0] inb_S16x128x256_S1x128x256_11_0_0 rfl u11
  have u13 : Upto (fun y => (y 0).val) (kernelRun0_A.sl.H11_14 (F := Ideal) c i arg2 harg2 arg3 harg3 arg4 harg4 arg5 harg5 arg6 harg6 arg7 harg7 arg8 harg8 arg9 harg9 arg14 arg16 arg17 arg18 arg19 x0 x1 x2 x3 x4 x5 x6 x7) 13 (fun _ => 0) (bias i x0 x1 x2 x3 x4 x5 x6 x7 (fun _ => 0)) :=
    bias_step i x0 x1 x2 x3 x4 x5 x6 x7 1 4 (by omega) (by omega) rfl (read_rows arg18 _ ![512, 0] inb_S1024x256_S128x256_512_0 4 rfl (by omega) _ (HS2_2 c arg3 harg3 arg4 harg4 arg5 harg5 arg16 x1 x2 x3))
      (load_plane arg8 harg8 x6 ![12, 0, 0] inb_S16x128x256_S1x128x256_12_0_0 12 rfl (by omega)) (load_sink arg2 harg2 x0 i 12 (by omega) (k0_off1_inb i 12) (Shape.Idx.first one_elt))
      (read_rows arg19 _ ![512, 0] inb_S1024x256_S128x256_512_0 4 rfl (by omega) _ (HS3_2 c arg6 harg6 arg7 harg7 arg9 harg9 arg17 x4 x5 x7)) rfl (fun _ => 0) _ (read_plane arg14 _ 12 ![12, 0, 0] (by decide) rfl _ _ u12 (by omega)) _ ![12, 0, 0] inb_S16x128x256_S1x128x256_12_0_0 rfl u12
  have u14 : Upto (fun y => (y 0).val) (kernelRun0_A.sl.H11_15 (F := Ideal) c i arg2 harg2 arg3 harg3 arg4 harg4 arg5 harg5 arg6 harg6 arg7 harg7 arg8 harg8 arg9 harg9 arg14 arg16 arg17 arg18 arg19 x0 x1 x2 x3 x4 x5 x6 x7) 14 (fun _ => 0) (bias i x0 x1 x2 x3 x4 x5 x6 x7 (fun _ => 0)) :=
    bias_step i x0 x1 x2 x3 x4 x5 x6 x7 1 5 (by omega) (by omega) rfl (read_rows arg18 _ ![640, 0] inb_S1024x256_S128x256_640_0 5 rfl (by omega) _ (HS2_2 c arg3 harg3 arg4 harg4 arg5 harg5 arg16 x1 x2 x3))
      (load_plane arg8 harg8 x6 ![13, 0, 0] inb_S16x128x256_S1x128x256_13_0_0 13 rfl (by omega)) (load_sink arg2 harg2 x0 i 13 (by omega) (k0_off1_inb i 13) (Shape.Idx.first one_elt))
      (read_rows arg19 _ ![640, 0] inb_S1024x256_S128x256_640_0 5 rfl (by omega) _ (HS3_2 c arg6 harg6 arg7 harg7 arg9 harg9 arg17 x4 x5 x7)) rfl (fun _ => 0) _ (read_plane arg14 _ 13 ![13, 0, 0] (by decide) rfl _ _ u13 (by omega)) _ ![13, 0, 0] inb_S16x128x256_S1x128x256_13_0_0 rfl u13
  have u15 : Upto (fun y => (y 0).val) (kernelRun0_A.sl.H11_16 (F := Ideal) c i arg2 harg2 arg3 harg3 arg4 harg4 arg5 harg5 arg6 harg6 arg7 harg7 arg8 harg8 arg9 harg9 arg14 arg16 arg17 arg18 arg19 x0 x1 x2 x3 x4 x5 x6 x7) 15 (fun _ => 0) (bias i x0 x1 x2 x3 x4 x5 x6 x7 (fun _ => 0)) :=
    bias_step i x0 x1 x2 x3 x4 x5 x6 x7 1 6 (by omega) (by omega) rfl (read_rows arg18 _ ![768, 0] inb_S1024x256_S128x256_768_0 6 rfl (by omega) _ (HS2_2 c arg3 harg3 arg4 harg4 arg5 harg5 arg16 x1 x2 x3))
      (load_plane arg8 harg8 x6 ![14, 0, 0] inb_S16x128x256_S1x128x256_14_0_0 14 rfl (by omega)) (load_sink arg2 harg2 x0 i 14 (by omega) (k0_off1_inb i 14) (Shape.Idx.first one_elt))
      (read_rows arg19 _ ![768, 0] inb_S1024x256_S128x256_768_0 6 rfl (by omega) _ (HS3_2 c arg6 harg6 arg7 harg7 arg9 harg9 arg17 x4 x5 x7)) rfl (fun _ => 0) _ (read_plane arg14 _ 14 ![14, 0, 0] (by decide) rfl _ _ u14 (by omega)) _ ![14, 0, 0] inb_S16x128x256_S1x128x256_14_0_0 rfl u14
  have u16 :=
    bias_step i x0 x1 x2 x3 x4 x5 x6 x7 1 7 (by omega) (by omega) rfl (read_rows arg18 _ ![896, 0] inb_S1024x256_S128x256_896_0 7 rfl (by omega) _ (HS2_2 c arg3 harg3 arg4 harg4 arg5 harg5 arg16 x1 x2 x3))
      (load_plane arg8 harg8 x6 ![15, 0, 0] inb_S16x128x256_S1x128x256_15_0_0 15 rfl (by omega)) (load_sink arg2 harg2 x0 i 15 (by omega) (k0_off1_inb i 15) (Shape.Idx.first one_elt))
      (read_rows arg19 _ ![896, 0] inb_S1024x256_S128x256_896_0 7 rfl (by omega) _ (HS3_2 c arg6 harg6 arg7 harg7 arg9 harg9 arg17 x4 x5 x7)) rfl (fun _ => 0) _ (read_plane arg14 _ 15 ![15, 0, 0] (by decide) rfl _ _ u15 (by omega)) _ ![15, 0, 0] inb_S16x128x256_S1x128x256_15_0_0 rfl u15
  exact funext fun y => (u16 y).trans (if_pos (y 0).isLt)

theorem out12_A (hc0 : cond0_0 i) : View.canon (kernelRun0_A (F := Ideal) c i arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 arg20 harg20 arg21 harg21 hc0 x0 x1 x2 x3 x4 x5 x6 x7).2.2.2.2.1 = sinks i x0 x1 x2 x3 x4 x5 x6 x7 (fun _ => 0) := by
  have z : View.canon (kernelRun0_A.sl.H12_1 (F := Ideal)) = fun _ => 0 := canon_whole _ _ _ _ _ zero12
  have u0 : Upto (fun y => (y 0).val) (kernelRun0_A.sl.H12_1 (F := Ideal)) 0 (fun _ => 0) (sinks i x0 x1 x2 x3 x4 x5 x6 x7 (fun _ => 0)) := fun y => congrFun z y
  have u1 : Upto (fun y => (y 0).val) (kernelRun0_A.sl.H12_2 (F := Ideal) c i arg2 harg2 arg3 harg3 arg4 harg4 arg5 harg5 arg6 harg6 arg7 harg7 arg8 harg8 arg9 harg9 arg15 arg16 arg17 arg18 arg19 x0 x1 x2 x3 x4 x5 x6 x7) 1 (fun _ => 0) (sinks i x0 x1 x2 x3 x4 x5 x6 x7 (fun _ => 0)) :=
    sinks_step i x0 x1 x2 x3 x4 x5 x6 x7 0 0 (by omega) (by omega) rfl (read_rows arg18 _ ![0, 0] inb_S1024x256_S128x256_0_0 0 rfl (by omega) _ (HS2_1 c arg3 harg3 arg4 harg4 arg5 harg5 arg16 x1 x2 x3))
      (load_plane arg8 harg8 x6 ![0, 0, 0] inb_S16x128x256_S1x128x256_0_0_0 0 rfl (by omega)) (load_sink arg2 harg2 x0 i 0 (by omega) (k0_off1_inb i 0) (Shape.Idx.first one_elt))
      (read_rows arg19 _ ![0, 0] inb_S1024x256_S128x256_0_0 0 rfl (by omega) _ (HS3_1 c arg6 harg6 arg7 harg7 arg9 harg9 arg17 x4 x5 x7)) rfl (fun _ => 0) _ (read_line arg15 _ 0 ![0, 0] (by decide) rfl _ _ u0 (by omega)) _ ![0, 0] inb_S16x128_S1x128_0_0 rfl u0
  have u2 : Upto (fun y => (y 0).val) (kernelRun0_A.sl.H12_3 (F := Ideal) c i arg2 harg2 arg3 harg3 arg4 harg4 arg5 harg5 arg6 harg6 arg7 harg7 arg8 harg8 arg9 harg9 arg15 arg16 arg17 arg18 arg19 x0 x1 x2 x3 x4 x5 x6 x7) 2 (fun _ => 0) (sinks i x0 x1 x2 x3 x4 x5 x6 x7 (fun _ => 0)) :=
    sinks_step i x0 x1 x2 x3 x4 x5 x6 x7 0 1 (by omega) (by omega) rfl (read_rows arg18 _ ![128, 0] inb_S1024x256_S128x256_128_0 1 rfl (by omega) _ (HS2_1 c arg3 harg3 arg4 harg4 arg5 harg5 arg16 x1 x2 x3))
      (load_plane arg8 harg8 x6 ![1, 0, 0] inb_S16x128x256_S1x128x256_1_0_0 1 rfl (by omega)) (load_sink arg2 harg2 x0 i 1 (by omega) (k0_off1_inb i 1) (Shape.Idx.first one_elt))
      (read_rows arg19 _ ![128, 0] inb_S1024x256_S128x256_128_0 1 rfl (by omega) _ (HS3_1 c arg6 harg6 arg7 harg7 arg9 harg9 arg17 x4 x5 x7)) rfl (fun _ => 0) _ (read_line arg15 _ 1 ![1, 0] (by decide) rfl _ _ u1 (by omega)) _ ![1, 0] inb_S16x128_S1x128_1_0 rfl u1
  have u3 : Upto (fun y => (y 0).val) (kernelRun0_A.sl.H12_4 (F := Ideal) c i arg2 harg2 arg3 harg3 arg4 harg4 arg5 harg5 arg6 harg6 arg7 harg7 arg8 harg8 arg9 harg9 arg15 arg16 arg17 arg18 arg19 x0 x1 x2 x3 x4 x5 x6 x7) 3 (fun _ => 0) (sinks i x0 x1 x2 x3 x4 x5 x6 x7 (fun _ => 0)) :=
    sinks_step i x0 x1 x2 x3 x4 x5 x6 x7 0 2 (by omega) (by omega) rfl (read_rows arg18 _ ![256, 0] inb_S1024x256_S128x256_256_0 2 rfl (by omega) _ (HS2_1 c arg3 harg3 arg4 harg4 arg5 harg5 arg16 x1 x2 x3))
      (load_plane arg8 harg8 x6 ![2, 0, 0] inb_S16x128x256_S1x128x256_2_0_0 2 rfl (by omega)) (load_sink arg2 harg2 x0 i 2 (by omega) (k0_off1_inb i 2) (Shape.Idx.first one_elt))
      (read_rows arg19 _ ![256, 0] inb_S1024x256_S128x256_256_0 2 rfl (by omega) _ (HS3_1 c arg6 harg6 arg7 harg7 arg9 harg9 arg17 x4 x5 x7)) rfl (fun _ => 0) _ (read_line arg15 _ 2 ![2, 0] (by decide) rfl _ _ u2 (by omega)) _ ![2, 0] inb_S16x128_S1x128_2_0 rfl u2
  have u4 : Upto (fun y => (y 0).val) (kernelRun0_A.sl.H12_5 (F := Ideal) c i arg2 harg2 arg3 harg3 arg4 harg4 arg5 harg5 arg6 harg6 arg7 harg7 arg8 harg8 arg9 harg9 arg15 arg16 arg17 arg18 arg19 x0 x1 x2 x3 x4 x5 x6 x7) 4 (fun _ => 0) (sinks i x0 x1 x2 x3 x4 x5 x6 x7 (fun _ => 0)) :=
    sinks_step i x0 x1 x2 x3 x4 x5 x6 x7 0 3 (by omega) (by omega) rfl (read_rows arg18 _ ![384, 0] inb_S1024x256_S128x256_384_0 3 rfl (by omega) _ (HS2_1 c arg3 harg3 arg4 harg4 arg5 harg5 arg16 x1 x2 x3))
      (load_plane arg8 harg8 x6 ![3, 0, 0] inb_S16x128x256_S1x128x256_3_0_0 3 rfl (by omega)) (load_sink arg2 harg2 x0 i 3 (by omega) (k0_off1_inb i 3) (Shape.Idx.first one_elt))
      (read_rows arg19 _ ![384, 0] inb_S1024x256_S128x256_384_0 3 rfl (by omega) _ (HS3_1 c arg6 harg6 arg7 harg7 arg9 harg9 arg17 x4 x5 x7)) rfl (fun _ => 0) _ (read_line arg15 _ 3 ![3, 0] (by decide) rfl _ _ u3 (by omega)) _ ![3, 0] inb_S16x128_S1x128_3_0 rfl u3
  have u5 : Upto (fun y => (y 0).val) (kernelRun0_A.sl.H12_6 (F := Ideal) c i arg2 harg2 arg3 harg3 arg4 harg4 arg5 harg5 arg6 harg6 arg7 harg7 arg8 harg8 arg9 harg9 arg15 arg16 arg17 arg18 arg19 x0 x1 x2 x3 x4 x5 x6 x7) 5 (fun _ => 0) (sinks i x0 x1 x2 x3 x4 x5 x6 x7 (fun _ => 0)) :=
    sinks_step i x0 x1 x2 x3 x4 x5 x6 x7 0 4 (by omega) (by omega) rfl (read_rows arg18 _ ![512, 0] inb_S1024x256_S128x256_512_0 4 rfl (by omega) _ (HS2_1 c arg3 harg3 arg4 harg4 arg5 harg5 arg16 x1 x2 x3))
      (load_plane arg8 harg8 x6 ![4, 0, 0] inb_S16x128x256_S1x128x256_4_0_0 4 rfl (by omega)) (load_sink arg2 harg2 x0 i 4 (by omega) (k0_off1_inb i 4) (Shape.Idx.first one_elt))
      (read_rows arg19 _ ![512, 0] inb_S1024x256_S128x256_512_0 4 rfl (by omega) _ (HS3_1 c arg6 harg6 arg7 harg7 arg9 harg9 arg17 x4 x5 x7)) rfl (fun _ => 0) _ (read_line arg15 _ 4 ![4, 0] (by decide) rfl _ _ u4 (by omega)) _ ![4, 0] inb_S16x128_S1x128_4_0 rfl u4
  have u6 : Upto (fun y => (y 0).val) (kernelRun0_A.sl.H12_7 (F := Ideal) c i arg2 harg2 arg3 harg3 arg4 harg4 arg5 harg5 arg6 harg6 arg7 harg7 arg8 harg8 arg9 harg9 arg15 arg16 arg17 arg18 arg19 x0 x1 x2 x3 x4 x5 x6 x7) 6 (fun _ => 0) (sinks i x0 x1 x2 x3 x4 x5 x6 x7 (fun _ => 0)) :=
    sinks_step i x0 x1 x2 x3 x4 x5 x6 x7 0 5 (by omega) (by omega) rfl (read_rows arg18 _ ![640, 0] inb_S1024x256_S128x256_640_0 5 rfl (by omega) _ (HS2_1 c arg3 harg3 arg4 harg4 arg5 harg5 arg16 x1 x2 x3))
      (load_plane arg8 harg8 x6 ![5, 0, 0] inb_S16x128x256_S1x128x256_5_0_0 5 rfl (by omega)) (load_sink arg2 harg2 x0 i 5 (by omega) (k0_off1_inb i 5) (Shape.Idx.first one_elt))
      (read_rows arg19 _ ![640, 0] inb_S1024x256_S128x256_640_0 5 rfl (by omega) _ (HS3_1 c arg6 harg6 arg7 harg7 arg9 harg9 arg17 x4 x5 x7)) rfl (fun _ => 0) _ (read_line arg15 _ 5 ![5, 0] (by decide) rfl _ _ u5 (by omega)) _ ![5, 0] inb_S16x128_S1x128_5_0 rfl u5
  have u7 : Upto (fun y => (y 0).val) (kernelRun0_A.sl.H12_8 (F := Ideal) c i arg2 harg2 arg3 harg3 arg4 harg4 arg5 harg5 arg6 harg6 arg7 harg7 arg8 harg8 arg9 harg9 arg15 arg16 arg17 arg18 arg19 x0 x1 x2 x3 x4 x5 x6 x7) 7 (fun _ => 0) (sinks i x0 x1 x2 x3 x4 x5 x6 x7 (fun _ => 0)) :=
    sinks_step i x0 x1 x2 x3 x4 x5 x6 x7 0 6 (by omega) (by omega) rfl (read_rows arg18 _ ![768, 0] inb_S1024x256_S128x256_768_0 6 rfl (by omega) _ (HS2_1 c arg3 harg3 arg4 harg4 arg5 harg5 arg16 x1 x2 x3))
      (load_plane arg8 harg8 x6 ![6, 0, 0] inb_S16x128x256_S1x128x256_6_0_0 6 rfl (by omega)) (load_sink arg2 harg2 x0 i 6 (by omega) (k0_off1_inb i 6) (Shape.Idx.first one_elt))
      (read_rows arg19 _ ![768, 0] inb_S1024x256_S128x256_768_0 6 rfl (by omega) _ (HS3_1 c arg6 harg6 arg7 harg7 arg9 harg9 arg17 x4 x5 x7)) rfl (fun _ => 0) _ (read_line arg15 _ 6 ![6, 0] (by decide) rfl _ _ u6 (by omega)) _ ![6, 0] inb_S16x128_S1x128_6_0 rfl u6
  have u8 : Upto (fun y => (y 0).val) (kernelRun0_A.sl.H12_9 (F := Ideal) c i arg2 harg2 arg3 harg3 arg4 harg4 arg5 harg5 arg6 harg6 arg7 harg7 arg8 harg8 arg9 harg9 arg15 arg16 arg17 arg18 arg19 x0 x1 x2 x3 x4 x5 x6 x7) 8 (fun _ => 0) (sinks i x0 x1 x2 x3 x4 x5 x6 x7 (fun _ => 0)) :=
    sinks_step i x0 x1 x2 x3 x4 x5 x6 x7 0 7 (by omega) (by omega) rfl (read_rows arg18 _ ![896, 0] inb_S1024x256_S128x256_896_0 7 rfl (by omega) _ (HS2_1 c arg3 harg3 arg4 harg4 arg5 harg5 arg16 x1 x2 x3))
      (load_plane arg8 harg8 x6 ![7, 0, 0] inb_S16x128x256_S1x128x256_7_0_0 7 rfl (by omega)) (load_sink arg2 harg2 x0 i 7 (by omega) (k0_off1_inb i 7) (Shape.Idx.first one_elt))
      (read_rows arg19 _ ![896, 0] inb_S1024x256_S128x256_896_0 7 rfl (by omega) _ (HS3_1 c arg6 harg6 arg7 harg7 arg9 harg9 arg17 x4 x5 x7)) rfl (fun _ => 0) _ (read_line arg15 _ 7 ![7, 0] (by decide) rfl _ _ u7 (by omega)) _ ![7, 0] inb_S16x128_S1x128_7_0 rfl u7
  have u9 : Upto (fun y => (y 0).val) (kernelRun0_A.sl.H12_10 (F := Ideal) c i arg2 harg2 arg3 harg3 arg4 harg4 arg5 harg5 arg6 harg6 arg7 harg7 arg8 harg8 arg9 harg9 arg15 arg16 arg17 arg18 arg19 x0 x1 x2 x3 x4 x5 x6 x7) 9 (fun _ => 0) (sinks i x0 x1 x2 x3 x4 x5 x6 x7 (fun _ => 0)) :=
    sinks_step i x0 x1 x2 x3 x4 x5 x6 x7 1 0 (by omega) (by omega) rfl (read_rows arg18 _ ![0, 0] inb_S1024x256_S128x256_0_0 0 rfl (by omega) _ (HS2_2 c arg3 harg3 arg4 harg4 arg5 harg5 arg16 x1 x2 x3))
      (load_plane arg8 harg8 x6 ![8, 0, 0] inb_S16x128x256_S1x128x256_8_0_0 8 rfl (by omega)) (load_sink arg2 harg2 x0 i 8 (by omega) (k0_off1_inb i 8) (Shape.Idx.first one_elt))
      (read_rows arg19 _ ![0, 0] inb_S1024x256_S128x256_0_0 0 rfl (by omega) _ (HS3_2 c arg6 harg6 arg7 harg7 arg9 harg9 arg17 x4 x5 x7)) rfl (fun _ => 0) _ (read_line arg15 _ 8 ![8, 0] (by decide) rfl _ _ u8 (by omega)) _ ![8, 0] inb_S16x128_S1x128_8_0 rfl u8
  have u10 : Upto (fun y => (y 0).val) (kernelRun0_A.sl.H12_11 (F := Ideal) c i arg2 harg2 arg3 harg3 arg4 harg4 arg5 harg5 arg6 harg6 arg7 harg7 arg8 harg8 arg9 harg9 arg15 arg16 arg17 arg18 arg19 x0 x1 x2 x3 x4 x5 x6 x7) 10 (fun _ => 0) (sinks i x0 x1 x2 x3 x4 x5 x6 x7 (fun _ => 0)) :=
    sinks_step i x0 x1 x2 x3 x4 x5 x6 x7 1 1 (by omega) (by omega) rfl (read_rows arg18 _ ![128, 0] inb_S1024x256_S128x256_128_0 1 rfl (by omega) _ (HS2_2 c arg3 harg3 arg4 harg4 arg5 harg5 arg16 x1 x2 x3))
      (load_plane arg8 harg8 x6 ![9, 0, 0] inb_S16x128x256_S1x128x256_9_0_0 9 rfl (by omega)) (load_sink arg2 harg2 x0 i 9 (by omega) (k0_off1_inb i 9) (Shape.Idx.first one_elt))
      (read_rows arg19 _ ![128, 0] inb_S1024x256_S128x256_128_0 1 rfl (by omega) _ (HS3_2 c arg6 harg6 arg7 harg7 arg9 harg9 arg17 x4 x5 x7)) rfl (fun _ => 0) _ (read_line arg15 _ 9 ![9, 0] (by decide) rfl _ _ u9 (by omega)) _ ![9, 0] inb_S16x128_S1x128_9_0 rfl u9
  have u11 : Upto (fun y => (y 0).val) (kernelRun0_A.sl.H12_12 (F := Ideal) c i arg2 harg2 arg3 harg3 arg4 harg4 arg5 harg5 arg6 harg6 arg7 harg7 arg8 harg8 arg9 harg9 arg15 arg16 arg17 arg18 arg19 x0 x1 x2 x3 x4 x5 x6 x7) 11 (fun _ => 0) (sinks i x0 x1 x2 x3 x4 x5 x6 x7 (fun _ => 0)) :=
    sinks_step i x0 x1 x2 x3 x4 x5 x6 x7 1 2 (by omega) (by omega) rfl (read_rows arg18 _ ![256, 0] inb_S1024x256_S128x256_256_0 2 rfl (by omega) _ (HS2_2 c arg3 harg3 arg4 harg4 arg5 harg5 arg16 x1 x2 x3))
      (load_plane arg8 harg8 x6 ![10, 0, 0] inb_S16x128x256_S1x128x256_10_0_0 10 rfl (by omega)) (load_sink arg2 harg2 x0 i 10 (by omega) (k0_off1_inb i 10) (Shape.Idx.first one_elt))
      (read_rows arg19 _ ![256, 0] inb_S1024x256_S128x256_256_0 2 rfl (by omega) _ (HS3_2 c arg6 harg6 arg7 harg7 arg9 harg9 arg17 x4 x5 x7)) rfl (fun _ => 0) _ (read_line arg15 _ 10 ![10, 0] (by decide) rfl _ _ u10 (by omega)) _ ![10, 0] inb_S16x128_S1x128_10_0 rfl u10
  have u12 : Upto (fun y => (y 0).val) (kernelRun0_A.sl.H12_13 (F := Ideal) c i arg2 harg2 arg3 harg3 arg4 harg4 arg5 harg5 arg6 harg6 arg7 harg7 arg8 harg8 arg9 harg9 arg15 arg16 arg17 arg18 arg19 x0 x1 x2 x3 x4 x5 x6 x7) 12 (fun _ => 0) (sinks i x0 x1 x2 x3 x4 x5 x6 x7 (fun _ => 0)) :=
    sinks_step i x0 x1 x2 x3 x4 x5 x6 x7 1 3 (by omega) (by omega) rfl (read_rows arg18 _ ![384, 0] inb_S1024x256_S128x256_384_0 3 rfl (by omega) _ (HS2_2 c arg3 harg3 arg4 harg4 arg5 harg5 arg16 x1 x2 x3))
      (load_plane arg8 harg8 x6 ![11, 0, 0] inb_S16x128x256_S1x128x256_11_0_0 11 rfl (by omega)) (load_sink arg2 harg2 x0 i 11 (by omega) (k0_off1_inb i 11) (Shape.Idx.first one_elt))
      (read_rows arg19 _ ![384, 0] inb_S1024x256_S128x256_384_0 3 rfl (by omega) _ (HS3_2 c arg6 harg6 arg7 harg7 arg9 harg9 arg17 x4 x5 x7)) rfl (fun _ => 0) _ (read_line arg15 _ 11 ![11, 0] (by decide) rfl _ _ u11 (by omega)) _ ![11, 0] inb_S16x128_S1x128_11_0 rfl u11
  have u13 : Upto (fun y => (y 0).val) (kernelRun0_A.sl.H12_14 (F := Ideal) c i arg2 harg2 arg3 harg3 arg4 harg4 arg5 harg5 arg6 harg6 arg7 harg7 arg8 harg8 arg9 harg9 arg15 arg16 arg17 arg18 arg19 x0 x1 x2 x3 x4 x5 x6 x7) 13 (fun _ => 0) (sinks i x0 x1 x2 x3 x4 x5 x6 x7 (fun _ => 0)) :=
    sinks_step i x0 x1 x2 x3 x4 x5 x6 x7 1 4 (by omega) (by omega) rfl (read_rows arg18 _ ![512, 0] inb_S1024x256_S128x256_512_0 4 rfl (by omega) _ (HS2_2 c arg3 harg3 arg4 harg4 arg5 harg5 arg16 x1 x2 x3))
      (load_plane arg8 harg8 x6 ![12, 0, 0] inb_S16x128x256_S1x128x256_12_0_0 12 rfl (by omega)) (load_sink arg2 harg2 x0 i 12 (by omega) (k0_off1_inb i 12) (Shape.Idx.first one_elt))
      (read_rows arg19 _ ![512, 0] inb_S1024x256_S128x256_512_0 4 rfl (by omega) _ (HS3_2 c arg6 harg6 arg7 harg7 arg9 harg9 arg17 x4 x5 x7)) rfl (fun _ => 0) _ (read_line arg15 _ 12 ![12, 0] (by decide) rfl _ _ u12 (by omega)) _ ![12, 0] inb_S16x128_S1x128_12_0 rfl u12
  have u14 : Upto (fun y => (y 0).val) (kernelRun0_A.sl.H12_15 (F := Ideal) c i arg2 harg2 arg3 harg3 arg4 harg4 arg5 harg5 arg6 harg6 arg7 harg7 arg8 harg8 arg9 harg9 arg15 arg16 arg17 arg18 arg19 x0 x1 x2 x3 x4 x5 x6 x7) 14 (fun _ => 0) (sinks i x0 x1 x2 x3 x4 x5 x6 x7 (fun _ => 0)) :=
    sinks_step i x0 x1 x2 x3 x4 x5 x6 x7 1 5 (by omega) (by omega) rfl (read_rows arg18 _ ![640, 0] inb_S1024x256_S128x256_640_0 5 rfl (by omega) _ (HS2_2 c arg3 harg3 arg4 harg4 arg5 harg5 arg16 x1 x2 x3))
      (load_plane arg8 harg8 x6 ![13, 0, 0] inb_S16x128x256_S1x128x256_13_0_0 13 rfl (by omega)) (load_sink arg2 harg2 x0 i 13 (by omega) (k0_off1_inb i 13) (Shape.Idx.first one_elt))
      (read_rows arg19 _ ![640, 0] inb_S1024x256_S128x256_640_0 5 rfl (by omega) _ (HS3_2 c arg6 harg6 arg7 harg7 arg9 harg9 arg17 x4 x5 x7)) rfl (fun _ => 0) _ (read_line arg15 _ 13 ![13, 0] (by decide) rfl _ _ u13 (by omega)) _ ![13, 0] inb_S16x128_S1x128_13_0 rfl u13
  have u15 : Upto (fun y => (y 0).val) (kernelRun0_A.sl.H12_16 (F := Ideal) c i arg2 harg2 arg3 harg3 arg4 harg4 arg5 harg5 arg6 harg6 arg7 harg7 arg8 harg8 arg9 harg9 arg15 arg16 arg17 arg18 arg19 x0 x1 x2 x3 x4 x5 x6 x7) 15 (fun _ => 0) (sinks i x0 x1 x2 x3 x4 x5 x6 x7 (fun _ => 0)) :=
    sinks_step i x0 x1 x2 x3 x4 x5 x6 x7 1 6 (by omega) (by omega) rfl (read_rows arg18 _ ![768, 0] inb_S1024x256_S128x256_768_0 6 rfl (by omega) _ (HS2_2 c arg3 harg3 arg4 harg4 arg5 harg5 arg16 x1 x2 x3))
      (load_plane arg8 harg8 x6 ![14, 0, 0] inb_S16x128x256_S1x128x256_14_0_0 14 rfl (by omega)) (load_sink arg2 harg2 x0 i 14 (by omega) (k0_off1_inb i 14) (Shape.Idx.first one_elt))
      (read_rows arg19 _ ![768, 0] inb_S1024x256_S128x256_768_0 6 rfl (by omega) _ (HS3_2 c arg6 harg6 arg7 harg7 arg9 harg9 arg17 x4 x5 x7)) rfl (fun _ => 0) _ (read_line arg15 _ 14 ![14, 0] (by decide) rfl _ _ u14 (by omega)) _ ![14, 0] inb_S16x128_S1x128_14_0 rfl u14
  have u16 :=
    sinks_step i x0 x1 x2 x3 x4 x5 x6 x7 1 7 (by omega) (by omega) rfl (read_rows arg18 _ ![896, 0] inb_S1024x256_S128x256_896_0 7 rfl (by omega) _ (HS2_2 c arg3 harg3 arg4 harg4 arg5 harg5 arg16 x1 x2 x3))
      (load_plane arg8 harg8 x6 ![15, 0, 0] inb_S16x128x256_S1x128x256_15_0_0 15 rfl (by omega)) (load_sink arg2 harg2 x0 i 15 (by omega) (k0_off1_inb i 15) (Shape.Idx.first one_elt))
      (read_rows arg19 _ ![896, 0] inb_S1024x256_S128x256_896_0 7 rfl (by omega) _ (HS3_2 c arg6 harg6 arg7 harg7 arg9 harg9 arg17 x4 x5 x7)) rfl (fun _ => 0) _ (read_line arg15 _ 15 ![15, 0] (by decide) rfl _ _ u15 (by omega)) _ ![15, 0] inb_S16x128_S1x128_15_0 rfl u15
  exact funext fun y => (u16 y).trans (if_pos (y 0).isLt)

theorem out11_B (hc0 : ¬cond0_0 i) (xo11 : Vec Ideal S16x128x256 .f32) (xo12 : Vec Ideal S16x128 .f32) : View.canon (kernelRun0_B (F := Ideal) c i arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 arg20 harg20 arg21 harg21 hc0 x0 x1 x2 x3 x4 x5 x6 x7 xo11 xo12).2.2.2.1 = bias i x0 x1 x2 x3 x4 x5 x6 x7 xo11 := by
  have u0 : Upto (s := S16x128x256) (fun y => (y 0).val) [] 0 (View.canon (Val := Elt Ideal) (e := .f32) []) (bias i x0 x1 x2 x3 x4 x5 x6 x7 xo11) := fun y => rfl
  have u1 :=
    bias_step i x0 x1 x2 x3 x4 x5 x6 x7 0 0 (by omega) (by omega) rfl (read_rows arg18 _ ![0, 0] inb_S1024x256_S128x256_0_0 0 rfl (by omega) _ (HS2_1 c arg3 harg3 arg4 harg4 arg5 harg5 arg16 x1 x2 x3))
      (load_plane arg8 harg8 x6 ![0, 0, 0] inb_S16x128x256_S1x128x256_0_0_0 0 rfl (by omega)) (load_sink arg2 harg2 x0 i 0 (by omega) (k0_off1_inb i 0) (Shape.Idx.first one_elt))
      (read_rows arg19 _ ![0, 0] inb_S1024x256_S128x256_0_0 0 rfl (by omega) _ (HS3_1 c arg6 harg6 arg7 harg7 arg9 harg9 arg17 x4 x5 x7)) rfl xo11 _ (load_plane arg14 harg14 xo11 ![0, 0, 0] (by decide) 0 rfl (by omega)) _ ![0, 0, 0] inb_S16x128x256_S1x128x256_0_0_0 rfl u0
  have u2 :=
    bias_step i x0 x1 x2 x3 x4 x5 x6 x7 0 1 (by omega) (by omega) rfl (read_rows arg18 _ ![128, 0] inb_S1024x256_S128x256_128_0 1 rfl (by omega) _ (HS2_1 c arg3 harg3 arg4 harg4 arg5 harg5 arg16 x1 x2 x3))
      (load_plane arg8 harg8 x6 ![1, 0, 0] inb_S16x128x256_S1x128x256_1_0_0 1 rfl (by omega)) (load_sink arg2 harg2 x0 i 1 (by omega) (k0_off1_inb i 1) (Shape.Idx.first one_elt))
      (read_rows arg19 _ ![128, 0] inb_S1024x256_S128x256_128_0 1 rfl (by omega) _ (HS3_1 c arg6 harg6 arg7 harg7 arg9 harg9 arg17 x4 x5 x7)) rfl xo11 _ (load_plane arg14 harg14 xo11 ![1, 0, 0] (by decide) 1 rfl (by omega)) _ ![1, 0, 0] inb_S16x128x256_S1x128x256_1_0_0 rfl u1
  have u3 :=
    bias_step i x0 x1 x2 x3 x4 x5 x6 x7 0 2 (by omega) (by omega) rfl (read_rows arg18 _ ![256, 0] inb_S1024x256_S128x256_256_0 2 rfl (by omega) _ (HS2_1 c arg3 harg3 arg4 harg4 arg5 harg5 arg16 x1 x2 x3))
      (load_plane arg8 harg8 x6 ![2, 0, 0] inb_S16x128x256_S1x128x256_2_0_0 2 rfl (by omega)) (load_sink arg2 harg2 x0 i 2 (by omega) (k0_off1_inb i 2) (Shape.Idx.first one_elt))
      (read_rows arg19 _ ![256, 0] inb_S1024x256_S128x256_256_0 2 rfl (by omega) _ (HS3_1 c arg6 harg6 arg7 harg7 arg9 harg9 arg17 x4 x5 x7)) rfl xo11 _ (load_plane arg14 harg14 xo11 ![2, 0, 0] (by decide) 2 rfl (by omega)) _ ![2, 0, 0] inb_S16x128x256_S1x128x256_2_0_0 rfl u2
  have u4 :=
    bias_step i x0 x1 x2 x3 x4 x5 x6 x7 0 3 (by omega) (by omega) rfl (read_rows arg18 _ ![384, 0] inb_S1024x256_S128x256_384_0 3 rfl (by omega) _ (HS2_1 c arg3 harg3 arg4 harg4 arg5 harg5 arg16 x1 x2 x3))
      (load_plane arg8 harg8 x6 ![3, 0, 0] inb_S16x128x256_S1x128x256_3_0_0 3 rfl (by omega)) (load_sink arg2 harg2 x0 i 3 (by omega) (k0_off1_inb i 3) (Shape.Idx.first one_elt))
      (read_rows arg19 _ ![384, 0] inb_S1024x256_S128x256_384_0 3 rfl (by omega) _ (HS3_1 c arg6 harg6 arg7 harg7 arg9 harg9 arg17 x4 x5 x7)) rfl xo11 _ (load_plane arg14 harg14 xo11 ![3, 0, 0] (by decide) 3 rfl (by omega)) _ ![3, 0, 0] inb_S16x128x256_S1x128x256_3_0_0 rfl u3
  have u5 :=
    bias_step i x0 x1 x2 x3 x4 x5 x6 x7 0 4 (by omega) (by omega) rfl (read_rows arg18 _ ![512, 0] inb_S1024x256_S128x256_512_0 4 rfl (by omega) _ (HS2_1 c arg3 harg3 arg4 harg4 arg5 harg5 arg16 x1 x2 x3))
      (load_plane arg8 harg8 x6 ![4, 0, 0] inb_S16x128x256_S1x128x256_4_0_0 4 rfl (by omega)) (load_sink arg2 harg2 x0 i 4 (by omega) (k0_off1_inb i 4) (Shape.Idx.first one_elt))
      (read_rows arg19 _ ![512, 0] inb_S1024x256_S128x256_512_0 4 rfl (by omega) _ (HS3_1 c arg6 harg6 arg7 harg7 arg9 harg9 arg17 x4 x5 x7)) rfl xo11 _ (load_plane arg14 harg14 xo11 ![4, 0, 0] (by decide) 4 rfl (by omega)) _ ![4, 0, 0] inb_S16x128x256_S1x128x256_4_0_0 rfl u4
  have u6 :=
    bias_step i x0 x1 x2 x3 x4 x5 x6 x7 0 5 (by omega) (by omega) rfl (read_rows arg18 _ ![640, 0] inb_S1024x256_S128x256_640_0 5 rfl (by omega) _ (HS2_1 c arg3 harg3 arg4 harg4 arg5 harg5 arg16 x1 x2 x3))
      (load_plane arg8 harg8 x6 ![5, 0, 0] inb_S16x128x256_S1x128x256_5_0_0 5 rfl (by omega)) (load_sink arg2 harg2 x0 i 5 (by omega) (k0_off1_inb i 5) (Shape.Idx.first one_elt))
      (read_rows arg19 _ ![640, 0] inb_S1024x256_S128x256_640_0 5 rfl (by omega) _ (HS3_1 c arg6 harg6 arg7 harg7 arg9 harg9 arg17 x4 x5 x7)) rfl xo11 _ (load_plane arg14 harg14 xo11 ![5, 0, 0] (by decide) 5 rfl (by omega)) _ ![5, 0, 0] inb_S16x128x256_S1x128x256_5_0_0 rfl u5
  have u7 :=
    bias_step i x0 x1 x2 x3 x4 x5 x6 x7 0 6 (by omega) (by omega) rfl (read_rows arg18 _ ![768, 0] inb_S1024x256_S128x256_768_0 6 rfl (by omega) _ (HS2_1 c arg3 harg3 arg4 harg4 arg5 harg5 arg16 x1 x2 x3))
      (load_plane arg8 harg8 x6 ![6, 0, 0] inb_S16x128x256_S1x128x256_6_0_0 6 rfl (by omega)) (load_sink arg2 harg2 x0 i 6 (by omega) (k0_off1_inb i 6) (Shape.Idx.first one_elt))
      (read_rows arg19 _ ![768, 0] inb_S1024x256_S128x256_768_0 6 rfl (by omega) _ (HS3_1 c arg6 harg6 arg7 harg7 arg9 harg9 arg17 x4 x5 x7)) rfl xo11 _ (load_plane arg14 harg14 xo11 ![6, 0, 0] (by decide) 6 rfl (by omega)) _ ![6, 0, 0] inb_S16x128x256_S1x128x256_6_0_0 rfl u6
  have u8 :=
    bias_step i x0 x1 x2 x3 x4 x5 x6 x7 0 7 (by omega) (by omega) rfl (read_rows arg18 _ ![896, 0] inb_S1024x256_S128x256_896_0 7 rfl (by omega) _ (HS2_1 c arg3 harg3 arg4 harg4 arg5 harg5 arg16 x1 x2 x3))
      (load_plane arg8 harg8 x6 ![7, 0, 0] inb_S16x128x256_S1x128x256_7_0_0 7 rfl (by omega)) (load_sink arg2 harg2 x0 i 7 (by omega) (k0_off1_inb i 7) (Shape.Idx.first one_elt))
      (read_rows arg19 _ ![896, 0] inb_S1024x256_S128x256_896_0 7 rfl (by omega) _ (HS3_1 c arg6 harg6 arg7 harg7 arg9 harg9 arg17 x4 x5 x7)) rfl xo11 _ (load_plane arg14 harg14 xo11 ![7, 0, 0] (by decide) 7 rfl (by omega)) _ ![7, 0, 0] inb_S16x128x256_S1x128x256_7_0_0 rfl u7
  have u9 :=
    bias_step i x0 x1 x2 x3 x4 x5 x6 x7 1 0 (by omega) (by omega) rfl (read_rows arg18 _ ![0, 0] inb_S1024x256_S128x256_0_0 0 rfl (by omega) _ (HS2_2 c arg3 harg3 arg4 harg4 arg5 harg5 arg16 x1 x2 x3))
      (load_plane arg8 harg8 x6 ![8, 0, 0] inb_S16x128x256_S1x128x256_8_0_0 8 rfl (by omega)) (load_sink arg2 harg2 x0 i 8 (by omega) (k0_off1_inb i 8) (Shape.Idx.first one_elt))
      (read_rows arg19 _ ![0, 0] inb_S1024x256_S128x256_0_0 0 rfl (by omega) _ (HS3_2 c arg6 harg6 arg7 harg7 arg9 harg9 arg17 x4 x5 x7)) rfl xo11 _ (load_plane arg14 harg14 xo11 ![8, 0, 0] (by decide) 8 rfl (by omega)) _ ![8, 0, 0] inb_S16x128x256_S1x128x256_8_0_0 rfl u8
  have u10 :=
    bias_step i x0 x1 x2 x3 x4 x5 x6 x7 1 1 (by omega) (by omega) rfl (read_rows arg18 _ ![128, 0] inb_S1024x256_S128x256_128_0 1 rfl (by omega) _ (HS2_2 c arg3 harg3 arg4 harg4 arg5 harg5 arg16 x1 x2 x3))
      (load_plane arg8 harg8 x6 ![9, 0, 0] inb_S16x128x256_S1x128x256_9_0_0 9 rfl (by omega)) (load_sink arg2 harg2 x0 i 9 (by omega) (k0_off1_inb i 9) (Shape.Idx.first one_elt))
      (read_rows arg19 _ ![128, 0] inb_S1024x256_S128x256_128_0 1 rfl (by omega) _ (HS3_2 c arg6 harg6 arg7 harg7 arg9 harg9 arg17 x4 x5 x7)) rfl xo11 _ (load_plane arg14 harg14 xo11 ![9, 0, 0] (by decide) 9 rfl (by omega)) _ ![9, 0, 0] inb_S16x128x256_S1x128x256_9_0_0 rfl u9
  have u11 :=
    bias_step i x0 x1 x2 x3 x4 x5 x6 x7 1 2 (by omega) (by omega) rfl (read_rows arg18 _ ![256, 0] inb_S1024x256_S128x256_256_0 2 rfl (by omega) _ (HS2_2 c arg3 harg3 arg4 harg4 arg5 harg5 arg16 x1 x2 x3))
      (load_plane arg8 harg8 x6 ![10, 0, 0] inb_S16x128x256_S1x128x256_10_0_0 10 rfl (by omega)) (load_sink arg2 harg2 x0 i 10 (by omega) (k0_off1_inb i 10) (Shape.Idx.first one_elt))
      (read_rows arg19 _ ![256, 0] inb_S1024x256_S128x256_256_0 2 rfl (by omega) _ (HS3_2 c arg6 harg6 arg7 harg7 arg9 harg9 arg17 x4 x5 x7)) rfl xo11 _ (load_plane arg14 harg14 xo11 ![10, 0, 0] (by decide) 10 rfl (by omega)) _ ![10, 0, 0] inb_S16x128x256_S1x128x256_10_0_0 rfl u10
  have u12 :=
    bias_step i x0 x1 x2 x3 x4 x5 x6 x7 1 3 (by omega) (by omega) rfl (read_rows arg18 _ ![384, 0] inb_S1024x256_S128x256_384_0 3 rfl (by omega) _ (HS2_2 c arg3 harg3 arg4 harg4 arg5 harg5 arg16 x1 x2 x3))
      (load_plane arg8 harg8 x6 ![11, 0, 0] inb_S16x128x256_S1x128x256_11_0_0 11 rfl (by omega)) (load_sink arg2 harg2 x0 i 11 (by omega) (k0_off1_inb i 11) (Shape.Idx.first one_elt))
      (read_rows arg19 _ ![384, 0] inb_S1024x256_S128x256_384_0 3 rfl (by omega) _ (HS3_2 c arg6 harg6 arg7 harg7 arg9 harg9 arg17 x4 x5 x7)) rfl xo11 _ (load_plane arg14 harg14 xo11 ![11, 0, 0] (by decide) 11 rfl (by omega)) _ ![11, 0, 0] inb_S16x128x256_S1x128x256_11_0_0 rfl u11
  have u13 :=
    bias_step i x0 x1 x2 x3 x4 x5 x6 x7 1 4 (by omega) (by omega) rfl (read_rows arg18 _ ![512, 0] inb_S1024x256_S128x256_512_0 4 rfl (by omega) _ (HS2_2 c arg3 harg3 arg4 harg4 arg5 harg5 arg16 x1 x2 x3))
      (load_plane arg8 harg8 x6 ![12, 0, 0] inb_S16x128x256_S1x128x256_12_0_0 12 rfl (by omega)) (load_sink arg2 harg2 x0 i 12 (by omega) (k0_off1_inb i 12) (Shape.Idx.first one_elt))
      (read_rows arg19 _ ![512, 0] inb_S1024x256_S128x256_512_0 4 rfl (by omega) _ (HS3_2 c arg6 harg6 arg7 harg7 arg9 harg9 arg17 x4 x5 x7)) rfl xo11 _ (load_plane arg14 harg14 xo11 ![12, 0, 0] (by decide) 12 rfl (by omega)) _ ![12, 0, 0] inb_S16x128x256_S1x128x256_12_0_0 rfl u12
  have u14 :=
    bias_step i x0 x1 x2 x3 x4 x5 x6 x7 1 5 (by omega) (by omega) rfl (read_rows arg18 _ ![640, 0] inb_S1024x256_S128x256_640_0 5 rfl (by omega) _ (HS2_2 c arg3 harg3 arg4 harg4 arg5 harg5 arg16 x1 x2 x3))
      (load_plane arg8 harg8 x6 ![13, 0, 0] inb_S16x128x256_S1x128x256_13_0_0 13 rfl (by omega)) (load_sink arg2 harg2 x0 i 13 (by omega) (k0_off1_inb i 13) (Shape.Idx.first one_elt))
      (read_rows arg19 _ ![640, 0] inb_S1024x256_S128x256_640_0 5 rfl (by omega) _ (HS3_2 c arg6 harg6 arg7 harg7 arg9 harg9 arg17 x4 x5 x7)) rfl xo11 _ (load_plane arg14 harg14 xo11 ![13, 0, 0] (by decide) 13 rfl (by omega)) _ ![13, 0, 0] inb_S16x128x256_S1x128x256_13_0_0 rfl u13
  have u15 :=
    bias_step i x0 x1 x2 x3 x4 x5 x6 x7 1 6 (by omega) (by omega) rfl (read_rows arg18 _ ![768, 0] inb_S1024x256_S128x256_768_0 6 rfl (by omega) _ (HS2_2 c arg3 harg3 arg4 harg4 arg5 harg5 arg16 x1 x2 x3))
      (load_plane arg8 harg8 x6 ![14, 0, 0] inb_S16x128x256_S1x128x256_14_0_0 14 rfl (by omega)) (load_sink arg2 harg2 x0 i 14 (by omega) (k0_off1_inb i 14) (Shape.Idx.first one_elt))
      (read_rows arg19 _ ![768, 0] inb_S1024x256_S128x256_768_0 6 rfl (by omega) _ (HS3_2 c arg6 harg6 arg7 harg7 arg9 harg9 arg17 x4 x5 x7)) rfl xo11 _ (load_plane arg14 harg14 xo11 ![14, 0, 0] (by decide) 14 rfl (by omega)) _ ![14, 0, 0] inb_S16x128x256_S1x128x256_14_0_0 rfl u14
  have u16 :=
    bias_step i x0 x1 x2 x3 x4 x5 x6 x7 1 7 (by omega) (by omega) rfl (read_rows arg18 _ ![896, 0] inb_S1024x256_S128x256_896_0 7 rfl (by omega) _ (HS2_2 c arg3 harg3 arg4 harg4 arg5 harg5 arg16 x1 x2 x3))
      (load_plane arg8 harg8 x6 ![15, 0, 0] inb_S16x128x256_S1x128x256_15_0_0 15 rfl (by omega)) (load_sink arg2 harg2 x0 i 15 (by omega) (k0_off1_inb i 15) (Shape.Idx.first one_elt))
      (read_rows arg19 _ ![896, 0] inb_S1024x256_S128x256_896_0 7 rfl (by omega) _ (HS3_2 c arg6 harg6 arg7 harg7 arg9 harg9 arg17 x4 x5 x7)) rfl xo11 _ (load_plane arg14 harg14 xo11 ![15, 0, 0] (by decide) 15 rfl (by omega)) _ ![15, 0, 0] inb_S16x128x256_S1x128x256_15_0_0 rfl u15
  exact funext fun y => (u16 y).trans (if_pos (y 0).isLt)

theorem out12_B (hc0 : ¬cond0_0 i) (xo11 : Vec Ideal S16x128x256 .f32) (xo12 : Vec Ideal S16x128 .f32) : View.canon (kernelRun0_B (F := Ideal) c i arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 arg20 harg20 arg21 harg21 hc0 x0 x1 x2 x3 x4 x5 x6 x7 xo11 xo12).2.2.2.2.1 = sinks i x0 x1 x2 x3 x4 x5 x6 x7 xo12 := by
  have u0 : Upto (s := S16x128) (fun y => (y 0).val) [] 0 (View.canon (Val := Elt Ideal) (e := .f32) []) (sinks i x0 x1 x2 x3 x4 x5 x6 x7 xo12) := fun y => rfl
  have u1 :=
    sinks_step i x0 x1 x2 x3 x4 x5 x6 x7 0 0 (by omega) (by omega) rfl (read_rows arg18 _ ![0, 0] inb_S1024x256_S128x256_0_0 0 rfl (by omega) _ (HS2_1 c arg3 harg3 arg4 harg4 arg5 harg5 arg16 x1 x2 x3))
      (load_plane arg8 harg8 x6 ![0, 0, 0] inb_S16x128x256_S1x128x256_0_0_0 0 rfl (by omega)) (load_sink arg2 harg2 x0 i 0 (by omega) (k0_off1_inb i 0) (Shape.Idx.first one_elt))
      (read_rows arg19 _ ![0, 0] inb_S1024x256_S128x256_0_0 0 rfl (by omega) _ (HS3_1 c arg6 harg6 arg7 harg7 arg9 harg9 arg17 x4 x5 x7)) rfl xo12 _ (load_line arg15 harg15 xo12 ![0, 0] (by decide) 0 rfl (by omega)) _ ![0, 0] inb_S16x128_S1x128_0_0 rfl u0
  have u2 :=
    sinks_step i x0 x1 x2 x3 x4 x5 x6 x7 0 1 (by omega) (by omega) rfl (read_rows arg18 _ ![128, 0] inb_S1024x256_S128x256_128_0 1 rfl (by omega) _ (HS2_1 c arg3 harg3 arg4 harg4 arg5 harg5 arg16 x1 x2 x3))
      (load_plane arg8 harg8 x6 ![1, 0, 0] inb_S16x128x256_S1x128x256_1_0_0 1 rfl (by omega)) (load_sink arg2 harg2 x0 i 1 (by omega) (k0_off1_inb i 1) (Shape.Idx.first one_elt))
      (read_rows arg19 _ ![128, 0] inb_S1024x256_S128x256_128_0 1 rfl (by omega) _ (HS3_1 c arg6 harg6 arg7 harg7 arg9 harg9 arg17 x4 x5 x7)) rfl xo12 _ (load_line arg15 harg15 xo12 ![1, 0] (by decide) 1 rfl (by omega)) _ ![1, 0] inb_S16x128_S1x128_1_0 rfl u1
  have u3 :=
    sinks_step i x0 x1 x2 x3 x4 x5 x6 x7 0 2 (by omega) (by omega) rfl (read_rows arg18 _ ![256, 0] inb_S1024x256_S128x256_256_0 2 rfl (by omega) _ (HS2_1 c arg3 harg3 arg4 harg4 arg5 harg5 arg16 x1 x2 x3))
      (load_plane arg8 harg8 x6 ![2, 0, 0] inb_S16x128x256_S1x128x256_2_0_0 2 rfl (by omega)) (load_sink arg2 harg2 x0 i 2 (by omega) (k0_off1_inb i 2) (Shape.Idx.first one_elt))
      (read_rows arg19 _ ![256, 0] inb_S1024x256_S128x256_256_0 2 rfl (by omega) _ (HS3_1 c arg6 harg6 arg7 harg7 arg9 harg9 arg17 x4 x5 x7)) rfl xo12 _ (load_line arg15 harg15 xo12 ![2, 0] (by decide) 2 rfl (by omega)) _ ![2, 0] inb_S16x128_S1x128_2_0 rfl u2
  have u4 :=
    sinks_step i x0 x1 x2 x3 x4 x5 x6 x7 0 3 (by omega) (by omega) rfl (read_rows arg18 _ ![384, 0] inb_S1024x256_S128x256_384_0 3 rfl (by omega) _ (HS2_1 c arg3 harg3 arg4 harg4 arg5 harg5 arg16 x1 x2 x3))
      (load_plane arg8 harg8 x6 ![3, 0, 0] inb_S16x128x256_S1x128x256_3_0_0 3 rfl (by omega)) (load_sink arg2 harg2 x0 i 3 (by omega) (k0_off1_inb i 3) (Shape.Idx.first one_elt))
      (read_rows arg19 _ ![384, 0] inb_S1024x256_S128x256_384_0 3 rfl (by omega) _ (HS3_1 c arg6 harg6 arg7 harg7 arg9 harg9 arg17 x4 x5 x7)) rfl xo12 _ (load_line arg15 harg15 xo12 ![3, 0] (by decide) 3 rfl (by omega)) _ ![3, 0] inb_S16x128_S1x128_3_0 rfl u3
  have u5 :=
    sinks_step i x0 x1 x2 x3 x4 x5 x6 x7 0 4 (by omega) (by omega) rfl (read_rows arg18 _ ![512, 0] inb_S1024x256_S128x256_512_0 4 rfl (by omega) _ (HS2_1 c arg3 harg3 arg4 harg4 arg5 harg5 arg16 x1 x2 x3))
      (load_plane arg8 harg8 x6 ![4, 0, 0] inb_S16x128x256_S1x128x256_4_0_0 4 rfl (by omega)) (load_sink arg2 harg2 x0 i 4 (by omega) (k0_off1_inb i 4) (Shape.Idx.first one_elt))
      (read_rows arg19 _ ![512, 0] inb_S1024x256_S128x256_512_0 4 rfl (by omega) _ (HS3_1 c arg6 harg6 arg7 harg7 arg9 harg9 arg17 x4 x5 x7)) rfl xo12 _ (load_line arg15 harg15 xo12 ![4, 0] (by decide) 4 rfl (by omega)) _ ![4, 0] inb_S16x128_S1x128_4_0 rfl u4
  have u6 :=
    sinks_step i x0 x1 x2 x3 x4 x5 x6 x7 0 5 (by omega) (by omega) rfl (read_rows arg18 _ ![640, 0] inb_S1024x256_S128x256_640_0 5 rfl (by omega) _ (HS2_1 c arg3 harg3 arg4 harg4 arg5 harg5 arg16 x1 x2 x3))
      (load_plane arg8 harg8 x6 ![5, 0, 0] inb_S16x128x256_S1x128x256_5_0_0 5 rfl (by omega)) (load_sink arg2 harg2 x0 i 5 (by omega) (k0_off1_inb i 5) (Shape.Idx.first one_elt))
      (read_rows arg19 _ ![640, 0] inb_S1024x256_S128x256_640_0 5 rfl (by omega) _ (HS3_1 c arg6 harg6 arg7 harg7 arg9 harg9 arg17 x4 x5 x7)) rfl xo12 _ (load_line arg15 harg15 xo12 ![5, 0] (by decide) 5 rfl (by omega)) _ ![5, 0] inb_S16x128_S1x128_5_0 rfl u5
  have u7 :=
    sinks_step i x0 x1 x2 x3 x4 x5 x6 x7 0 6 (by omega) (by omega) rfl (read_rows arg18 _ ![768, 0] inb_S1024x256_S128x256_768_0 6 rfl (by omega) _ (HS2_1 c arg3 harg3 arg4 harg4 arg5 harg5 arg16 x1 x2 x3))
      (load_plane arg8 harg8 x6 ![6, 0, 0] inb_S16x128x256_S1x128x256_6_0_0 6 rfl (by omega)) (load_sink arg2 harg2 x0 i 6 (by omega) (k0_off1_inb i 6) (Shape.Idx.first one_elt))
      (read_rows arg19 _ ![768, 0] inb_S1024x256_S128x256_768_0 6 rfl (by omega) _ (HS3_1 c arg6 harg6 arg7 harg7 arg9 harg9 arg17 x4 x5 x7)) rfl xo12 _ (load_line arg15 harg15 xo12 ![6, 0] (by decide) 6 rfl (by omega)) _ ![6, 0] inb_S16x128_S1x128_6_0 rfl u6
  have u8 :=
    sinks_step i x0 x1 x2 x3 x4 x5 x6 x7 0 7 (by omega) (by omega) rfl (read_rows arg18 _ ![896, 0] inb_S1024x256_S128x256_896_0 7 rfl (by omega) _ (HS2_1 c arg3 harg3 arg4 harg4 arg5 harg5 arg16 x1 x2 x3))
      (load_plane arg8 harg8 x6 ![7, 0, 0] inb_S16x128x256_S1x128x256_7_0_0 7 rfl (by omega)) (load_sink arg2 harg2 x0 i 7 (by omega) (k0_off1_inb i 7) (Shape.Idx.first one_elt))
      (read_rows arg19 _ ![896, 0] inb_S1024x256_S128x256_896_0 7 rfl (by omega) _ (HS3_1 c arg6 harg6 arg7 harg7 arg9 harg9 arg17 x4 x5 x7)) rfl xo12 _ (load_line arg15 harg15 xo12 ![7, 0] (by decide) 7 rfl (by omega)) _ ![7, 0] inb_S16x128_S1x128_7_0 rfl u7
  have u9 :=
    sinks_step i x0 x1 x2 x3 x4 x5 x6 x7 1 0 (by omega) (by omega) rfl (read_rows arg18 _ ![0, 0] inb_S1024x256_S128x256_0_0 0 rfl (by omega) _ (HS2_2 c arg3 harg3 arg4 harg4 arg5 harg5 arg16 x1 x2 x3))
      (load_plane arg8 harg8 x6 ![8, 0, 0] inb_S16x128x256_S1x128x256_8_0_0 8 rfl (by omega)) (load_sink arg2 harg2 x0 i 8 (by omega) (k0_off1_inb i 8) (Shape.Idx.first one_elt))
      (read_rows arg19 _ ![0, 0] inb_S1024x256_S128x256_0_0 0 rfl (by omega) _ (HS3_2 c arg6 harg6 arg7 harg7 arg9 harg9 arg17 x4 x5 x7)) rfl xo12 _ (load_line arg15 harg15 xo12 ![8, 0] (by decide) 8 rfl (by omega)) _ ![8, 0] inb_S16x128_S1x128_8_0 rfl u8
  have u10 :=
    sinks_step i x0 x1 x2 x3 x4 x5 x6 x7 1 1 (by omega) (by omega) rfl (read_rows arg18 _ ![128, 0] inb_S1024x256_S128x256_128_0 1 rfl (by omega) _ (HS2_2 c arg3 harg3 arg4 harg4 arg5 harg5 arg16 x1 x2 x3))
      (load_plane arg8 harg8 x6 ![9, 0, 0] inb_S16x128x256_S1x128x256_9_0_0 9 rfl (by omega)) (load_sink arg2 harg2 x0 i 9 (by omega) (k0_off1_inb i 9) (Shape.Idx.first one_elt))
      (read_rows arg19 _ ![128, 0] inb_S1024x256_S128x256_128_0 1 rfl (by omega) _ (HS3_2 c arg6 harg6 arg7 harg7 arg9 harg9 arg17 x4 x5 x7)) rfl xo12 _ (load_line arg15 harg15 xo12 ![9, 0] (by decide) 9 rfl (by omega)) _ ![9, 0] inb_S16x128_S1x128_9_0 rfl u9
  have u11 :=
    sinks_step i x0 x1 x2 x3 x4 x5 x6 x7 1 2 (by omega) (by omega) rfl (read_rows arg18 _ ![256, 0] inb_S1024x256_S128x256_256_0 2 rfl (by omega) _ (HS2_2 c arg3 harg3 arg4 harg4 arg5 harg5 arg16 x1 x2 x3))
      (load_plane arg8 harg8 x6 ![10, 0, 0] inb_S16x128x256_S1x128x256_10_0_0 10 rfl (by omega)) (load_sink arg2 harg2 x0 i 10 (by omega) (k0_off1_inb i 10) (Shape.Idx.first one_elt))
      (read_rows arg19 _ ![256, 0] inb_S1024x256_S128x256_256_0 2 rfl (by omega) _ (HS3_2 c arg6 harg6 arg7 harg7 arg9 harg9 arg17 x4 x5 x7)) rfl xo12 _ (load_line arg15 harg15 xo12 ![10, 0] (by decide) 10 rfl (by omega)) _ ![10, 0] inb_S16x128_S1x128_10_0 rfl u10
  have u12 :=
    sinks_step i x0 x1 x2 x3 x4 x5 x6 x7 1 3 (by omega) (by omega) rfl (read_rows arg18 _ ![384, 0] inb_S1024x256_S128x256_384_0 3 rfl (by omega) _ (HS2_2 c arg3 harg3 arg4 harg4 arg5 harg5 arg16 x1 x2 x3))
      (load_plane arg8 harg8 x6 ![11, 0, 0] inb_S16x128x256_S1x128x256_11_0_0 11 rfl (by omega)) (load_sink arg2 harg2 x0 i 11 (by omega) (k0_off1_inb i 11) (Shape.Idx.first one_elt))
      (read_rows arg19 _ ![384, 0] inb_S1024x256_S128x256_384_0 3 rfl (by omega) _ (HS3_2 c arg6 harg6 arg7 harg7 arg9 harg9 arg17 x4 x5 x7)) rfl xo12 _ (load_line arg15 harg15 xo12 ![11, 0] (by decide) 11 rfl (by omega)) _ ![11, 0] inb_S16x128_S1x128_11_0 rfl u11
  have u13 :=
    sinks_step i x0 x1 x2 x3 x4 x5 x6 x7 1 4 (by omega) (by omega) rfl (read_rows arg18 _ ![512, 0] inb_S1024x256_S128x256_512_0 4 rfl (by omega) _ (HS2_2 c arg3 harg3 arg4 harg4 arg5 harg5 arg16 x1 x2 x3))
      (load_plane arg8 harg8 x6 ![12, 0, 0] inb_S16x128x256_S1x128x256_12_0_0 12 rfl (by omega)) (load_sink arg2 harg2 x0 i 12 (by omega) (k0_off1_inb i 12) (Shape.Idx.first one_elt))
      (read_rows arg19 _ ![512, 0] inb_S1024x256_S128x256_512_0 4 rfl (by omega) _ (HS3_2 c arg6 harg6 arg7 harg7 arg9 harg9 arg17 x4 x5 x7)) rfl xo12 _ (load_line arg15 harg15 xo12 ![12, 0] (by decide) 12 rfl (by omega)) _ ![12, 0] inb_S16x128_S1x128_12_0 rfl u12
  have u14 :=
    sinks_step i x0 x1 x2 x3 x4 x5 x6 x7 1 5 (by omega) (by omega) rfl (read_rows arg18 _ ![640, 0] inb_S1024x256_S128x256_640_0 5 rfl (by omega) _ (HS2_2 c arg3 harg3 arg4 harg4 arg5 harg5 arg16 x1 x2 x3))
      (load_plane arg8 harg8 x6 ![13, 0, 0] inb_S16x128x256_S1x128x256_13_0_0 13 rfl (by omega)) (load_sink arg2 harg2 x0 i 13 (by omega) (k0_off1_inb i 13) (Shape.Idx.first one_elt))
      (read_rows arg19 _ ![640, 0] inb_S1024x256_S128x256_640_0 5 rfl (by omega) _ (HS3_2 c arg6 harg6 arg7 harg7 arg9 harg9 arg17 x4 x5 x7)) rfl xo12 _ (load_line arg15 harg15 xo12 ![13, 0] (by decide) 13 rfl (by omega)) _ ![13, 0] inb_S16x128_S1x128_13_0 rfl u13
  have u15 :=
    sinks_step i x0 x1 x2 x3 x4 x5 x6 x7 1 6 (by omega) (by omega) rfl (read_rows arg18 _ ![768, 0] inb_S1024x256_S128x256_768_0 6 rfl (by omega) _ (HS2_2 c arg3 harg3 arg4 harg4 arg5 harg5 arg16 x1 x2 x3))
      (load_plane arg8 harg8 x6 ![14, 0, 0] inb_S16x128x256_S1x128x256_14_0_0 14 rfl (by omega)) (load_sink arg2 harg2 x0 i 14 (by omega) (k0_off1_inb i 14) (Shape.Idx.first one_elt))
      (read_rows arg19 _ ![768, 0] inb_S1024x256_S128x256_768_0 6 rfl (by omega) _ (HS3_2 c arg6 harg6 arg7 harg7 arg9 harg9 arg17 x4 x5 x7)) rfl xo12 _ (load_line arg15 harg15 xo12 ![14, 0] (by decide) 14 rfl (by omega)) _ ![14, 0] inb_S16x128_S1x128_14_0 rfl u14
  have u16 :=
    sinks_step i x0 x1 x2 x3 x4 x5 x6 x7 1 7 (by omega) (by omega) rfl (read_rows arg18 _ ![896, 0] inb_S1024x256_S128x256_896_0 7 rfl (by omega) _ (HS2_2 c arg3 harg3 arg4 harg4 arg5 harg5 arg16 x1 x2 x3))
      (load_plane arg8 harg8 x6 ![15, 0, 0] inb_S16x128x256_S1x128x256_15_0_0 15 rfl (by omega)) (load_sink arg2 harg2 x0 i 15 (by omega) (k0_off1_inb i 15) (Shape.Idx.first one_elt))
      (read_rows arg19 _ ![896, 0] inb_S1024x256_S128x256_896_0 7 rfl (by omega) _ (HS3_2 c arg6 harg6 arg7 harg7 arg9 harg9 arg17 x4 x5 x7)) rfl xo12 _ (load_line arg15 harg15 xo12 ![15, 0] (by decide) 15 rfl (by omega)) _ ![15, 0] inb_S16x128_S1x128_15_0 rfl u15
  exact funext fun y => (u16 y).trans (if_pos (y 0).isLt)

theorem out8_A (hc0 : cond0_0 i) : View.canon (kernelRun0_A (F := Ideal) c i arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 arg20 harg20 arg21 harg21 hc0 x0 x1 x2 x3 x4 x5 x6 x7).1 = dqOf (dlogs i x0 x1 x2 x3 x4 x5 x6 x7 0) (dlogs i x0 x1 x2 x3 x4 x5 x6 x7 1) x2 x3 :=
  piece8 c i arg2 harg2 arg3 harg3 arg4 harg4 arg5 harg5 arg6 harg6 arg7 harg7 arg8 harg8 arg9 harg9 arg16 arg17 arg18 arg19 arg21 x0 x1 x2 x3 x4 x5 x6 x7 _ _ _ _ _ _ _ _

theorem out9_A (hc0 : cond0_0 i) : View.canon (kernelRun0_A (F := Ideal) c i arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 arg20 harg20 arg21 harg21 hc0 x0 x1 x2 x3 x4 x5 x6 x7).2.1
    = fun y : S256x128.Idx => kvsum (if (y 1).val < 64 then (dlogs i x0 x1 x2 x3 x4 x5 x6 x7 0) else (dlogs i x0 x1 x2 x3 x4 x5 x6 x7 1)) x1 ((y 1).val / 64) (y 0).val ((y 1).val % 64) :=
  (canon_whole _ _ _ _ _ (piece9 c i arg2 harg2 arg3 harg3 arg4 harg4 arg5 harg5 arg6 harg6 arg7 harg7 arg8 harg8 arg9 harg9 arg16 arg17 arg18 arg19 arg21 x0 x1 x2 x3 x4 x5 x6 x7)).trans (pairOf_at _ _ _)

theorem out10_A (hc0 : cond0_0 i) : View.canon (kernelRun0_A (F := Ideal) c i arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 arg20 harg20 arg21 harg21 hc0 x0 x1 x2 x3 x4 x5 x6 x7).2.2.1
    = fun y : S256x128.Idx => kvsum (if (y 1).val < 64 then (probs i x0 x1 x2 x3 x6 0) else (probs i x0 x1 x2 x3 x6 1)) x7 ((y 1).val / 64) (y 0).val ((y 1).val % 64) :=
  (canon_whole _ _ _ _ _ (piece10 c i arg2 harg2 arg3 harg3 arg4 harg4 arg5 harg5 arg8 harg8 arg9 harg9 arg16 arg17 arg18 arg20 x0 x1 x2 x3 x6 x7)).trans (pairOf_at _ _ _)

theorem out8_B (hc0 : ¬cond0_0 i) (xo11 : Vec Ideal S16x128x256 .f32) (xo12 : Vec Ideal S16x128 .f32) : View.canon (kernelRun0_B (F := Ideal) c i arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 arg20 harg20 arg21 harg21 hc0 x0 x1 x2 x3 x4 x5 x6 x7 xo11 xo12).1 = dqOf (dlogs i x0 x1 x2 x3 x4 x5 x6 x7 0) (dlogs i x0 x1 x2 x3 x4 x5 x6 x7 1) x2 x3 :=
  piece8 c i arg2 harg2 arg3 harg3 arg4 harg4 arg5 harg5 arg6 harg6 arg7 harg7 arg8 harg8 arg9 harg9 arg16 arg17 arg18 arg19 arg21 x0 x1 x2 x3 x4 x5 x6 x7 _ _ _ _ _ _ _ _

theorem out9_B (hc0 : ¬cond0_0 i) (xo11 : Vec Ideal S16x128x256 .f32) (xo12 : Vec Ideal S16x128 .f32) : View.canon (kernelRun0_B (F := Ideal) c i arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 arg20 harg20 arg21 harg21 hc0 x0 x1 x2 x3 x4 x5 x6 x7 xo11 xo12).2.1
    = fun y : S256x128.Idx => kvsum (if (y 1).val < 64 then (dlogs i x0 x1 x2 x3 x4 x5 x6 x7 0) else (dlogs i x0 x1 x2 x3 x4 x5 x6 x7 1)) x1 ((y 1).val / 64) (y 0).val ((y 1).val % 64) :=
  (canon_whole _ _ _ _ _ (piece9 c i arg2 harg2 arg3 harg3 arg4 harg4 arg5 harg5 arg6 harg6 arg7 harg7 arg8 harg8 arg9 harg9 arg16 arg17 arg18 arg19 arg21 x0 x1 x2 x3 x4 x5 x6 x7)).trans (pairOf_at _ _ _)

theorem out10_B (hc0 : ¬cond0_0 i) (xo11 : Vec Ideal S16x128x256 .f32) (xo12 : Vec Ideal S16x128 .f32) : View.canon (kernelRun0_B (F := Ideal) c i arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 arg20 harg20 arg21 harg21 hc0 x0 x1 x2 x3 x4 x5 x6 x7 xo11 xo12).2.2.1
    = fun y : S256x128.Idx => kvsum (if (y 1).val < 64 then (probs i x0 x1 x2 x3 x6 0) else (probs i x0 x1 x2 x3 x6 1)) x7 ((y 1).val / 64) (y 0).val ((y 1).val % 64) :=
  (canon_whole _ _ _ _ _ (piece10 c i arg2 harg2 arg3 harg3 arg4 harg4 arg5 harg5 arg8 harg8 arg9 harg9 arg16 arg17 arg18 arg20 x0 x1 x2 x3 x6 x7)).trans (pairOf_at _ _ _)

end Cert.Attn

end
-- ==== Proof.Points.lean ====
module

public import proofs.«01_k».proof.Proof.Heads
public import proofs.«01_k».proof.Proof.Blocks

@[expose] public section

set_option maxRecDepth 16384

noncomputable section

/-! What the blocks of a grid point hold of the arrays, and what the point leaves in its output blocks. -/

namespace Cert.Attn

open Cert.KernelIdeal Cert.KernelIdeal.Gen Cert.Stores Idealize.ShloMosaic Idealize.ShloMosaic.TcCoe Idealize.SL.Sem

section points

variable {P : S4096x10752.Idx → EReal} {A : S32x128x256.Idx → EReal} {K : S32.Idx → EReal} {C : S4096x2048.Idx → EReal}
  {i : grid0.Coords} {n g : ℕ} {x0 : Vec Ideal S32 .f32} {x1 : Vec Ideal S128x1024 .bf16} {x2 x3 x4 x5 : Vec Ideal S128x128 .bf16}
  {x6 : Vec Ideal S16x128x256 .f32} {x7 : Vec Ideal S128x1024 .bf16}
  (R : Reads P A K C i n g x0 x1 x2 x3 x4 x5 x6 x7)
include R

theorem Reads.dq_at (y : S128x1024.Idx) :
    dqOf (dlogs i x0 x1 x2 x3 x4 x5 x6 x7 0) (dlogs i x0 x1 x2 x3 x4 x5 x6 x7 1) x2 x3 y
      = ∑ j : Fin 256, dl P A K C n (16 * g + (y 1).val / 64) (y 0).val j * eighth * kb P 6144 n ((16 * g + (y 1).val / 64) / 8) j.val ((y 1).val % 64) := by
  have h0 : (y 0).val < 128 := (y 0).isLt
  have h1 : (y 1).val < 1024 := (y 1).isLt
  unfold dqOf
  refine Finset.sum_congr rfl fun j _ => congrArg₂ (· * ·) ?_ ?_
  · have e := R.dlogs_row ((y 1).val / 512) ((y 1).val % 512 / 64) (by omega) (by omega) ⟨(y 0).val, h0⟩ j
    rw [show 16 * g + 8 * ((y 1).val / 512) + (y 1).val % 512 / 64 = 16 * g + (y 1).val / 64 by omega] at e
    refine Eq.trans ?_ e
    by_cases h : (y 1).val < 512
    · rw [if_pos h, show (y 1).val / 512 = 0 by omega]
    · rw [if_neg h, show (y 1).val / 512 = 1 by omega]
  · rw [show (16 * g + (y 1).val / 64) / 8 = 2 * g + (y 1).val / 512 by omega]
    exact R.band ((y 1).val / 512) (by omega) 6144 R.r2 R.r3 j.val ((y 1).val % 64) j.isLt (by omega)

theorem Reads.dk_at (y : S256x128.Idx) :
    kvsum (if (y 1).val < 64 then (dlogs i x0 x1 x2 x3 x4 x5 x6 x7 0) else (dlogs i x0 x1 x2 x3 x4 x5 x6 x7 1)) x1 ((y 1).val / 64) (y 0).val ((y 1).val % 64)
      = ∑ h : Fin 8, ∑ a : Fin 128, dl P A K C n (16 * g + 8 * ((y 1).val / 64) + h.val) a.val (y 0) * eighth
          * qv P n (16 * g + 8 * ((y 1).val / 64) + h.val) a.val ((y 1).val % 64) := by
  have h1 : (y 1).val < 128 := (y 1).isLt
  unfold kvsum
  refine Finset.sum_congr rfl fun h _ => Finset.sum_congr rfl fun a _ => congrArg₂ (· * ·) ?_ ?_
  · refine Eq.trans ?_ (R.dlogs_row ((y 1).val / 64) h.val (by omega) h.isLt a (y 0))
    by_cases hc : (y 1).val < 64
    · rw [if_pos hc, show (y 1).val / 64 = 0 by omega]
    · rw [if_neg hc, show (y 1).val / 64 = 1 by omega]
  · exact R.query ((y 1).val / 64) h.val (by omega) a.val ((y 1).val % 64) a.isLt (by omega) h.isLt

theorem Reads.dv_at (y : S256x128.Idx) :
    kvsum (if (y 1).val < 64 then (probs i x0 x1 x2 x3 x6 0) else (probs i x0 x1 x2 x3 x6 1)) x7 ((y 1).val / 64) (y 0).val ((y 1).val % 64)
      = ∑ h : Fin 8, ∑ a : Fin 128, pr P A K n (16 * g + 8 * ((y 1).val / 64) + h.val) a.val (y 0)
          * cv C n (16 * g + 8 * ((y 1).val / 64) + h.val) a.val ((y 1).val % 64) := by
  have h1 : (y 1).val < 128 := (y 1).isLt
  unfold kvsum
  refine Finset.sum_congr rfl fun h _ => Finset.sum_congr rfl fun a _ => congrArg₂ (· * ·) ?_ ?_
  · refine Eq.trans ?_ (R.probs_row ((y 1).val / 64) h.val (by omega) h.isLt a (y 0))
    by_cases hc : (y 1).val < 64
    · rw [if_pos hc, show (y 1).val / 64 = 0 by omega]
    · rw [if_neg hc, show (y 1).val / 64 = 1 by omega]
  · exact R.grad ((y 1).val / 64) h.val (by omega) a.val ((y 1).val % 64) a.isLt (by omega) h.isLt

theorem Reads.bias_at (f : S16x128x256.Idx → EReal) (y : S16x128x256.Idx) :
    bias i x0 x1 x2 x3 x4 x5 x6 x7 f y = f y + dl P A K C n (16 * g + (y 0).val) (y 1).val (y 2) := by
  have h0 : (y 0).val < 16 := (y 0).isLt
  unfold bias
  have e := R.hG_at ((y 0).val / 8) ((y 0).val % 8) (by omega) (by omega) (y 1) (y 2)
  rw [show 16 * g + 8 * ((y 0).val / 8) + (y 0).val % 8 = 16 * g + (y 0).val by omega] at e
  exact congrArg (f y + ·) e

theorem Reads.sinks_at (hr : ∀ hd r, hd < 32 → SinkRow.IsReal (lg P A n hd r) (sk K hd) (dp P C n hd r)) (f : S16x128.Idx → EReal) (y : S16x128.Idx) :
    sinks i x0 x1 x2 x3 x4 x5 x6 x7 f y = f y + ∑ r : Fin 128, dz P A K C n (16 * g + (y 0).val) r.val := by
  have h0 : (y 0).val < 16 := (y 0).isLt
  unfold sinks
  have e := R.hT_at ((y 0).val / 8) ((y 0).val % 8) (by omega) (by omega) fun r => hr _ _ (by have := R.hg; omega)
  rw [show 16 * g + 8 * ((y 0).val / 8) + (y 0).val % 8 = 16 * g + (y 0).val by omega] at e
  exact congrArg (f y + ·) e

end points

/-- where the grid's points find their blocks -/
theorem idx : ∀ t : Fin cfg0.N, (grid0.coords t 0).val = t.val / 32 ∧ (grid0.coords t 1).val = t.val % 32 ∧ win0_0.index t = ![0]
    ∧ win0_1.index t = ![t.val % 32, 4 + t.val / 32] ∧ win0_2.index t = ![t.val % 32 - 1, 48 + t.val / 32] ∧ win0_3.index t = ![t.val % 32, 48 + t.val / 32]
    ∧ win0_4.index t = ![t.val % 32 - 1, 50 + t.val / 32] ∧ win0_5.index t = ![t.val % 32, 50 + t.val / 32] ∧ win0_6.index t = ![t.val / 32, 0, 0]
    ∧ win0_7.index t = ![t.val % 32, t.val / 32] ∧ win0_8.index t = ![t.val % 32, 4 + t.val / 32] ∧ win0_9.index t = ![t.val % 32, t.val / 32]
    ∧ win0_10.index t = ![t.val % 32, t.val / 32] ∧ win0_11.index t = ![t.val / 32, 0, 0] ∧ win0_12.index t = ![t.val / 32, 0] :=
  (by decide +kernel : ∀ t : Fin grid0.N, _)

variable (m : (ℓ : Loc nD τ sig) → Buf (Elt Ideal) ℓ)

theorem reads (c : Dev nD) (t : Fin cfg0.N) :
    Reads (m ((c : Thread nD τ).loc main_arg0)) (m ((c : Thread nD τ).loc main_arg1)) (m ((c : Thread nD τ).loc main_arg2)) (m ((c : Thread nD τ).loc main_arg3))
      (grid0.coords t) (t.val % 32) (t.val / 32) (iblk m c 0 t) (X0_1 m c t) (iblk m c 2 t) (iblk m c 3 t) (iblk m c 4 t) (iblk m c 5 t) (iblk m c 6 t) (iblk m c 7 t) := by
  have hN : t.val < 64 := t.isLt
  refine ⟨by omega, by omega, (idx t).1, (idx t).2.1, ?_, ?_, ?_, ?_, ?_, ?_, ?_, ?_⟩
  · blk_ext! [iblk, V, idx t]
  · intro a l ha hl
    refine (dif_pos (moved0_1 t (ixm 128 1024 a l))).trans ?_
    blk_ext [iblk, V, idx t]
    all_goals (show _ + _ % _ = _ % _; omega)
  · intro a l ha hl
    blk_ext [iblk, V, idx t]
    all_goals (show _ + _ % _ = _ % _; omega)
  · intro a l ha hl
    blk_ext [iblk, V, idx t]
    all_goals (show _ + _ % _ = _ % _; omega)
  · intro a l ha hl
    blk_ext [iblk, V, idx t]
    all_goals (show _ + _ % _ = _ % _; omega)
  · intro a l ha hl
    blk_ext [iblk, V, idx t]
    all_goals (show _ + _ % _ = _ % _; omega)
  · intro h a j hh
    blk_ext [iblk, V, idx t]
    all_goals (show _ + _ % _ = _ % _; omega)
  · intro a l ha hl
    blk_ext [iblk, V, idx t]
    all_goals (show _ + _ % _ = _ % _; omega)

end Cert.Attn

end
-- ==== Proof.Final.lean ====
module

public import proofs.«01_k».proof.Proof.Points

@[expose] public section

set_option maxRecDepth 16384

noncomputable section

/-! The five arrays after the run, as functions of the argument arrays. -/

namespace Cert.Attn

open Cert.KernelIdeal Cert.KernelIdeal.Gen Cert.Stores Idealize.ShloMosaic Idealize.ShloMosaic.TcCoe Idealize.SL.Sem
open Idealize.ShloMosaic.Pipeline (Dat)

section arrays

variable (P : S4096x10752.Idx → EReal) (A : S32x128x256.Idx → EReal) (K : S32.Idx → EReal) (C : S4096x2048.Idx → EReal) (E : S4096x10752.Idx → EReal)

/-- lane `d` of the gradient by query `a` of block `n`, head `hd` -/
def gq (n hd a d : ℕ) : EReal := ∑ j : Fin 256, dl P A K C n hd a j * eighth * kb P 6144 n (hd / 8) j.val d
/-- lane `d` of the gradient by key `j` of the band of block `n`, key head `kh` -/
def gk (n kh : ℕ) (j : Fin 256) (d : ℕ) : EReal :=
  ∑ h : Fin 8, ∑ a : Fin 128, dl P A K C n (8 * kh + h.val) a.val j * eighth * qv P n (8 * kh + h.val) a.val d
/-- the same of the value -/
def gv (n kh : ℕ) (j : Fin 256) (d : ℕ) : EReal :=
  ∑ h : Fin 8, ∑ a : Fin 128, pr P A K n (8 * kh + h.val) a.val j * cv C n (8 * kh + h.val) a.val d

/-- the gradient by the projections: the queries' columns replaced -/
def F8 : S4096x10752.Idx → EReal := fun i =>
  if 4096 ≤ (i 1).val ∧ (i 1).val < 6144 then gq P A K C ((i 0).val / 128) (((i 1).val - 4096) / 64) ((i 0).val % 128) (((i 1).val - 4096) % 64) else E i
/-- the keys' gradients, band by band -/
def F9 : S8192x256.Idx → EReal := fun i => gk P A K C ((i 0).val / 256) ((i 1).val / 64) (Fin.ofNat 256 (i 0).val) ((i 1).val % 64)
/-- the values' gradients, band by band -/
def F10 : S8192x256.Idx → EReal := fun i => gv P A K C ((i 0).val / 256) ((i 1).val / 64) (Fin.ofNat 256 (i 0).val) ((i 1).val % 64)
/-- the bias's gradient -/
def F11 : S32x128x256.Idx → EReal := fun i => ∑ n : Fin 32, dl P A K C n.val (i 0).val (i 1).val (i 2)
/-- the sinks' gradient -/
def F12 : S32x128.Idx → EReal := fun i => ∑ n : Fin 32, ∑ a : Fin 128, dz P A K C n.val (i 0).val a.val

end arrays

variable (m : (ℓ : Loc nD τ sig) → Buf (Elt Ideal) ℓ)

theorem outs8 (c : Dev nD) (t : Fin cfg0.N) : (outsAt0 m c t.val t.isLt).1
    = dqOf (dlogs (grid0.coords t) (iblk m c 0 t) (X0_1 m c t) (iblk m c 2 t) (iblk m c 3 t) (iblk m c 4 t) (iblk m c 5 t) (iblk m c 6 t) (iblk m c 7 t) 0)
      (dlogs (grid0.coords t) (iblk m c 0 t) (X0_1 m c t) (iblk m c 2 t) (iblk m c 3 t) (iblk m c 4 t) (iblk m c 5 t) (iblk m c 6 t) (iblk m c 7 t) 1) (iblk m c 2 t) (iblk m c 3 t) := by
  by_cases h : t.val % 32 = 0
  · rw [outsAt0_A m c t h]
    dsimp only
    unfold out0_A_8
    rw [View.read_writes_junk_eq_canon]
    exact out8_A _ _ _ _ _ _ _ _ _ _ _ _ _ _ _ _ _ _ _ _ _ _ _ _ _ _ _ _ _ _ _ _ _ _ _ _ _ _ _ _ _ _ _ _ _ _ _ _ _
  · rw [outsAt0_B m c t h]
    dsimp only
    unfold out0_B_8
    rw [View.read_writes_junk_eq_canon]
    exact out8_B _ _ _ _ _ _ _ _ _ _ _ _ _ _ _ _ _ _ _ _ _ _ _ _ _ _ _ _ _ _ _ _ _ _ _ _ _ _ _ _ _ _ _ _ _ _ _ _ _ _ _

theorem outs9 (c : Dev nD) (t : Fin cfg0.N) : (outsAt0 m c t.val t.isLt).2.1
    = fun y : S256x128.Idx => kvsum (if (y 1).val < 64 then (dlogs (grid0.coords t) (iblk m c 0 t) (X0_1 m c t) (iblk m c 2 t) (iblk m c 3 t) (iblk m c 4 t) (iblk m c 5 t) (iblk m c 6 t) (iblk m c 7 t) 0)
      else (dlogs (grid0.coords t) (iblk m c 0 t) (X0_1 m c t) (iblk m c 2 t) (iblk m c 3 t) (iblk m c 4 t) (iblk m c 5 t) (iblk m c 6 t) (iblk m c 7 t) 1)) (X0_1 m c t) ((y 1).val / 64) (y 0).val ((y 1).val % 64) := by
  by_cases h : t.val % 32 = 0
  · rw [outsAt0_A m c t h]
    dsimp only
    unfold out0_A_9
    rw [View.read_writes_junk_eq_canon]
    exact out9_A _ _ _ _ _ _ _ _ _ _ _ _ _ _ _ _ _ _ _ _ _ _ _ _ _ _ _ _ _ _ _ _ _ _ _ _ _ _ _ _ _ _ _ _ _ _ _ _ _
  · rw [outsAt0_B m c t h]
    dsimp only
    unfold out0_B_9
    rw [View.read_writes_junk_eq_canon]
    exact out9_B _ _ _ _ _ _ _ _ _ _ _ _ _ _ _ _ _ _ _ _ _ _ _ _ _ _ _ _ _ _ _ _ _ _ _ _ _ _ _ _ _ _ _ _ _ _ _ _ _ _ _

theorem outs10 (c : Dev nD) (t : Fin cfg0.N) : (outsAt0 m c t.val t.isLt).2.2.1
    = fun y : S256x128.Idx => kvsum (if (y 1).val < 64 then (probs (grid0.coords t) (iblk m c 0 t) (X0_1 m c t) (iblk m c 2 t) (iblk m c 3 t) (iblk m c 6 t) 0)
      else (probs (grid0.coords t) (iblk m c 0 t) (X0_1 m c t) (iblk m c 2 t) (iblk m c 3 t) (iblk m c 6 t) 1)) (iblk m c 7 t) ((y 1).val / 64) (y 0).val ((y 1).val % 64) := by
  by_cases h : t.val % 32 = 0
  · rw [outsAt0_A m c t h]
    dsimp only
    unfold out0_A_10
    rw [View.read_writes_junk_eq_canon]
    exact out10_A _ _ _ _ _ _ _ _ _ _ _ _ _ _ _ _ _ _ _ _ _ _ _ _ _ _ _ _ _ _ _ _ _ _ _ _ _ _ _ _ _ _ _ _ _ _ _ _ _
  · rw [outsAt0_B m c t h]
    dsimp only
    unfold out0_B_10
    rw [View.read_writes_junk_eq_canon]
    exact out10_B _ _ _ _ _ _ _ _ _ _ _ _ _ _ _ _ _ _ _ _ _ _ _ _ _ _ _ _ _ _ _ _ _ _ _ _ _ _ _ _ _ _ _ _ _ _ _ _ _ _ _

theorem outs11_A (c : Dev nD) (t : Fin cfg0.N) (h : t.val % 32 = 0) : (outsAt0 m c t.val t.isLt).2.2.2.1
    = bias (grid0.coords t) (iblk m c 0 t) (X0_1 m c t) (iblk m c 2 t) (iblk m c 3 t) (iblk m c 4 t) (iblk m c 5 t) (iblk m c 6 t) (iblk m c 7 t) (fun _ => 0) := by
  rw [outsAt0_A m c t h]
  dsimp only
  unfold out0_A_11
  rw [View.read_writes_junk_eq_canon]
  exact out11_A _ _ _ _ _ _ _ _ _ _ _ _ _ _ _ _ _ _ _ _ _ _ _ _ _ _ _ _ _ _ _ _ _ _ _ _ _ _ _ _ _ _ _ _ _ _ _ _ _

theorem outs11_B (c : Dev nD) (t : Fin cfg0.N) (h : ¬t.val % 32 = 0) : (outsAt0 m c t.val t.isLt).2.2.2.1
    = bias (grid0.coords t) (iblk m c 0 t) (X0_1 m c t) (iblk m c 2 t) (iblk m c 3 t) (iblk m c 4 t) (iblk m c 5 t) (iblk m c 6 t) (iblk m c 7 t) (outsAt0 m c (t.val - 1) (by omega)).2.2.2.1 := by
  rw [outsAt0_B m c t h]
  dsimp only
  unfold out0_B_11
  rw [View.read_writes_junk_eq_canon]
  exact out11_B _ _ _ _ _ _ _ _ _ _ _ _ _ _ _ _ _ _ _ _ _ _ _ _ _ _ _ _ _ _ _ _ _ _ _ _ _ _ _ _ _ _ _ _ _ _ _ _ _ _ _

theorem outs12_A (c : Dev nD) (t : Fin cfg0.N) (h : t.val % 32 = 0) : (outsAt0 m c t.val t.isLt).2.2.2.2
    = sinks (grid0.coords t) (iblk m c 0 t) (X0_1 m c t) (iblk m c 2 t) (iblk m c 3 t) (iblk m c 4 t) (iblk m c 5 t) (iblk m c 6 t) (iblk m c 7 t) (fun _ => 0) := by
  rw [outsAt0_A m c t h]
  dsimp only
  unfold out0_A_12
  rw [View.read_writes_junk_eq_canon]
  exact out12_A _ _ _ _ _ _ _ _ _ _ _ _ _ _ _ _ _ _ _ _ _ _ _ _ _ _ _ _ _ _ _ _ _ _ _ _ _ _ _ _ _ _ _ _ _ _ _ _ _

theorem outs12_B (c : Dev nD) (t : Fin cfg0.N) (h : ¬t.val % 32 = 0) : (outsAt0 m c t.val t.isLt).2.2.2.2
    = sinks (grid0.coords t) (iblk m c 0 t) (X0_1 m c t) (iblk m c 2 t) (iblk m c 3 t) (iblk m c 4 t) (iblk m c 5 t) (iblk m c 6 t) (iblk m c 7 t) (outsAt0 m c (t.val - 1) (by omega)).2.2.2.2 := by
  rw [outsAt0_B m c t h]
  dsimp only
  unfold out0_B_12
  rw [View.read_writes_junk_eq_canon]
  exact out12_B _ _ _ _ _ _ _ _ _ _ _ _ _ _ _ _ _ _ _ _ _ _ _ _ _ _ _ _ _ _ _ _ _ _ _ _ _ _ _ _ _ _ _ _ _ _ _ _ _ _ _

section finals

variable (c : Dev nD)

/-- the last point of each half of the heads -/
theorem point_eq (t : Fin cfg0.N) (h : t.val % 32 = 31) (s : Fin 32) (hs : 32 * (t.val / 32) + s.val < cfg0.N) :
    (32 * (t.val / 32) + s.val) % 32 = s.val ∧ (32 * (t.val / 32) + s.val) / 32 = t.val / 32 := by
  have := s.isLt
  constructor <;> omega

theorem final8 : (dats m 0 c).arrAt 8 cfg0.N = F8 (m ((c : Thread nD τ).loc main_arg0)) (m ((c : Thread nD τ).loc main_arg1)) (m ((c : Thread nD τ).loc main_arg2)) (m ((c : Thread nD τ).loc main_arg3)) (m ((c : Thread nD τ).loc main_arg4)) := by
  have hV : V m c main_v0_0 = m ((c : Thread nD τ).loc main_arg4) := by unfold V; after_results; try rfl
  have e : (dats m 0 c).arrAt 8 cfg0.N = fun i : S4096x10752.Idx => if 4096 ≤ (i 1).val ∧ (i 1).val < 6144 then F8 (m ((c : Thread nD τ).loc main_arg0)) (m ((c : Thread nD τ).loc main_arg1)) (m ((c : Thread nD τ).loc main_arg2)) (m ((c : Thread nD τ).loc main_arg3)) (m ((c : Thread nD τ).loc main_arg4)) i else V m c main_v0_0 i := by
    refine (dats m 0 c).arrAt_eq_of_coversWhere 8 _ (fun β => 4 ≤ β (1 : Fin _) ∧ β (1 : Fin _) < 6) (by decide +kernel) (fun t hf y => ?_)
      (fun j => by blk_simp [Pipeline.Window.cell_apply]; omega)
    have hN : t.val < 64 := t.isLt
    blk_simp
    rw [after0_8, outs8]
    refine ((reads m c t).dq_at ((cfg0.win 8).xinj (cfg0.grid.coords t) y)).trans ?_
    have h0 : (y 0).val < 128 := ((cfg0.win 8).xinj (cfg0.grid.coords t) y 0).isLt
    have h1 : (y 1).val < 1024 := ((cfg0.win 8).xinj (cfg0.grid.coords t) y 1).isLt
    unfold F8
    blk_simp [idx t]
    rw [if_pos (by omega), show (t.val % 32 * 128 + (y 0).val) / 128 = t.val % 32 by omega, show (t.val % 32 * 128 + (y 0).val) % 128 = (y 0).val by omega,
      show ((4 + t.val / 32) * 1024 + (y 1).val - 4096) / 64 = 16 * (t.val / 32) + (y 1).val / 64 by omega,
      show ((4 + t.val / 32) * 1024 + (y 1).val - 4096) % 64 = (y 1).val % 64 by omega]
    rfl
  rw [e, hV]
  funext i
  unfold F8
  split <;> rfl

theorem final9 : (dats m 0 c).arrAt 9 cfg0.N = F9 (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9, outs9]
  refine ((reads m c t).dk_at y).trans ?_
  have h0 : (y 0).val < 256 := (y 0).isLt
  have h1 : (y 1).val < 128 := (y 1).isLt
  unfold F9
  blk_simp [idx t]
  rw [show (t.val % 32 * 256 + (y 0).val) / 256 = t.val % 32 by omega, show (t.val / 32 * 128 + (y 1).val) / 64 = 2 * (t.val / 32) + (y 1).val / 64 by omega,
    show (t.val / 32 * 128 + (y 1).val) % 64 = (y 1).val % 64 by omega,
    show Fin.ofNat 256 (t.val % 32 * 256 + (y 0).val) = y 0 from Fin.ext (show _ % 256 = (y 0).val by omega)]
  unfold gk
  simp only [show 8 * (2 * (t.val / 32) + (y 1).val / 64) = 16 * (t.val / 32) + 8 * ((y 1).val / 64) by omega]

theorem final10 : (dats m 0 c).arrAt 10 cfg0.N = F10 (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10, outs10]
  refine ((reads m c t).dv_at y).trans ?_
  have h0 : (y 0).val < 256 := (y 0).isLt
  have h1 : (y 1).val < 128 := (y 1).isLt
  unfold F10
  blk_simp [idx t]
  rw [show (t.val % 32 * 256 + (y 0).val) / 256 = t.val % 32 by omega, show (t.val / 32 * 128 + (y 1).val) / 64 = 2 * (t.val / 32) + (y 1).val / 64 by omega,
    show (t.val / 32 * 128 + (y 1).val) % 64 = (y 1).val % 64 by omega,
    show Fin.ofNat 256 (t.val % 32 * 256 + (y 0).val) = y 0 from Fin.ext (show _ % 256 = (y 0).val by omega)]
  unfold gv
  simp only [show 8 * (2 * (t.val / 32) + (y 1).val / 64) = 16 * (t.val / 32) + 8 * ((y 1).val / 64) by omega]

theorem final11 : (dats m 0 c).arrAt 11 cfg0.N = F11 (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  blk_simp
  rw [after0_11, Pipeline.eq_sum_fin_of_reset_step_apply_of_flush (fun n h => (outsAt0 m c n h).2.2.2.1) 32 (fun _ => (0 : EReal))
    (fun t (y : S16x128x256.Idx) => dl (m ((c : Thread nD τ).loc main_arg0)) (m ((c : Thread nD τ).loc main_arg1)) (m ((c : Thread nD τ).loc main_arg2)) (m ((c : Thread nD τ).loc main_arg3)) (t.val % 32) (16 * (t.val / 32) + (y 0).val) (y 1).val (y 2))
    (fun t h j => (congrFun (outs11_A m c t h) j).trans ((reads m c t).bias_at _ j))
    (fun t h j => (congrFun (outs11_B m c t h) j).trans ((reads m c t).bias_at _ j)) t ((flush0_11 t).mp hf) _, zero_add]
  have h31 := (flush0_11 t).mp hf
  have h0 : (y 0).val < 16 := (y 0).isLt
  have h1 : (y 1).val < 128 := (y 1).isLt
  have h2 : (y 2).val < 256 := (y 2).isLt
  unfold F11
  blk_simp [idx t]
  refine Finset.sum_congr (M := EReal) (ι := Fin 32) rfl fun s _ => ?_
  have e := point_eq t h31 s (Pipeline.run_point_lt_of_flush t h31 s)
  dsimp only
  rw [e.1, e.2]
  rw [show t.val / 32 * 16 + (y 0).val = 16 * (t.val / 32) + (y 0).val by omega]
  exact congrArg (dl _ _ _ _ _ _ _) (Fin.ext (by blk_simp [idx t]))

theorem final12 (hr : ∀ n hd a, n < 32 → hd < 32 → SinkRow.IsReal (lg (m ((c : Thread nD τ).loc main_arg0)) (m ((c : Thread nD τ).loc main_arg1)) n hd a) (sk (m ((c : Thread nD τ).loc main_arg2)) hd) (dp (m ((c : Thread nD τ).loc main_arg0)) (m ((c : Thread nD τ).loc main_arg3)) n hd a)) :
    (dats m 0 c).arrAt 12 cfg0.N = F12 (m ((c : Thread nD τ).loc main_arg0)) (m ((c : Thread nD τ).loc main_arg1)) (m ((c : Thread nD τ).loc main_arg2)) (m ((c : Thread nD τ).loc main_arg3)) := by
  have hb : ∀ t : Fin cfg0.N, t.val % 32 < 32 := fun t => Nat.mod_lt _ (by decide)
  refine (dats m 0 c).arrAt_eq_of_covers 12 _ (by decide +kernel) fun t hf y => ?_
  blk_simp
  rw [after0_12, Pipeline.eq_sum_fin_of_reset_step_apply_of_flush (fun n h => (outsAt0 m c n h).2.2.2.2) 32 (fun _ => (0 : EReal))
    (fun t (y : S16x128.Idx) => ∑ r : Fin 128, dz (m ((c : Thread nD τ).loc main_arg0)) (m ((c : Thread nD τ).loc main_arg1)) (m ((c : Thread nD τ).loc main_arg2)) (m ((c : Thread nD τ).loc main_arg3)) (t.val % 32) (16 * (t.val / 32) + (y 0).val) r.val)
    (fun t h j => (congrFun (outs12_A m c t h) j).trans ((reads m c t).sinks_at (fun hd r h => hr _ _ _ (hb t) h) _ j))
    (fun t h j => (congrFun (outs12_B m c t h) j).trans ((reads m c t).sinks_at (fun hd r h => hr _ _ _ (hb t) h) _ j)) t ((flush0_12 t).mp hf) _, zero_add]
  have h31 := (flush0_12 t).mp hf
  have h0 : (y 0).val < 16 := (y 0).isLt
  unfold F12
  blk_simp [idx t]
  refine Finset.sum_congr (M := EReal) (ι := Fin 32) rfl fun s _ => ?_
  have e := point_eq t h31 s (Pipeline.run_point_lt_of_flush t h31 s)
  dsimp only
  rw [e.1, e.2, show t.val / 32 * 16 + (y 0).val = 16 * (t.val / 32) + (y 0).val by omega]

end finals

end Cert.Attn

end
-- ==== Proof.RefOut.lean ====
module

public import proofs.«01_k».proof.Proof.RefRow
public import proofs.«01_k».proof.Proof.Final

@[expose] public section

set_option maxRecDepth 16384

noncomputable section

/-! The reference's five results. -/

namespace Cert.Attn

open Cert.ReferenceIdeal Cert.ReferenceIdeal.Gen Cert.ReferenceIdeal.Value Idealize.ShloMosaic Idealize.ShloMosaic.TcCoe Idealize.SL.Sem

theorem out8_mid (x : FVec Ideal S32x4x256x128x8 .f32) (y : FVec Ideal S32x256x4x64 .f32) (r : Fin 4096) (l : Fin 2048) :
    (shapeCast S4096x2048 (transpose S32x128x4x8x64 [0, 2, 1, 3, 4] (Host.dotGeneral dot_S32x4x256x128x8_S32x256x4x64_S32x4x128x8x64_2_1_34_3_01_02 none x y) transposes_S32x4x128x8x64_S32x128x4x8x64_0_2_1_3_4) shapeCasts_S32x128x4x8x64_S4096x2048) (ix2 r l)
      = ∑ j : Fin 256, x (ix5 (⟨r.val / 128, by omega⟩ : Fin 32) (⟨l.val / 512, by omega⟩ : Fin 4) j (⟨r.val % 128, by omega⟩ : Fin 128) (⟨l.val / 64 % 8, by omega⟩ : Fin 8)) * y (ix4 (⟨r.val / 128, by omega⟩ : Fin 32) j (⟨l.val / 512, by omega⟩ : Fin 4) (⟨l.val % 64, by omega⟩ : Fin 64)) := by
  pointwise

theorem out8_in (e : FVec Ideal S4096x10752 .bf16) (z : FVec Ideal S4096x2048 .f32) (r : Fin 4096) (l : Fin 10752) (hl : 4096 ≤ l.val ∧ l.val < 6144) :
    (concatenate S4096x10752 1 [⟨S4096x4096, ((extractStridedSlice S4096x4096 ![0, 0] e slices_S4096x10752_S4096x4096_0_0) : (⟨S4096x4096, .bf16⟩ : BufTy).Contents (Elt Ideal))⟩, ⟨S4096x2048, ((truncf .bf16 z bitsLt_bf16_f32) : (⟨S4096x2048, .bf16⟩ : BufTy).Contents (Elt Ideal))⟩, ⟨S4096x4608, ((extractStridedSlice S4096x4608 ![0, 6144] e slices_S4096x10752_S4096x4608_0_6144) : (⟨S4096x4608, .bf16⟩ : BufTy).Contents (Elt Ideal))⟩] concatenates_S4096x4096_S4096x2048_S4096x4608_S4096x10752_d1 : (⟨S4096x10752, .bf16⟩ : BufTy).Contents (Elt Ideal)) (ix2 r l)
      = z (ix2 r (⟨l.val - 4096, by omega⟩ : Fin 2048)) := by
  pointwise
  exact (dif_neg (show ¬l.val < 4096 by omega)).trans (dif_pos (show l.val - 4096 < 2048 by omega))

theorem out8_out (e : FVec Ideal S4096x10752 .bf16) (z : FVec Ideal S4096x2048 .f32) (r : Fin 4096) (l : Fin 10752) (hl : ¬(4096 ≤ l.val ∧ l.val < 6144)) :
    (concatenate S4096x10752 1 [⟨S4096x4096, ((extractStridedSlice S4096x4096 ![0, 0] e slices_S4096x10752_S4096x4096_0_0) : (⟨S4096x4096, .bf16⟩ : BufTy).Contents (Elt Ideal))⟩, ⟨S4096x2048, ((truncf .bf16 z bitsLt_bf16_f32) : (⟨S4096x2048, .bf16⟩ : BufTy).Contents (Elt Ideal))⟩, ⟨S4096x4608, ((extractStridedSlice S4096x4608 ![0, 6144] e slices_S4096x10752_S4096x4608_0_6144) : (⟨S4096x4608, .bf16⟩ : BufTy).Contents (Elt Ideal))⟩] concatenates_S4096x4096_S4096x2048_S4096x4608_S4096x10752_d1 : (⟨S4096x10752, .bf16⟩ : BufTy).Contents (Elt Ideal)) (ix2 r l)
      = e (ix2 r l) := by
  pointwise
  rcases Nat.lt_or_ge l.val 4096 with h1 | h1
  · exact dif_pos h1
  · refine (dif_neg (show ¬l.val < 4096 by omega)).trans ((dif_neg (show ¬l.val - 4096 < 2048 by omega)).trans ?_)
    exact congrArg (fun i => e (ix2 r i)) (Fin.ext (show 6144 + (l.val - 4096 - 2048) = l.val by omega))

theorem out9_gen (x : FVec Ideal S32x4x256x128x8 .f32) (y : FVec Ideal S32x128x4x8x64 .f32) (r : Fin 8192) (l : Fin 256) :
    (shapeCast S8192x256 (transpose S32x256x4x64 [0, 2, 1, 3] (Host.dotGeneral dot_S32x4x256x128x8_S32x128x4x8x64_S32x4x256x64_34_13_2_4_01_02 none x y) transposes_S32x4x256x64_S32x256x4x64_0_2_1_3) shapeCasts_S32x256x4x64_S8192x256) (ix2 r l)
      = ∑ h : Fin 8, ∑ a : Fin 128, x (ix5 (⟨r.val / 256, by omega⟩ : Fin 32) (⟨l.val / 64, by omega⟩ : Fin 4) (⟨r.val % 256, by omega⟩ : Fin 256) a h) * y (ix5 (⟨r.val / 256, by omega⟩ : Fin 32) a (⟨l.val / 64, by omega⟩ : Fin 4) h (⟨l.val % 64, by omega⟩ : Fin 64)) := by
  pointwise
  exact Finset.sum_comm

theorem out10_gen (x : FVec Ideal S32x4x64x8x128 .f32) (y : FVec Ideal S32x4x8x128x256 .f32) (r : Fin 8192) (l : Fin 256) :
    (shapeCast S8192x256 (transpose S32x256x4x64 [0, 3, 1, 2] (Host.dotGeneral dot_S32x4x64x8x128_S32x4x8x128x256_S32x4x64x256_34_23_2_4_01_01 none x y) transposes_S32x4x64x256_S32x256x4x64_0_3_1_2) shapeCasts_S32x256x4x64_S8192x256) (ix2 r l)
      = ∑ h : Fin 8, ∑ a : Fin 128, x (ix5 (⟨r.val / 256, by omega⟩ : Fin 32) (⟨l.val / 64, by omega⟩ : Fin 4) (⟨l.val % 64, by omega⟩ : Fin 64) h a) * y (ix5 (⟨r.val / 256, by omega⟩ : Fin 32) (⟨l.val / 64, by omega⟩ : Fin 4) h a (⟨r.val % 256, by omega⟩ : Fin 256)) := by
  pointwise

theorem out11_gen (x : FVec Ideal S32x4x8x128x256 .f32) (h : Fin 32) (a : Fin 128) (j : Fin 256) :
    (shapeCast S32x128x256 (Host.reduceAdd (shapeCast S1x4x8x128x256 (Host.reduceAdd x (constant S_ .f32 0x00000000#32) reducesTo_S32x4x8x128x256_S4x8x128x256_d0 h_S_) shapeCasts_S4x8x128x256_S1x4x8x128x256) (constant S_ .f32 0x00000000#32) reducesTo_S1x4x8x128x256_S4x8x128x256_d0 h_S_) shapeCasts_S4x8x128x256_S32x128x256) (ix3 h a j)
      = ∑ n : Fin 32, x (ix5 n (⟨h.val / 8, by omega⟩ : Fin 4) (⟨h.val % 8, by omega⟩ : Fin 8) a j) := by
  pointwise
  exact Fin.sum_univ_one _

theorem fiber_two (k : Fin 4) (h : Fin 8) (i : S32x4x8x128x1.Idx) :
    reducesTo_S32x4x8x128x1_S4x8x1_d0_3.drop i = ix3 k h (0 : Fin 1) ↔ ∃ p : Fin 32 × Fin 128, ix5 p.1 k h p.2 (0 : Fin 1) = i := by
  constructor
  · intro e
    refine ⟨(i 0, i 3), funext fun b => Fin.ext ?_⟩
    match b with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (congrArg Fin.val (congrFun e 2)).symm
  · rintro ⟨p, rfl⟩
    funext b
    apply Fin.ext
    match b with
    | ⟨0, _⟩ => rfl
    | ⟨1, _⟩ => rfl
    | ⟨2, _⟩ => rfl

theorem sum_two (x : FVec Ideal S32x4x8x128x1 .f32) (k : Fin 4) (h : Fin 8) :
    Host.reduceAdd x (constant S_ .f32 0x00000000#32) reducesTo_S32x4x8x128x1_S4x8x1_d0_3 h_S_ (ix3 k h (0 : Fin 1))
      = ∑ n : Fin 32, ∑ a : Fin 128, x (ix5 n k h a (0 : Fin 1)) := by
  pointwise
  unfold Ideal.hostReduceAdd
  rw [Finset.sum_filter_eq_sum_of_fiber _ (fun p : Fin 32 × Fin 128 => ix5 p.1 k h p.2 (0 : Fin 1))
    (fun p q e => Prod.ext (congrFun e 0) (congrFun e 3)) (fiber_two k h) x, Fintype.sum_prod_type, zero_add]

theorem fiber_one (k : Fin 4) (h : Fin 8) (i : S1x4x8x1x1.Idx) :
    reducesTo_S1x4x8x1x1_S4x8_d0_3_4.drop i = ix2 k h ↔ ∃ p : Unit, ix5 (0 : Fin 1) k h (0 : Fin 1) (0 : Fin 1) = i := by
  constructor
  · intro e
    refine ⟨(), funext fun b => Fin.ext ?_⟩
    match b with
    | ⟨0, _⟩ => exact (Nat.lt_one_iff.1 (i 0).isLt).symm
    | ⟨1, _⟩ => exact (congrArg Fin.val (congrFun e 0)).symm
    | ⟨2, _⟩ => exact (congrArg Fin.val (congrFun e 1)).symm
    | ⟨3, _⟩ => exact (Nat.lt_one_iff.1 (i 3).isLt).symm
    | ⟨4, _⟩ => exact (Nat.lt_one_iff.1 (i 4).isLt).symm
  · rintro ⟨p, rfl⟩
    funext b
    apply Fin.ext
    match b with
    | ⟨0, _⟩ => rfl
    | ⟨1, _⟩ => rfl

theorem sum_one (x : FVec Ideal S1x4x8x1x1 .f32) (k : Fin 4) (h : Fin 8) :
    Host.reduceAdd x (constant S_ .f32 0x00000000#32) reducesTo_S1x4x8x1x1_S4x8_d0_3_4 h_S_ (ix2 k h)
      = x (ix5 (0 : Fin 1) k h (0 : Fin 1) (0 : Fin 1)) := by
  pointwise
  unfold Ideal.hostReduceAdd
  rw [Finset.sum_filter_eq_sum_of_fiber _ (fun p : Unit => ix5 (0 : Fin 1) k h (0 : Fin 1) (0 : Fin 1))
    (fun p q e => rfl) (fiber_one k h) x, Fintype.sum_unique, zero_add]

theorem out12_gen (z : FVec Ideal S4x8 .f32) (h : Fin 32) (l : Fin 128) :
    broadcastInDim S32x128 ![0, 1] bcast_S32x1_S32x128_0_1 (broadcastInDim S32x1 ![0] bcast_S32_S32x1_0 (shapeCast S32 z shapeCasts_S4x8_S32)) (ix2 h l)
      = z (ix2 (⟨h.val / 8, by omega⟩ : Fin 4) (⟨h.val % 8, by omega⟩ : Fin 8)) := by
  pointwise

theorem out12_mid (x y : FVec Ideal S4x8x1 .f32) (k : Fin 4) (h : Fin 8) :
    addf (shapeCast S1x4x8x1x1 x shapeCasts_S4x8x1_S1x4x8x1x1) (shapeCast S1x4x8x1x1 y shapeCasts_S4x8x1_S1x4x8x1x1) (ix5 (0 : Fin 1) k h (0 : Fin 1) (0 : Fin 1))
      = x (ix3 k h (0 : Fin 1)) + y (ix3 k h (0 : Fin 1)) := by
  pointwise

/-- the arrays hold real numbers wherever they are read -/
structure Finite (P : S4096x10752.Idx → EReal) (A : S32x128x256.Idx → EReal) (K : S32.Idx → EReal) (C : S4096x2048.Idx → EReal) : Prop where
  p : ∀ r c, 4096 ≤ c → c < 6656 → ∃ x : ℝ, P (ixm 4096 10752 r c) = x
  a : ∀ i, ∃ x : ℝ, A i = x
  k : ∀ i, ∃ x : ℝ, K i = x
  c : ∀ i, ∃ x : ℝ, C i = x

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem real_sum {ι : Type} (s : Finset ι) (f : ι → EReal) (h : ∀ i, ∃ r : ℝ, f i = r) : ∃ r : ℝ, ∑ i ∈ s, f i = r := by
  choose g hg using h
  exact ⟨∑ i ∈ s, g i, by rw [SinkRow.coe_sum]; exact Finset.sum_congr rfl fun i _ => hg i⟩

theorem eighth_real : ∃ r : ℝ, Ideal.ofBits .f32 0x3E000000#32 = r :=
  ⟨1 / 8, by simp [Ideal.ofBits, Ideal.ieee, -EReal.coe_mul]; norm_num⟩

section finite

variable {P : S4096x10752.Idx → EReal} {A : S32x128x256.Idx → EReal} {K : S32.Idx → EReal} {C : S4096x2048.Idx → EReal} (hf : Finite P A K C)
include hf

theorem kb_real (o n kh j d : ℕ) (ho : 4096 ≤ o) (h : o + 64 * kh + d < 6656) : ∃ x : ℝ, kb P o n kh j d = x := hf.p _ _ (by omega) h

theorem kb0_real (o n kh j d : ℕ) (ho : 4096 ≤ o) (h : o + 64 * kh + d < 6656) : ∃ x : ℝ, kb0 P o n kh j d = x := by
  unfold kb0
  split
  · exact ⟨0, rfl⟩
  · exact kb_real hf o n kh j d ho h

theorem lg_ne (n hd a : ℕ) (hh : hd < 32) (j : Fin 256) : lg P A n hd a j ≠ ⊤ := by
  unfold lg
  split
  · obtain ⟨x, hx⟩ := real_add (real_mul (real_sum Finset.univ _ fun d : Fin 64 =>
      real_mul (hf.p (128 * n + a) (4096 + 64 * hd + d.val) (by omega) (by omega)) (kb_real hf 6144 n (hd / 8) j.val d.val (by omega) (by omega))) eighth_real)
      (hf.a (ix3 (Fin.ofNat 32 hd) (Fin.ofNat 128 a) j))
    exact fun e => EReal.coe_ne_top x (hx.symm.trans e)
  · exact bot_ne_top

theorem row_real (n hd a : ℕ) (hh : hd < 32) : SinkRow.IsReal (lg P A n hd a) (sk K hd) (dp P C n hd a) :=
  ⟨lg_ne hf n hd a hh, hf.k _, fun j => real_sum Finset.univ _ fun d : Fin 64 => real_mul (hf.c _) (kb_real hf 6400 n (hd / 8) j.val d.val (by omega) (by omega))⟩

theorem row_real0 (n hd a : ℕ) (hh : hd < 32) : SinkRow.IsReal (lg P A n hd a) (sk K hd) (dp0 P C n hd a) :=
  ⟨lg_ne hf n hd a hh, hf.k _, fun j => real_sum Finset.univ _ fun d : Fin 64 => real_mul (hf.c _) (kb0_real hf 6400 n (hd / 8) j.val d.val (by omega) (by omega))⟩

/-- where an entry is not masked its gradient is the same without the block before the first -/
theorem dp_eq (n hd a : ℕ) (j : Fin 256) (hj : lg P A n hd a j ≠ ⊥) : dp0 P C n hd a j = dp P C n hd a j := by
  have hk : ok n a j.val := by
    by_contra h
    exact hj (if_neg h)
  unfold dp0 dp kb0
  refine Finset.sum_congr rfl fun d _ => ?_
  rw [if_neg]
  unfold ok at hk
  omega

theorem gl_row (n hd a : ℕ) (hh : hd < 32) (j : Fin 256) : SinkRow.gl (lg P A n hd a) (sk K hd) (dp0 P C n hd a) j = dl P A K C n hd a j :=
  SinkRow.gl_congr (row_real hf n hd a hh) (dp_eq hf n hd a) j

theorem gs_row (n hd a : ℕ) (hh : hd < 32) : SinkRow.gs (lg P A n hd a) (sk K hd) (dp0 P C n hd a) = dz P A K C n hd a :=
  SinkRow.gs_congr (row_real hf n hd a hh) (dp_eq hf n hd a)

end finite

section finals

variable (P : S4096x10752.Idx → EReal) (A : S32x128x256.Idx → EReal) (K : S32.Idx → EReal) (C : S4096x2048.Idx → EReal)

theorem res8 (hf : Finite P A K C) (e : FVec Ideal S4096x10752 .bf16) (x : FVec Ideal S32x4x256x128x8 .f32) (y : FVec Ideal S32x256x4x64 .f32)
    (hx : ∀ (n : Fin 32) (k : Fin 4) (h : Fin 8) (a : Fin 128) (j : Fin 256), x (ix5 n k j a h) = dl P A K C n.val (8 * k.val + h.val) a.val j * eighth)
    (hy : ∀ (n : Fin 32) (j : Fin 256) (k : Fin 4) (d : Fin 64), y (ix4 n j k d) = kb0 P 6144 n.val k.val j.val d.val) :
    (concatenate S4096x10752 1 [⟨S4096x4096, ((extractStridedSlice S4096x4096 ![0, 0] e slices_S4096x10752_S4096x4096_0_0) : (⟨S4096x4096, .bf16⟩ : BufTy).Contents (Elt Ideal))⟩, ⟨S4096x2048, ((truncf .bf16 (shapeCast S4096x2048 (transpose S32x128x4x8x64 [0, 2, 1, 3, 4] (Host.dotGeneral dot_S32x4x256x128x8_S32x256x4x64_S32x4x128x8x64_2_1_34_3_01_02 none x y) transposes_S32x4x128x8x64_S32x128x4x8x64_0_2_1_3_4) shapeCasts_S32x128x4x8x64_S4096x2048) bitsLt_bf16_f32) : (⟨S4096x2048, .bf16⟩ : BufTy).Contents (Elt Ideal))⟩, ⟨S4096x4608, ((extractStridedSlice S4096x4608 ![0, 6144] e slices_S4096x10752_S4096x4608_0_6144) : (⟨S4096x4608, .bf16⟩ : BufTy).Contents (Elt Ideal))⟩] concatenates_S4096x4096_S4096x2048_S4096x4608_S4096x10752_d1 : (⟨S4096x10752, .bf16⟩ : BufTy).Contents (Elt Ideal)) = F8 P A K C e := by
  have key : ∀ (r : Fin 4096) (l : Fin 10752), (concatenate S4096x10752 1 [⟨S4096x4096, ((extractStridedSlice S4096x4096 ![0, 0] e slices_S4096x10752_S4096x4096_0_0) : (⟨S4096x4096, .bf16⟩ : BufTy).Contents (Elt Ideal))⟩, ⟨S4096x2048, ((truncf .bf16 (shapeCast S4096x2048 (transpose S32x128x4x8x64 [0, 2, 1, 3, 4] (Host.dotGeneral dot_S32x4x256x128x8_S32x256x4x64_S32x4x128x8x64_2_1_34_3_01_02 none x y) transposes_S32x4x128x8x64_S32x128x4x8x64_0_2_1_3_4) shapeCasts_S32x128x4x8x64_S4096x2048) bitsLt_bf16_f32) : (⟨S4096x2048, .bf16⟩ : BufTy).Contents (Elt Ideal))⟩, ⟨S4096x4608, ((extractStridedSlice S4096x4608 ![0, 6144] e slices_S4096x10752_S4096x4608_0_6144) : (⟨S4096x4608, .bf16⟩ : BufTy).Contents (Elt Ideal))⟩] concatenates_S4096x4096_S4096x2048_S4096x4608_S4096x10752_d1 : (⟨S4096x10752, .bf16⟩ : BufTy).Contents (Elt Ideal)) (ix2 r l) = F8 P A K C e (ix2 r l) := by
    intro r l
    by_cases hl : 4096 ≤ l.val ∧ l.val < 6144
    · refine (out8_in _ _ r l hl).trans ((out8_mid _ _ _ _).trans ?_)
      refine Eq.trans ?_ (if_pos (show 4096 ≤ ((ix2 r l : S4096x10752.Idx) 1).val ∧ ((ix2 r l : S4096x10752.Idx) 1).val < 6144 from hl)).symm
      unfold gq
      refine Finset.sum_congr rfl fun j _ => ?_
      refine (congrArg₂ (fun x y : EReal => x * y) (hx _ _ _ _ _) (hy _ _ _ _)).trans ?_
      show dl P A K C (r.val / 128) (8 * ((l.val - 4096) / 512) + (l.val - 4096) / 64 % 8) (r.val % 128) j * eighth * kb0 P 6144 (r.val / 128) ((l.val - 4096) / 512) j.val ((l.val - 4096) % 64)
        = dl P A K C (r.val / 128) ((l.val - 4096) / 64) (r.val % 128) j * eighth * kb P 6144 (r.val / 128) ((l.val - 4096) / 64 / 8) j.val ((l.val - 4096) % 64)
      rw [show 8 * ((l.val - 4096) / 512) + (l.val - 4096) / 64 % 8 = (l.val - 4096) / 64 by omega, show (l.val - 4096) / 64 / 8 = (l.val - 4096) / 512 by omega]
      by_cases hm : j.val < 128 ∧ r.val / 128 = 0
      · have hz : dl P A K C (r.val / 128) ((l.val - 4096) / 64) (r.val % 128) j = 0 :=
          SinkRow.gl_masked (row_real hf _ _ _ (by omega)) (if_neg (by unfold ok; omega))
        rw [hz, zero_mul, zero_mul, zero_mul]
      · unfold kb0
        rw [if_neg hm]
    · exact (out8_out _ _ r l hl).trans (if_neg (show ¬(4096 ≤ ((ix2 r l : S4096x10752.Idx) 1).val ∧ ((ix2 r l : S4096x10752.Idx) 1).val < 6144) from hl)).symm
  funext i
  rw [eq_ix2 i]
  exact key _ _

theorem res9 (x : FVec Ideal S32x4x256x128x8 .f32) (y : FVec Ideal S32x128x4x8x64 .f32)
    (hx : ∀ (n : Fin 32) (k : Fin 4) (h : Fin 8) (a : Fin 128) (j : Fin 256), x (ix5 n k j a h) = dl P A K C n.val (8 * k.val + h.val) a.val j * eighth)
    (hy : ∀ (n : Fin 32) (a : Fin 128) (k : Fin 4) (h : Fin 8) (d : Fin 64), y (ix5 n a k h d) = qv P n.val (8 * k.val + h.val) a.val d.val) :
    (shapeCast S8192x256 (transpose S32x256x4x64 [0, 2, 1, 3] (Host.dotGeneral dot_S32x4x256x128x8_S32x128x4x8x64_S32x4x256x64_34_13_2_4_01_02 none x y) transposes_S32x4x256x64_S32x256x4x64_0_2_1_3) shapeCasts_S32x256x4x64_S8192x256) = F9 P A K C := by
  have key : ∀ (r : Fin 8192) (l : Fin 256), (shapeCast S8192x256 (transpose S32x256x4x64 [0, 2, 1, 3] (Host.dotGeneral dot_S32x4x256x128x8_S32x128x4x8x64_S32x4x256x64_34_13_2_4_01_02 none x y) transposes_S32x4x256x64_S32x256x4x64_0_2_1_3) shapeCasts_S32x256x4x64_S8192x256) (ix2 r l) = F9 P A K C (ix2 r l) := by
    intro r l
    refine (out9_gen _ _ r l).trans ?_
    exact Finset.sum_congr rfl fun h _ => Finset.sum_congr rfl fun a _ => congrArg₂ (fun x y : EReal => x * y) (hx _ _ _ _ _) (hy _ _ _ _ _)
  funext i
  rw [eq_ix2 i]
  exact key _ _

theorem res10 (x : FVec Ideal S32x4x64x8x128 .f32) (y : FVec Ideal S32x4x8x128x256 .f32)
    (hx : ∀ (n : Fin 32) (k : Fin 4) (h : Fin 8) (a : Fin 128) (d : Fin 64), x (ix5 n k d h a) = cv C n.val (8 * k.val + h.val) a.val d.val)
    (hy : ∀ (n : Fin 32) (k : Fin 4) (h : Fin 8) (a : Fin 128) (j : Fin 256), y (ix5 n k h a j) = pr P A K n.val (8 * k.val + h.val) a.val j) :
    (shapeCast S8192x256 (transpose S32x256x4x64 [0, 3, 1, 2] (Host.dotGeneral dot_S32x4x64x8x128_S32x4x8x128x256_S32x4x64x256_34_23_2_4_01_01 none x y) transposes_S32x4x64x256_S32x256x4x64_0_3_1_2) shapeCasts_S32x256x4x64_S8192x256) = F10 P A K C := by
  have key : ∀ (r : Fin 8192) (l : Fin 256), (shapeCast S8192x256 (transpose S32x256x4x64 [0, 3, 1, 2] (Host.dotGeneral dot_S32x4x64x8x128_S32x4x8x128x256_S32x4x64x256_34_23_2_4_01_01 none x y) transposes_S32x4x64x256_S32x256x4x64_0_3_1_2) shapeCasts_S32x256x4x64_S8192x256) (ix2 r l) = F10 P A K C (ix2 r l) := by
    intro r l
    refine (out10_gen _ _ r l).trans ?_
    exact Finset.sum_congr rfl fun h _ => Finset.sum_congr rfl fun a _ => (congrArg₂ (fun x y : EReal => x * y) (hx _ _ _ _ _) (hy _ _ _ _ _)).trans (mul_comm _ _)
  funext i
  rw [eq_ix2 i]
  exact key _ _

theorem res11 (x : FVec Ideal S32x4x8x128x256 .f32)
    (hx : ∀ (n : Fin 32) (k : Fin 4) (h : Fin 8) (a : Fin 128) (j : Fin 256), x (ix5 n k h a j) = dl P A K C n.val (8 * k.val + h.val) a.val j) :
    (shapeCast S32x128x256 (Host.reduceAdd (shapeCast S1x4x8x128x256 (Host.reduceAdd x (constant S_ .f32 0x00000000#32) reducesTo_S32x4x8x128x256_S4x8x128x256_d0 h_S_) shapeCasts_S4x8x128x256_S1x4x8x128x256) (constant S_ .f32 0x00000000#32) reducesTo_S1x4x8x128x256_S4x8x128x256_d0 h_S_) shapeCasts_S4x8x128x256_S32x128x256) = F11 P A K C := by
  have key : ∀ (h : Fin 32) (a : Fin 128) (j : Fin 256), (shapeCast S32x128x256 (Host.reduceAdd (shapeCast S1x4x8x128x256 (Host.reduceAdd x (constant S_ .f32 0x00000000#32) reducesTo_S32x4x8x128x256_S4x8x128x256_d0 h_S_) shapeCasts_S4x8x128x256_S1x4x8x128x256) (constant S_ .f32 0x00000000#32) reducesTo_S1x4x8x128x256_S4x8x128x256_d0 h_S_) shapeCasts_S4x8x128x256_S32x128x256) (ix3 h a j) = F11 P A K C (ix3 h a j) := by
    intro h a j
    refine (out11_gen _ h a j).trans (Finset.sum_congr rfl fun n _ => (hx _ _ _ _ _).trans ?_)
    show dl P A K C n.val (8 * (h.val / 8) + h.val % 8) a.val j = dl P A K C n.val h.val a.val j
    rw [show 8 * (h.val / 8) + h.val % 8 = h.val by omega]
  funext i
  rw [eq_ix3 i]
  exact key _ _ _

theorem res12 (x w u : FVec Ideal S32x4x8x128x1 .f32)
    (hx : ∀ (n : Fin 32) (k : Fin 4) (h : Fin 8) (a : Fin 128), x (ix5 n k h a (0 : Fin 1)) = dz P A K C n.val (8 * k.val + h.val) a.val)
    (hw : ∀ (n : Fin 32) (k : Fin 4) (h : Fin 8) (a : Fin 128), w (ix5 n k h a (0 : Fin 1)) = (0 : EReal)) :
    broadcastInDim S32x128 ![0, 1] bcast_S32x1_S32x128_0_1 (broadcastInDim S32x1 ![0] bcast_S32_S32x1_0 (shapeCast S32 (Host.reduceAdd (addf (shapeCast S1x4x8x1x1 (Host.reduceAdd x (constant S_ .f32 0x00000000#32) reducesTo_S32x4x8x128x1_S4x8x1_d0_3 h_S_) shapeCasts_S4x8x1_S1x4x8x1x1) (shapeCast S1x4x8x1x1 (Host.reduceAdd (mulf w u) (constant S_ .f32 0x00000000#32) reducesTo_S32x4x8x128x1_S4x8x1_d0_3 h_S_) shapeCasts_S4x8x1_S1x4x8x1x1)) (constant S_ .f32 0x00000000#32) reducesTo_S1x4x8x1x1_S4x8_d0_3_4 h_S_) shapeCasts_S4x8_S32)) = F12 P A K C := by
  have hz : ∀ (k : Fin 4) (h : Fin 8), ∑ n : Fin 32, ∑ a : Fin 128, (mulf w u) (ix5 n k h a (0 : Fin 1)) = (0 : EReal) := fun k h =>
    Finset.sum_eq_zero fun n _ => Finset.sum_eq_zero fun a _ => (congrArg (fun z : EReal => z * u (ix5 n k h a (0 : Fin 1))) (hw n k h a)).trans (zero_mul _)
  have key : ∀ (h : Fin 32) (l : Fin 128), broadcastInDim S32x128 ![0, 1] bcast_S32x1_S32x128_0_1 (broadcastInDim S32x1 ![0] bcast_S32_S32x1_0 (shapeCast S32 (Host.reduceAdd (addf (shapeCast S1x4x8x1x1 (Host.reduceAdd x (constant S_ .f32 0x00000000#32) reducesTo_S32x4x8x128x1_S4x8x1_d0_3 h_S_) shapeCasts_S4x8x1_S1x4x8x1x1) (shapeCast S1x4x8x1x1 (Host.reduceAdd (mulf w u) (constant S_ .f32 0x00000000#32) reducesTo_S32x4x8x128x1_S4x8x1_d0_3 h_S_) shapeCasts_S4x8x1_S1x4x8x1x1)) (constant S_ .f32 0x00000000#32) reducesTo_S1x4x8x1x1_S4x8_d0_3_4 h_S_) shapeCasts_S4x8_S32)) (ix2 h l) = F12 P A K C (ix2 h l) := by
    intro h l
    refine (out12_gen _ h l).trans ((sum_one _ _ _).trans ((out12_mid _ _ _ _).trans ?_))
    rw [sum_two, sum_two, hz, add_zero]
    refine Finset.sum_congr rfl fun n _ => Finset.sum_congr rfl fun a _ => (hx _ _ _ _).trans ?_
    show dz P A K C n.val (8 * (h.val / 8) + h.val % 8) a.val = dz P A K C n.val h.val a.val
    rw [show 8 * (h.val / 8) + h.val % 8 = h.val by omega]
  funext i
  rw [eq_ix2 i]
  exact key _ _

end finals

section results

variable (V : Valuation τ sig (Elt Ideal)) (hf : Finite (aP V) (aA V) (aK V) (aC V))
include hf

theorem v150_row (n : Fin 32) (k : Fin 4) (h : Fin 8) (a : Fin 128) (j : Fin 256) :
    res_main_v150 V (ix5 n k j a h) = dl (aP V) (aA V) (aK V) (aC V) n.val (8 * k.val + h.val) a.val j * eighth :=
  (v150_at V n k h a (row_real0 hf _ _ _ (by omega)) j).trans (congrArg (fun x : EReal => x * eighth) (gl_row hf _ _ _ (by omega) j))

theorem v144_row (n : Fin 32) (k : Fin 4) (h : Fin 8) (a : Fin 128) (j : Fin 256) :
    res_main_v144 V (ix5 n k h a j) = dl (aP V) (aA V) (aK V) (aC V) n.val (8 * k.val + h.val) a.val j :=
  (v144_at V n k h a (row_real0 hf _ _ _ (by omega)) j).trans (gl_row hf _ _ _ (by omega) j)

theorem v102_row (n : Fin 32) (k : Fin 4) (h : Fin 8) (a : Fin 128) (j : Fin 256) :
    res_main_v102 V (ix5 n k h a j) = pr (aP V) (aA V) (aK V) n.val (8 * k.val + h.val) a.val j :=
  v102_at V n k h a (row_real0 hf _ _ _ (by omega)) j

theorem v120_row (n : Fin 32) (k : Fin 4) (h : Fin 8) (a : Fin 128) :
    res_main_v120 V (ix5 n k h a (0 : Fin 1)) = dz (aP V) (aA V) (aK V) (aC V) n.val (8 * k.val + h.val) a.val :=
  (v120_at V n k h a (row_real0 hf _ _ _ (by omega))).trans (gs_row hf _ _ _ (by omega))

end results

end Cert.Attn

end
-- ==== Proof.Pre.lean ====
module

public import proofs.«01_k».proof.Proof.RefOut
public import proofs.«01_k».proof.Proof.Gen.Pre_finite
public import Idealize.ShloMosaic.Lib.ReduceAll

@[expose] public section

set_option maxRecDepth 16384

noncomputable section

/-! What the precondition says: the words the call reads are real numbers. -/

namespace Cert.Attn

open Cert.Pre_finite Cert.Pre_finite.Gen Idealize.ShloMosaic Idealize.ShloMosaic.TcCoe Idealize.SL.Sem

theorem inf_word : Ideal.ofBits .f32 0x7F800000#32 = (⊤ : EReal) := by
  simp [Ideal.ofBits, Ideal.ieee]

/-- A word whose magnitude is below the infinity is a real number. -/
theorem real_of_lt {x y : EReal} (hy : y = ⊤) (h : FloatOps.cmpf (F := Ideal) (φ := .f32) .olt (FloatOps.hostAbsf (F := Ideal) (φ := .f32) x) y = 1#1) : ∃ r : ℝ, x = r := by
  subst hy
  have h' : BitVec.ofBool (decide (max x (-x) < (⊤ : EReal))) = 1#1 := h
  have hl : max x (-x) < (⊤ : EReal) := by
    by_contra hn
    rw [decide_eq_false hn] at h'
    exact absurd h' (by decide)
  rw [max_lt_iff] at hl
  induction x using EReal.rec with
  | bot => simp at hl
  | coe r => exact ⟨r, rfl⟩
  | top => simp at hl

/-- An array all of whose words have a magnitude below the infinity. -/
theorem real_all {s : Shape} {axes : List (Fin s.rank)} (x : FVec Ideal s .f32) (b : S_.BroadcastsInDim s (![] : Fin 0 → Fin s.rank)) (h : s.ReducesTo axes S_)
    (e : Host.reduce IntOp.andi (cmpf .olt (Host.absf x) (broadcastInDim s ![] b (constant S_ .f32 0x7F800000#32))) (constantI S_ 1 1#1) h h_S_ (fun k => k.elim0) = 1#1) (i : s.Idx) :
    ∃ r : ℝ, x i = r := by
  haveI : Subsingleton S_.Idx := ⟨fun a b => funext fun k => k.elim0⟩
  have := Host.reduce_andi_all _ _ h h_S_ _ e i
  exact real_of_lt inf_word this

theorem finite_of (P : FVec Ideal S4096x10752 .bf16) (A : FVec Ideal S32x128x256 .f32) (K : FVec Ideal S32 .f32) (C : FVec Ideal S4096x2048 .bf16) (E : FVec Ideal S4096x10752 .bf16)
    (h : Cert.Pre_finite.fn (F := Ideal) P A K C E = fun _ => 1#1) : Finite P A K C := by
  have h0 := congrFun h (fun k => k.elim0)
  unfold Cert.Pre_finite.fn Cert.Pre_finite.fn_part1 at h0
  obtain ⟨h3, hC⟩ := IntOp.andi_eq_one.1 h0
  obtain ⟨h2, hK⟩ := IntOp.andi_eq_one.1 h3
  obtain ⟨hP, hA⟩ := IntOp.andi_eq_one.1 h2
  refine ⟨fun r c h1 h2 => ?_, real_all _ _ _ hA, real_all _ _ _ hK, real_all _ _ _ hC⟩
  obtain ⟨x, hx⟩ := real_all _ _ _ hP (ixm 4096 2560 r (c - 4096))
  refine ⟨x, Eq.trans (congrArg P ?_) hx⟩
  refine ixm_eq r c _ ?_ ?_
  · exact (Nat.zero_add (r % 4096)).symm
  · show c % 10752 = 4096 + (c - 4096) % 2560
    omega

end Cert.Attn

end
-- ==== Proof.Equal.lean ====
module

public import proofs.«01_k».proof.Defs
public import proofs.«01_k».proof.Proof.Pre
public import proofs.«01_k».proof.Proof.Gen.Kernel.Frame
public import proofs.«01_k».proof.Proof.Gen.KernelIdeal.Frame
public import proofs.«01_k».proof.Proof.Gen.ReferenceIdeal.Run
public import Idealize.ShloMosaic.Adequacy

@[expose] public section

set_option maxRecDepth 16384

noncomputable section

/-! Every claim about the call and its reference. -/

namespace Cert.Attn

open Idealize.ShloMosaic Idealize.ShloMosaic.TcCoe Idealize.ShloMosaic.StableHlo Idealize.SL.Sem Cert.ReferenceIdeal.Value

theorem congr2 {α β γ : Type} (f : α → β → γ) {a a' : α} {b b' : β} (ha : a = a') (hb : b = b') : f a b = f a' b' := by rw [ha, hb]

theorem congr3 {α β γ δ : Type} (f : α → β → γ → δ) {a a' : α} {b b' : β} {c c' : γ} (ha : a = a') (hb : b = b') (hc : c = c') :
    f a b c = f a' b' c' := by rw [ha, hb, hc]

theorem congr4 {α β γ δ ε : Type} (f : α → β → γ → δ → ε) {a a' : α} {b b' : β} {c c' : γ} {d d' : δ} (ha : a = a') (hb : b = b') (hc : c = c') (hd : d = d') :
    f a b c d = f a' b' c' d' := by rw [ha, hb, hc, hd]

/-- The reference leaves its arguments as they were and every counter at zero. -/
theorem frame_reference : Cert.quiescent_ReferenceIdeal := fun m ρ _ =>
  (θ_run Cert.ReferenceIdeal.defs _ _).mono (fun r h => ⟨fun c => (h c).2.2.2.2.2,
      sem_eq_zero_of_no_sems (by decide) r.2⟩)
    (Cert.ReferenceIdeal.Value.run (F := Ideal) m ρ)

theorem equal : Cert.algebraic_KernelIdeal_ReferenceIdeal_pre_finite := fun m g m' g' hm ha => by
  have fin : ∀ c : Dev Cert.KernelIdeal.nD, Finite (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) :=
    fun c => finite_of _ _ _ _ _ (hm c)
  refine ⟨fun c => F8 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => F9 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => F10 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => F11 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => F12 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), (θ_run _ _ _).mono (fun r h c => ?_) (Cert.KernelIdeal.Value.run_blocks (F := Ideal) m g), (θ_run _ _ _).mono (fun r h c => ?_) (Cert.ReferenceIdeal.Value.run (F := Ideal) m' g')⟩
  · have hc := h c
    rw [final8, final9, final10, final11, final12 m c (fun n hd a _ hh => row_real (fin c) n hd a hh)] at hc
    exact hc
  · obtain ⟨a0, a1, a2, a3, a4⟩ := ha c
    have e0 : launchContents m' c (Proc.devRef .tc Cert.ReferenceIdeal.main_arg0) = _ := a0
    have e1 : launchContents m' c (Proc.devRef .tc Cert.ReferenceIdeal.main_arg1) = _ := a1
    have e2 : launchContents m' c (Proc.devRef .tc Cert.ReferenceIdeal.main_arg2) = _ := a2
    have e3 : launchContents m' c (Proc.devRef .tc Cert.ReferenceIdeal.main_arg3) = _ := a3
    have e4 : launchContents m' c (Proc.devRef .tc Cert.ReferenceIdeal.main_arg4) = _ := a4
    have hf : Finite (aP (launchContents m' c)) (aA (launchContents m' c)) (aK (launchContents m' c)) (aC (launchContents m' c)) := by
      exact (congr4 Finite e0 e1 e2 e3).mpr (fin c)
    obtain ⟨h0, h1, h2, h3, h4, k0, k1, k2, k3, k4⟩ := h c
    refine ⟨h0.trans ?_, h1.trans ?_, h2.trans ?_, h3.trans ?_, h4.trans ?_, k0, k1, k2, k3, k4⟩
    · exact (res8 _ _ _ _ hf _ _ _ (v150_row _ hf) (fun n j k d => v10_at _ n j k d)).trans (congr (congr4 F8 e0 e1 e2 e3) e4)
    · exact (res9 _ _ _ _ _ _ (v150_row _ hf) (fun n a k h d => v2_at _ n a k h d)).trans (congr4 F9 e0 e1 e2 e3)
    · exact (res10 _ _ _ _ _ _ (fun n k h a d => v108_at _ n k h a d) (v102_row _ hf)).trans (congr4 F10 e0 e1 e2 e3)
    · exact (res11 _ _ _ _ _ (v144_row _ hf)).trans (congr4 F11 e0 e1 e2 e3)
    · exact (res12 _ _ _ _ _ _ _ (v120_row _ hf) (fun n k h a => v131_at _ n k h a (row_real0 hf _ _ _ (by omega)))).trans (congr4 F12 e0 e1 e2 e3)

end Cert.Attn

end
-- ==== Proof.Ff2.lean ====
module

public import proofs.«01_k».proof.Defs
public import proofs.«01_k».proof.Proof.Equal
public import proofs.«01_k».proof.Proof.Gen.Ff2Ideal.Value
public import proofs.«01_k».proof.Proof.Gen.Ff2ReferenceIdeal.Run
public import Idealize.ShloMosaic.Lib.Pipeline.ValueKit
public import Idealize.ShloMosaic.Lib.Pointwise
public import Idealize.ShloMosaic.Adequacy

@[expose] public section

set_option maxRecDepth 16384

noncomputable section

/-! The gradient through the second product of the channel mixing and the squared rectifier. -/

namespace Cert.Ff2Step

open Cert.Ff2Ideal Cert.Ff2Ideal.Gen Idealize.ShloMosaic Idealize.ShloMosaic.TcCoe Idealize.SL.Sem
open Idealize.ShloMosaic.Pipeline (Dat)

/-- The gradient at the rectifier's input, entry by entry. -/
def G (A : S4096x2048.Idx → EReal) (W : S8192x2048.Idx → EReal) (H : S4096x8192.Idx → EReal) : S4096x8192.Idx → EReal := fun i =>
  (∑ k : Fin 2048, A (ix2 (i 0) k) * W (ix2 (i 1) k)) * (Ideal.ofBits .f32 0x40000000#32 * max (H i) 0)

theorem pay_at (x0 x1 : Vec Ideal S1024x2048 .bf16) (x2 : Vec Ideal S1024x1024 .bf16) (i j : Fin 1024) :
    k0_pay1 x0 x1 x2 (ix2 i j) = (∑ k : Fin 2048, x0 (ix2 i k) * x1 (ix2 j k)) * (Ideal.ofBits .f32 0x40000000#32 * max (x2 (ix2 i j)) 0) := by
  pointwise [k0_pay1]

theorem idx : ∀ t : Fin cfg0.N, win0_0.index t = ![t.val / 8, 0] ∧ win0_1.index t = ![t.val % 8, 0] ∧ win0_2.index t = ![t.val / 8, t.val % 8] ∧ win0_3.index t = ![t.val / 8, t.val % 8] :=
  (by decide +kernel : ∀ t : Fin grid0.N, _)

variable (m : (ℓ : Loc nD τ sig) → Buf (Elt Ideal) ℓ)

theorem final (c : Dev nD) : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  rw [View.canon_unit_zero (by decide), View.ld_unit_zero (by decide), View.ld_unit_zero (by decide), View.ld_unit_zero (by decide)]
  rw [eq_ix2 y]
  refine (pay_at _ _ _ (y 0) (y 1)).trans ?_
  unfold G
  blk_point [iblk, V, idx t]

theorem ref_at (x0 : FVec Ideal S4096x2048 .bf16) (x1 : FVec Ideal S8192x2048 .bf16) (x2 : FVec Ideal S4096x8192 .bf16) (i : Fin 4096) (j : Fin 8192) :
    (truncf .bf16 (select (cmpf .ogt (extf .f32 x2 Cert.Ff2ReferenceIdeal.Gen.bitsLt_bf16_f32) (broadcastInDim S4096x8192 ![] Cert.Ff2ReferenceIdeal.Gen.bcast_S_S4096x8192 (constant Cert.Ff2ReferenceIdeal.S_ .f32 0x00000000#32))) (mulf (Host.dotGeneral Cert.Ff2ReferenceIdeal.dot_S4096x2048_S8192x2048_S4096x8192_1_1_0_0_n_n none (extf .f32 x0 Cert.Ff2ReferenceIdeal.Gen.bitsLt_bf16_f32) (extf .f32 x1 Cert.Ff2ReferenceIdeal.Gen.bitsLt_bf16_f32)) (mulf (broadcastInDim S4096x8192 ![] Cert.Ff2ReferenceIdeal.Gen.bcast_S_S4096x8192 (constant Cert.Ff2ReferenceIdeal.S_ .f32 0x40000000#32)) (maximumf (extf .f32 x2 Cert.Ff2ReferenceIdeal.Gen.bitsLt_bf16_f32) (broadcastInDim S4096x8192 ![] Cert.Ff2ReferenceIdeal.Gen.bcast_S_S4096x8192 (constant Cert.Ff2ReferenceIdeal.S_ .f32 0x00000000#32))))) (broadcastInDim S4096x8192 ![] Cert.Ff2ReferenceIdeal.Gen.bcast_S_S4096x8192 (constant Cert.Ff2ReferenceIdeal.S_ .f32 0x00000000#32))) Cert.Ff2ReferenceIdeal.Gen.bitsLt_bf16_f32 : FVec Ideal S4096x8192 .bf16) (ix2 i j)
      = G x0 x1 x2 (ix2 i j) := by
  pointwise [G]
  by_cases h : 0 < x2 (ix2 i j)
  · rw [if_pos h]
  · rw [if_neg h, max_eq_right (not_lt.1 h), mul_zero, mul_zero]

/-- The reference leaves its arguments as they were and every counter at zero. -/
theorem frame_reference : Cert.quiescent_Ff2ReferenceIdeal := fun m ρ _ =>
  (θ_run Cert.Ff2ReferenceIdeal.defs _ _).mono (fun r h => ⟨fun c => (h c).2,
      sem_eq_zero_of_no_sems (by decide) r.2⟩)
    (Cert.Ff2ReferenceIdeal.Value.run (F := Ideal) m ρ)

/-- The call and its reference have the same result. -/
theorem equal : Cert.algebraic_Ff2Ideal_Ff2ReferenceIdeal := fun m g m' g' _ ha => by
  refine ⟨fun c => G (m ((c.tc : Thread nD τ).loc main_arg0)) (m ((c.tc : Thread nD τ).loc main_arg1)) (m ((c.tc : Thread nD τ).loc main_arg2)), (θ_run _ _ _).mono (fun r h c => ?_) (Cert.Ff2Ideal.Value.run_blocks (F := Ideal) m g), (θ_run _ _ _).mono (fun r h c => ?_) (Cert.Ff2ReferenceIdeal.Value.run (F := Ideal) m' g')⟩
  · have hc := h c
    rw [final] at hc
    exact hc
  · obtain ⟨a0, a1, a2⟩ := ha c
    refine ⟨(h c).1.trans ((funext fun y => ?_).trans (Cert.Attn.congr3 G a0 a1 a2)), (h c).2⟩
    rw [eq_ix2 y]
    exact ref_at _ _ _ (y 0) (y 1)

end Cert.Ff2Step

end
-- ==== Proof.DwFf2.lean ====
module

public import proofs.«01_k».proof.Defs
public import proofs.«01_k».proof.Proof.Equal
public import proofs.«01_k».proof.Proof.Gen.DwFf2Ideal.Value
public import proofs.«01_k».proof.Proof.Gen.DwFf2ReferenceIdeal.Run
public import Idealize.ShloMosaic.Lib.Pipeline.ValueKit
public import Idealize.ShloMosaic.Lib.Pointwise
public import Idealize.ShloMosaic.Adequacy

@[expose] public section

set_option maxRecDepth 16384

noncomputable section

/-! The gradient of the second weight of the channel mixing. -/

namespace Cert.DwFf2Step

open Cert.DwFf2Ideal Cert.DwFf2Ideal.Gen Idealize.ShloMosaic Idealize.ShloMosaic.TcCoe Idealize.SL.Sem
open Idealize.ShloMosaic.Pipeline (Dat)

/-- The result, entry by entry. -/
def G (A : S8192x4096.Idx → EReal) (B : S4096x2048.Idx → EReal) : S8192x2048.Idx → EReal := fun i =>
  ∑ k : Fin 4096, A (ix2 (i 0) k) * B (ix2 k (i 1))

theorem pay_at (x0 : Vec Ideal S1024x4096 .bf16) (x1 : Vec Ideal S4096x512 .bf16) (i : Fin 1024) (j : Fin 512) :
    k0_pay1 x0 x1 (ix2 i j) = ∑ k : Fin 4096, x0 (ix2 i k) * x1 (ix2 k j) := by
  pointwise [k0_pay1]

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

variable (m : (ℓ : Loc nD τ sig) → Buf (Elt Ideal) ℓ)

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  rw [View.canon_unit_zero (by decide), View.ld_unit_zero (by decide), View.ld_unit_zero (by decide)]
  rw [eq_ix2 y]
  refine (pay_at _ _ (y 0) (y 1)).trans ?_
  unfold G
  blk_point [iblk, V, idx t]

theorem ref_at (x0 : FVec Ideal S8192x4096 .bf16) (x1 : FVec Ideal S4096x2048 .bf16) (i : Fin 8192) (j : Fin 2048) :
    (truncf .bf16 (transpose S8192x2048 [1, 0] (Host.dotGeneral Cert.DwFf2ReferenceIdeal.dot_S4096x2048_S8192x4096_S2048x8192_0_1_1_0_n_n none (extf .f32 x1 Cert.DwFf2ReferenceIdeal.Gen.bitsLt_bf16_f32) (extf .f32 x0 Cert.DwFf2ReferenceIdeal.Gen.bitsLt_bf16_f32)) Cert.DwFf2ReferenceIdeal.Gen.transposes_S2048x8192_S8192x2048_1_0) Cert.DwFf2ReferenceIdeal.Gen.bitsLt_bf16_f32 : FVec Ideal S8192x2048 .bf16) (ix2 i j)
      = G x0 x1 (ix2 i j) := by
  pointwise [G]
  exact Finset.sum_congr rfl fun _ _ => mul_comm _ _

/-- The reference leaves its arguments as they were and every counter at zero. -/
theorem frame_reference : Cert.quiescent_DwFf2ReferenceIdeal := fun m ρ _ =>
  (θ_run Cert.DwFf2ReferenceIdeal.defs _ _).mono (fun r h => ⟨fun c => (h c).2,
      sem_eq_zero_of_no_sems (by decide) r.2⟩)
    (Cert.DwFf2ReferenceIdeal.Value.run (F := Ideal) m ρ)

/-- The call and its reference have the same result. -/
theorem equal : Cert.algebraic_DwFf2Ideal_DwFf2ReferenceIdeal := fun m g m' g' _ ha => by
  refine ⟨fun c => G (m ((c.tc : Thread nD τ).loc main_arg0)) (m ((c.tc : Thread nD τ).loc main_arg1)), (θ_run _ _ _).mono (fun r h c => ?_) (Cert.DwFf2Ideal.Value.run_blocks (F := Ideal) m g), (θ_run _ _ _).mono (fun r h c => ?_) (Cert.DwFf2ReferenceIdeal.Value.run (F := Ideal) m' g')⟩
  · have hc := h c
    rw [final] at hc
    exact hc
  · refine ⟨(h c).1.trans ((funext fun y => ?_).trans (Cert.Attn.congr2 G (ha c).1 (ha c).2)), (h c).2⟩
    rw [eq_ix2 y]
    exact ref_at _ _ (y 0) (y 1)

end Cert.DwFf2Step

end
-- ==== Proof.DwOut.lean ====
module

public import proofs.«01_k».proof.Defs
public import proofs.«01_k».proof.Proof.Equal
public import proofs.«01_k».proof.Proof.Gen.DwOutIdeal.Value
public import proofs.«01_k».proof.Proof.Gen.DwOutReferenceIdeal.Run
public import Idealize.ShloMosaic.Lib.Pipeline.ValueKit
public import Idealize.ShloMosaic.Lib.Pointwise
public import Idealize.ShloMosaic.Adequacy

@[expose] public section

set_option maxRecDepth 16384

noncomputable section

/-! The gradient of the weight of the output product. -/

namespace Cert.DwOutStep

open Cert.DwOutIdeal Cert.DwOutIdeal.Gen Idealize.ShloMosaic Idealize.ShloMosaic.TcCoe Idealize.SL.Sem
open Idealize.ShloMosaic.Pipeline (Dat)

/-- The result, entry by entry. -/
def G (A : S2048x4096.Idx → EReal) (B : S4096x2048.Idx → EReal) : S2048x2048.Idx → EReal := fun i =>
  ∑ k : Fin 4096, A (ix2 (i 0) k) * B (ix2 k (i 1))

theorem pay_at (x0 : Vec Ideal S1024x4096 .bf16) (x1 : Vec Ideal S4096x512 .bf16) (i : Fin 1024) (j : Fin 512) :
    k0_pay1 x0 x1 (ix2 i j) = ∑ k : Fin 4096, x0 (ix2 i k) * x1 (ix2 k j) := by
  pointwise [k0_pay1]

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

variable (m : (ℓ : Loc nD τ sig) → Buf (Elt Ideal) ℓ)

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  rw [View.canon_unit_zero (by decide), View.ld_unit_zero (by decide), View.ld_unit_zero (by decide)]
  rw [eq_ix2 y]
  refine (pay_at _ _ (y 0) (y 1)).trans ?_
  unfold G
  blk_point [iblk, V, idx t]

theorem ref_at (x0 : FVec Ideal S2048x4096 .bf16) (x1 : FVec Ideal S4096x2048 .bf16) (i : Fin 2048) (j : Fin 2048) :
    (truncf .bf16 (transpose S2048x2048 [1, 0] (Host.dotGeneral Cert.DwOutReferenceIdeal.dot_S4096x2048_S2048x4096_S2048x2048_0_1_1_0_n_n none (extf .f32 x1 Cert.DwOutReferenceIdeal.Gen.bitsLt_bf16_f32) (extf .f32 x0 Cert.DwOutReferenceIdeal.Gen.bitsLt_bf16_f32)) Cert.DwOutReferenceIdeal.Gen.transposes_S2048x2048_S2048x2048_1_0) Cert.DwOutReferenceIdeal.Gen.bitsLt_bf16_f32 : FVec Ideal S2048x2048 .bf16) (ix2 i j)
      = G x0 x1 (ix2 i j) := by
  pointwise [G]
  exact Finset.sum_congr rfl fun _ _ => mul_comm _ _

/-- The reference leaves its arguments as they were and every counter at zero. -/
theorem frame_reference : Cert.quiescent_DwOutReferenceIdeal := fun m ρ _ =>
  (θ_run Cert.DwOutReferenceIdeal.defs _ _).mono (fun r h => ⟨fun c => (h c).2,
      sem_eq_zero_of_no_sems (by decide) r.2⟩)
    (Cert.DwOutReferenceIdeal.Value.run (F := Ideal) m ρ)

/-- The call and its reference have the same result. -/
theorem equal : Cert.algebraic_DwOutIdeal_DwOutReferenceIdeal := fun m g m' g' _ ha => by
  refine ⟨fun c => G (m ((c.tc : Thread nD τ).loc main_arg0)) (m ((c.tc : Thread nD τ).loc main_arg1)), (θ_run _ _ _).mono (fun r h c => ?_) (Cert.DwOutIdeal.Value.run_blocks (F := Ideal) m g), (θ_run _ _ _).mono (fun r h c => ?_) (Cert.DwOutReferenceIdeal.Value.run (F := Ideal) m' g')⟩
  · have hc := h c
    rw [final] at hc
    exact hc
  · refine ⟨(h c).1.trans ((funext fun y => ?_).trans (Cert.Attn.congr2 G (ha c).1 (ha c).2)), (h c).2⟩
    rw [eq_ix2 y]
    exact ref_at _ _ (y 0) (y 1)

end Cert.DwOutStep

end
-- ==== Proof.DwLru.lean ====
module

public import proofs.«01_k».proof.Defs
public import proofs.«01_k».proof.Proof.Equal
public import proofs.«01_k».proof.Proof.Gen.DwLruIdeal.Value
public import proofs.«01_k».proof.Proof.Gen.DwLruReferenceIdeal.Run
public import Idealize.ShloMosaic.Lib.Pipeline.ValueKit
public import Idealize.ShloMosaic.Lib.Pointwise
public import Idealize.ShloMosaic.Adequacy

@[expose] public section

set_option maxRecDepth 16384

noncomputable section

/-! The gradient of the weight after the recurrence. -/

namespace Cert.DwLruStep

open Cert.DwLruIdeal Cert.DwLruIdeal.Gen Idealize.ShloMosaic Idealize.ShloMosaic.TcCoe Idealize.SL.Sem
open Idealize.ShloMosaic.Pipeline (Dat)

/-- The result, entry by entry. -/
def G (A : S2048x4096.Idx → EReal) (B : S8192x2048.Idx → EReal) : S2048x2048.Idx → EReal := fun i =>
  ∑ k : Fin 4096, A (ix2 (i 0) k) * B (ix2 (⟨k.val, by omega⟩ : Fin 8192) (i 1))

theorem pay_at (x0 : Vec Ideal S1024x4096 .bf16) (x1 : Vec Ideal S4096x512 .bf16) (i : Fin 1024) (j : Fin 512) :
    k0_pay1 x0 x1 (ix2 i j) = ∑ k : Fin 4096, x0 (ix2 i k) * x1 (ix2 k j) := by
  pointwise [k0_pay1]

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

variable (m : (ℓ : Loc nD τ sig) → Buf (Elt Ideal) ℓ)

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  rw [View.canon_unit_zero (by decide), View.ld_unit_zero (by decide), View.ld_unit_zero (by decide)]
  rw [eq_ix2 y]
  refine (pay_at _ _ (y 0) (y 1)).trans ?_
  unfold G
  blk_point [iblk, V, idx t]

theorem ref_at (x0 : FVec Ideal S2048x4096 .bf16) (x1 : FVec Ideal S8192x2048 .bf16) (i : Fin 2048) (j : Fin 2048) :
    (truncf .bf16 (transpose S2048x2048 [1, 0] (Host.dotGeneral Cert.DwLruReferenceIdeal.dot_S4096x2048_S2048x4096_S2048x2048_0_1_1_0_n_n none (extf .f32 (extractStridedSlice Cert.DwLruReferenceIdeal.S4096x2048 ![0, 0] x1 Cert.DwLruReferenceIdeal.Gen.slices_S8192x2048_S4096x2048_0_0) Cert.DwLruReferenceIdeal.Gen.bitsLt_bf16_f32) (extf .f32 x0 Cert.DwLruReferenceIdeal.Gen.bitsLt_bf16_f32)) Cert.DwLruReferenceIdeal.Gen.transposes_S2048x2048_S2048x2048_1_0) Cert.DwLruReferenceIdeal.Gen.bitsLt_bf16_f32 : FVec Ideal S2048x2048 .bf16) (ix2 i j)
      = G x0 x1 (ix2 i j) := by
  pointwise [G]
  exact Finset.sum_congr rfl fun _ _ => mul_comm _ _

/-- The reference leaves its arguments as they were and every counter at zero. -/
theorem frame_reference : Cert.quiescent_DwLruReferenceIdeal := fun m ρ _ =>
  (θ_run Cert.DwLruReferenceIdeal.defs _ _).mono (fun r h => ⟨fun c => (h c).2,
      sem_eq_zero_of_no_sems (by decide) r.2⟩)
    (Cert.DwLruReferenceIdeal.Value.run (F := Ideal) m ρ)

/-- The call and its reference have the same result. -/
theorem equal : Cert.algebraic_DwLruIdeal_DwLruReferenceIdeal := fun m g m' g' _ ha => by
  refine ⟨fun c => G (m ((c.tc : Thread nD τ).loc main_arg0)) (m ((c.tc : Thread nD τ).loc main_arg1)), (θ_run _ _ _).mono (fun r h c => ?_) (Cert.DwLruIdeal.Value.run_blocks (F := Ideal) m g), (θ_run _ _ _).mono (fun r h c => ?_) (Cert.DwLruReferenceIdeal.Value.run (F := Ideal) m' g')⟩
  · have hc := h c
    rw [final] at hc
    exact hc
  · refine ⟨(h c).1.trans ((funext fun y => ?_).trans (Cert.Attn.congr2 G (ha c).1 (ha c).2)), (h c).2⟩
    rw [eq_ix2 y]
    exact ref_at _ _ (y 0) (y 1)

end Cert.DwLruStep

end
-- ==== Proof.DwAttn.lean ====
module

public import proofs.«01_k».proof.Defs
public import proofs.«01_k».proof.Proof.Equal
public import proofs.«01_k».proof.Proof.Gen.DwAttnIdeal.Value
public import proofs.«01_k».proof.Proof.Gen.DwAttnReferenceIdeal.Run
public import Idealize.ShloMosaic.Lib.Pipeline.ValueKit
public import Idealize.ShloMosaic.Lib.Pointwise
public import Idealize.ShloMosaic.Adequacy

@[expose] public section

set_option maxRecDepth 16384

noncomputable section

/-! The gradient of the weight after the attention. -/

namespace Cert.DwAttnStep

open Cert.DwAttnIdeal Cert.DwAttnIdeal.Gen Idealize.ShloMosaic Idealize.ShloMosaic.TcCoe Idealize.SL.Sem
open Idealize.ShloMosaic.Pipeline (Dat)

/-- The result, entry by entry. -/
def G (A : S2048x4096.Idx → EReal) (B : S8192x2048.Idx → EReal) : S2048x2048.Idx → EReal := fun i =>
  ∑ k : Fin 4096, A (ix2 (i 0) k) * B (ix2 (⟨4096 + k.val, by omega⟩ : Fin 8192) (i 1))

theorem pay_at (x0 : Vec Ideal S1024x4096 .bf16) (x1 : Vec Ideal S4096x512 .bf16) (i : Fin 1024) (j : Fin 512) :
    k0_pay1 x0 x1 (ix2 i j) = ∑ k : Fin 4096, x0 (ix2 i k) * x1 (ix2 k j) := by
  pointwise [k0_pay1]

theorem idx : ∀ t : Fin cfg0.N, win0_0.index t = ![t.val / 4, 0] ∧ win0_1.index t = ![1, t.val % 4] ∧ win0_2.index t = ![t.val / 4, t.val % 4] :=
  (by decide +kernel : ∀ t : Fin grid0.N, _)

variable (m : (ℓ : Loc nD τ sig) → Buf (Elt Ideal) ℓ)

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  rw [View.canon_unit_zero (by decide), View.ld_unit_zero (by decide), View.ld_unit_zero (by decide)]
  rw [eq_ix2 y]
  refine (pay_at _ _ (y 0) (y 1)).trans ?_
  unfold G
  blk_point [iblk, V, idx t]

theorem ref_at (x0 : FVec Ideal S2048x4096 .bf16) (x1 : FVec Ideal S8192x2048 .bf16) (i : Fin 2048) (j : Fin 2048) :
    (truncf .bf16 (transpose S2048x2048 [1, 0] (Host.dotGeneral Cert.DwAttnReferenceIdeal.dot_S4096x2048_S2048x4096_S2048x2048_0_1_1_0_n_n none (extf .f32 (extractStridedSlice Cert.DwAttnReferenceIdeal.S4096x2048 ![4096, 0] x1 Cert.DwAttnReferenceIdeal.Gen.slices_S8192x2048_S4096x2048_4096_0) Cert.DwAttnReferenceIdeal.Gen.bitsLt_bf16_f32) (extf .f32 x0 Cert.DwAttnReferenceIdeal.Gen.bitsLt_bf16_f32)) Cert.DwAttnReferenceIdeal.Gen.transposes_S2048x2048_S2048x2048_1_0) Cert.DwAttnReferenceIdeal.Gen.bitsLt_bf16_f32 : FVec Ideal S2048x2048 .bf16) (ix2 i j)
      = G x0 x1 (ix2 i j) := by
  pointwise [G]
  exact Finset.sum_congr rfl fun _ _ => mul_comm _ _

/-- The reference leaves its arguments as they were and every counter at zero. -/
theorem frame_reference : Cert.quiescent_DwAttnReferenceIdeal := fun m ρ _ =>
  (θ_run Cert.DwAttnReferenceIdeal.defs _ _).mono (fun r h => ⟨fun c => (h c).2,
      sem_eq_zero_of_no_sems (by decide) r.2⟩)
    (Cert.DwAttnReferenceIdeal.Value.run (F := Ideal) m ρ)

/-- The call and its reference have the same result. -/
theorem equal : Cert.algebraic_DwAttnIdeal_DwAttnReferenceIdeal := fun m g m' g' _ ha => by
  refine ⟨fun c => G (m ((c.tc : Thread nD τ).loc main_arg0)) (m ((c.tc : Thread nD τ).loc main_arg1)), (θ_run _ _ _).mono (fun r h c => ?_) (Cert.DwAttnIdeal.Value.run_blocks (F := Ideal) m g), (θ_run _ _ _).mono (fun r h c => ?_) (Cert.DwAttnReferenceIdeal.Value.run (F := Ideal) m' g')⟩
  · have hc := h c
    rw [final] at hc
    exact hc
  · refine ⟨(h c).1.trans ((funext fun y => ?_).trans (Cert.Attn.congr2 G (ha c).1 (ha c).2)), (h c).2⟩
    rw [eq_ix2 y]
    exact ref_at _ _ (y 0) (y 1)

end Cert.DwAttnStep

end
-- ==== Proof.AttnOut.lean ====
module

public import proofs.«01_k».proof.Defs
public import proofs.«01_k».proof.Proof.Equal
public import proofs.«01_k».proof.Proof.Gen.AttnOutIdeal.Value
public import proofs.«01_k».proof.Proof.Gen.AttnOutReferenceIdeal.Run
public import Idealize.ShloMosaic.Lib.Pipeline.ValueKit
public import Idealize.ShloMosaic.Lib.Pointwise
public import Idealize.ShloMosaic.Adequacy

@[expose] public section

set_option maxRecDepth 16384

noncomputable section

/-! The gradient at the attention's result. -/

namespace Cert.AttnOutStep

open Cert.AttnOutIdeal Cert.AttnOutIdeal.Gen Idealize.ShloMosaic Idealize.ShloMosaic.TcCoe Idealize.SL.Sem
open Idealize.ShloMosaic.Pipeline (Dat)

/-- The result, entry by entry. -/
def G (A : S2x4096x2048.Idx → EReal) (B : S2048x2048.Idx → EReal) : S4096x2048.Idx → EReal := fun i =>
  ∑ k : Fin 2048, A (ix3 1 (i 0) k) * B (ix2 (i 1) k)

theorem pay_at (x0 : Vec Ideal S1x1024x2048 .bf16) (x1 : Vec Ideal S1024x2048 .bf16) (i : Fin 1024) (j : Fin 1024) :
    k0_pay1 x0 x1 (ix2 i j) = ∑ k : Fin 2048, x0 (ix3 0 i k) * x1 (ix2 j k) := by
  pointwise [k0_pay1]

theorem idx : ∀ t : Fin cfg0.N, win0_0.index t = ![1, t.val / 2, 0] ∧ win0_1.index t = ![t.val % 2, 0] ∧ win0_2.index t = ![t.val / 2, t.val % 2] :=
  (by decide +kernel : ∀ t : Fin grid0.N, _)

variable (m : (ℓ : Loc nD τ sig) → Buf (Elt Ideal) ℓ)

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  rw [View.canon_unit_zero (by decide), View.ld_unit_zero (by decide), View.ld_unit_zero (by decide)]
  rw [eq_ix2 y]
  refine (pay_at _ _ (y 0) (y 1)).trans ?_
  unfold G
  blk_point [iblk, V, idx t]

theorem ref_at (x0 : FVec Ideal S2x4096x2048 .bf16) (x1 : FVec Ideal S2048x2048 .bf16) (i : Fin 4096) (j : Fin 2048) :
    (truncf .bf16 (Host.dotGeneral Cert.AttnOutReferenceIdeal.dot_S4096x2048_S2048x2048_S4096x2048_1_1_0_0_n_n none (extf .f32 (shapeCast Cert.AttnOutReferenceIdeal.S4096x2048 (extractStridedSlice Cert.AttnOutReferenceIdeal.S1x4096x2048 ![1, 0, 0] x0 Cert.AttnOutReferenceIdeal.Gen.slices_S2x4096x2048_S1x4096x2048_1_0_0) Cert.AttnOutReferenceIdeal.Gen.shapeCasts_S1x4096x2048_S4096x2048) Cert.AttnOutReferenceIdeal.Gen.bitsLt_bf16_f32) (extf .f32 x1 Cert.AttnOutReferenceIdeal.Gen.bitsLt_bf16_f32)) Cert.AttnOutReferenceIdeal.Gen.bitsLt_bf16_f32 : FVec Ideal S4096x2048 .bf16) (ix2 i j)
      = G x0 x1 (ix2 i j) := by
  pointwise [G]

/-- The reference leaves its arguments as they were and every counter at zero. -/
theorem frame_reference : Cert.quiescent_AttnOutReferenceIdeal := fun m ρ _ =>
  (θ_run Cert.AttnOutReferenceIdeal.defs _ _).mono (fun r h => ⟨fun c => (h c).2,
      sem_eq_zero_of_no_sems (by decide) r.2⟩)
    (Cert.AttnOutReferenceIdeal.Value.run (F := Ideal) m ρ)

/-- The call and its reference have the same result. -/
theorem equal : Cert.algebraic_AttnOutIdeal_AttnOutReferenceIdeal := fun m g m' g' _ ha => by
  refine ⟨fun c => G (m ((c.tc : Thread nD τ).loc main_arg0)) (m ((c.tc : Thread nD τ).loc main_arg1)), (θ_run _ _ _).mono (fun r h c => ?_) (Cert.AttnOutIdeal.Value.run_blocks (F := Ideal) m g), (θ_run _ _ _).mono (fun r h c => ?_) (Cert.AttnOutReferenceIdeal.Value.run (F := Ideal) m' g')⟩
  · have hc := h c
    rw [final] at hc
    exact hc
  · refine ⟨(h c).1.trans ((funext fun y => ?_).trans (Cert.Attn.congr2 G (ha c).1 (ha c).2)), (h c).2⟩
    rw [eq_ix2 y]
    exact ref_at _ _ (y 0) (y 1)

end Cert.AttnOutStep

end
-- ==== Proof.Slab.lean ====
module

public import Idealize.ShloMosaic.Lib.Pipeline.ValueKit
public import Idealize.ShloMosaic.Lib.Pointwise
public import proofs.«01_k».proof.DwFf1Ideal

@[expose] public section

set_option maxRecDepth 16384

noncomputable section

/-! Four column slabs written one after the other into an array of 1024 rows, and a buffer of two slots. -/

namespace Cert.Slab

open Cert.DwFf1Ideal Idealize.ShloMosaic Idealize.ShloMosaic.TcCoe Idealize.SL.Sem

/-- A slab of 1024 columns, written last: there the slab, elsewhere what was written before. -/
theorem canon_slab (o : ℕ) (inb : ∀ a, (![0, o] : Fin S1024x4096.rank → ℕ) a + S1024x1024.size a ≤ S1024x4096.size a)
    (w : S1024x1024.Idx → Elt Ideal .bf16) (L : List (View.Piece (Elt Ideal) S1024x4096 .bf16)) (y : S1024x4096.Idx) :
    View.canon ((⟨Rect.unit (s := S1024x4096) ![0, o] S1024x1024.size inb, w⟩ : View.Piece (Elt Ideal) S1024x4096 .bf16) :: L) y
      = if o ≤ (y 1).val ∧ (y 1).val < o + 1024 then w (ix2 (y 0) ⟨((y 1).val - o) % 1024, Nat.mod_lt _ (by norm_num)⟩) else View.canon L y := by
  by_cases h : o ≤ (y 1).val ∧ (y 1).val < o + 1024
  · rw [if_pos h]
    have e : y = (Rect.unit (s := S1024x4096) ![0, o] S1024x1024.size inb).emb (ix2 (y 0) ⟨((y 1).val - o) % 1024, Nat.mod_lt _ (by norm_num)⟩ : S1024x1024.Idx) := by
      funext a
      refine Fin.ext ?_
      have e0 := Rect.idx_unit_val (s := S1024x4096) ![0, o] S1024x1024.size inb (ix2 (y 0) ⟨((y 1).val - o) % 1024, Nat.mod_lt _ (by norm_num)⟩ : S1024x1024.Idx) a
      refine Eq.trans ?_ e0.symm
      fin_cases a
      · exact (Nat.zero_add _).symm
      · show (y 1).val = o + ((y 1).val - o) % 1024
        omega
    conv_lhs => rw [e]
    exact View.canon_cons_emb (Rect.unit (s := S1024x4096) ![0, o] S1024x1024.size inb) w L _
  · rw [if_neg h]
    refine View.canon_cons_of_not_mem _ L fun hm => h ?_
    exact (Rect.mem_set_unit (inb := inb)).1 hm 1

/-- The two slots of the buffer do not meet. -/
theorem slots_disjoint (i0 : ∀ a, (![0, 0, 0] : Fin S2x1024x1024.rank → ℕ) a + S1x1024x1024.size a ≤ S2x1024x1024.size a)
    (i1 : ∀ a, (![1, 0, 0] : Fin S2x1024x1024.rank → ℕ) a + S1x1024x1024.size a ≤ S2x1024x1024.size a) :
    Disjoint (Rect.unit (s := S2x1024x1024) ![0, 0, 0] S1x1024x1024.size i0).set (Rect.unit (s := S2x1024x1024) ![1, 0, 0] S1x1024x1024.size i1).set := by
  refine Finset.disjoint_left.2 fun y h0 h1 => ?_
  have a := ((Rect.mem_set_unit.1 h0) 0).2
  have b := ((Rect.mem_set_unit.1 h1) 0).1
  exact absurd (lt_of_le_of_lt b a) (by decide)

variable {sig : RefSig}

/-- A slot is read as the last copy into it left it, whatever was copied into the other slot since. -/
theorem slot0_under1 (v : View sig .tc .vmem S2x1024x1024 .bf16) (i0 : ∀ a, (![0, 0, 0] : Fin S2x1024x1024.rank → ℕ) a + S1x1024x1024.size a ≤ S2x1024x1024.size a)
    (i1 : ∀ a, (![1, 0, 0] : Fin S2x1024x1024.rank → ℕ) a + S1x1024x1024.size a ≤ S2x1024x1024.size a) (w w' : S1x1024x1024.Idx → Elt Ideal .bf16) (L : List (View.Piece (Elt Ideal) S2x1024x1024 .bf16)) :
    v.readCov ((⟨Rect.unit (s := S2x1024x1024) ![1, 0, 0] S1x1024x1024.size i1, w'⟩ : View.Piece (Elt Ideal) S2x1024x1024 .bf16) :: (⟨Rect.unit (s := S2x1024x1024) ![0, 0, 0] S1x1024x1024.size i0, w⟩ : View.Piece (Elt Ideal) S2x1024x1024 .bf16) :: L) (Rect.unit (s := S2x1024x1024) ![0, 0, 0] S1x1024x1024.size i0).toLoadRect = w := by
  have hd := (slots_disjoint i0 i1).symm
  refine (View.readCov_cons_of_disjoint v (⟨Rect.unit (s := S2x1024x1024) ![1, 0, 0] S1x1024x1024.size i1, w'⟩ : View.Piece (Elt Ideal) S2x1024x1024 .bf16) _ _ hd).trans ?_
  exact View.readCov_cons_toLoadRect v (Rect.unit (s := S2x1024x1024) ![0, 0, 0] S1x1024x1024.size i0) w L

theorem slot1_under0 (v : View sig .tc .vmem S2x1024x1024 .bf16) (i0 : ∀ a, (![0, 0, 0] : Fin S2x1024x1024.rank → ℕ) a + S1x1024x1024.size a ≤ S2x1024x1024.size a)
    (i1 : ∀ a, (![1, 0, 0] : Fin S2x1024x1024.rank → ℕ) a + S1x1024x1024.size a ≤ S2x1024x1024.size a) (w w' : S1x1024x1024.Idx → Elt Ideal .bf16) (L : List (View.Piece (Elt Ideal) S2x1024x1024 .bf16)) :
    v.readCov ((⟨Rect.unit (s := S2x1024x1024) ![0, 0, 0] S1x1024x1024.size i0, w'⟩ : View.Piece (Elt Ideal) S2x1024x1024 .bf16) :: (⟨Rect.unit (s := S2x1024x1024) ![1, 0, 0] S1x1024x1024.size i1, w⟩ : View.Piece (Elt Ideal) S2x1024x1024 .bf16) :: L) (Rect.unit (s := S2x1024x1024) ![1, 0, 0] S1x1024x1024.size i1).toLoadRect = w := by
  have hd := slots_disjoint i0 i1
  refine (View.readCov_cons_of_disjoint v (⟨Rect.unit (s := S2x1024x1024) ![0, 0, 0] S1x1024x1024.size i0, w'⟩ : View.Piece (Elt Ideal) S2x1024x1024 .bf16) _ _ hd).trans ?_
  exact View.readCov_cons_toLoadRect v (Rect.unit (s := S2x1024x1024) ![1, 0, 0] S1x1024x1024.size i1) w L

/-- The columns of the activation from the `q`-th thousand on, standing as rows. -/
def cols (q : ℕ) (A : S1x4096x2048.Idx → EReal) : S1024x4096.Idx → EReal := fun y => A (ix3 0 (y 1) ⟨(1024 * q + (y 0).val) % 2048, Nat.mod_lt _ (by norm_num)⟩)

end Cert.Slab

end
-- ==== Proof.DwFf1.lean ====
module

public import proofs.«01_k».proof.Defs
public import proofs.«01_k».proof.Proof.Equal
public import proofs.«01_k».proof.Proof.Slab
public import proofs.«01_k».proof.Proof.Spec
public import proofs.«01_k».proof.Proof.Gen.DwFf1Ideal.Value
public import proofs.«01_k».proof.Proof.Gen.DwFf1ReferenceIdeal.Run
public import Idealize.ShloMosaic.Lib.Pipeline.ValueKit
public import Idealize.ShloMosaic.Lib.Pointwise
public import Idealize.ShloMosaic.Adequacy

@[expose] public section

set_option maxRecDepth 16384

noncomputable section

/-! The gradient of the first weight of the channel mixing. -/

namespace Cert.DwFf1Step

open Cert.DwFf1Ideal Cert.DwFf1Ideal.Gen Idealize.ShloMosaic Idealize.ShloMosaic.TcCoe Idealize.SL.Sem
open Idealize.ShloMosaic.Pipeline (Dat)
open Cert.Slab (cols)

theorem pay1_at (x : Vec Ideal S1x1024x1024 .bf16) (i j : Fin 1024) : k0_pay1 (k0_pay6 x) (ix2 i j) = x (ix3 0 j i) := by
  pointwise [k0_pay1, k0_pay6]

theorem pay2_at (x : Vec Ideal S1x1024x1024 .bf16) (i j : Fin 1024) : k0_pay2 x (ix2 i j) = x (ix3 0 j i) := by
  pointwise [k0_pay2]

theorem pay3_at (x : Vec Ideal S1024x4096 .bf16) (y : Vec Ideal S4096x512 .bf16) (z : Fin 1) (i : Fin 1024) (j : Fin 512) :
    k0_pay3 x y (ix3 z i j) = ∑ k : Fin 4096, x (ix2 i k) * y (ix2 k j) := by
  pointwise [k0_pay3]

theorem pay4_at (x : Vec Ideal S1x1024x1024 .bf16) (i j : Fin 1024) : k0_pay4 x (ix2 i j) = x (ix3 0 j i) := by
  pointwise [k0_pay4]

theorem pay5_at (x : Vec Ideal S1x1024x1024 .bf16) (i j : Fin 1024) : k0_pay5 x (ix2 i j) = x (ix3 0 j i) := by
  pointwise [k0_pay5]

variable (c : Dev nD) (i : grid0.Coords)

/-- The copy of a slab of rows brings in the rows it names. -/
theorem dma_at (off : Fin S1x4096x2048.rank → ℕ) (inb : ∀ a, off a + S1x1024x1024.size a ≤ S1x4096x2048.size a) (hs) (fh0 : HbBuf0 (F := Ideal) c hbM0_0) (o : ℕ) (ho : off = ![0, o, 1024 * (i 0).val])
    (y : S1024x4096.Idx) (h : o ≤ (y 1).val ∧ (y 1).val < o + 1024) :
    ReadAs.same.apply (View.read (Elt Ideal) ((Memref.whole main_arg0).slice (Rect.unit (s := S1x4096x2048) off S1x1024x1024.size inb) hs).view fh0)
      (ix3 0 (⟨((y 1).val - o) % 1024, Nat.mod_lt _ (by norm_num)⟩ : Fin 1024) (y 0) : S1x1024x1024.Idx) = cols (i 0).val (fh0 : S1x4096x2048.Idx → EReal) y := by
  subst ho
  refine congrArg (fh0 : S1x4096x2048.Idx → EReal) (funext fun a => Fin.ext ?_)
  refine (Rect.idx_unit_val (s := S1x4096x2048) ![0, o, 1024 * (i 0).val] S1x1024x1024.size inb (ix3 0 (⟨((y 1).val - o) % 1024, Nat.mod_lt _ (by norm_num)⟩ : Fin 1024) (y 0) : S1x1024x1024.Idx) a).trans ?_
  have h0 : (y 0).val < 1024 := (y 0).isLt
  have hi : (i 0).val < 2 := (i 0).isLt
  fin_cases a
  · rfl
  · show o + ((y 1).val - o) % 1024 = (y 1).val
    omega
  · show 1024 * (i 0).val + (y 0).val = (1024 * (i 0).val + (y 0).val) % 2048
    omega

section body

variable (arg3 : Memref sig .tc .vmem S4096x512 .bf16) (harg3 : arg3.IsWhole) (arg4 : Memref sig .tc .vmem S1x1024x512 .bf16) (harg4 : arg4.IsWhole)
   (arg5 : Memref sig .tc .vmem S2x1024x1024 .bf16) (harg5 : arg5.IsWhole) (arg6 : Memref sig .tc .vmem S1024x4096 .bf16) (harg6 : arg6.IsWhole)
   (x0 : Vec Ideal S4096x512 .bf16) (xs1 : Vec Ideal S1024x4096 .bf16) (fh0 : HbBuf0 (F := Ideal) c hbM0_0)

/-- The four slabs laid side by side are the columns, turned. -/
theorem slabs (hc0 : cond0_0 i) : View.canon (kernelRun0_A.sl.HS1_4 (F := Ideal) c i arg5 hc0 fh0) = cols (i 0).val (fh0 : S1x4096x2048.Idx → EReal) := by
  funext y
  unfold kernelRun0_A.sl.HS1_4
  rw [Cert.Slab.canon_slab, Cert.Slab.canon_slab, Cert.Slab.canon_slab, Cert.Slab.canon_slab]
  unfold kernelRun0_A.sl.v25 kernelRun0_A.sl.v41 kernelRun0_A.sl.v68 kernelRun0_A.sl.r kernelRun0_A.sl.v57
  rw [Cert.Slab.slot0_under1, Cert.Slab.slot1_under0, Cert.Slab.slot0_under1]
  rw [View.readCov_cons_toLoadRect]
  unfold kernelRun0_A.sl.dma0 kernelRun0_A.sl.dma0_1 kernelRun0_A.sl.dma3 kernelRun0_A.sl.dma6
  have h4 : (y 1).val < 4096 := (y 1).isLt
  split_ifs with h3 h2 h1 h0
  · exact (pay2_at _ _ _).trans (dma_at c i _ _ _ fh0 3072 (k0_off4_eq i) y h3)
  · exact (pay1_at _ _ _).trans (dma_at c i _ _ _ fh0 2048 (k0_off3_eq i) y h2)
  · exact (pay5_at _ _ _).trans (dma_at c i _ _ _ fh0 1024 (k0_off2_eq i) y h1)
  · exact (pay4_at _ _ _).trans (dma_at c i _ _ _ fh0 0 (k0_off1_eq i) y h0)
  · exfalso
    omega

/-- One block of the product. -/
def blockOf (S : S1024x4096.Idx → EReal) (b : S4096x512.Idx → EReal) : S1x1024x512.Idx → EReal := fun y => ∑ k : Fin 4096, S (ix2 (y 1) k) * b (ix2 k (y 2))

theorem sout_A (hc0 : cond0_0 i) : sout0_A_1 (F := Ideal) c i arg3 harg3 arg4 harg4 arg5 harg5 arg6 harg6 hc0 x0 fh0 = cols (i 0).val (fh0 : S1x4096x2048.Idx → EReal) := by
  unfold sout0_A_1
  rw [View.read_writes_junk_eq_canon]
  unfold kernelRun0_A
  dsimp only
  exact slabs c i arg5 fh0 hc0

theorem out_A (hc0 : cond0_0 i) : out0_A_1 (F := Ideal) c i arg3 harg3 arg4 harg4 arg5 harg5 arg6 harg6 hc0 x0 fh0 = blockOf (cols (i 0).val (fh0 : S1x4096x2048.Idx → EReal)) x0 := by
  unfold out0_A_1
  rw [View.read_writes_junk_eq_canon]
  unfold kernelRun0_A
  dsimp only
  rw [View.canon_unit_zero (by decide)]
  unfold kernelRun0_A.sl.v3
  refine (congrArg₂ k0_pay3 (Cert.Attn.read_whole arg6 _ _ _ _ (slabs c i arg5 fh0 hc0)) (Cert.Attn.load_whole arg3 harg3 x0 _ _)).trans ?_
  funext y
  rw [eq_ix3 y]
  exact pay3_at _ _ (y 0) (y 1) (y 2)

theorem out_B (hc0 : ¬cond0_0 i) : out0_B_1 (F := Ideal) c i arg3 harg3 arg4 harg4 arg5 harg5 arg6 harg6 hc0 x0 xs1 fh0 = blockOf xs1 x0 := by
  unfold out0_B_1
  rw [View.read_writes_junk_eq_canon]
  unfold kernelRun0_B
  dsimp only
  rw [View.canon_unit_zero (by decide)]
  refine (congrArg₂ k0_pay3 (Cert.Attn.load_whole arg6 harg6 xs1 _ _) (Cert.Attn.load_whole arg3 harg3 x0 _ _)).trans ?_
  funext y
  rw [eq_ix3 y]
  exact pay3_at _ _ (y 0) (y 1) (y 2)

end body

/-- The gradient of the weight, laid out in four column blocks. -/
def G (A : S1x4096x2048.Idx → EReal) (B : S4096x8192.Idx → EReal) : S4x2048x2048.Idx → EReal := fun i =>
  ∑ k : Fin 4096, A (ix3 0 k (i 1)) * B (ix2 k ⟨(2048 * (i 0).val + (i 2).val) % 8192, Nat.mod_lt _ (by norm_num)⟩)

theorem idx : ∀ t : Fin cfg0.N, win0_0.index t = ![0, t.val % 16] ∧ win0_1.index t = ![t.val % 16 / 4, t.val / 16, t.val % 4] :=
  (by decide +kernel : ∀ t : Fin grid0.N, _)

theorem coord : ∀ t : Fin cfg0.N, (grid0.coords t 0).val = t.val / 16 :=
  (by decide +kernel : ∀ t : Fin grid0.N, _)

variable (m : (ℓ : Loc nD τ sig) → Buf (Elt Ideal) ℓ)

theorem kept_A (c : Dev nD) (t : Fin cfg0.N) (h0 : t.val % 16 = 0) : (outsAt0 m c t.val t.isLt).2 = cols (t.val / 16) (V m c main_arg0 : S1x4096x2048.Idx → EReal) := by
  rw [outsAt0_A m c t h0]
  dsimp only
  rw [sout_A, coord]

theorem kept_B (c : Dev nD) (t : Fin cfg0.N) (h0 : ¬t.val % 16 = 0) : (outsAt0 m c t.val t.isLt).2 = (outsAt0 m c (t.val - 1) (Nat.lt_of_le_of_lt (Nat.sub_le _ _) t.isLt)).2 := by
  rw [outsAt0_B m c t h0]
  dsimp only
  unfold sout0_B_1
  rfl

/-- The turned columns stay in the scratch buffer from the first point of a row of the grid to the last. -/
theorem kept (c : Dev nD) (n : ℕ) : ∀ h : n < cfg0.N, (outsAt0 m c n h).2 = cols (n / 16) (V m c main_arg0 : S1x4096x2048.Idx → EReal) := by
  induction n with
  | zero => exact fun h => kept_A m c ⟨0, h⟩ (Nat.zero_mod _)
  | succ n ih =>
    intro h
    by_cases h0 : (n + 1) % 16 = 0
    · exact kept_A m c ⟨n + 1, h⟩ h0
    · refine (kept_B m c ⟨n + 1, h⟩ h0).trans ((ih (Nat.lt_of_succ_lt h)).trans ?_)
      exact congrArg (fun q => cols q (V m c main_arg0 : S1x4096x2048.Idx → EReal)) (show n / 16 = (n + 1) / 16 by omega)

/-- What a point leaves for its block of the result. -/
theorem left (c : Dev nD) (t : Fin cfg0.N) : (outsAt0 m c t.val t.isLt).1 = blockOf (cols (t.val / 16) (V m c main_arg0 : S1x4096x2048.Idx → EReal)) (iblk m c 0 t) := by
  by_cases h0 : t.val % 16 = 0
  · rw [outsAt0_A m c t h0]
    dsimp only
    rw [out_A, coord]
  · rw [outsAt0_B m c t h0]
    dsimp only
    rw [out_B, kept, show (t.val - 1) / 16 = t.val / 16 by omega]

theorem final (c : Dev nD) : (dats m 0 c).arrAt 1 cfg0.N = G (m ((c : Thread nD τ).loc main_arg0)) (m ((c : Thread nD τ).loc main_arg1)) := by
  refine (dats m 0 c).arrAt_eq_of_covers 1 _ (by decide +kernel) fun t _ y => ?_
  blk_simp
  rw [after0_1, left]
  have hV : V m c main_arg0 = m ((c : Thread nD τ).loc main_arg0) := V_main_arg0 m c
  rw [hV]
  unfold G blockOf cols
  blk_point [iblk, V, idx t]

theorem ref_at (x0 : FVec Ideal S1x4096x2048 .bf16) (x1 : FVec Ideal S4096x8192 .bf16) (z : Fin 4) (i : Fin 2048) (j : Fin 2048) :
    (truncf .bf16 (transpose Cert.DwFf1ReferenceIdeal.S4x2048x2048 [1, 0, 2] (shapeCast Cert.DwFf1ReferenceIdeal.S2048x4x2048 (transpose Cert.DwFf1ReferenceIdeal.S2048x8192 [1, 0] (Host.dotGeneral Cert.DwFf1ReferenceIdeal.dot_S4096x8192_S4096x2048_S8192x2048_0_0_1_1_n_n none (extf .f32 x1 Cert.DwFf1ReferenceIdeal.Gen.bitsLt_bf16_f32) (extf .f32 (shapeCast Cert.DwFf1ReferenceIdeal.S4096x2048 x0 Cert.DwFf1ReferenceIdeal.Gen.shapeCasts_S1x4096x2048_S4096x2048) Cert.DwFf1ReferenceIdeal.Gen.bitsLt_bf16_f32)) Cert.DwFf1ReferenceIdeal.Gen.transposes_S8192x2048_S2048x8192_1_0) Cert.DwFf1ReferenceIdeal.Gen.shapeCasts_S2048x8192_S2048x4x2048) Cert.DwFf1ReferenceIdeal.Gen.transposes_S2048x4x2048_S4x2048x2048_1_0_2) Cert.DwFf1ReferenceIdeal.Gen.bitsLt_bf16_f32 : FVec Ideal Cert.DwFf1ReferenceIdeal.S4x2048x2048 .bf16) (ix3 z i j)
      = G x0 x1 (ix3 z i j) := by
  pointwise [G]
  exact Finset.sum_congr rfl fun k _ => (mul_comm _ _).trans (congrArg (fun n => x0 (ix3 0 k i) * x1 (ix2 k n)) (Fin.ext (by show z.val * 2048 + j.val = (2048 * z.val + j.val) % 8192; omega)))

/-- The reference leaves its arguments as they were and every counter at zero. -/
theorem frame_reference : Cert.quiescent_DwFf1ReferenceIdeal := fun m ρ _ =>
  (θ_run Cert.DwFf1ReferenceIdeal.defs _ _).mono (fun r h => ⟨fun c => (h c).2,
      sem_eq_zero_of_no_sems (by decide) r.2⟩)
    (Cert.DwFf1ReferenceIdeal.Value.run (F := Ideal) m ρ)

/-- The call and its reference have the same result. -/
theorem equal : Cert.algebraic_DwFf1Ideal_DwFf1ReferenceIdeal := fun m g m' g' _ ha => by
  refine ⟨fun c => G (m ((c.tc : Thread nD τ).loc main_arg0)) (m ((c.tc : Thread nD τ).loc main_arg1)), (θ_run _ _ _).mono (fun r h c => ?_) (Cert.DwFf1Ideal.Value.run_blocks (F := Ideal) m g), (θ_run _ _ _).mono (fun r h c => ?_) (Cert.DwFf1ReferenceIdeal.Value.run (F := Ideal) m' g')⟩
  · have hc := h c
    rw [final] at hc
    exact hc
  · refine ⟨(h c).1.trans ((funext fun y => ?_).trans (Cert.Attn.congr2 G (ha c).1 (ha c).2)), (h c).2⟩
    rw [eq_ix3 y]
    exact ref_at _ _ (y 0) (y 1) (y 2)

end Cert.DwFf1Step

end
-- ==== Proof.DwIn.lean ====
module

public import proofs.«01_k».proof.Defs
public import proofs.«01_k».proof.Proof.Equal
public import proofs.«01_k».proof.Proof.Slab
public import proofs.«01_k».proof.Proof.Spec
public import proofs.«01_k».proof.Proof.Gen.DwInIdeal.Value
public import proofs.«01_k».proof.Proof.Gen.DwInReferenceIdeal.Run
public import Idealize.ShloMosaic.Lib.Pipeline.ValueKit
public import Idealize.ShloMosaic.Lib.Pointwise
public import Idealize.ShloMosaic.Adequacy

@[expose] public section

set_option maxRecDepth 16384

noncomputable section

/-! The gradient of the weight of the input projection. -/

namespace Cert.DwInStep

open Cert.DwInIdeal Cert.DwInIdeal.Gen Idealize.ShloMosaic Idealize.ShloMosaic.TcCoe Idealize.SL.Sem
open Idealize.ShloMosaic.Pipeline (Dat)
open Cert.Slab (cols)

theorem pay1_at (x : Vec Ideal S1x1024x1024 .bf16) (i j : Fin 1024) : k0_pay1 (k0_pay6 x) (ix2 i j) = x (ix3 0 j i) := by
  pointwise [k0_pay1, k0_pay6]

theorem pay2_at (x : Vec Ideal S1x1024x1024 .bf16) (i j : Fin 1024) : k0_pay2 x (ix2 i j) = x (ix3 0 j i) := by
  pointwise [k0_pay2]

theorem pay3_at (x : Vec Ideal S1024x4096 .bf16) (y : Vec Ideal S4096x896 .bf16) (z : Fin 1) (i : Fin 1024) (j : Fin 896) :
    k0_pay3 x y (ix3 z i j) = ∑ k : Fin 4096, x (ix2 i k) * y (ix2 k j) := by
  pointwise [k0_pay3]

theorem pay4_at (x : Vec Ideal S1x1024x1024 .bf16) (i j : Fin 1024) : k0_pay4 x (ix2 i j) = x (ix3 0 j i) := by
  pointwise [k0_pay4]

theorem pay5_at (x : Vec Ideal S1x1024x1024 .bf16) (i j : Fin 1024) : k0_pay5 x (ix2 i j) = x (ix3 0 j i) := by
  pointwise [k0_pay5]

variable (c : Dev nD) (i : grid0.Coords)

/-- The copy of a slab of rows brings in the rows it names. -/
theorem dma_at (off : Fin S1x4096x2048.rank → ℕ) (inb : ∀ a, off a + S1x1024x1024.size a ≤ S1x4096x2048.size a) (hs) (fh0 : HbBuf0 (F := Ideal) c hbM0_0) (o : ℕ) (ho : off = ![0, o, 1024 * (i 0).val])
    (y : S1024x4096.Idx) (h : o ≤ (y 1).val ∧ (y 1).val < o + 1024) :
    ReadAs.same.apply (View.read (Elt Ideal) ((Memref.whole main_arg0).slice (Rect.unit (s := S1x4096x2048) off S1x1024x1024.size inb) hs).view fh0)
      (ix3 0 (⟨((y 1).val - o) % 1024, Nat.mod_lt _ (by norm_num)⟩ : Fin 1024) (y 0) : S1x1024x1024.Idx) = cols (i 0).val (fh0 : S1x4096x2048.Idx → EReal) y := by
  subst ho
  refine congrArg (fh0 : S1x4096x2048.Idx → EReal) (funext fun a => Fin.ext ?_)
  refine (Rect.idx_unit_val (s := S1x4096x2048) ![0, o, 1024 * (i 0).val] S1x1024x1024.size inb (ix3 0 (⟨((y 1).val - o) % 1024, Nat.mod_lt _ (by norm_num)⟩ : Fin 1024) (y 0) : S1x1024x1024.Idx) a).trans ?_
  have h0 : (y 0).val < 1024 := (y 0).isLt
  have hi : (i 0).val < 2 := (i 0).isLt
  fin_cases a
  · rfl
  · show o + ((y 1).val - o) % 1024 = (y 1).val
    omega
  · show 1024 * (i 0).val + (y 0).val = (1024 * (i 0).val + (y 0).val) % 2048
    omega

section body

variable (arg3 : Memref sig .tc .vmem S4096x896 .bf16) (harg3 : arg3.IsWhole) (arg4 : Memref sig .tc .vmem S1x1024x896 .bf16) (harg4 : arg4.IsWhole)
   (arg5 : Memref sig .tc .vmem S2x1024x1024 .bf16) (harg5 : arg5.IsWhole) (arg6 : Memref sig .tc .vmem S1024x4096 .bf16) (harg6 : arg6.IsWhole)
   (x0 : Vec Ideal S4096x896 .bf16) (xs1 : Vec Ideal S1024x4096 .bf16) (fh0 : HbBuf0 (F := Ideal) c hbM0_0)

/-- The four slabs laid side by side are the columns, turned. -/
theorem slabs (hc0 : cond0_0 i) : View.canon (kernelRun0_A.sl.HS1_4 (F := Ideal) c i arg5 hc0 fh0) = cols (i 0).val (fh0 : S1x4096x2048.Idx → EReal) := by
  funext y
  unfold kernelRun0_A.sl.HS1_4
  rw [Cert.Slab.canon_slab, Cert.Slab.canon_slab, Cert.Slab.canon_slab, Cert.Slab.canon_slab]
  unfold kernelRun0_A.sl.v25 kernelRun0_A.sl.v41 kernelRun0_A.sl.v68 kernelRun0_A.sl.r kernelRun0_A.sl.v57
  rw [Cert.Slab.slot0_under1, Cert.Slab.slot1_under0, Cert.Slab.slot0_under1]
  rw [View.readCov_cons_toLoadRect]
  unfold kernelRun0_A.sl.dma0 kernelRun0_A.sl.dma0_1 kernelRun0_A.sl.dma3 kernelRun0_A.sl.dma6
  have h4 : (y 1).val < 4096 := (y 1).isLt
  split_ifs with h3 h2 h1 h0
  · exact (pay2_at _ _ _).trans (dma_at c i _ _ _ fh0 3072 (k0_off4_eq i) y h3)
  · exact (pay1_at _ _ _).trans (dma_at c i _ _ _ fh0 2048 (k0_off3_eq i) y h2)
  · exact (pay5_at _ _ _).trans (dma_at c i _ _ _ fh0 1024 (k0_off2_eq i) y h1)
  · exact (pay4_at _ _ _).trans (dma_at c i _ _ _ fh0 0 (k0_off1_eq i) y h0)
  · exfalso
    omega

/-- One block of the product. -/
def blockOf (S : S1024x4096.Idx → EReal) (b : S4096x896.Idx → EReal) : S1x1024x896.Idx → EReal := fun y => ∑ k : Fin 4096, S (ix2 (y 1) k) * b (ix2 k (y 2))

theorem sout_A (hc0 : cond0_0 i) : sout0_A_1 (F := Ideal) c i arg3 harg3 arg4 harg4 arg5 harg5 arg6 harg6 hc0 x0 fh0 = cols (i 0).val (fh0 : S1x4096x2048.Idx → EReal) := by
  unfold sout0_A_1
  rw [View.read_writes_junk_eq_canon]
  unfold kernelRun0_A
  dsimp only
  exact slabs c i arg5 fh0 hc0

theorem out_A (hc0 : cond0_0 i) : out0_A_1 (F := Ideal) c i arg3 harg3 arg4 harg4 arg5 harg5 arg6 harg6 hc0 x0 fh0 = blockOf (cols (i 0).val (fh0 : S1x4096x2048.Idx → EReal)) x0 := by
  unfold out0_A_1
  rw [View.read_writes_junk_eq_canon]
  unfold kernelRun0_A
  dsimp only
  rw [View.canon_unit_zero (by decide)]
  unfold kernelRun0_A.sl.v3
  refine (congrArg₂ k0_pay3 (Cert.Attn.read_whole arg6 _ _ _ _ (slabs c i arg5 fh0 hc0)) (Cert.Attn.load_whole arg3 harg3 x0 _ _)).trans ?_
  funext y
  rw [eq_ix3 y]
  exact pay3_at _ _ (y 0) (y 1) (y 2)

theorem out_B (hc0 : ¬cond0_0 i) : out0_B_1 (F := Ideal) c i arg3 harg3 arg4 harg4 arg5 harg5 arg6 harg6 hc0 x0 xs1 fh0 = blockOf xs1 x0 := by
  unfold out0_B_1
  rw [View.read_writes_junk_eq_canon]
  unfold kernelRun0_B
  dsimp only
  rw [View.canon_unit_zero (by decide)]
  refine (congrArg₂ k0_pay3 (Cert.Attn.load_whole arg6 harg6 xs1 _ _) (Cert.Attn.load_whole arg3 harg3 x0 _ _)).trans ?_
  funext y
  rw [eq_ix3 y]
  exact pay3_at _ _ (y 0) (y 1) (y 2)

end body

/-- The gradient of the weight, laid out in four column blocks. -/
def G (A : S1x4096x2048.Idx → EReal) (B : S4096x10752.Idx → EReal) : S4x2048x2688.Idx → EReal := fun i =>
  ∑ k : Fin 4096, A (ix3 0 k (i 1)) * B (ix2 k ⟨(2688 * (i 0).val + (i 2).val) % 10752, Nat.mod_lt _ (by norm_num)⟩)

theorem idx : ∀ t : Fin cfg0.N, win0_0.index t = ![0, t.val % 12] ∧ win0_1.index t = ![t.val % 12 / 3, t.val / 12, t.val % 3] :=
  (by decide +kernel : ∀ t : Fin grid0.N, _)

theorem coord : ∀ t : Fin cfg0.N, (grid0.coords t 0).val = t.val / 12 :=
  (by decide +kernel : ∀ t : Fin grid0.N, _)

variable (m : (ℓ : Loc nD τ sig) → Buf (Elt Ideal) ℓ)

theorem kept_A (c : Dev nD) (t : Fin cfg0.N) (h0 : t.val % 12 = 0) : (outsAt0 m c t.val t.isLt).2 = cols (t.val / 12) (V m c main_arg0 : S1x4096x2048.Idx → EReal) := by
  rw [outsAt0_A m c t h0]
  dsimp only
  rw [sout_A, coord]

theorem kept_B (c : Dev nD) (t : Fin cfg0.N) (h0 : ¬t.val % 12 = 0) : (outsAt0 m c t.val t.isLt).2 = (outsAt0 m c (t.val - 1) (Nat.lt_of_le_of_lt (Nat.sub_le _ _) t.isLt)).2 := by
  rw [outsAt0_B m c t h0]
  dsimp only
  unfold sout0_B_1
  rfl

/-- The turned columns stay in the scratch buffer from the first point of a row of the grid to the last. -/
theorem kept (c : Dev nD) (n : ℕ) : ∀ h : n < cfg0.N, (outsAt0 m c n h).2 = cols (n / 12) (V m c main_arg0 : S1x4096x2048.Idx → EReal) := by
  induction n with
  | zero => exact fun h => kept_A m c ⟨0, h⟩ (Nat.zero_mod _)
  | succ n ih =>
    intro h
    by_cases h0 : (n + 1) % 12 = 0
    · exact kept_A m c ⟨n + 1, h⟩ h0
    · refine (kept_B m c ⟨n + 1, h⟩ h0).trans ((ih (Nat.lt_of_succ_lt h)).trans ?_)
      exact congrArg (fun q => cols q (V m c main_arg0 : S1x4096x2048.Idx → EReal)) (show n / 12 = (n + 1) / 12 by omega)

/-- What a point leaves for its block of the result. -/
theorem left (c : Dev nD) (t : Fin cfg0.N) : (outsAt0 m c t.val t.isLt).1 = blockOf (cols (t.val / 12) (V m c main_arg0 : S1x4096x2048.Idx → EReal)) (iblk m c 0 t) := by
  by_cases h0 : t.val % 12 = 0
  · rw [outsAt0_A m c t h0]
    dsimp only
    rw [out_A, coord]
  · rw [outsAt0_B m c t h0]
    dsimp only
    rw [out_B, kept, show (t.val - 1) / 12 = t.val / 12 by omega]

theorem final (c : Dev nD) : (dats m 0 c).arrAt 1 cfg0.N = G (m ((c : Thread nD τ).loc main_arg0)) (m ((c : Thread nD τ).loc main_arg1)) := by
  refine (dats m 0 c).arrAt_eq_of_covers 1 _ (by decide +kernel) fun t _ y => ?_
  blk_simp
  rw [after0_1, left]
  have hV : V m c main_arg0 = m ((c : Thread nD τ).loc main_arg0) := V_main_arg0 m c
  rw [hV]
  unfold G blockOf cols
  blk_point [iblk, V, idx t]

theorem ref_at (x0 : FVec Ideal S1x4096x2048 .bf16) (x1 : FVec Ideal S4096x10752 .bf16) (z : Fin 4) (i : Fin 2048) (j : Fin 2688) :
    (truncf .bf16 (transpose Cert.DwInReferenceIdeal.S4x2048x2688 [1, 0, 2] (shapeCast Cert.DwInReferenceIdeal.S2048x4x2688 (transpose Cert.DwInReferenceIdeal.S2048x10752 [1, 0] (Host.dotGeneral Cert.DwInReferenceIdeal.dot_S4096x10752_S4096x2048_S10752x2048_0_0_1_1_n_n none (extf .f32 x1 Cert.DwInReferenceIdeal.Gen.bitsLt_bf16_f32) (extf .f32 (shapeCast Cert.DwInReferenceIdeal.S4096x2048 x0 Cert.DwInReferenceIdeal.Gen.shapeCasts_S1x4096x2048_S4096x2048) Cert.DwInReferenceIdeal.Gen.bitsLt_bf16_f32)) Cert.DwInReferenceIdeal.Gen.transposes_S10752x2048_S2048x10752_1_0) Cert.DwInReferenceIdeal.Gen.shapeCasts_S2048x10752_S2048x4x2688) Cert.DwInReferenceIdeal.Gen.transposes_S2048x4x2688_S4x2048x2688_1_0_2) Cert.DwInReferenceIdeal.Gen.bitsLt_bf16_f32 : FVec Ideal Cert.DwInReferenceIdeal.S4x2048x2688 .bf16) (ix3 z i j)
      = G x0 x1 (ix3 z i j) := by
  pointwise [G]
  exact Finset.sum_congr rfl fun k _ => (mul_comm _ _).trans (congrArg (fun n => x0 (ix3 0 k i) * x1 (ix2 k n)) (Fin.ext (by show z.val * 2688 + j.val = (2688 * z.val + j.val) % 10752; omega)))

/-- The reference leaves its arguments as they were and every counter at zero. -/
theorem frame_reference : Cert.quiescent_DwInReferenceIdeal := fun m ρ _ =>
  (θ_run Cert.DwInReferenceIdeal.defs _ _).mono (fun r h => ⟨fun c => (h c).2,
      sem_eq_zero_of_no_sems (by decide) r.2⟩)
    (Cert.DwInReferenceIdeal.Value.run (F := Ideal) m ρ)

/-- The call and its reference have the same result. -/
theorem equal : Cert.algebraic_DwInIdeal_DwInReferenceIdeal := fun m g m' g' _ ha => by
  refine ⟨fun c => G (m ((c.tc : Thread nD τ).loc main_arg0)) (m ((c.tc : Thread nD τ).loc main_arg1)), (θ_run _ _ _).mono (fun r h c => ?_) (Cert.DwInIdeal.Value.run_blocks (F := Ideal) m g), (θ_run _ _ _).mono (fun r h c => ?_) (Cert.DwInReferenceIdeal.Value.run (F := Ideal) m' g')⟩
  · have hc := h c
    rw [final] at hc
    exact hc
  · refine ⟨(h c).1.trans ((funext fun y => ?_).trans (Cert.Attn.congr2 G (ha c).1 (ha c).2)), (h c).2⟩
    rw [eq_ix3 y]
    exact ref_at _ _ (y 0) (y 1) (y 2)

end Cert.DwInStep

end
-- ==== Proof.Gate.lean ====
module

public import Idealize.ShloMosaic.PureOps.Ideal

@[expose] public section

noncomputable section

/-! The sigmoid, and the same written as half a hyperbolic tangent plus a half. -/

namespace Cert.Gate

open Idealize.ShloMosaic

theorem one : Ideal.ofBits .f32 0x3F800000#32 = 1 := by
  simp [Ideal.ofBits, Ideal.ieee, -EReal.coe_mul]
  norm_num

theorem half : Ideal.ofBits .f32 0x3F000000#32 = ((1 / 2 : ℝ) : EReal) := by
  simp [Ideal.ofBits, Ideal.ieee, -EReal.coe_mul]
  norm_num

theorem real_gate (r : ℝ) : 1 / 2 * Real.tanh (1 / 2 * r) + 1 / 2 = (1 + Real.exp (-r))⁻¹ := by
  have h : Real.exp (-r) = Real.exp (-(1 / 2 * r)) * Real.exp (-(1 / 2 * r)) := by rw [← Real.exp_add]; congr 1; ring
  have p := Real.exp_pos (1 / 2 * r)
  have q : Real.exp (-(1 / 2 * r)) = (Real.exp (1 / 2 * r))⁻¹ := Real.exp_neg _
  rw [h, Real.tanh_eq_sinh_div_cosh, Real.sinh_eq, Real.cosh_eq, q]
  generalize Real.exp (1 / 2 * r) = a at p
  have : a * a + 1 ≠ 0 := by positivity
  field_simp
  ring

theorem gate_eq (x : EReal) :
    ((1 / 2 : ℝ) : EReal) * Ideal.tanh (((1 / 2 : ℝ) : EReal) * x) + ((1 / 2 : ℝ) : EReal) = Ideal.div 1 (1 + Ideal.exp (-x)) := by
  induction x with
  | bot =>
    rw [EReal.coe_mul_bot_of_pos (by norm_num), EReal.neg_bot, Ideal.tanh_bot, Ideal.exp_top, EReal.add_top_of_ne_bot (by decide), Ideal.div, if_neg (by decide), EReal.inv_top, mul_zero]
    have : (-1 : EReal) = ((-1 : ℝ) : EReal) := by simp
    rw [this, ← EReal.coe_mul, ← EReal.coe_add]
    norm_num
  | top =>
    rw [EReal.coe_mul_top_of_pos (by norm_num), EReal.neg_top, Ideal.tanh_top, Ideal.exp_bot, add_zero, mul_one, Ideal.div, if_neg (by simp), ← EReal.coe_add]
    norm_num
  | coe r =>
    have hp : (1 + Real.exp (-r)) ≠ 0 := by positivity
    rw [← EReal.coe_mul, Ideal.tanh_coe, ← EReal.coe_neg, Ideal.exp_coe, ← EReal.coe_mul, ← EReal.coe_add, real_gate, ← EReal.coe_one, ← EReal.coe_add, Ideal.div, if_neg (by exact_mod_cast hp), EReal.coe_one, one_mul, EReal.coe_inv]

/-- The sigmoid as the reference writes it. -/
def gate (x : EReal) : EReal :=
  Ideal.div (Ideal.ofBits .f32 0x3F800000#32) (Ideal.ofBits .f32 0x3F800000#32 + Ideal.exp (-x))

/-- The sigmoid as the kernels write it. -/
theorem tanh_gate (x : EReal) :
    Ideal.ofBits .f32 0x3F000000#32 * Ideal.tanh (Ideal.ofBits .f32 0x3F000000#32 * x) + Ideal.ofBits .f32 0x3F000000#32 = gate x := by
  unfold gate
  rw [half, one]
  exact gate_eq x

end Cert.Gate

end
-- ==== Proof.Merge.lean ====
module

public import proofs.«01_k».proof.Defs
public import proofs.«01_k».proof.Proof.Equal
public import proofs.«01_k».proof.Proof.Gate
public import proofs.«01_k».proof.Proof.Gen.MergeIdeal.Value
public import proofs.«01_k».proof.Proof.Gen.MergeReferenceIdeal.Run
public import Idealize.ShloMosaic.Lib.Pipeline.ValueKit
public import Idealize.ShloMosaic.Lib.Pointwise
public import Idealize.ShloMosaic.Adequacy

@[expose] public section

set_option maxRecDepth 16384

noncomputable section

/-! The output products of the two branches, and their sum weighed by the gates. -/

namespace Cert.MergeStep

open Cert.MergeIdeal Cert.MergeIdeal.Gen Idealize.ShloMosaic Idealize.ShloMosaic.TcCoe Idealize.SL.Sem
open Idealize.ShloMosaic.Pipeline (Dat)

/-- A product of two matrices, entry by entry. -/
def dot (A : S4096x2048.Idx → EReal) (W : S2048x2048.Idx → EReal) (i : Fin 4096) (j : Fin 2048) : EReal :=
  ∑ k : Fin 2048, A (ix2 i k) * W (ix2 k j)

/-- The two branches, one behind the other. -/
def Y (A B : S4096x2048.Idx → EReal) (V W : S2048x2048.Idx → EReal) : S2x4096x2048.Idx → EReal := fun i =>
  if (i 0).val = 0 then dot A V (i 1) (i 2) else dot B W (i 1) (i 2)

/-- The two branches weighed by their gates and added. -/
def M (A B : S4096x2048.Idx → EReal) (V W : S2048x2048.Idx → EReal) (P : S4096x10752.Idx → EReal) (i : Fin 4096) (j : Fin 2048) : EReal :=
  Cert.Gate.gate (P (ix2 i ⟨6656 + j.val, by omega⟩)) * dot A V i j + Cert.Gate.gate (P (ix2 i ⟨8704 + j.val, by omega⟩)) * dot B W i j

def N (A B : S4096x2048.Idx → EReal) (V W : S2048x2048.Idx → EReal) (P : S4096x10752.Idx → EReal) : S4096x2048.Idx → EReal := fun i => M A B V W P (i 0) (i 1)

def T (A B : S4096x2048.Idx → EReal) (V W : S2048x2048.Idx → EReal) (P : S4096x10752.Idx → EReal) : S2048x4096.Idx → EReal := fun i => M A B V W P (i 1) (i 0)

theorem congr5 {α β γ δ ε ζ : Type} (f : α → β → γ → δ → ε → ζ) {a a' : α} {b b' : β} {c c' : γ} {d d' : δ} {e e' : ε} (ha : a = a') (hb : b = b') (hc : c = c') (hd : d = d') (he : e = e') :
    f a b c d e = f a' b' c' d' e' := by rw [ha, hb, hc, hd, he]

theorem pay5_at (x0 : Vec Ideal S1024x2048 .bf16) (x2 : Vec Ideal S2048x512 .bf16) (i : Fin 1024) (j : Fin 512) :
    k0_pay5 x0 x2 (ix3 0 i j) = ∑ k : Fin 2048, x0 (ix2 i k) * x2 (ix2 k j) := by
  pointwise [k0_pay5, k0_pay3]

theorem pay6_at (x0 : Vec Ideal S1024x2048 .bf16) (x2 : Vec Ideal S2048x512 .bf16) (i : Fin 1024) (j : Fin 512) :
    k0_pay6 x0 x2 (ix3 0 i j) = ∑ k : Fin 2048, x0 (ix2 i k) * x2 (ix2 k j) := by
  pointwise [k0_pay6, k0_pay4]

theorem pay1_at (x0 x1 : Vec Ideal S1024x2048 .bf16) (x2 x3 : Vec Ideal S2048x512 .bf16) (x4 x5 : Vec Ideal S1024x512 .bf16) (i : Fin 1024) (j : Fin 512) :
    k0_pay1 (k0_pay4 x1 x3) (k0_pay7 x0 x2 x4) (k0_pay8 x5) (ix2 i j)
      = Cert.Gate.gate (x4 (ix2 i j)) * (∑ k : Fin 2048, x0 (ix2 i k) * x2 (ix2 k j)) + Cert.Gate.gate (x5 (ix2 i j)) * ∑ k : Fin 2048, x1 (ix2 i k) * x3 (ix2 k j) := by
  rw [← Cert.Gate.tanh_gate, ← Cert.Gate.tanh_gate]
  pointwise [k0_pay1, k0_pay3, k0_pay4, k0_pay7, k0_pay8]

theorem pay2_at (x0 x1 : Vec Ideal S1024x2048 .bf16) (x2 x3 : Vec Ideal S2048x512 .bf16) (x4 x5 : Vec Ideal S1024x512 .bf16) (i : Fin 1024) (j : Fin 512) :
    k0_pay2 (k0_pay4 x1 x3) (k0_pay7 x0 x2 x4) (k0_pay8 x5) (ix2 j i)
      = Cert.Gate.gate (x4 (ix2 i j)) * (∑ k : Fin 2048, x0 (ix2 i k) * x2 (ix2 k j)) + Cert.Gate.gate (x5 (ix2 i j)) * ∑ k : Fin 2048, x1 (ix2 i k) * x3 (ix2 k j) := by
  rw [← Cert.Gate.tanh_gate, ← Cert.Gate.tanh_gate]
  pointwise [k0_pay2, k0_pay1, k0_pay3, k0_pay4, k0_pay7, k0_pay8]

theorem idx : ∀ t : Fin cfg0.N, win0_0.index t = ![t.val / 4, 0] ∧ win0_1.index t = ![t.val / 4, 0] ∧ win0_2.index t = ![0, t.val % 4] ∧ win0_3.index t = ![0, t.val % 4] ∧ win0_4.index t = ![t.val / 4, 13 + t.val % 4] ∧ win0_5.index t = ![t.val / 4, 17 + t.val % 4] ∧ win0_6.index t = ![0, t.val / 4, t.val % 4] ∧ win0_7.index t = ![t.val / 4, t.val % 4] ∧ win0_8.index t = ![t.val % 4, t.val / 4] :=
  (by decide +kernel : ∀ t : Fin grid0.N, _)

/-- The two slabs of the first result's block. -/
theorem slab0 (u v : S1x1024x512.Idx → Elt Ideal .bf16) (i : Fin 1024) (j : Fin 512) :
    View.canon [(⟨r0_3, v⟩ : View.Piece (Elt Ideal) S2x1024x512 .bf16), ⟨r0_2, u⟩] (ix3 0 i j) = u (ix3 0 i j) := by
  refine (View.canon_cons_of_not_mem _ _ fun hm => ?_).trans ?_
  · have hm1 : (ix3 0 i j : S2x1024x512.Idx) ∈ (Rect.unit (s := S2x1024x512) ![1, 0, 0] S1x1024x512.size inb_S2x1024x512_S1x1024x512_1_0_0).set := hm
    have h1 : (1 : ℕ) ≤ 0 := ((Rect.mem_set_unit.1 hm1) 0).1
    omega
  · have e : (ix3 0 i j : S2x1024x512.Idx) = r0_2.emb (ix3 0 i j : S1x1024x512.Idx) := by
      funext a
      refine Fin.ext ?_
      refine Eq.trans ?_ (Rect.idx_unit_val (s := S2x1024x512) ![0, 0, 0] S1x1024x512.size inb_S2x1024x512_S1x1024x512_0_0_0 (ix3 0 i j : S1x1024x512.Idx) a).symm
      fin_cases a
      · rfl
      · exact (Nat.zero_add _).symm
      · exact (Nat.zero_add _).symm
    rw [e]
    exact View.canon_cons_emb r0_2 u [] _

theorem slab1 (u v : S1x1024x512.Idx → Elt Ideal .bf16) (i : Fin 1024) (j : Fin 512) :
    View.canon [(⟨r0_3, v⟩ : View.Piece (Elt Ideal) S2x1024x512 .bf16), ⟨r0_2, u⟩] (ix3 1 i j) = v (ix3 0 i j) := by
  have e : (ix3 1 i j : S2x1024x512.Idx) = r0_3.emb (ix3 0 i j : S1x1024x512.Idx) := by
    funext a
    refine Fin.ext ?_
    refine Eq.trans ?_ (Rect.idx_unit_val (s := S2x1024x512) ![1, 0, 0] S1x1024x512.size inb_S2x1024x512_S1x1024x512_1_0_0 (ix3 0 i j : S1x1024x512.Idx) a).symm
    fin_cases a
    · rfl
    · exact (Nat.zero_add _).symm
    · exact (Nat.zero_add _).symm
  rw [e]
  exact View.canon_cons_emb r0_3 v _ _

variable (m : (ℓ : Loc nD τ sig) → Buf (Elt Ideal) ℓ)

theorem final6 (c : Dev nD) : (dats m 0 c).arrAt 6 cfg0.N = Y (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  unfold out0_6
  rw [View.ld_unit_zero (by decide), View.ld_unit_zero (by decide), View.ld_unit_zero (by decide), View.ld_unit_zero (by decide)]
  obtain ⟨b, hb⟩ : ∃ z : Fin 2, y 0 = z := ⟨_, rfl⟩
  rw [eq_ix3 y, hb]
  fin_cases b
  · refine (slab0 _ _ (y 1) (y 2)).trans ((pay5_at _ _ (y 1) (y 2)).trans ?_)
    have h0 : ((win0_6.blk t).view.emb (ix3 0 (y 1) (y 2)) 0).val = 0 := by
      blk_simp [idx t]
      rfl
    refine Eq.trans ?_ (if_pos h0).symm
    unfold dot
    blk_point [iblk, V, idx t]
  · refine (slab1 _ _ (y 1) (y 2)).trans ((pay6_at _ _ (y 1) (y 2)).trans ?_)
    have h0 : ¬((win0_6.blk t).view.emb (ix3 1 (y 1) (y 2)) 0).val = 0 := by
      have h1 : ((win0_6.blk t).view.emb (ix3 1 (y 1) (y 2)) 0).val = 1 := by
        blk_simp [idx t]
        rfl
      omega
    refine Eq.trans ?_ (if_neg h0).symm
    unfold dot
    blk_point [iblk, V, idx t]

theorem final7 (c : Dev nD) : (dats m 0 c).arrAt 7 cfg0.N = N (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  unfold out0_7 k0_pay9 k0_pay10 k0_pay11
  rw [View.canon_unit_zero (by decide)]
  rw [View.ld_unit_zero (by decide), View.ld_unit_zero (by decide), View.ld_unit_zero (by decide), View.ld_unit_zero (by decide), View.ld_unit_zero (by decide), View.ld_unit_zero (by decide)]
  rw [eq_ix2 y]
  refine (pay1_at _ _ _ _ _ _ (y 0) (y 1)).trans ?_
  unfold N M dot
  blk_point [iblk, V, idx t]

theorem final8 (c : Dev nD) : (dats m 0 c).arrAt 8 cfg0.N = T (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  unfold out0_8 k0_pay9 k0_pay10 k0_pay11
  rw [View.canon_unit_zero (by decide)]
  rw [View.ld_unit_zero (by decide), View.ld_unit_zero (by decide), View.ld_unit_zero (by decide), View.ld_unit_zero (by decide), View.ld_unit_zero (by decide), View.ld_unit_zero (by decide)]
  rw [eq_ix2 y]
  refine (pay2_at _ _ _ _ _ _ (y 1) (y 0)).trans ?_
  unfold T M dot
  blk_point [iblk, V, idx t]

theorem ref6_at0 (x0 x1 : FVec Ideal S4096x2048 .bf16) (x2 x3 : FVec Ideal S2048x2048 .bf16) (i : Fin 4096) (j : Fin 2048) :
    (truncf .bf16 (concatenate Cert.MergeReferenceIdeal.S2x4096x2048 0 [⟨Cert.MergeReferenceIdeal.S1x4096x2048, (broadcastInDim Cert.MergeReferenceIdeal.S1x4096x2048 ![1, 2] Cert.MergeReferenceIdeal.Gen.bcast_S4096x2048_S1x4096x2048_1_2 (Host.dotGeneral Cert.MergeReferenceIdeal.dot_S4096x2048_S2048x2048_S4096x2048_1_0_0_1_n_n none (extf .f32 x0 Cert.MergeReferenceIdeal.Gen.bitsLt_bf16_f32) (extf .f32 x2 Cert.MergeReferenceIdeal.Gen.bitsLt_bf16_f32)))⟩, ⟨Cert.MergeReferenceIdeal.S1x4096x2048, (broadcastInDim Cert.MergeReferenceIdeal.S1x4096x2048 ![1, 2] Cert.MergeReferenceIdeal.Gen.bcast_S4096x2048_S1x4096x2048_1_2 (Host.dotGeneral Cert.MergeReferenceIdeal.dot_S4096x2048_S2048x2048_S4096x2048_1_0_0_1_n_n none (extf .f32 x1 Cert.MergeReferenceIdeal.Gen.bitsLt_bf16_f32) (extf .f32 x3 Cert.MergeReferenceIdeal.Gen.bitsLt_bf16_f32)))⟩] Cert.MergeReferenceIdeal.Gen.concatenates_S1x4096x2048_S1x4096x2048_S2x4096x2048_d0) Cert.MergeReferenceIdeal.Gen.bitsLt_bf16_f32 : FVec Ideal S2x4096x2048 .bf16) (ix3 0 i j)
      = Y x0 x1 x2 x3 (ix3 0 i j) := by
  pointwise [Y, dot]

theorem ref6_at1 (x0 x1 : FVec Ideal S4096x2048 .bf16) (x2 x3 : FVec Ideal S2048x2048 .bf16) (i : Fin 4096) (j : Fin 2048) :
    (truncf .bf16 (concatenate Cert.MergeReferenceIdeal.S2x4096x2048 0 [⟨Cert.MergeReferenceIdeal.S1x4096x2048, (broadcastInDim Cert.MergeReferenceIdeal.S1x4096x2048 ![1, 2] Cert.MergeReferenceIdeal.Gen.bcast_S4096x2048_S1x4096x2048_1_2 (Host.dotGeneral Cert.MergeReferenceIdeal.dot_S4096x2048_S2048x2048_S4096x2048_1_0_0_1_n_n none (extf .f32 x0 Cert.MergeReferenceIdeal.Gen.bitsLt_bf16_f32) (extf .f32 x2 Cert.MergeReferenceIdeal.Gen.bitsLt_bf16_f32)))⟩, ⟨Cert.MergeReferenceIdeal.S1x4096x2048, (broadcastInDim Cert.MergeReferenceIdeal.S1x4096x2048 ![1, 2] Cert.MergeReferenceIdeal.Gen.bcast_S4096x2048_S1x4096x2048_1_2 (Host.dotGeneral Cert.MergeReferenceIdeal.dot_S4096x2048_S2048x2048_S4096x2048_1_0_0_1_n_n none (extf .f32 x1 Cert.MergeReferenceIdeal.Gen.bitsLt_bf16_f32) (extf .f32 x3 Cert.MergeReferenceIdeal.Gen.bitsLt_bf16_f32)))⟩] Cert.MergeReferenceIdeal.Gen.concatenates_S1x4096x2048_S1x4096x2048_S2x4096x2048_d0) Cert.MergeReferenceIdeal.Gen.bitsLt_bf16_f32 : FVec Ideal S2x4096x2048 .bf16) (ix3 1 i j)
      = Y x0 x1 x2 x3 (ix3 1 i j) := by
  pointwise [Y, dot]

theorem ref7_at (x0 x1 : FVec Ideal S4096x2048 .bf16) (x2 x3 : FVec Ideal S2048x2048 .bf16) (x4 : FVec Ideal S4096x10752 .bf16) (i : Fin 4096) (j : Fin 2048) :
    (truncf .bf16 (addf (mulf (Host.divf (broadcastInDim Cert.MergeReferenceIdeal.S4096x2048 ![] Cert.MergeReferenceIdeal.Gen.bcast_S_S4096x2048 (constant Cert.MergeReferenceIdeal.S_ .f32 0x3F800000#32)) (addf (broadcastInDim Cert.MergeReferenceIdeal.S4096x2048 ![] Cert.MergeReferenceIdeal.Gen.bcast_S_S4096x2048 (constant Cert.MergeReferenceIdeal.S_ .f32 0x3F800000#32)) (Host.exp (Host.negf (extf .f32 (extractStridedSlice Cert.MergeReferenceIdeal.S4096x2048 ![0, 6656] x4 Cert.MergeReferenceIdeal.Gen.slices_S4096x10752_S4096x2048_0_6656) Cert.MergeReferenceIdeal.Gen.bitsLt_bf16_f32))))) (Host.dotGeneral Cert.MergeReferenceIdeal.dot_S4096x2048_S2048x2048_S4096x2048_1_0_0_1_n_n none (extf .f32 x0 Cert.MergeReferenceIdeal.Gen.bitsLt_bf16_f32) (extf .f32 x2 Cert.MergeReferenceIdeal.Gen.bitsLt_bf16_f32))) (mulf (Host.divf (broadcastInDim Cert.MergeReferenceIdeal.S4096x2048 ![] Cert.MergeReferenceIdeal.Gen.bcast_S_S4096x2048 (constant Cert.MergeReferenceIdeal.S_ .f32 0x3F800000#32)) (addf (broadcastInDim Cert.MergeReferenceIdeal.S4096x2048 ![] Cert.MergeReferenceIdeal.Gen.bcast_S_S4096x2048 (constant Cert.MergeReferenceIdeal.S_ .f32 0x3F800000#32)) (Host.exp (Host.negf (extf .f32 (extractStridedSlice Cert.MergeReferenceIdeal.S4096x2048 ![0, 8704] x4 Cert.MergeReferenceIdeal.Gen.slices_S4096x10752_S4096x2048_0_8704) Cert.MergeReferenceIdeal.Gen.bitsLt_bf16_f32))))) (Host.dotGeneral Cert.MergeReferenceIdeal.dot_S4096x2048_S2048x2048_S4096x2048_1_0_0_1_n_n none (extf .f32 x1 Cert.MergeReferenceIdeal.Gen.bitsLt_bf16_f32) (extf .f32 x3 Cert.MergeReferenceIdeal.Gen.bitsLt_bf16_f32)))) Cert.MergeReferenceIdeal.Gen.bitsLt_bf16_f32 : FVec Ideal S4096x2048 .bf16) (ix2 i j)
      = N x0 x1 x2 x3 x4 (ix2 i j) := by
  pointwise [N, M, dot, Cert.Gate.gate]

theorem ref8_at (x0 x1 : FVec Ideal S4096x2048 .bf16) (x2 x3 : FVec Ideal S2048x2048 .bf16) (x4 : FVec Ideal S4096x10752 .bf16) (i : Fin 4096) (j : Fin 2048) :
    (transpose Cert.MergeReferenceIdeal.S2048x4096 [1, 0] (truncf .bf16 (addf (mulf (Host.divf (broadcastInDim Cert.MergeReferenceIdeal.S4096x2048 ![] Cert.MergeReferenceIdeal.Gen.bcast_S_S4096x2048 (constant Cert.MergeReferenceIdeal.S_ .f32 0x3F800000#32)) (addf (broadcastInDim Cert.MergeReferenceIdeal.S4096x2048 ![] Cert.MergeReferenceIdeal.Gen.bcast_S_S4096x2048 (constant Cert.MergeReferenceIdeal.S_ .f32 0x3F800000#32)) (Host.exp (Host.negf (extf .f32 (extractStridedSlice Cert.MergeReferenceIdeal.S4096x2048 ![0, 6656] x4 Cert.MergeReferenceIdeal.Gen.slices_S4096x10752_S4096x2048_0_6656) Cert.MergeReferenceIdeal.Gen.bitsLt_bf16_f32))))) (Host.dotGeneral Cert.MergeReferenceIdeal.dot_S4096x2048_S2048x2048_S4096x2048_1_0_0_1_n_n none (extf .f32 x0 Cert.MergeReferenceIdeal.Gen.bitsLt_bf16_f32) (extf .f32 x2 Cert.MergeReferenceIdeal.Gen.bitsLt_bf16_f32))) (mulf (Host.divf (broadcastInDim Cert.MergeReferenceIdeal.S4096x2048 ![] Cert.MergeReferenceIdeal.Gen.bcast_S_S4096x2048 (constant Cert.MergeReferenceIdeal.S_ .f32 0x3F800000#32)) (addf (broadcastInDim Cert.MergeReferenceIdeal.S4096x2048 ![] Cert.MergeReferenceIdeal.Gen.bcast_S_S4096x2048 (constant Cert.MergeReferenceIdeal.S_ .f32 0x3F800000#32)) (Host.exp (Host.negf (extf .f32 (extractStridedSlice Cert.MergeReferenceIdeal.S4096x2048 ![0, 8704] x4 Cert.MergeReferenceIdeal.Gen.slices_S4096x10752_S4096x2048_0_8704) Cert.MergeReferenceIdeal.Gen.bitsLt_bf16_f32))))) (Host.dotGeneral Cert.MergeReferenceIdeal.dot_S4096x2048_S2048x2048_S4096x2048_1_0_0_1_n_n none (extf .f32 x1 Cert.MergeReferenceIdeal.Gen.bitsLt_bf16_f32) (extf .f32 x3 Cert.MergeReferenceIdeal.Gen.bitsLt_bf16_f32)))) Cert.MergeReferenceIdeal.Gen.bitsLt_bf16_f32) Cert.MergeReferenceIdeal.Gen.transposes_S4096x2048_S2048x4096_1_0 : FVec Ideal S2048x4096 .bf16) (ix2 j i)
      = T x0 x1 x2 x3 x4 (ix2 j i) := by
  pointwise [T, M, dot, Cert.Gate.gate]

/-- The reference leaves its arguments as they were and every counter at zero. -/
theorem frame_reference : Cert.quiescent_MergeReferenceIdeal := fun m ρ _ =>
  (θ_run Cert.MergeReferenceIdeal.defs _ _).mono (fun r h => ⟨fun c => (h c).2.2.2,
      sem_eq_zero_of_no_sems (by decide) r.2⟩)
    (Cert.MergeReferenceIdeal.Value.run (F := Ideal) m ρ)

/-- The call and its reference have the same results. -/
theorem equal : Cert.algebraic_MergeIdeal_MergeReferenceIdeal := fun m g m' g' _ ha => by
  refine ⟨fun c => Y (m ((c.tc : Thread nD τ).loc main_arg0)) (m ((c.tc : Thread nD τ).loc main_arg1)) (m ((c.tc : Thread nD τ).loc main_arg2)) (m ((c.tc : Thread nD τ).loc main_arg3)), fun c => N (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => T (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    (θ_run _ _ _).mono (fun r h c => ?_) (Cert.MergeIdeal.Value.run_blocks (F := Ideal) m g), (θ_run _ _ _).mono (fun r h c => ?_) (Cert.MergeReferenceIdeal.Value.run (F := Ideal) m' g')⟩
  · have hc := h c
    rw [final6, final7, final8] at hc
    exact hc
  · obtain ⟨a0, a1, a2, a3, a4⟩ := ha c
    refine ⟨(h c).1.trans ((funext fun y => ?_).trans (Cert.Attn.congr4 Y a0 a1 a2 a3)), (h c).2.1.trans ((funext fun y => ?_).trans (congr5 N a0 a1 a2 a3 a4)), (h c).2.2.1.trans ((funext fun y => ?_).trans (congr5 T a0 a1 a2 a3 a4)), (h c).2.2.2⟩
    · rw [eq_ix3 y]
      obtain ⟨b, hb⟩ : ∃ z : Fin 2, y 0 = z := ⟨_, rfl⟩
      rw [hb]
      fin_cases b
      · exact ref6_at0 _ _ _ _ (y 1) (y 2)
      · exact ref6_at1 _ _ _ _ (y 1) (y 2)
    · rw [eq_ix2 y]
      exact ref7_at _ _ _ _ _ (y 0) (y 1)
    · rw [eq_ix2 y]
      exact ref8_at _ _ _ _ _ (y 1) (y 0)

end Cert.MergeStep

end
-- ==== Proof.Outproj.lean ====
module

public import proofs.«01_k».proof.Defs
public import proofs.«01_k».proof.Proof.Equal
public import proofs.«01_k».proof.Proof.Gen.OutprojIdeal.Value
public import proofs.«01_k».proof.Proof.Gen.OutprojReferenceIdeal.Run
public import Idealize.ShloMosaic.Lib.Pipeline.ValueKit
public import Idealize.ShloMosaic.Lib.Pointwise
public import Idealize.ShloMosaic.Adequacy

@[expose] public section

set_option maxRecDepth 16384

noncomputable section

/-! The output projection of the temporal mixing, and the gated residual. -/

namespace Cert.OutprojStep

open Cert.OutprojIdeal Cert.OutprojIdeal.Gen Idealize.ShloMosaic Idealize.ShloMosaic.TcCoe Idealize.SL.Sem
open Idealize.ShloMosaic.Pipeline (Dat)

/-- The product, entry by entry. -/
def G (A : S4096x2048.Idx → EReal) (W : S2048x2048.Idx → EReal) : S4096x2048.Idx → EReal := fun i =>
  ∑ k : Fin 2048, A (ix2 (i 0) k) * W (ix2 k (i 1))

/-- The residual stream after the gated product is added. -/
def R (A : S4096x2048.Idx → EReal) (W : S2048x2048.Idx → EReal) (X : S4096x2048.Idx → EReal) (U : S16x2048.Idx → EReal) : S4096x2048.Idx → EReal := fun i =>
  X i + U (ix2 3 (i 1)) * ∑ k : Fin 2048, A (ix2 (i 0) k) * W (ix2 k (i 1))

theorem pay2_at (x0 : Vec Ideal S1024x2048 .bf16) (x1 : Vec Ideal S2048x1024 .bf16) (i j : Fin 1024) :
    k0_pay2 x0 x1 (ix2 i j) = ∑ k : Fin 2048, x0 (ix2 i k) * x1 (ix2 k j) := by
  pointwise [k0_pay2, k0_pay1]

/-- The gate is the fourth of the rows. -/
theorem gate_at (x : Vec Ideal S16x1024 .f32) (j : Fin 1024) : View.ld x r0_3 (ix2 0 j : S1x1024.Idx) = x (ix2 3 j) := by
  refine congrArg x (funext fun a => Fin.ext ?_)
  refine (Rect.idx_unit_val (s := S16x1024) ![3, 0] S1x1024.size inb_S16x1024_S1x1024_3_0 (ix2 0 j : S1x1024.Idx) a).trans ?_
  fin_cases a
  · rfl
  · exact Nat.zero_add j.val

theorem pay3_at (x0 : Vec Ideal S1024x2048 .bf16) (x1 : Vec Ideal S2048x1024 .bf16) (x2 : Vec Ideal S1024x1024 .f32) (x3 : Vec Ideal S16x1024 .f32) (i j : Fin 1024) :
    k0_pay3 x0 x1 x2 (View.ld x3 r0_3) (ix2 i j) = x2 (ix2 i j) + x3 (ix2 3 j) * ∑ k : Fin 2048, x0 (ix2 i k) * x1 (ix2 k j) := by
  rw [← gate_at x3 j]
  pointwise [k0_pay3, k0_pay1]

theorem idx : ∀ t : Fin cfg0.N, win0_0.index t = ![t.val / 2, 0] ∧ win0_1.index t = ![0, t.val % 2] ∧ win0_2.index t = ![t.val / 2, t.val % 2] ∧ win0_3.index t = ![0, t.val % 2] ∧ win0_4.index t = ![t.val / 2, t.val % 2] ∧ win0_5.index t = ![t.val / 2, t.val % 2] :=
  (by decide +kernel : ∀ t : Fin grid0.N, _)

variable (m : (ℓ : Loc nD τ sig) → Buf (Elt Ideal) ℓ)

theorem final5 (c : Dev nD) : (dats m 0 c).arrAt 5 cfg0.N = G (m ((c : Thread nD τ).loc main_arg0)) (m ((c : Thread nD τ).loc main_arg1)) := by
  refine (dats m 0 c).arrAt_eq_of_covers 5 _ (by decide +kernel) fun t _ y => ?_
  blk_simp
  rw [after0_5]
  unfold out0_5
  rw [View.canon_unit_zero (by decide)]
  rw [View.ld_unit_zero (by decide), View.ld_unit_zero (by decide)]
  rw [eq_ix2 y]
  refine (pay2_at _ _ (y 0) (y 1)).trans ?_
  unfold G
  blk_point [iblk, V, idx t]

theorem final4 (c : Dev nD) : (dats m 0 c).arrAt 4 cfg0.N = R (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold out0_4
  rw [View.canon_unit_zero (by decide)]
  rw [View.ld_unit_zero (by decide), View.ld_unit_zero (by decide), View.ld_unit_zero (by decide)]
  rw [eq_ix2 y]
  refine (pay3_at _ _ _ _ (y 0) (y 1)).trans ?_
  unfold R
  blk_point [iblk, V, idx t]

theorem ref5_at (x0 : FVec Ideal S4096x2048 .bf16) (x1 : FVec Ideal S2048x2048 .bf16) (i : Fin 4096) (j : Fin 2048) :
    (truncf .bf16 (Host.dotGeneral Cert.OutprojReferenceIdeal.dot_S4096x2048_S2048x2048_S4096x2048_1_0_0_1_n_n none (extf .f32 x0 Cert.OutprojReferenceIdeal.Gen.bitsLt_bf16_f32) (extf .f32 x1 Cert.OutprojReferenceIdeal.Gen.bitsLt_bf16_f32)) Cert.OutprojReferenceIdeal.Gen.bitsLt_bf16_f32 : FVec Ideal S4096x2048 .bf16) (ix2 i j)
      = G x0 x1 (ix2 i j) := by
  pointwise [G]

theorem ref4_at (x0 : FVec Ideal S4096x2048 .bf16) (x1 : FVec Ideal S2048x2048 .bf16) (x2 : FVec Ideal S4096x2048 .f32) (x3 : FVec Ideal S16x2048 .f32) (i : Fin 4096) (j : Fin 2048) :
    (addf x2 (mulf (broadcastInDim Cert.OutprojReferenceIdeal.S4096x2048 ![0, 1] Cert.OutprojReferenceIdeal.Gen.bcast_S1x2048_S4096x2048_0_1 (broadcastInDim Cert.OutprojReferenceIdeal.S1x2048 ![1] Cert.OutprojReferenceIdeal.Gen.bcast_S2048_S1x2048_1 (shapeCast Cert.OutprojReferenceIdeal.S2048 (extractStridedSlice Cert.OutprojReferenceIdeal.S1x2048 ![3, 0] x3 Cert.OutprojReferenceIdeal.Gen.slices_S16x2048_S1x2048_3_0) Cert.OutprojReferenceIdeal.Gen.shapeCasts_S1x2048_S2048))) (Host.dotGeneral Cert.OutprojReferenceIdeal.dot_S4096x2048_S2048x2048_S4096x2048_1_0_0_1_n_n none (extf .f32 x0 Cert.OutprojReferenceIdeal.Gen.bitsLt_bf16_f32) (extf .f32 x1 Cert.OutprojReferenceIdeal.Gen.bitsLt_bf16_f32))) : FVec Ideal S4096x2048 .f32) (ix2 i j)
      = R x0 x1 x2 x3 (ix2 i j) := by
  pointwise [R]

/-- The reference leaves its arguments as they were and every counter at zero. -/
theorem frame_reference : Cert.quiescent_OutprojReferenceIdeal := fun m ρ _ =>
  (θ_run Cert.OutprojReferenceIdeal.defs _ _).mono (fun r h => ⟨fun c => (h c).2.2,
      sem_eq_zero_of_no_sems (by decide) r.2⟩)
    (Cert.OutprojReferenceIdeal.Value.run (F := Ideal) m ρ)

/-- The call and its reference have the same results. -/
theorem equal : Cert.algebraic_OutprojIdeal_OutprojReferenceIdeal := fun m g m' g' _ ha => by
  refine ⟨fun c => R (m ((c.tc : Thread nD τ).loc main_arg0)) (m ((c.tc : Thread nD τ).loc main_arg1)) (m ((c.tc : Thread nD τ).loc main_arg2)) (m ((c.tc : Thread nD τ).loc main_arg3)),
    fun c => G (m ((c.tc : Thread nD τ).loc main_arg0)) (m ((c.tc : Thread nD τ).loc main_arg1)), (θ_run _ _ _).mono (fun r h c => ?_) (Cert.OutprojIdeal.Value.run_blocks (F := Ideal) m g), (θ_run _ _ _).mono (fun r h c => ?_) (Cert.OutprojReferenceIdeal.Value.run (F := Ideal) m' g')⟩
  · have hc := h c
    rw [final4, final5] at hc
    exact hc
  · obtain ⟨a0, a1, a2, a3⟩ := ha c
    refine ⟨(h c).1.trans ((funext fun y => ?_).trans (Cert.Attn.congr4 R a0 a1 a2 a3)), (h c).2.1.trans ((funext fun y => ?_).trans (Cert.Attn.congr2 G a0 a1)), (h c).2.2⟩
    · rw [eq_ix2 y]
      exact ref4_at _ _ _ _ (y 0) (y 1)
    · rw [eq_ix2 y]
      exact ref5_at _ _ (y 0) (y 1)

end Cert.OutprojStep

end
-- ==== Proof.Ff1.lean ====
module

public import proofs.«01_k».proof.Defs
public import proofs.«01_k».proof.Proof.Gen.Ff1Ideal.Value
public import proofs.«01_k».proof.Proof.Gen.Ff1ReferenceIdeal.Run
public import Idealize.ShloMosaic.Lib.Pipeline.ValueKit
public import Idealize.ShloMosaic.Lib.Pipeline.ReadBack
public import Idealize.ShloMosaic.Lib.Pointwise
public import Idealize.ShloMosaic.Adequacy

@[expose] public section

set_option maxRecDepth 16384

noncomputable section

/-! The feed-forward block's first product and its squared rectifier, over the normed rows. -/

namespace Cert.Ff1Step

open Cert.Ff1Ideal Cert.Ff1Ideal.Gen Idealize.ShloMosaic Idealize.ShloMosaic.TcCoe Idealize.SL.Sem
open Idealize.ShloMosaic.Pipeline (Dat)

theorem read_whole {sig : RefSig} {s : Shape} {e : EltTy} (m : Memref sig .tc .vmem s e) (L : List (View.Piece (Elt Ideal) s e)) (off : Fin s.rank → ℕ)
    (inb : ∀ a, off a + s.size a ≤ s.size a) (S : s.Idx → Elt Ideal e) (hS : View.canon L = S) :
    m.view.readCov L (Rect.unit (s := s) off s.size inb).toLoadRect = S := by
  rw [View.readCov_eq_canon', hS]
  funext x
  refine congrArg S (funext fun a => Fin.ext ?_)
  have h := Rect.idx_unit_val off s.size inb x a
  have := inb a
  exact h.trans (by omega)

theorem load_whole {sig : RefSig} {s : Shape} {e : EltTy} (m : Memref sig .tc .vmem s e) (hm : m.IsWhole) (X : s.Idx → Elt Ideal e) (off : Fin s.rank → ℕ)
    (inb : ∀ a, off a + s.size a ≤ s.size a) :
    View.readAt (Elt Ideal) m.view (Rect.unit (s := s) off s.size inb).toLoadRect (hm.unread X) = X := by
  rw [View.readAt_eq_ld, Memref.IsWhole.read_unread]
  funext x
  refine congrArg X (funext fun a => Fin.ext ?_)
  have h := Rect.idx_unit_val off s.size inb x a
  have := inb a
  exact h.trans (by omega)

/-- A buffer written whole holds what was written. -/
theorem canon_whole {s : Shape} {e : EltTy} (off : Fin s.rank → ℕ) (inb : ∀ a, off a + s.size a ≤ s.size a) (w S : s.Idx → Elt Ideal e)
    (L : List (View.Piece (Elt Ideal) s e)) (hw : w = S) : View.canon (⟨Rect.unit (s := s) off s.size inb, w⟩ :: L) = S := by
  subst hw
  funext y
  have hm : y ∈ (Rect.unit (s := s) off s.size inb).set := by
    refine Rect.mem_set_unit.mpr fun a => ?_
    have h1 := inb a
    have h2 : (y a).val < s.size a := (y a).isLt
    exact ⟨by omega, by omega⟩
  obtain ⟨x, rfl⟩ := (Rect.unit _ _ inb).exists_idx_of_mem hm
  refine (View.canon_cons_emb _ w L x).trans (congrArg w (funext fun a => Fin.ext ?_))
  have h := Rect.idx_unit_val off s.size inb x a
  have := inb a
  exact (h.trans (by omega)).symm

/-- A row divided by its root mean square, scaled and shifted. -/
def nrm (r g s b : Fin 2048 → EReal) (j : Fin 2048) : EReal :=
  r j * Ideal.rsqrt (Ideal.div (∑ k : Fin 2048, r k * r k) (Ideal.ofBits .f32 0x45000000#32) + Ideal.ofBits .f32 0x358637BD#32) * g j * (Ideal.ofBits .f32 0x3F800000#32 + s j) + b j

/-- A block of normed rows. -/
def H (x : S1024x2048.Idx → EReal) (v : S16x2048.Idx → EReal) : S1024x2048.Idx → EReal := fun y =>
  nrm (fun k => x (ix2 (y 0) k)) (fun k => v (ix2 4 k)) (fun k => v (ix2 5 k)) (fun k => v (ix2 6 k)) (y 1)

theorem pay1_at (v17 v18 v19 : Vec Ideal S1x2048 .f32) (v24 : Vec Ideal S128x2048 .f32) (a : Fin 128) (j : Fin 2048) :
    k0_pay1 v17 v18 v19 v24 (ix2 a j) = nrm (fun k => v24 (ix2 a k)) (fun k => v17 (ix2 0 k)) (fun k => v18 (ix2 0 k)) (fun k => v19 (ix2 0 k)) j := by
  pointwise [k0_pay1, nrm]

theorem pay3_at (h : Vec Ideal S1024x2048 .bf16) (w : Vec Ideal S1x2048x1024 .bf16) (a : Fin 1024) (j : Fin 1024) :
    k0_pay3 h w (ix2 a j) = ∑ k : Fin 2048, h (ix2 a k) * w (ix3 0 k j) := by
  pointwise [k0_pay3, k0_pay2]

theorem pay4_at (h : Vec Ideal S1024x2048 .bf16) (w : Vec Ideal S1x2048x1024 .bf16) (a : Fin 1024) (j : Fin 1024) :
    k0_pay4 h w (ix2 a j) = ∑ k : Fin 2048, h (ix2 a k) * w (ix3 0 k j) := by
  pointwise [k0_pay4, k0_pay3, k0_pay2]

/-- The square of the positive part. -/
def sq (x : EReal) : EReal := max x (Ideal.ofBits .f32 0x00000000#32) * max x (Ideal.ofBits .f32 0x00000000#32)

theorem pay5_at (h : Vec Ideal S1024x2048 .bf16) (w : Vec Ideal S1x2048x1024 .bf16) (a : Fin 1024) (j : Fin 1024) :
    k0_pay5 h w (ix2 j a) = sq (∑ k : Fin 2048, h (ix2 a k) * w (ix3 0 k j)) := by
  pointwise [k0_pay5, k0_pay3, k0_pay2, sq]

theorem pay2_eq (h : Vec Ideal S1024x2048 .bf16) : k0_pay2 h = h := by
  funext y
  rw [eq_ix2 y]
  pointwise [k0_pay2]

/-- A row of the table of vectors. -/
theorem row_at (x1 : Vec Ideal S16x2048 .f32) (n : Fin 16) (inb : ∀ a, (![n.val, 0] : Fin 2 → ℕ) a + S1x2048.size a ≤ S16x2048.size a) (k : Fin 2048) :
    View.ld x1 (Rect.unit (s := S16x2048) ![n.val, 0] S1x2048.size inb) (ix2 0 k) = x1 (ix2 n k) := by
  refine congrArg x1 (funext fun a => Fin.ext ?_)
  refine (Rect.idx_unit_val (s := S16x2048) ![n.val, 0] S1x2048.size inb (ix2 0 k : S1x2048.Idx) a).trans ?_
  fin_cases a
  · exact Nat.add_zero _
  · exact Nat.zero_add _

theorem row_load (m : Memref sig .tc .vmem S16x2048 .f32) (hm : m.IsWhole) (x1 : Vec Ideal S16x2048 .f32) (n : Fin 16) (inb : ∀ a, (![n.val, 0] : Fin 2 → ℕ) a + S1x2048.size a ≤ S16x2048.size a) (k : Fin 2048) :
    View.readAt (Elt Ideal) m.view (Rect.unit (s := S16x2048) ![n.val, 0] S1x2048.size inb).toLoadRect (hm.unread x1) (ix2 0 k) = x1 (ix2 n k) := by
  rw [View.readAt_eq_ld, Memref.IsWhole.read_unread]
  exact row_at x1 n inb k

/-- What a trip stores is a block of the normed rows. -/
theorem trip_at (x0 : Vec Ideal S1024x2048 .f32) (x1 : Vec Ideal S16x2048 .f32) (m : Memref sig .tc .vmem S1024x2048 .f32) (hm : m.IsWhole) (v17 v18 v19 : Vec Ideal S1x2048 .f32)
    (h17 : ∀ k, v17 (ix2 0 k) = x1 (ix2 4 k)) (h18 : ∀ k, v18 (ix2 0 k) = x1 (ix2 5 k)) (h19 : ∀ k, v19 (ix2 0 k) = x1 (ix2 6 k))
    (off : Fin 2 → ℕ) (n : ℕ) (hoff : off = ![128 * n, 0]) (inb : ∀ a, off a + S128x2048.size a ≤ S1024x2048.size a) (x : S128x2048.Idx) :
    k0_pay1 v17 v18 v19 (View.readAt (Elt Ideal) m.view (Rect.unit (s := S1024x2048) off S128x2048.size inb).toLoadRect (hm.unread x0)) x = H x0 x1 ((Rect.unit (s := S1024x2048) off S128x2048.size inb).emb x) := by
  subst hoff
  rw [View.readAt_eq_ld, Memref.IsWhole.read_unread]
  have e1 : ∀ k : Fin 2048, View.ld x0 (Rect.unit (s := S1024x2048) ![128 * n, 0] S128x2048.size inb) (ix2 (x 0) k) = x0 (ix2 ((Rect.unit (s := S1024x2048) ![128 * n, 0] S128x2048.size inb).emb x 0) k) := by
    intro k
    refine congrArg x0 (funext fun a => Fin.ext ?_)
    refine (Rect.idx_unit_val (s := S1024x2048) ![128 * n, 0] S128x2048.size inb (ix2 (x 0) k : S128x2048.Idx) a).trans ?_
    fin_cases a
    · exact (Rect.idx_unit_val (s := S1024x2048) ![128 * n, 0] S128x2048.size inb x 0).symm
    · exact Nat.zero_add _
  have e2 : (Rect.unit (s := S1024x2048) ![128 * n, 0] S128x2048.size inb).emb x 1 = x 1 :=
    Fin.ext ((Rect.idx_unit_val (s := S1024x2048) ![128 * n, 0] S128x2048.size inb x 1).trans (Nat.zero_add _))
  have e3 : x = ix2 (x 0) (x 1) := eq_ix2 x
  refine (congrArg (k0_pay1 v17 v18 v19 _) e3).trans ((pay1_at _ _ _ _ (x 0) (x 1)).trans ?_)
  unfold H
  rw [e2]
  simp only [e1, h17, h18, h19]

theorem pieces (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1024x2048 .bf16) (harg6 : arg6.IsWhole) (arg7 : Memref sig .tc .vmem S1024x1024 .bf16) (harg7 : arg7.IsWhole) (k0_h1 : k0_cond1 i = 1#1) (𝒱 : Variants) (bd : Option 𝒱.V) (x0 : Vec Ideal S1024x2048 .f32) (x1 : Vec Ideal S16x2048 .f32) (v17 v18 v19 : Vec Ideal S1x2048 .f32)
    (h17 : ∀ k, v17 (ix2 0 k) = x1 (ix2 4 k)) (h18 : ∀ k, v18 (ix2 0 k) = x1 (ix2 5 k)) (h19 : ∀ k, v19 (ix2 0 k) = x1 (ix2 6 k)) (n : ℕ) :
    ∀ p ∈ pb_k0_t1 (F := Ideal) 𝒱 c bd i arg2 harg2 arg3 harg3 arg4 harg4 arg5 harg5 arg6 harg6 arg7 harg7 k0_h1 v17 v18 v19 (harg2.unread x0) n, ∀ x : p.1.shape.Idx, p.2 x = H x0 x1 (p.1.emb x) := by
  induction n with
  | zero => exact fun p hp => absurd hp List.not_mem_nil
  | succ n ih =>
    rw [pb_k0_t1.eq_2]
    unfold pb_k0_t1Step
    split_ifs with h
    · intro p hp
      rcases List.mem_append.mp hp with hp | hp
      · unfold tripL_k0_t1 trip_k0_t1 at hp
        dsimp only at hp
        obtain rfl := List.mem_singleton.mp hp
        exact fun x => trip_at x0 x1 arg2 harg2 v17 v18 v19 h17 h18 h19 _ n (k0_off1_eq ⟨n, h⟩) _ x
      · exact ih p hp
    · exact ih

theorem loop (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1024x2048 .bf16) (harg6 : arg6.IsWhole) (arg7 : Memref sig .tc .vmem S1024x1024 .bf16) (harg7 : arg7.IsWhole) (k0_h1 : k0_cond1 i = 1#1) (𝒱 : Variants) (bd : Option 𝒱.V) (x0 : Vec Ideal S1024x2048 .f32) (x1 : Vec Ideal S16x2048 .f32) (v17 v18 v19 : Vec Ideal S1x2048 .f32)
    (h17 : ∀ k, v17 (ix2 0 k) = x1 (ix2 4 k)) (h18 : ∀ k, v18 (ix2 0 k) = x1 (ix2 5 k)) (h19 : ∀ k, v19 (ix2 0 k) = x1 (ix2 6 k)) :
    View.canon (pb_k0_t1 (F := Ideal) 𝒱 c bd i arg2 harg2 arg3 harg3 arg4 harg4 arg5 harg5 arg6 harg6 arg7 harg7 k0_h1 v17 v18 v19 (harg2.unread x0) (Scf.trips k0_t1_loop.lb k0_t1_loop.ub k0_t1_loop.st)) = H x0 x1 := by
  funext y
  refine Eq.trans ?_ (View.canon_append_of_pieces (H x0 x1) [] _ (pieces c i arg2 harg2 arg3 harg3 arg4 harg4 arg5 harg5 arg6 harg6 arg7 harg7 k0_h1 𝒱 bd x0 x1 v17 v18 v19 h17 h18 h19 (Scf.trips k0_t1_loop.lb k0_t1_loop.ub k0_t1_loop.st)) y
    (View.cover_of_tiledL (pb_k0_t1 (F := Ideal) 𝒱 c bd i arg2 harg2 arg3 harg3 arg4 harg4 arg5 harg5 arg6 harg6 arg7 harg7 k0_h1 v17 v18 v19 (harg2.unread x0) (Scf.trips k0_t1_loop.lb k0_t1_loop.ub k0_t1_loop.st)) S128x2048.size (by sl_kernel_rfl) y))
  rw [List.append_nil]

section Body
variable (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1024x2048 .bf16) (harg6 : arg6.IsWhole) (arg7 : Memref sig .tc .vmem S1024x1024 .bf16) (harg7 : arg7.IsWhole) (x0 : Vec Ideal S1024x2048 .f32) (x1 : Vec Ideal S16x2048 .f32) (x2 : Vec Ideal S1x2048x1024 .bf16) (xo4 : Vec Ideal S1024x2048 .bf16)

theorem out_A4 (hc0 : cond0_0 i) : out0_A_4 (F := Ideal) c i arg2 harg2 arg3 harg3 arg4 harg4 arg5 harg5 arg6 harg6 arg7 harg7 hc0 x0 x1 x2 = H x0 x1 := by
  unfold out0_A_4
  rw [View.read_writes_junk_eq_canon]
  unfold kernelRun0_A
  dsimp only
  exact canon_whole _ _ _ _ _ ((pay2_eq _).trans (read_whole arg6 _ _ _ _ (loop c i arg2 harg2 arg3 harg3 arg4 harg4 arg5 harg5 arg6 harg6 arg7 harg7 hc0 Variants.none none x0 x1 _ _ _ (row_load arg3 harg3 x1 4 _) (row_load arg3 harg3 x1 5 _) (row_load arg3 harg3 x1 6 _))))

theorem out_A3 (hc0 : cond0_0 i) : out0_A_3 (F := Ideal) c i arg2 harg2 arg3 harg3 arg4 harg4 arg5 harg5 arg6 harg6 arg7 harg7 hc0 x0 x1 x2 = k0_pay4 (H x0 x1) x2 := by
  unfold out0_A_3
  rw [View.read_writes_junk_eq_canon]
  unfold kernelRun0_A
  dsimp only
  rw [View.canon_unit_zero (by decide)]
  exact congrArg₂ k0_pay4 (read_whole arg6 _ _ _ _ (loop c i arg2 harg2 arg3 harg3 arg4 harg4 arg5 harg5 arg6 harg6 arg7 harg7 hc0 Variants.none none x0 x1 _ _ _ (row_load arg3 harg3 x1 4 _) (row_load arg3 harg3 x1 5 _) (row_load arg3 harg3 x1 6 _))) (load_whole arg4 harg4 x2 _ _)

theorem out_A5 (hc0 : cond0_0 i) : out0_A_5 (F := Ideal) c i arg2 harg2 arg3 harg3 arg4 harg4 arg5 harg5 arg6 harg6 arg7 harg7 hc0 x0 x1 x2 = k0_pay5 (H x0 x1) x2 := by
  unfold out0_A_5
  rw [View.read_writes_junk_eq_canon]
  unfold kernelRun0_A
  dsimp only
  rw [View.canon_unit_zero (by decide)]
  exact congrArg₂ k0_pay5 (read_whole arg6 _ _ _ _ (loop c i arg2 harg2 arg3 harg3 arg4 harg4 arg5 harg5 arg6 harg6 arg7 harg7 hc0 Variants.none none x0 x1 _ _ _ (row_load arg3 harg3 x1 4 _) (row_load arg3 harg3 x1 5 _) (row_load arg3 harg3 x1 6 _))) (load_whole arg4 harg4 x2 _ _)

theorem out_B4 (hc0 : ¬cond0_0 i) : out0_B_4 (F := Ideal) c i arg2 harg2 arg3 harg3 arg4 harg4 arg5 harg5 arg6 harg6 arg7 harg7 hc0 x0 x1 x2 xo4 = xo4 := by
  unfold out0_B_4
  rw [View.read_writes_junk_eq_canon]
  unfold kernelRun0_B
  dsimp only
  rw [View.canon_unit_zero (by decide)]
  exact (pay2_eq _).trans (load_whole arg6 harg6 xo4 _ _)

theorem out_B3 (hc0 : ¬cond0_0 i) : out0_B_3 (F := Ideal) c i arg2 harg2 arg3 harg3 arg4 harg4 arg5 harg5 arg6 harg6 arg7 harg7 hc0 x0 x1 x2 xo4 = k0_pay4 xo4 x2 := by
  unfold out0_B_3
  rw [View.read_writes_junk_eq_canon]
  unfold kernelRun0_B
  dsimp only
  rw [View.canon_unit_zero (by decide)]
  exact congrArg₂ k0_pay4 (load_whole arg6 harg6 xo4 _ _) (load_whole arg4 harg4 x2 _ _)

theorem out_B5 (hc0 : ¬cond0_0 i) : out0_B_5 (F := Ideal) c i arg2 harg2 arg3 harg3 arg4 harg4 arg5 harg5 arg6 harg6 arg7 harg7 hc0 x0 x1 x2 xo4 = k0_pay5 xo4 x2 := by
  unfold out0_B_5
  rw [View.read_writes_junk_eq_canon]
  unfold kernelRun0_B
  dsimp only
  rw [View.canon_unit_zero (by decide)]
  exact congrArg₂ k0_pay5 (load_whole arg6 harg6 xo4 _ _) (load_whole arg4 harg4 x2 _ _)

end Body

/-- The normed rows. -/
def N (X : S4096x2048.Idx → EReal) (v : S16x2048.Idx → EReal) : S4096x2048.Idx → EReal := fun y =>
  nrm (fun k => X (ix2 (y 0) k)) (fun k => v (ix2 4 k)) (fun k => v (ix2 5 k)) (fun k => v (ix2 6 k)) (y 1)

/-- The product of the normed rows with the weights, the four groups of columns side by side. -/
def D (X : S4096x2048.Idx → EReal) (v : S16x2048.Idx → EReal) (W : S4x2048x2048.Idx → EReal) (i : Fin 4096) (n : Fin 8192) : EReal :=
  ∑ k : Fin 2048, N X v (ix2 i k) * W (ix3 ⟨n.val / 2048, by omega⟩ k ⟨n.val % 2048, by omega⟩)

def G3 (X : S4096x2048.Idx → EReal) (v : S16x2048.Idx → EReal) (W : S4x2048x2048.Idx → EReal) : S4096x8192.Idx → EReal := fun y => D X v W (y 0) (y 1)

def G5 (X : S4096x2048.Idx → EReal) (v : S16x2048.Idx → EReal) (W : S4x2048x2048.Idx → EReal) : S8192x4096.Idx → EReal := fun y => sq (D X v W (y 1) (y 0))

/-- The normed rows of a block of the grid. -/
def Nb (q : ℕ) (X : S4096x2048.Idx → EReal) (v : S16x2048.Idx → EReal) : S1024x2048.Idx → EReal := fun y =>
  N X v (ix2 ⟨(1024 * q + (y 0).val) % 4096, Nat.mod_lt _ (by norm_num)⟩ (y 1))

theorem idx : ∀ t : Fin cfg0.N, win0_0.index t = ![t.val / 8, 0] ∧ win0_1.index t = ![0, 0] ∧ win0_2.index t = ![t.val % 8 / 2, 0, t.val % 2] ∧ win0_3.index t = ![t.val / 8, t.val % 8] ∧ win0_4.index t = ![t.val / 8, 0] ∧ win0_5.index t = ![t.val % 8, t.val / 8] :=
  (by decide +kernel : ∀ t : Fin grid0.N, _)

theorem congr3 {α β γ δ : Type} (f : α → β → γ → δ) {a a' : α} {b b' : β} {c c' : γ} (ha : a = a') (hb : b = b') (hc : c = c') : f a b c = f a' b' c' := by
  rw [ha, hb, hc]

variable (m : (ℓ : Loc nD τ sig) → Buf (Elt Ideal) ℓ)

theorem block_H (c : Dev nD) (t : Fin cfg0.N) : H (iblk m c 0 t) (iblk m c 1 t) = Nb (t.val / 8) (m ((c : Thread nD τ).loc main_arg0)) (m ((c : Thread nD τ).loc main_arg1)) := by
  funext y
  rw [eq_ix2 y]
  unfold H Nb N
  blk_point [iblk, V, idx t]
  rfl

theorem kept_A (c : Dev nD) (t : Fin cfg0.N) (h0 : t.val % 8 = 0) : (outsAt0 m c t.val t.isLt).2.1 = Nb (t.val / 8) (m ((c : Thread nD τ).loc main_arg0)) (m ((c : Thread nD τ).loc main_arg1)) := by
  rw [outsAt0_A m c t h0]
  dsimp only
  rw [out_A4, block_H]

theorem kept_B (c : Dev nD) (t : Fin cfg0.N) (h0 : ¬t.val % 8 = 0) : (outsAt0 m c t.val t.isLt).2.1 = (outsAt0 m c (t.val - 1) (Nat.lt_of_le_of_lt (Nat.sub_le _ _) t.isLt)).2.1 := by
  rw [outsAt0_B m c t h0]
  dsimp only
  rw [out_B4]

/-- The normed rows stay in the result's buffer from the first point of a row of the grid to the last. -/
theorem kept (c : Dev nD) (n : ℕ) : ∀ h : n < cfg0.N, (outsAt0 m c n h).2.1 = Nb (n / 8) (m ((c : Thread nD τ).loc main_arg0)) (m ((c : Thread nD τ).loc main_arg1)) := by
  induction n with
  | zero => exact fun h => kept_A m c ⟨0, h⟩ (Nat.zero_mod _)
  | succ n ih =>
    intro h
    by_cases h0 : (n + 1) % 8 = 0
    · exact kept_A m c ⟨n + 1, h⟩ h0
    · refine (kept_B m c ⟨n + 1, h⟩ h0).trans ((ih (Nat.lt_of_succ_lt h)).trans ?_)
      exact congrArg (fun q => Nb q (m ((c : Thread nD τ).loc main_arg0)) (m ((c : Thread nD τ).loc main_arg1))) (show n / 8 = (n + 1) / 8 by omega)

theorem left3 (c : Dev nD) (t : Fin cfg0.N) : (outsAt0 m c t.val t.isLt).1 = k0_pay4 (Nb (t.val / 8) (m ((c : Thread nD τ).loc main_arg0)) (m ((c : Thread nD τ).loc main_arg1))) (iblk m c 2 t) := by
  by_cases h0 : t.val % 8 = 0
  · rw [outsAt0_A m c t h0]
    dsimp only
    rw [out_A3, block_H]
  · rw [outsAt0_B m c t h0]
    dsimp only
    rw [out_B3, kept, show (t.val - 1) / 8 = t.val / 8 by omega]

theorem left5 (c : Dev nD) (t : Fin cfg0.N) : (outsAt0 m c t.val t.isLt).2.2 = k0_pay5 (Nb (t.val / 8) (m ((c : Thread nD τ).loc main_arg0)) (m ((c : Thread nD τ).loc main_arg1))) (iblk m c 2 t) := by
  by_cases h0 : t.val % 8 = 0
  · rw [outsAt0_A m c t h0]
    dsimp only
    rw [out_A5, block_H]
  · rw [outsAt0_B m c t h0]
    dsimp only
    rw [out_B5, kept, show (t.val - 1) / 8 = t.val / 8 by omega]

theorem final3 (c : Dev nD) : (dats m 0 c).arrAt 3 cfg0.N = G3 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, left3]
  rw [eq_ix2 y]
  refine (pay4_at _ _ (y 0) (y 1)).trans ?_
  unfold G3 D Nb N
  blk_point [iblk, V, idx t]
  rfl

theorem final4 (c : Dev nD) : (dats m 0 c).arrAt 4 cfg0.N = N (m ((c : Thread nD τ).loc main_arg0)) (m ((c : Thread nD τ).loc main_arg1)) := by
  refine (dats m 0 c).arrAt_eq_of_covers 4 _ (by decide +kernel) fun t _ y => ?_
  blk_simp
  rw [after0_4, kept]
  unfold Nb N
  blk_point [iblk, V, idx t]

theorem final5 (c : Dev nD) : (dats m 0 c).arrAt 5 cfg0.N = G5 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, left5]
  rw [eq_ix2 y]
  refine (pay5_at _ _ (y 1) (y 0)).trans ?_
  unfold G5 D Nb N
  blk_point [iblk, V, idx t]
  rfl

theorem ref4_at (x0 : FVec Ideal S4096x2048 .f32) (x1 : FVec Ideal S16x2048 .f32) (i : Fin 4096) (j : Fin 2048) :
    (truncf .bf16 (addf (mulf (mulf (mulf x0 (broadcastInDim Cert.Ff1ReferenceIdeal.S4096x2048 ![0, 1] Cert.Ff1ReferenceIdeal.Gen.bcast_S4096x1_S4096x2048_0_1 (Host.rsqrt (addf (Host.divf (broadcastInDim Cert.Ff1ReferenceIdeal.S4096x1 ![0] Cert.Ff1ReferenceIdeal.Gen.bcast_S4096_S4096x1_0 (Host.reduceAdd (mulf x0 x0) (constant Cert.Ff1ReferenceIdeal.S_ .f32 0x00000000#32) Cert.Ff1ReferenceIdeal.Gen.reducesTo_S4096x2048_S4096_d1 Cert.Ff1ReferenceIdeal.Gen.h_S_)) (broadcastInDim Cert.Ff1ReferenceIdeal.S4096x1 ![] Cert.Ff1ReferenceIdeal.Gen.bcast_S_S4096x1 (constant Cert.Ff1ReferenceIdeal.S_ .f32 0x45000000#32))) (broadcastInDim Cert.Ff1ReferenceIdeal.S4096x1 ![] Cert.Ff1ReferenceIdeal.Gen.bcast_S_S4096x1 (constant Cert.Ff1ReferenceIdeal.S_ .f32 0x358637BD#32)))))) (broadcastInDim Cert.Ff1ReferenceIdeal.S4096x2048 ![0, 1] Cert.Ff1ReferenceIdeal.Gen.bcast_S1x2048_S4096x2048_0_1 (broadcastInDim Cert.Ff1ReferenceIdeal.S1x2048 ![1] Cert.Ff1ReferenceIdeal.Gen.bcast_S2048_S1x2048_1 (shapeCast _ (extractStridedSlice Cert.Ff1ReferenceIdeal.S1x2048 ![4, 0] x1 Cert.Ff1ReferenceIdeal.Gen.slices_S16x2048_S1x2048_4_0) Cert.Ff1ReferenceIdeal.Gen.shapeCasts_S1x2048_S2048)))) (broadcastInDim Cert.Ff1ReferenceIdeal.S4096x2048 ![0, 1] Cert.Ff1ReferenceIdeal.Gen.bcast_S1x2048_S4096x2048_0_1 (addf (broadcastInDim Cert.Ff1ReferenceIdeal.S1x2048 ![] Cert.Ff1ReferenceIdeal.Gen.bcast_S_S1x2048 (constant Cert.Ff1ReferenceIdeal.S_ .f32 0x3F800000#32)) (broadcastInDim Cert.Ff1ReferenceIdeal.S1x2048 ![1] Cert.Ff1ReferenceIdeal.Gen.bcast_S2048_S1x2048_1 (shapeCast _ (extractStridedSlice Cert.Ff1ReferenceIdeal.S1x2048 ![5, 0] x1 Cert.Ff1ReferenceIdeal.Gen.slices_S16x2048_S1x2048_5_0) Cert.Ff1ReferenceIdeal.Gen.shapeCasts_S1x2048_S2048))))) (broadcastInDim Cert.Ff1ReferenceIdeal.S4096x2048 ![0, 1] Cert.Ff1ReferenceIdeal.Gen.bcast_S1x2048_S4096x2048_0_1 (broadcastInDim Cert.Ff1ReferenceIdeal.S1x2048 ![1] Cert.Ff1ReferenceIdeal.Gen.bcast_S2048_S1x2048_1 (shapeCast _ (extractStridedSlice Cert.Ff1ReferenceIdeal.S1x2048 ![6, 0] x1 Cert.Ff1ReferenceIdeal.Gen.slices_S16x2048_S1x2048_6_0) Cert.Ff1ReferenceIdeal.Gen.shapeCasts_S1x2048_S2048)))) Cert.Ff1ReferenceIdeal.Gen.bitsLt_bf16_f32 : FVec Ideal S4096x2048 .bf16) (ix2 i j)
      = N x0 x1 (ix2 i j) := by
  pointwise [N, nrm]

theorem ref3_at (x0 : FVec Ideal S4096x2048 .f32) (x1 : FVec Ideal S16x2048 .f32) (x2 : FVec Ideal S4x2048x2048 .bf16) (i : Fin 4096) (j : Fin 8192) :
    (truncf .bf16 (Host.dotGeneral Cert.Ff1ReferenceIdeal.dot_S4096x2048_S2048x8192_S4096x8192_1_0_0_1_n_n none (addf (mulf (mulf (mulf x0 (broadcastInDim Cert.Ff1ReferenceIdeal.S4096x2048 ![0, 1] Cert.Ff1ReferenceIdeal.Gen.bcast_S4096x1_S4096x2048_0_1 (Host.rsqrt (addf (Host.divf (broadcastInDim Cert.Ff1ReferenceIdeal.S4096x1 ![0] Cert.Ff1ReferenceIdeal.Gen.bcast_S4096_S4096x1_0 (Host.reduceAdd (mulf x0 x0) (constant Cert.Ff1ReferenceIdeal.S_ .f32 0x00000000#32) Cert.Ff1ReferenceIdeal.Gen.reducesTo_S4096x2048_S4096_d1 Cert.Ff1ReferenceIdeal.Gen.h_S_)) (broadcastInDim Cert.Ff1ReferenceIdeal.S4096x1 ![] Cert.Ff1ReferenceIdeal.Gen.bcast_S_S4096x1 (constant Cert.Ff1ReferenceIdeal.S_ .f32 0x45000000#32))) (broadcastInDim Cert.Ff1ReferenceIdeal.S4096x1 ![] Cert.Ff1ReferenceIdeal.Gen.bcast_S_S4096x1 (constant Cert.Ff1ReferenceIdeal.S_ .f32 0x358637BD#32)))))) (broadcastInDim Cert.Ff1ReferenceIdeal.S4096x2048 ![0, 1] Cert.Ff1ReferenceIdeal.Gen.bcast_S1x2048_S4096x2048_0_1 (broadcastInDim Cert.Ff1ReferenceIdeal.S1x2048 ![1] Cert.Ff1ReferenceIdeal.Gen.bcast_S2048_S1x2048_1 (shapeCast _ (extractStridedSlice Cert.Ff1ReferenceIdeal.S1x2048 ![4, 0] x1 Cert.Ff1ReferenceIdeal.Gen.slices_S16x2048_S1x2048_4_0) Cert.Ff1ReferenceIdeal.Gen.shapeCasts_S1x2048_S2048)))) (broadcastInDim Cert.Ff1ReferenceIdeal.S4096x2048 ![0, 1] Cert.Ff1ReferenceIdeal.Gen.bcast_S1x2048_S4096x2048_0_1 (addf (broadcastInDim Cert.Ff1ReferenceIdeal.S1x2048 ![] Cert.Ff1ReferenceIdeal.Gen.bcast_S_S1x2048 (constant Cert.Ff1ReferenceIdeal.S_ .f32 0x3F800000#32)) (broadcastInDim Cert.Ff1ReferenceIdeal.S1x2048 ![1] Cert.Ff1ReferenceIdeal.Gen.bcast_S2048_S1x2048_1 (shapeCast _ (extractStridedSlice Cert.Ff1ReferenceIdeal.S1x2048 ![5, 0] x1 Cert.Ff1ReferenceIdeal.Gen.slices_S16x2048_S1x2048_5_0) Cert.Ff1ReferenceIdeal.Gen.shapeCasts_S1x2048_S2048))))) (broadcastInDim Cert.Ff1ReferenceIdeal.S4096x2048 ![0, 1] Cert.Ff1ReferenceIdeal.Gen.bcast_S1x2048_S4096x2048_0_1 (broadcastInDim Cert.Ff1ReferenceIdeal.S1x2048 ![1] Cert.Ff1ReferenceIdeal.Gen.bcast_S2048_S1x2048_1 (shapeCast _ (extractStridedSlice Cert.Ff1ReferenceIdeal.S1x2048 ![6, 0] x1 Cert.Ff1ReferenceIdeal.Gen.slices_S16x2048_S1x2048_6_0) Cert.Ff1ReferenceIdeal.Gen.shapeCasts_S1x2048_S2048)))) (shapeCast _ (transpose Cert.Ff1ReferenceIdeal.S2048x4x2048 [1, 0, 2] (extf .f32 x2 Cert.Ff1ReferenceIdeal.Gen.bitsLt_bf16_f32) Cert.Ff1ReferenceIdeal.Gen.transposes_S4x2048x2048_S2048x4x2048_1_0_2) Cert.Ff1ReferenceIdeal.Gen.shapeCasts_S2048x4x2048_S2048x8192)) Cert.Ff1ReferenceIdeal.Gen.bitsLt_bf16_f32 : FVec Ideal S4096x8192 .bf16) (ix2 i j)
      = G3 x0 x1 x2 (ix2 i j) := by
  pointwise [G3, D, N, nrm]

theorem ref5_at (x0 : FVec Ideal S4096x2048 .f32) (x1 : FVec Ideal S16x2048 .f32) (x2 : FVec Ideal S4x2048x2048 .bf16) (i : Fin 4096) (j : Fin 8192) :
    (transpose Cert.Ff1ReferenceIdeal.S8192x4096 [1, 0] (truncf .bf16 (mulf (maximumf (Host.dotGeneral Cert.Ff1ReferenceIdeal.dot_S4096x2048_S2048x8192_S4096x8192_1_0_0_1_n_n none (addf (mulf (mulf (mulf x0 (broadcastInDim Cert.Ff1ReferenceIdeal.S4096x2048 ![0, 1] Cert.Ff1ReferenceIdeal.Gen.bcast_S4096x1_S4096x2048_0_1 (Host.rsqrt (addf (Host.divf (broadcastInDim Cert.Ff1ReferenceIdeal.S4096x1 ![0] Cert.Ff1ReferenceIdeal.Gen.bcast_S4096_S4096x1_0 (Host.reduceAdd (mulf x0 x0) (constant Cert.Ff1ReferenceIdeal.S_ .f32 0x00000000#32) Cert.Ff1ReferenceIdeal.Gen.reducesTo_S4096x2048_S4096_d1 Cert.Ff1ReferenceIdeal.Gen.h_S_)) (broadcastInDim Cert.Ff1ReferenceIdeal.S4096x1 ![] Cert.Ff1ReferenceIdeal.Gen.bcast_S_S4096x1 (constant Cert.Ff1ReferenceIdeal.S_ .f32 0x45000000#32))) (broadcastInDim Cert.Ff1ReferenceIdeal.S4096x1 ![] Cert.Ff1ReferenceIdeal.Gen.bcast_S_S4096x1 (constant Cert.Ff1ReferenceIdeal.S_ .f32 0x358637BD#32)))))) (broadcastInDim Cert.Ff1ReferenceIdeal.S4096x2048 ![0, 1] Cert.Ff1ReferenceIdeal.Gen.bcast_S1x2048_S4096x2048_0_1 (broadcastInDim Cert.Ff1ReferenceIdeal.S1x2048 ![1] Cert.Ff1ReferenceIdeal.Gen.bcast_S2048_S1x2048_1 (shapeCast _ (extractStridedSlice Cert.Ff1ReferenceIdeal.S1x2048 ![4, 0] x1 Cert.Ff1ReferenceIdeal.Gen.slices_S16x2048_S1x2048_4_0) Cert.Ff1ReferenceIdeal.Gen.shapeCasts_S1x2048_S2048)))) (broadcastInDim Cert.Ff1ReferenceIdeal.S4096x2048 ![0, 1] Cert.Ff1ReferenceIdeal.Gen.bcast_S1x2048_S4096x2048_0_1 (addf (broadcastInDim Cert.Ff1ReferenceIdeal.S1x2048 ![] Cert.Ff1ReferenceIdeal.Gen.bcast_S_S1x2048 (constant Cert.Ff1ReferenceIdeal.S_ .f32 0x3F800000#32)) (broadcastInDim Cert.Ff1ReferenceIdeal.S1x2048 ![1] Cert.Ff1ReferenceIdeal.Gen.bcast_S2048_S1x2048_1 (shapeCast _ (extractStridedSlice Cert.Ff1ReferenceIdeal.S1x2048 ![5, 0] x1 Cert.Ff1ReferenceIdeal.Gen.slices_S16x2048_S1x2048_5_0) Cert.Ff1ReferenceIdeal.Gen.shapeCasts_S1x2048_S2048))))) (broadcastInDim Cert.Ff1ReferenceIdeal.S4096x2048 ![0, 1] Cert.Ff1ReferenceIdeal.Gen.bcast_S1x2048_S4096x2048_0_1 (broadcastInDim Cert.Ff1ReferenceIdeal.S1x2048 ![1] Cert.Ff1ReferenceIdeal.Gen.bcast_S2048_S1x2048_1 (shapeCast _ (extractStridedSlice Cert.Ff1ReferenceIdeal.S1x2048 ![6, 0] x1 Cert.Ff1ReferenceIdeal.Gen.slices_S16x2048_S1x2048_6_0) Cert.Ff1ReferenceIdeal.Gen.shapeCasts_S1x2048_S2048)))) (shapeCast _ (transpose Cert.Ff1ReferenceIdeal.S2048x4x2048 [1, 0, 2] (extf .f32 x2 Cert.Ff1ReferenceIdeal.Gen.bitsLt_bf16_f32) Cert.Ff1ReferenceIdeal.Gen.transposes_S4x2048x2048_S2048x4x2048_1_0_2) Cert.Ff1ReferenceIdeal.Gen.shapeCasts_S2048x4x2048_S2048x8192)) (broadcastInDim Cert.Ff1ReferenceIdeal.S4096x8192 ![] Cert.Ff1ReferenceIdeal.Gen.bcast_S_S4096x8192 (constant Cert.Ff1ReferenceIdeal.S_ .f32 0x00000000#32))) (maximumf (Host.dotGeneral Cert.Ff1ReferenceIdeal.dot_S4096x2048_S2048x8192_S4096x8192_1_0_0_1_n_n none (addf (mulf (mulf (mulf x0 (broadcastInDim Cert.Ff1ReferenceIdeal.S4096x2048 ![0, 1] Cert.Ff1ReferenceIdeal.Gen.bcast_S4096x1_S4096x2048_0_1 (Host.rsqrt (addf (Host.divf (broadcastInDim Cert.Ff1ReferenceIdeal.S4096x1 ![0] Cert.Ff1ReferenceIdeal.Gen.bcast_S4096_S4096x1_0 (Host.reduceAdd (mulf x0 x0) (constant Cert.Ff1ReferenceIdeal.S_ .f32 0x00000000#32) Cert.Ff1ReferenceIdeal.Gen.reducesTo_S4096x2048_S4096_d1 Cert.Ff1ReferenceIdeal.Gen.h_S_)) (broadcastInDim Cert.Ff1ReferenceIdeal.S4096x1 ![] Cert.Ff1ReferenceIdeal.Gen.bcast_S_S4096x1 (constant Cert.Ff1ReferenceIdeal.S_ .f32 0x45000000#32))) (broadcastInDim Cert.Ff1ReferenceIdeal.S4096x1 ![] Cert.Ff1ReferenceIdeal.Gen.bcast_S_S4096x1 (constant Cert.Ff1ReferenceIdeal.S_ .f32 0x358637BD#32)))))) (broadcastInDim Cert.Ff1ReferenceIdeal.S4096x2048 ![0, 1] Cert.Ff1ReferenceIdeal.Gen.bcast_S1x2048_S4096x2048_0_1 (broadcastInDim Cert.Ff1ReferenceIdeal.S1x2048 ![1] Cert.Ff1ReferenceIdeal.Gen.bcast_S2048_S1x2048_1 (shapeCast _ (extractStridedSlice Cert.Ff1ReferenceIdeal.S1x2048 ![4, 0] x1 Cert.Ff1ReferenceIdeal.Gen.slices_S16x2048_S1x2048_4_0) Cert.Ff1ReferenceIdeal.Gen.shapeCasts_S1x2048_S2048)))) (broadcastInDim Cert.Ff1ReferenceIdeal.S4096x2048 ![0, 1] Cert.Ff1ReferenceIdeal.Gen.bcast_S1x2048_S4096x2048_0_1 (addf (broadcastInDim Cert.Ff1ReferenceIdeal.S1x2048 ![] Cert.Ff1ReferenceIdeal.Gen.bcast_S_S1x2048 (constant Cert.Ff1ReferenceIdeal.S_ .f32 0x3F800000#32)) (broadcastInDim Cert.Ff1ReferenceIdeal.S1x2048 ![1] Cert.Ff1ReferenceIdeal.Gen.bcast_S2048_S1x2048_1 (shapeCast _ (extractStridedSlice Cert.Ff1ReferenceIdeal.S1x2048 ![5, 0] x1 Cert.Ff1ReferenceIdeal.Gen.slices_S16x2048_S1x2048_5_0) Cert.Ff1ReferenceIdeal.Gen.shapeCasts_S1x2048_S2048))))) (broadcastInDim Cert.Ff1ReferenceIdeal.S4096x2048 ![0, 1] Cert.Ff1ReferenceIdeal.Gen.bcast_S1x2048_S4096x2048_0_1 (broadcastInDim Cert.Ff1ReferenceIdeal.S1x2048 ![1] Cert.Ff1ReferenceIdeal.Gen.bcast_S2048_S1x2048_1 (shapeCast _ (extractStridedSlice Cert.Ff1ReferenceIdeal.S1x2048 ![6, 0] x1 Cert.Ff1ReferenceIdeal.Gen.slices_S16x2048_S1x2048_6_0) Cert.Ff1ReferenceIdeal.Gen.shapeCasts_S1x2048_S2048)))) (shapeCast _ (transpose Cert.Ff1ReferenceIdeal.S2048x4x2048 [1, 0, 2] (extf .f32 x2 Cert.Ff1ReferenceIdeal.Gen.bitsLt_bf16_f32) Cert.Ff1ReferenceIdeal.Gen.transposes_S4x2048x2048_S2048x4x2048_1_0_2) Cert.Ff1ReferenceIdeal.Gen.shapeCasts_S2048x4x2048_S2048x8192)) (broadcastInDim Cert.Ff1ReferenceIdeal.S4096x8192 ![] Cert.Ff1ReferenceIdeal.Gen.bcast_S_S4096x8192 (constant Cert.Ff1ReferenceIdeal.S_ .f32 0x00000000#32)))) Cert.Ff1ReferenceIdeal.Gen.bitsLt_bf16_f32) Cert.Ff1ReferenceIdeal.Gen.transposes_S4096x8192_S8192x4096_1_0 : FVec Ideal S8192x4096 .bf16) (ix2 j i)
      = G5 x0 x1 x2 (ix2 j i) := by
  pointwise [G5, sq, D, N, nrm]

/-- The reference leaves its arguments as they were and every counter at zero. -/
theorem frame_reference : Cert.quiescent_Ff1ReferenceIdeal := fun m ρ _ =>
  (θ_run Cert.Ff1ReferenceIdeal.defs _ _).mono (fun r h => ⟨fun c => (h c).2.2.2,
      sem_eq_zero_of_no_sems (by decide) r.2⟩)
    (Cert.Ff1ReferenceIdeal.Value.run (F := Ideal) m ρ)

/-- The call and its reference have the same results. -/
theorem equal : Cert.algebraic_Ff1Ideal_Ff1ReferenceIdeal := fun m g m' g' _ ha => by
  refine ⟨fun c => G3 (m ((c.tc : Thread nD τ).loc main_arg0)) (m ((c.tc : Thread nD τ).loc main_arg1)) (m ((c.tc : Thread nD τ).loc main_arg2)), fun c => N (m ((c.tc : Thread nD τ).loc main_arg0)) (m ((c.tc : Thread nD τ).loc main_arg1)), fun c => G5 (m ((c.tc : Thread nD τ).loc main_arg0)) (m ((c.tc : Thread nD τ).loc main_arg1)) (m ((c.tc : Thread nD τ).loc main_arg2)),
    (θ_run _ _ _).mono (fun r h c => ?_) (Cert.Ff1Ideal.Value.run_blocks (F := Ideal) m g), (θ_run _ _ _).mono (fun r h c => ?_) (Cert.Ff1ReferenceIdeal.Value.run (F := Ideal) m' g')⟩
  · have hc := h c
    rw [final3, final4, final5] at hc
    exact hc
  · obtain ⟨a0, a1, a2⟩ := ha c
    refine ⟨(h c).1.trans ((funext fun y => ?_).trans (congr3 G3 a0 a1 a2)), (h c).2.1.trans ((funext fun y => ?_).trans (congrArg₂ N a0 a1)), (h c).2.2.1.trans ((funext fun y => ?_).trans (congr3 G5 a0 a1 a2)), (h c).2.2.2⟩
    · rw [eq_ix2 y]
      exact ref3_at _ _ _ (y 0) (y 1)
    · rw [eq_ix2 y]
      exact ref4_at _ _ (y 0) (y 1)
    · rw [eq_ix2 y]
      exact ref5_at _ _ _ (y 1) (y 0)

end Cert.Ff1Step

end
-- ==== Proof.OutprojBwd.lean ====
module

public import proofs.«01_k».proof.Defs
public import proofs.«01_k».proof.Proof.Equal
public import proofs.«01_k».proof.Proof.Gate
public import proofs.«01_k».proof.Proof.Gen.OutprojBwdIdeal.Value
public import proofs.«01_k».proof.Proof.Gen.OutprojBwdReferenceIdeal.Run
public import Idealize.ShloMosaic.Lib.Pipeline.ValueKit
public import Idealize.ShloMosaic.Lib.Pointwise
public import Idealize.ShloMosaic.Adequacy

@[expose] public section

set_option maxRecDepth 16384

noncomputable section

/-! The gradients of the two branches, through the output projection and the gates. -/

namespace Cert.OutprojBwdStep

open Cert.OutprojBwdIdeal Cert.OutprojBwdIdeal.Gen Idealize.ShloMosaic Idealize.ShloMosaic.TcCoe Idealize.SL.Sem
open Idealize.ShloMosaic.Pipeline (Dat)

/-- The column of the gate of a branch. -/
def col (a : Fin 2) (k : Fin 2048) : Fin 10752 := ⟨6656 + 2048 * a.val + k.val, by omega⟩

/-- The two gradients, entry by entry. -/
def G (A : S4096x2048.Idx → EReal) (W : S2048x2048.Idx → EReal) (P : S4096x10752.Idx → EReal) : S2x4096x2048.Idx → EReal := fun i =>
  Cert.Gate.gate (P (ix2 (i 1) (col (i 0) (i 2)))) * ∑ k : Fin 2048, A (ix2 (i 1) k) * W (ix2 (i 2) k)

theorem pay_at (x0 : Vec Ideal S1024x2048 .bf16) (x1 : Vec Ideal S512x2048 .bf16) (x3 : Vec Ideal S1024x512 .bf16) (i : Fin 1024) (j : Fin 512) :
    k0_pay3 x0 x1 x3 (ix3 0 i j) = Cert.Gate.gate (x3 (ix2 i j)) * ∑ k : Fin 2048, x0 (ix2 i k) * x1 (ix2 j k) := by
  rw [← Cert.Gate.tanh_gate, mul_comm]
  pointwise [k0_pay3, k0_pay2, k0_pay1]

theorem idx : ∀ t : Fin cfg0.N, win0_0.index t = ![t.val / 8, 0] ∧ win0_1.index t = ![t.val % 4, 0] ∧ win0_3.index t = ![t.val / 8, 13 + t.val % 8] ∧ win0_4.index t = ![t.val % 8 / 4, t.val / 8, t.val % 4] :=
  (by decide +kernel : ∀ t : Fin grid0.N, _)

variable (m : (ℓ : Loc nD τ sig) → Buf (Elt Ideal) ℓ)

theorem final (c : Dev nD) : (dats m 0 c).arrAt 4 cfg0.N = G (m ((c : Thread nD τ).loc main_arg0)) (m ((c : Thread nD τ).loc main_arg1)) (m ((c : Thread nD τ).loc main_arg3)) := by
  refine (dats m 0 c).arrAt_eq_of_covers 4 _ (by decide +kernel) fun t _ y => ?_
  blk_simp
  rw [after0_4]
  unfold out0_4
  rw [View.canon_unit_zero (by decide), View.ld_unit_zero (by decide), View.ld_unit_zero (by decide), View.ld_unit_zero (by decide)]
  obtain ⟨y0, hy0⟩ : ∃ z : Fin 1, y 0 = z := ⟨_, rfl⟩
  obtain rfl : y0 = 0 := Subsingleton.elim _ _
  rw [eq_ix3 y, hy0]
  refine (pay_at _ _ _ (y 1) (y 2)).trans ?_
  unfold G col
  blk_point [iblk, V, idx t]

theorem ref_at0 (x0 : FVec Ideal S4096x2048 .bf16) (x1 : FVec Ideal S2048x2048 .bf16) (x3 : FVec Ideal S4096x10752 .bf16) (i : Fin 4096) (j : Fin 2048) :
    (truncf .bf16 (concatenate Cert.OutprojBwdReferenceIdeal.S2x4096x2048 0 [⟨Cert.OutprojBwdReferenceIdeal.S1x4096x2048, (broadcastInDim Cert.OutprojBwdReferenceIdeal.S1x4096x2048 ![1, 2] Cert.OutprojBwdReferenceIdeal.Gen.bcast_S4096x2048_S1x4096x2048_1_2 (mulf (Host.divf (broadcastInDim Cert.OutprojBwdReferenceIdeal.S4096x2048 ![] Cert.OutprojBwdReferenceIdeal.Gen.bcast_S_S4096x2048 (constant Cert.OutprojBwdReferenceIdeal.S_ .f32 0x3F800000#32)) (addf (broadcastInDim Cert.OutprojBwdReferenceIdeal.S4096x2048 ![] Cert.OutprojBwdReferenceIdeal.Gen.bcast_S_S4096x2048 (constant Cert.OutprojBwdReferenceIdeal.S_ .f32 0x3F800000#32)) (Host.exp (Host.negf (extf .f32 (extractStridedSlice Cert.OutprojBwdReferenceIdeal.S4096x2048 ![0, 6656] x3 Cert.OutprojBwdReferenceIdeal.Gen.slices_S4096x10752_S4096x2048_0_6656) Cert.OutprojBwdReferenceIdeal.Gen.bitsLt_bf16_f32))))) (Host.dotGeneral Cert.OutprojBwdReferenceIdeal.dot_S4096x2048_S2048x2048_S4096x2048_1_1_0_0_n_n none (extf .f32 x0 Cert.OutprojBwdReferenceIdeal.Gen.bitsLt_bf16_f32) (extf .f32 x1 Cert.OutprojBwdReferenceIdeal.Gen.bitsLt_bf16_f32))))⟩, ⟨Cert.OutprojBwdReferenceIdeal.S1x4096x2048, (broadcastInDim Cert.OutprojBwdReferenceIdeal.S1x4096x2048 ![1, 2] Cert.OutprojBwdReferenceIdeal.Gen.bcast_S4096x2048_S1x4096x2048_1_2 (mulf (Host.divf (broadcastInDim Cert.OutprojBwdReferenceIdeal.S4096x2048 ![] Cert.OutprojBwdReferenceIdeal.Gen.bcast_S_S4096x2048 (constant Cert.OutprojBwdReferenceIdeal.S_ .f32 0x3F800000#32)) (addf (broadcastInDim Cert.OutprojBwdReferenceIdeal.S4096x2048 ![] Cert.OutprojBwdReferenceIdeal.Gen.bcast_S_S4096x2048 (constant Cert.OutprojBwdReferenceIdeal.S_ .f32 0x3F800000#32)) (Host.exp (Host.negf (extf .f32 (extractStridedSlice Cert.OutprojBwdReferenceIdeal.S4096x2048 ![0, 8704] x3 Cert.OutprojBwdReferenceIdeal.Gen.slices_S4096x10752_S4096x2048_0_8704) Cert.OutprojBwdReferenceIdeal.Gen.bitsLt_bf16_f32))))) (Host.dotGeneral Cert.OutprojBwdReferenceIdeal.dot_S4096x2048_S2048x2048_S4096x2048_1_1_0_0_n_n none (extf .f32 x0 Cert.OutprojBwdReferenceIdeal.Gen.bitsLt_bf16_f32) (extf .f32 x1 Cert.OutprojBwdReferenceIdeal.Gen.bitsLt_bf16_f32))))⟩] Cert.OutprojBwdReferenceIdeal.Gen.concatenates_S1x4096x2048_S1x4096x2048_S2x4096x2048_d0) Cert.OutprojBwdReferenceIdeal.Gen.bitsLt_bf16_f32 : FVec Ideal S2x4096x2048 .bf16) (ix3 0 i j)
      = G x0 x1 x3 (ix3 0 i j) := by
  pointwise [G, Cert.Gate.gate, col]

theorem ref_at1 (x0 : FVec Ideal S4096x2048 .bf16) (x1 : FVec Ideal S2048x2048 .bf16) (x3 : FVec Ideal S4096x10752 .bf16) (i : Fin 4096) (j : Fin 2048) :
    (truncf .bf16 (concatenate Cert.OutprojBwdReferenceIdeal.S2x4096x2048 0 [⟨Cert.OutprojBwdReferenceIdeal.S1x4096x2048, (broadcastInDim Cert.OutprojBwdReferenceIdeal.S1x4096x2048 ![1, 2] Cert.OutprojBwdReferenceIdeal.Gen.bcast_S4096x2048_S1x4096x2048_1_2 (mulf (Host.divf (broadcastInDim Cert.OutprojBwdReferenceIdeal.S4096x2048 ![] Cert.OutprojBwdReferenceIdeal.Gen.bcast_S_S4096x2048 (constant Cert.OutprojBwdReferenceIdeal.S_ .f32 0x3F800000#32)) (addf (broadcastInDim Cert.OutprojBwdReferenceIdeal.S4096x2048 ![] Cert.OutprojBwdReferenceIdeal.Gen.bcast_S_S4096x2048 (constant Cert.OutprojBwdReferenceIdeal.S_ .f32 0x3F800000#32)) (Host.exp (Host.negf (extf .f32 (extractStridedSlice Cert.OutprojBwdReferenceIdeal.S4096x2048 ![0, 6656] x3 Cert.OutprojBwdReferenceIdeal.Gen.slices_S4096x10752_S4096x2048_0_6656) Cert.OutprojBwdReferenceIdeal.Gen.bitsLt_bf16_f32))))) (Host.dotGeneral Cert.OutprojBwdReferenceIdeal.dot_S4096x2048_S2048x2048_S4096x2048_1_1_0_0_n_n none (extf .f32 x0 Cert.OutprojBwdReferenceIdeal.Gen.bitsLt_bf16_f32) (extf .f32 x1 Cert.OutprojBwdReferenceIdeal.Gen.bitsLt_bf16_f32))))⟩, ⟨Cert.OutprojBwdReferenceIdeal.S1x4096x2048, (broadcastInDim Cert.OutprojBwdReferenceIdeal.S1x4096x2048 ![1, 2] Cert.OutprojBwdReferenceIdeal.Gen.bcast_S4096x2048_S1x4096x2048_1_2 (mulf (Host.divf (broadcastInDim Cert.OutprojBwdReferenceIdeal.S4096x2048 ![] Cert.OutprojBwdReferenceIdeal.Gen.bcast_S_S4096x2048 (constant Cert.OutprojBwdReferenceIdeal.S_ .f32 0x3F800000#32)) (addf (broadcastInDim Cert.OutprojBwdReferenceIdeal.S4096x2048 ![] Cert.OutprojBwdReferenceIdeal.Gen.bcast_S_S4096x2048 (constant Cert.OutprojBwdReferenceIdeal.S_ .f32 0x3F800000#32)) (Host.exp (Host.negf (extf .f32 (extractStridedSlice Cert.OutprojBwdReferenceIdeal.S4096x2048 ![0, 8704] x3 Cert.OutprojBwdReferenceIdeal.Gen.slices_S4096x10752_S4096x2048_0_8704) Cert.OutprojBwdReferenceIdeal.Gen.bitsLt_bf16_f32))))) (Host.dotGeneral Cert.OutprojBwdReferenceIdeal.dot_S4096x2048_S2048x2048_S4096x2048_1_1_0_0_n_n none (extf .f32 x0 Cert.OutprojBwdReferenceIdeal.Gen.bitsLt_bf16_f32) (extf .f32 x1 Cert.OutprojBwdReferenceIdeal.Gen.bitsLt_bf16_f32))))⟩] Cert.OutprojBwdReferenceIdeal.Gen.concatenates_S1x4096x2048_S1x4096x2048_S2x4096x2048_d0) Cert.OutprojBwdReferenceIdeal.Gen.bitsLt_bf16_f32 : FVec Ideal S2x4096x2048 .bf16) (ix3 1 i j)
      = G x0 x1 x3 (ix3 1 i j) := by
  pointwise [G, Cert.Gate.gate, col]

/-- The reference leaves its arguments as they were and every counter at zero. -/
theorem frame_reference : Cert.quiescent_OutprojBwdReferenceIdeal := fun m ρ _ =>
  (θ_run Cert.OutprojBwdReferenceIdeal.defs _ _).mono (fun r h => ⟨fun c => (h c).2,
      sem_eq_zero_of_no_sems (by decide) r.2⟩)
    (Cert.OutprojBwdReferenceIdeal.Value.run (F := Ideal) m ρ)

/-- The call and its reference have the same result. -/
theorem equal : Cert.algebraic_OutprojBwdIdeal_OutprojBwdReferenceIdeal := fun m g m' g' _ ha => by
  refine ⟨fun c => G (m ((c.tc : Thread nD τ).loc main_arg0)) (m ((c.tc : Thread nD τ).loc main_arg1)) (m ((c.tc : Thread nD τ).loc main_arg3)), (θ_run _ _ _).mono (fun r h c => ?_) (Cert.OutprojBwdIdeal.Value.run_blocks (F := Ideal) m g), (θ_run _ _ _).mono (fun r h c => ?_) (Cert.OutprojBwdReferenceIdeal.Value.run (F := Ideal) m' g')⟩
  · have hc := h c
    rw [final] at hc
    exact ⟨hc.1, hc.2.2⟩
  · obtain ⟨a0, a1, a2, a3⟩ := ha c
    refine ⟨(h c).1.trans ((funext fun y => ?_).trans (Cert.Attn.congr3 G a0 a1 a3)), (h c).2⟩
    rw [eq_ix3 y]
    obtain ⟨a, ha⟩ : ∃ z : Fin 2, y 0 = z := ⟨_, rfl⟩
    rw [ha]
    fin_cases a
    · exact ref_at0 _ _ _ (y 1) (y 2)
    · exact ref_at1 _ _ _ (y 1) (y 2)

end Cert.OutprojBwdStep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Equal
public import proofs.«01_k».proof.Proof.Gen.Ff2
public import proofs.«01_k».proof.Proof.Gen.Ff2.Skeleton
public import proofs.«01_k».proof.Proof.Gen.Ff2.Launch
public import proofs.«01_k».proof.Proof.Gen.Ff2.Points
public import proofs.«01_k».proof.Proof.Gen.Ff2.Frame
public import proofs.«01_k».proof.Proof.Gen.Ff2Ideal
public import proofs.«01_k».proof.Proof.Gen.Ff2Ideal.Skeleton
public import proofs.«01_k».proof.Proof.Gen.Ff2Ideal.Launch
public import proofs.«01_k».proof.Proof.Gen.Ff2Ideal.Points
public import proofs.«01_k».proof.Proof.Gen.Ff2Ideal.Frame
public import proofs.«01_k».proof.Proof.Gen.Ff2Ideal.Value
public import proofs.«01_k».proof.Proof.Gen.Ff2ReferenceIdeal
public import proofs.«01_k».proof.Proof.Gen.Ff2ReferenceIdeal.Run
public import proofs.«01_k».proof.Proof.Gen.DwFf2
public import proofs.«01_k».proof.Proof.Gen.DwFf2.Skeleton
public import proofs.«01_k».proof.Proof.Gen.DwFf2.Launch
public import proofs.«01_k».proof.Proof.Gen.DwFf2.Points
public import proofs.«01_k».proof.Proof.Gen.DwFf2.Frame
public import proofs.«01_k».proof.Proof.Gen.DwFf2Ideal
public import proofs.«01_k».proof.Proof.Gen.DwFf2Ideal.Skeleton
public import proofs.«01_k».proof.Proof.Gen.DwFf2Ideal.Launch
public import proofs.«01_k».proof.Proof.Gen.DwFf2Ideal.Points
public import proofs.«01_k».proof.Proof.Gen.DwFf2Ideal.Frame
public import proofs.«01_k».proof.Proof.Gen.DwFf2Ideal.Value
public import proofs.«01_k».proof.Proof.Gen.DwFf2ReferenceIdeal
public import proofs.«01_k».proof.Proof.Gen.DwFf2ReferenceIdeal.Run
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutReferenceIdeal
public import proofs.«01_k».proof.Proof.Gen.DwOutReferenceIdeal.Run
public import proofs.«01_k».proof.Proof.Gen.DwLru
public import proofs.«01_k».proof.Proof.Gen.DwLru.Skeleton
public import proofs.«01_k».proof.Proof.Gen.DwLru.Launch
public import proofs.«01_k».proof.Proof.Gen.DwLru.Points
public import proofs.«01_k».proof.Proof.Gen.DwLru.Frame
public import proofs.«01_k».proof.Proof.Gen.DwLruIdeal
public import proofs.«01_k».proof.Proof.Gen.DwLruIdeal.Skeleton
public import proofs.«01_k».proof.Proof.Gen.DwLruIdeal.Launch
public import proofs.«01_k».proof.Proof.Gen.DwLruIdeal.Points
public import proofs.«01_k».proof.Proof.Gen.DwLruIdeal.Frame
public import proofs.«01_k».proof.Proof.Gen.DwLruIdeal.Value
public import proofs.«01_k».proof.Proof.Gen.DwLruReferenceIdeal
public import proofs.«01_k».proof.Proof.Gen.DwLruReferenceIdeal.Run
public import proofs.«01_k».proof.Proof.Gen.DwAttn
public import proofs.«01_k».proof.Proof.Gen.DwAttn.Skeleton
public import proofs.«01_k».proof.Proof.Gen.DwAttn.Launch
public import proofs.«01_k».proof.Proof.Gen.DwAttn.Points
public import proofs.«01_k».proof.Proof.Gen.DwAttn.Frame
public import proofs.«01_k».proof.Proof.Gen.DwAttnIdeal
public import proofs.«01_k».proof.Proof.Gen.DwAttnIdeal.Skeleton
public import proofs.«01_k».proof.Proof.Gen.DwAttnIdeal.Launch
public import proofs.«01_k».proof.Proof.Gen.DwAttnIdeal.Points
public import proofs.«01_k».proof.Proof.Gen.DwAttnIdeal.Frame
public import proofs.«01_k».proof.Proof.Gen.DwAttnIdeal.Value
public import proofs.«01_k».proof.Proof.Gen.DwAttnReferenceIdeal
public import proofs.«01_k».proof.Proof.Gen.DwAttnReferenceIdeal.Run
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutIdeal.Value
public import proofs.«01_k».proof.Proof.Gen.AttnOutReferenceIdeal
public import proofs.«01_k».proof.Proof.Gen.AttnOutReferenceIdeal.Run
public import proofs.«01_k».proof.Proof.Gen.DwFf1
public import proofs.«01_k».proof.Proof.Gen.DwFf1.Skeleton
public import proofs.«01_k».proof.Proof.Gen.DwFf1.Launch
public import proofs.«01_k».proof.Proof.Gen.DwFf1.Points
public import proofs.«01_k».proof.Proof.Gen.DwFf1.Frame
public import proofs.«01_k».proof.Proof.Gen.DwFf1Ideal
public import proofs.«01_k».proof.Proof.Gen.DwFf1Ideal.Skeleton
public import proofs.«01_k».proof.Proof.Gen.DwFf1Ideal.Launch
public import proofs.«01_k».proof.Proof.Gen.DwFf1Ideal.Points
public import proofs.«01_k».proof.Proof.Gen.DwFf1Ideal.Frame
public import proofs.«01_k».proof.Proof.Gen.DwFf1Ideal.Value
public import proofs.«01_k».proof.Proof.Gen.DwFf1ReferenceIdeal
public import proofs.«01_k».proof.Proof.Gen.DwFf1ReferenceIdeal.Run
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInReferenceIdeal
public import proofs.«01_k».proof.Proof.Gen.DwInReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojIdeal.Value
public import proofs.«01_k».proof.Proof.Gen.OutprojReferenceIdeal
public import proofs.«01_k».proof.Proof.Gen.OutprojReferenceIdeal.Run
public import proofs.«01_k».proof.Proof.Gen.Ff1
public import proofs.«01_k».proof.Proof.Gen.Ff1.Skeleton
public import proofs.«01_k».proof.Proof.Gen.Ff1.Launch
public import proofs.«01_k».proof.Proof.Gen.Ff1.Points
public import proofs.«01_k».proof.Proof.Gen.Ff1.Frame
public import proofs.«01_k».proof.Proof.Gen.Ff1Ideal
public import proofs.«01_k».proof.Proof.Gen.Ff1Ideal.Skeleton
public import proofs.«01_k».proof.Proof.Gen.Ff1Ideal.Launch
public import proofs.«01_k».proof.Proof.Gen.Ff1Ideal.Points
public import proofs.«01_k».proof.Proof.Gen.Ff1Ideal.Frame
public import proofs.«01_k».proof.Proof.Gen.Ff1Ideal.Value
public import proofs.«01_k».proof.Proof.Gen.Ff1ReferenceIdeal
public import proofs.«01_k».proof.Proof.Gen.Ff1ReferenceIdeal.Run
public import proofs.«01_k».proof.Proof.Gen.OutprojBwd
public import proofs.«01_k».proof.Proof.Gen.OutprojBwd.Skeleton
public import proofs.«01_k».proof.Proof.Gen.OutprojBwd.Launch
public import proofs.«01_k».proof.Proof.Gen.OutprojBwd.Points
public import proofs.«01_k».proof.Proof.Gen.OutprojBwd.Frame
public import proofs.«01_k».proof.Proof.Gen.OutprojBwdIdeal
public import proofs.«01_k».proof.Proof.Gen.OutprojBwdIdeal.Skeleton
public import proofs.«01_k».proof.Proof.Gen.OutprojBwdIdeal.Launch
public import proofs.«01_k».proof.Proof.Gen.OutprojBwdIdeal.Points
public import proofs.«01_k».proof.Proof.Gen.OutprojBwdIdeal.Frame
public import proofs.«01_k».proof.Proof.Gen.OutprojBwdIdeal.Value
public import proofs.«01_k».proof.Proof.Gen.OutprojBwdReferenceIdeal
public import proofs.«01_k».proof.Proof.Gen.OutprojBwdReferenceIdeal.Run
public import Idealize.ShloMosaic.Adequacy
public import Idealize.ShloMosaic.Init
public import proofs.«01_k».proof.Proof.Ff2
public import proofs.«01_k».proof.Proof.DwFf2
public import proofs.«01_k».proof.Proof.DwOut
public import proofs.«01_k».proof.Proof.DwLru
public import proofs.«01_k».proof.Proof.DwAttn
public import proofs.«01_k».proof.Proof.AttnOut
public import proofs.«01_k».proof.Proof.DwFf1
public import proofs.«01_k».proof.Proof.DwIn
public import proofs.«01_k».proof.Proof.Merge
public import proofs.«01_k».proof.Proof.Outproj
public import proofs.«01_k».proof.Proof.Ff1
public import proofs.«01_k».proof.Proof.OutprojBwd

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ff2.Gen.facts, Cert.Ff2Ideal.Gen.facts, Cert.Ff2ReferenceIdeal.Gen.facts,
  Cert.DwFf2.Gen.facts, Cert.DwFf2Ideal.Gen.facts, Cert.DwFf2ReferenceIdeal.Gen.facts,
  Cert.DwOut.Gen.facts, Cert.DwOutIdeal.Gen.facts, Cert.DwOutReferenceIdeal.Gen.facts,
  Cert.DwLru.Gen.facts, Cert.DwLruIdeal.Gen.facts, Cert.DwLruReferenceIdeal.Gen.facts,
  Cert.DwAttn.Gen.facts, Cert.DwAttnIdeal.Gen.facts, Cert.DwAttnReferenceIdeal.Gen.facts,
  Cert.AttnOut.Gen.facts, Cert.AttnOutIdeal.Gen.facts, Cert.AttnOutReferenceIdeal.Gen.facts,
  Cert.DwFf1.Gen.facts, Cert.DwFf1Ideal.Gen.facts, Cert.DwFf1ReferenceIdeal.Gen.facts,
  Cert.DwIn.Gen.facts, Cert.DwInIdeal.Gen.facts, Cert.DwInReferenceIdeal.Gen.facts,
  Cert.Merge.Gen.facts, Cert.MergeIdeal.Gen.facts, Cert.MergeReferenceIdeal.Gen.facts,
  Cert.Outproj.Gen.facts, Cert.OutprojIdeal.Gen.facts, Cert.OutprojReferenceIdeal.Gen.facts,
  Cert.Ff1.Gen.facts, Cert.Ff1Ideal.Gen.facts, Cert.Ff1ReferenceIdeal.Gen.facts,
  Cert.OutprojBwd.Gen.facts, Cert.OutprojBwdIdeal.Gen.facts, Cert.OutprojBwdReferenceIdeal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  Cert.Attn.frame_reference, fun m ρ _ => Cert.Attn.frame_reference m ρ trivial,
  fun m ρ _ => Cert.Ff2.Gen.frame m ρ, fun m ρ _ => Cert.Ff2Ideal.Gen.frame m ρ, Cert.Ff2Step.frame_reference,
  fun m ρ _ => Cert.DwFf2.Gen.frame m ρ, fun m ρ _ => Cert.DwFf2Ideal.Gen.frame m ρ, Cert.DwFf2Step.frame_reference,
  fun m ρ _ => Cert.DwOut.Gen.frame m ρ, fun m ρ _ => Cert.DwOutIdeal.Gen.frame m ρ, Cert.DwOutStep.frame_reference,
  fun m ρ _ => Cert.DwLru.Gen.frame m ρ, fun m ρ _ => Cert.DwLruIdeal.Gen.frame m ρ, Cert.DwLruStep.frame_reference,
  fun m ρ _ => Cert.DwAttn.Gen.frame m ρ, fun m ρ _ => Cert.DwAttnIdeal.Gen.frame m ρ, Cert.DwAttnStep.frame_reference,
  fun m ρ _ => Cert.AttnOut.Gen.frame m ρ, fun m ρ _ => Cert.AttnOutIdeal.Gen.frame m ρ, Cert.AttnOutStep.frame_reference,
  fun m ρ _ => Cert.DwFf1.Gen.frame m ρ, fun m ρ _ => Cert.DwFf1Ideal.Gen.frame m ρ, Cert.DwFf1Step.frame_reference,
  fun m ρ _ => Cert.DwIn.Gen.frame m ρ, fun m ρ _ => Cert.DwInIdeal.Gen.frame m ρ, Cert.DwInStep.frame_reference,
  fun m ρ _ => Cert.Merge.Gen.frame m ρ, fun m ρ _ => Cert.MergeIdeal.Gen.frame m ρ, Cert.MergeStep.frame_reference,
  fun m ρ _ => Cert.Outproj.Gen.frame m ρ, fun m ρ _ => Cert.OutprojIdeal.Gen.frame m ρ, Cert.OutprojStep.frame_reference,
  fun m ρ _ => Cert.Ff1.Gen.frame m ρ, fun m ρ _ => Cert.Ff1Ideal.Gen.frame m ρ, Cert.Ff1Step.frame_reference,
  fun m ρ _ => Cert.OutprojBwd.Gen.frame m ρ, fun m ρ _ => Cert.OutprojBwdIdeal.Gen.frame m ρ, Cert.OutprojBwdStep.frame_reference,
  IdealRules.named_const.statement _ _ _ _ _ rfl, Cert.Attn.equal,
  trivial, Cert.Ff2Step.equal,
  trivial, Cert.DwFf2Step.equal,
  trivial, Cert.DwOutStep.equal,
  trivial, Cert.DwLruStep.equal,
  trivial, Cert.DwAttnStep.equal,
  trivial, Cert.AttnOutStep.equal,
  trivial, Cert.DwFf1Step.equal,
  trivial, Cert.DwInStep.equal,
  trivial, Cert.MergeStep.equal,
  trivial, Cert.OutprojStep.equal,
  trivial, Cert.Ff1Step.equal,
  trivial, Cert.OutprojBwdStep.equal⟩

end Cert.Proof

end
